-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.bf16_pack.Statement Cert.KernelIdeal.S512x1
  ∧ IdealRules.named_const.Statement Cert.KernelIdeal.κ "scale_log2e" .f32 0x3E38AA3B#32 (((1 / 8) * (Real.log 2)⁻¹ : ℝ) : EReal)
  ∧ IdealRules.bf16_pack.Statement Cert.KernelIdeal.S1x512
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)) (v4 : (c : Dev Cert.Kernel2Ideal.nD) → Buf (Elt Ideal) ((c.tc : Thread Cert.Kernel2Ideal.nD Cert.Kernel2Ideal.τ).loc Cert.Kernel2Ideal.main_v23_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_v33) = v3 c
          ∧ r.2.mem ((c.tc : Thread Cert.Reference2Ideal.nD Cert.Reference2Ideal.τ).loc Cert.Reference2Ideal.main_v39) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v81) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v65) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_v85) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v23_0)) (v1 : (c : Dev Cert.Kernel7Ideal.nD) → Buf (Elt Ideal) ((c.tc : Thread Cert.Kernel7Ideal.nD Cert.Kernel7Ideal.τ).loc Cert.Kernel7Ideal.main_v23_1)) (v2 : (c : Dev Cert.Kernel7Ideal.nD) → Buf (Elt Ideal) ((c.tc : Thread Cert.Kernel7Ideal.nD Cert.Kernel7Ideal.τ).loc Cert.Kernel7Ideal.main_v23_2)) (v3 : (c : Dev Cert.Kernel7Ideal.nD) → Buf (Elt Ideal) ((c.tc : Thread Cert.Kernel7Ideal.nD Cert.Kernel7Ideal.τ).loc Cert.Kernel7Ideal.main_v23_3)) (v4 : (c : Dev Cert.Kernel7Ideal.nD) → Buf (Elt Ideal) ((c.tc : Thread Cert.Kernel7Ideal.nD Cert.Kernel7Ideal.τ).loc Cert.Kernel7Ideal.main_v23_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23_0) = v0 c
          ∧ r.2.mem ((c.tc : Thread Cert.Kernel7Ideal.nD Cert.Kernel7Ideal.τ).loc Cert.Kernel7Ideal.main_v23_1) = v1 c
          ∧ r.2.mem ((c.tc : Thread Cert.Kernel7Ideal.nD Cert.Kernel7Ideal.τ).loc Cert.Kernel7Ideal.main_v23_2) = v2 c
          ∧ r.2.mem ((c.tc : Thread Cert.Kernel7Ideal.nD Cert.Kernel7Ideal.τ).loc Cert.Kernel7Ideal.main_v23_3) = v3 c
          ∧ r.2.mem ((c.tc : Thread Cert.Kernel7Ideal.nD Cert.Kernel7Ideal.τ).loc Cert.Kernel7Ideal.main_v23_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v25) = v2 c
          ∧ r.2.mem ((c.tc : Thread Cert.Reference7Ideal.nD Cert.Reference7Ideal.τ).loc Cert.Reference7Ideal.main_v33) = v3 c
          ∧ r.2.mem ((c.tc : Thread Cert.Reference7Ideal.nD Cert.Reference7Ideal.τ).loc Cert.Reference7Ideal.main_v35) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x7680 : Shape := ⟨2, ![16384, 7680]⟩
abbrev S8x16384 : Shape := ⟨2, ![8, 16384]⟩
abbrev S_ : Shape := ⟨0, ![]⟩

class Facts : Prop where
  bitsLt_bf16_f32 : FTy.bits .bf16 < FTy.bits .f32
  bcast_S_S16384x7680 : S_.BroadcastsInDim S16384x7680 (![] : Fin 0 → Fin S16384x7680.rank)
  reducesTo_S16384x7680_S_d0_1 : S16384x7680.ReducesTo [0, 1] S_
  h_S_ : 0 < S_.numel
  bcast_S_S8x16384 : S_.BroadcastsInDim S8x16384 (![] : Fin 0 → Fin S8x16384.rank)
  reducesTo_S8x16384_S_d0_1 : S8x16384.ReducesTo [0, 1] S_

variable [Facts]

def fn {F : FTy → Type} [FloatOps F] (main_arg0 : FVec F S16384x7680 .bf16) (main_arg1 : FVec F S8x16384 .f32) : IVec S_ 1 :=
  let main_v0 : FVec F S16384x7680 .f32 := (extf .f32 · bitsLt_bf16_f32) main_arg0
  let main_v1 : FVec F S16384x7680 .f32 := Host.absf main_v0
  let main_cst : FVec F S_ .f32 := constant S_ .f32 0x7F800000#32
  let main_v2 : FVec F S16384x7680 .f32 := broadcastInDim S16384x7680 ![] bcast_S_S16384x7680 main_cst
  let main_v3 : IVec S16384x7680 1 := cmpf .olt main_v1 main_v2
  let main_c : IVec S_ 1 := constantI S_ 1 1#1
  let main_v4 : IVec S_ 1 := (fun x v => Host.reduce IntOp.andi x v reducesTo_S16384x7680_S_d0_1 h_S_) main_v3 main_c
  let main_v5 : FVec F S8x16384 .f32 := Host.absf main_arg1
  let main_cst_0 : FVec F S_ .f32 := constant S_ .f32 0x7F800000#32
  let main_v6 : FVec F S8x16384 .f32 := broadcastInDim S8x16384 ![] bcast_S_S8x16384 main_cst_0
  let main_v7 : IVec S8x16384 1 := cmpf .olt main_v5 main_v6
  let main_c_1 : IVec S_ 1 := constantI S_ 1 1#1
  let main_v8 : IVec S_ 1 := (fun x v => Host.reduce IntOp.andi x v reducesTo_S8x16384_S_d0_1 h_S_) main_v7 main_c_1
  let main_v9 : IVec S_ 1 := andi main_v4 main_v8
  main_v9
-- ==== Kernel.lean ====
abbrev S16384x7680 : Shape := ⟨2, ![16384, 7680]⟩
abbrev S8x16384 : Shape := ⟨2, ![8, 16384]⟩
abbrev S4x2x16384 : Shape := ⟨3, ![4, 2, 16384]⟩
abbrev S4x16384x2 : Shape := ⟨3, ![4, 16384, 2]⟩
abbrev S16384x512 : Shape := ⟨2, ![16384, 512]⟩
abbrev S512x128 : Shape := ⟨2, ![512, 128]⟩
abbrev S8192x128 : Shape := ⟨2, ![8192, 128]⟩
abbrev S1x8192x2 : Shape := ⟨3, ![1, 8192, 2]⟩
abbrev S1x2x512 : Shape := ⟨3, ![1, 2, 512]⟩
abbrev S2x8192x128 : Shape := ⟨3, ![2, 8192, 128]⟩
abbrev S2x80x8192 : Shape := ⟨3, ![2, 80, 8192]⟩
abbrev S2x512x512 : Shape := ⟨3, ![2, 512, 512]⟩
abbrev S1x128 : Shape := ⟨2, ![1, 128]⟩
abbrev S1x512x2 : Shape := ⟨3, ![1, 512, 2]⟩
abbrev S512x2 : Shape := ⟨2, ![512, 2]⟩
abbrev S128x512 : Shape := ⟨2, ![128, 512]⟩
abbrev S16x512 : Shape := ⟨2, ![16, 512]⟩
abbrev S512x1 : Shape := ⟨2, ![512, 1]⟩
abbrev S1x512x128 : Shape := ⟨3, ![1, 512, 128]⟩
abbrev S64x512 : Shape := ⟨2, ![64, 512]⟩
abbrev S80x512 : Shape := ⟨2, ![80, 512]⟩
abbrev S1x80x512 : Shape := ⟨3, ![1, 80, 512]⟩
abbrev S128x1 : Shape := ⟨2, ![128, 1]⟩
abbrev S1x1x512 : Shape := ⟨3, ![1, 1, 512]⟩
abbrev S1x512 : Shape := ⟨2, ![1, 512]⟩
abbrev S512x512 : Shape := ⟨2, ![512, 512]⟩
abbrev S1x512x512 : Shape := ⟨3, ![1, 512, 512]⟩
abbrev S512 : Shape := ⟨1, ![512]⟩

abbrev nBuf : Space → Nat
  | .hbm => 5
  | .vmem => 15
  | .smem => 0
  | _ => 0

abbrev bufTy : (tb : Table) → Fin (tcTables nBuf tb) → BufTy
  | .hbm, ⟨0, _⟩ => ⟨S16384x7680, .bf16⟩
  | .hbm, ⟨1, _⟩ => ⟨S8x16384, .f32⟩
  | .hbm, ⟨2, _⟩ => ⟨S4x2x16384, .f32⟩
  | .hbm, ⟨3, _⟩ => ⟨S4x16384x2, .f32⟩
  | .hbm, ⟨4, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x8192x2, .f32⟩
  | .local _ .vmem, ⟨7, _⟩ => ⟨S1x8192x2, .f32⟩
  | .local _ .vmem, ⟨8, _⟩ => ⟨S1x2x512, .f32⟩
  | .local _ .vmem, ⟨9, _⟩ => ⟨S1x2x512, .f32⟩
  | .local _ .vmem, ⟨10, _⟩ => ⟨S512x128, .bf16⟩
  | .local _ .vmem, ⟨11, _⟩ => ⟨S512x128, .bf16⟩
  | .local _ .vmem, ⟨12, _⟩ => ⟨S2x8192x128, .bf16⟩
  | .local _ .vmem, ⟨13, _⟩ => ⟨S2x80x8192, .bf16⟩
  | .local _ .vmem, ⟨14, _⟩ => ⟨S2x512x512, .f32⟩
  | _, _ => ⟨S16384x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨3, ![2, 4, 16], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_61 : BitVec 32 := 0#32
  let c16_i32 : BitVec 32 := 16#32
  let v204 : BitVec 32 := Scalar.addi c0_i32_61 c16_i32
  let c1_i32_62 : BitVec 32 := 1#32
  ⟨c0_i32_61, v204, c1_i32_62⟩
def k0_mult1 (k0_t1 : Fin k0_t1_loop.trips) : BitVec 32 :=
  let c0_i32_61 : BitVec 32 := 0#32
  let c1_i32_62 : BitVec 32 := 1#32
  let arg12 : BitVec 32 := Scf.iv c0_i32_61 c1_i32_62 k0_t1
  let c512_i32_64 : BitVec 32 := 512#32
  let v205 : BitVec 32 := Scalar.muli arg12 c512_i32_64
  v205
def k0_off1 (k0_t1 : Fin k0_t1_loop.trips) : Fin 2 → Nat :=
  let c0_i32_61 : BitVec 32 := 0#32
  let c1_i32_62 : BitVec 32 := 1#32
  let arg12 : BitVec 32 := Scf.iv c0_i32_61 c1_i32_62 k0_t1
  let c512_i32_64 : BitVec 32 := 512#32
  let v205 : BitVec 32 := Scalar.muli arg12 c512_i32_64
  let v206 : BitVec 32 := v205
  let v207 : Index := Scalar.indexCast v206
  let c0_65 : Index := 0#32
  ![v207.toNat, 0]
def k0_off2 (k0_t1 : Fin k0_t1_loop.trips) : Fin 3 → Nat :=
  let c0_66 : Index := 0#32
  let c0_i32_61 : BitVec 32 := 0#32
  let c1_i32_62 : BitVec 32 := 1#32
  let arg12 : BitVec 32 := Scf.iv c0_i32_61 c1_i32_62 k0_t1
  let c512_i32_64 : BitVec 32 := 512#32
  let v205 : BitVec 32 := Scalar.muli arg12 c512_i32_64
  let v206 : BitVec 32 := v205
  let v210 : Index := Scalar.indexCast v206
  let c0_67 : Index := 0#32
  ![0, v210.toNat, 0]
def k0_off3 (k0_t1 : Fin k0_t1_loop.trips) : Fin 3 → Nat :=
  let c0_81 : Index := 0#32
  let c0_i32_61 : BitVec 32 := 0#32
  let c1_i32_62 : BitVec 32 := 1#32
  let arg12 : BitVec 32 := Scf.iv c0_i32_61 c1_i32_62 k0_t1
  let c512_i32_64 : BitVec 32 := 512#32
  let v205 : BitVec 32 := Scalar.muli arg12 c512_i32_64
  let v206 : BitVec 32 := v205
  let v272 : Index := Scalar.indexCast v206
  let c0_82 : Index := 0#32
  ![0, v272.toNat, 0]
def k0_off4 (k0_t1 : Fin k0_t1_loop.trips) : Fin 3 → Nat :=
  let c0_83 : Index := 0#32
  let c0_84 : Index := 0#32
  let c0_i32_61 : BitVec 32 := 0#32
  let c1_i32_62 : BitVec 32 := 1#32
  let arg12 : BitVec 32 := Scf.iv c0_i32_61 c1_i32_62 k0_t1
  let c512_i32_64 : BitVec 32 := 512#32
  let v205 : BitVec 32 := Scalar.muli arg12 c512_i32_64
  let v206 : BitVec 32 := v205
  let v279 : Index := Scalar.indexCast v206
  ![0, 0, v279.toNat]
def k0_off5 (k0_t1 : Fin k0_t1_loop.trips) : Fin 3 → Nat :=
  let c1_99 : Index := 1#32
  let c0_i32_61 : BitVec 32 := 0#32
  let c1_i32_62 : BitVec 32 := 1#32
  let arg12 : BitVec 32 := Scf.iv c0_i32_61 c1_i32_62 k0_t1
  let c512_i32_64 : BitVec 32 := 512#32
  let v205 : BitVec 32 := Scalar.muli arg12 c512_i32_64
  let v206 : BitVec 32 := v205
  let v338 : Index := Scalar.indexCast v206
  let c0_100 : Index := 0#32
  ![1, v338.toNat, 0]
def k0_off6 (k0_t1 : Fin k0_t1_loop.trips) : Fin 3 → Nat :=
  let c1_101 : Index := 1#32
  let c0_102 : Index := 0#32
  let c0_i32_61 : BitVec 32 := 0#32
  let c1_i32_62 : BitVec 32 := 1#32
  let arg12 : BitVec 32 := Scf.iv c0_i32_61 c1_i32_62 k0_t1
  let c512_i32_64 : BitVec 32 := 512#32
  let v205 : BitVec 32 := Scalar.muli arg12 c512_i32_64
  let v206 : BitVec 32 := v205
  let v345 : Index := Scalar.indexCast v206
  ![1, 0, v345.toNat]
def k0_mult2 : BitVec 32 :=
  let c0_i32_22 : BitVec 32 := 0#32
  c0_i32_22
@[reducible] def k0_t2_loop (i : grid0.Coords) : Scf.Loop 32 :=
  let c0_i32_37 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let v127 : BitVec 32 := Scalar.subi v1 c0_i32_37
  let c1_i32 : BitVec 32 := 1#32
  let v129 : BitVec 32 := Scalar.divsi v127 c1_i32
  let v130 : BitVec 32 := Scalar.muli v129 c1_i32
  let v131 : BitVec 32 := Scalar.addi c0_i32_37 v130
  let c1_i32_38 : BitVec 32 := 1#32
  ⟨c0_i32_37, v131, c1_i32_38⟩
def k0_mult3 (i : grid0.Coords) (k0_t2 : Fin (k0_t2_loop i).trips) : BitVec 32 :=
  let c0_i32_37 : BitVec 32 := 0#32
  let c1_i32_38 : BitVec 32 := 1#32
  let arg12 : BitVec 32 := Scf.iv c0_i32_37 c1_i32_38 k0_t2
  let c1_i32_69 : BitVec 32 := 1#32
  let v226 : BitVec 32 := Scalar.addi arg12 c1_i32_69
  let c512_i32_70 : BitVec 32 := 512#32
  let v227 : BitVec 32 := Scalar.muli v226 c512_i32_70
  v227
def k0_off7 (i : grid0.Coords) (k0_t2 : Fin (k0_t2_loop i).trips) : Fin 3 → Nat :=
  let c0_71 : Index := 0#32
  let c0_i32_37 : BitVec 32 := 0#32
  let c1_i32_38 : BitVec 32 := 1#32
  let arg12 : BitVec 32 := Scf.iv c0_i32_37 c1_i32_38 k0_t2
  let c1_i32_69 : BitVec 32 := 1#32
  let v226 : BitVec 32 := Scalar.addi arg12 c1_i32_69
  let c512_i32_70 : BitVec 32 := 512#32
  let v227 : BitVec 32 := Scalar.muli v226 c512_i32_70
  let v228 : BitVec 32 := v227
  let v229 : Index := Scalar.indexCast v228
  let c0_72 : Index := 0#32
  ![0, v229.toNat, 0]
def k0_off8 (i : grid0.Coords) (k0_t2 : Fin (k0_t2_loop i).trips) : Fin 3 → Nat :=
  let c1_74 : Index := 1#32
  let c0_i32_37 : BitVec 32 := 0#32
  let c1_i32_38 : BitVec 32 := 1#32
  let arg12 : BitVec 32 := Scf.iv c0_i32_37 c1_i32_38 k0_t2
  let c1_i32_69 : BitVec 32 := 1#32
  let v226 : BitVec 32 := Scalar.addi arg12 c1_i32_69
  let c512_i32_70 : BitVec 32 := 512#32
  let v227 : BitVec 32 := Scalar.muli v226 c512_i32_70
  let v228 : BitVec 32 := v227
  let v233 : Index := Scalar.indexCast v228
  let c0_75 : Index := 0#32
  ![1, v233.toNat, 0]
def k0_mult4 (i : grid0.Coords) (k0_t2 : Fin (k0_t2_loop i).trips) : BitVec 32 :=
  let c0_i32_37 : BitVec 32 := 0#32
  let c1_i32_38 : BitVec 32 := 1#32
  let arg12 : BitVec 32 := Scf.iv c0_i32_37 c1_i32_38 k0_t2
  let c512_i32_83 : BitVec 32 := 512#32
  let v243 : BitVec 32 := Scalar.muli arg12 c512_i32_83
  v243
def k0_off9 (i : grid0.Coords) (k0_t2 : Fin (k0_t2_loop i).trips) : Fin 3 → Nat :=
  let c0_84 : Index := 0#32
  let c0_85 : Index := 0#32
  let c0_i32_37 : BitVec 32 := 0#32
  let c1_i32_38 : BitVec 32 := 1#32
  let arg12 : BitVec 32 := Scf.iv c0_i32_37 c1_i32_38 k0_t2
  let c512_i32_83 : BitVec 32 := 512#32
  let v243 : BitVec 32 := Scalar.muli arg12 c512_i32_83
  let v244 : BitVec 32 := v243
  let v247 : Index := Scalar.indexCast v244
  ![0, 0, v247.toNat]
def k0_off10 (i : grid0.Coords) (k0_t2 : Fin (k0_t2_loop i).trips) : Fin 3 → Nat :=
  let c1_87 : Index := 1#32
  let c0_88 : Index := 0#32
  let c0_i32_37 : BitVec 32 := 0#32
  let c1_i32_38 : BitVec 32 := 1#32
  let arg12 : BitVec 32 := Scf.iv c0_i32_37 c1_i32_38 k0_t2
  let c512_i32_83 : BitVec 32 := 512#32
  let v243 : BitVec 32 := Scalar.muli arg12 c512_i32_83
  let v244 : BitVec 32 := v243
  let v254 : Index := Scalar.indexCast v244
  ![1, 0, v254.toNat]
@[reducible] def k0_t3_loop (i : grid0.Coords) : Scf.Loop 32 :=
  let c0_i32_37 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let v127 : BitVec 32 := Scalar.subi v1 c0_i32_37
  let c1_i32 : BitVec 32 := 1#32
  let v129 : BitVec 32 := Scalar.divsi v127 c1_i32
  let v130 : BitVec 32 := Scalar.muli v129 c1_i32
  let v131 : BitVec 32 := Scalar.addi c0_i32_37 v130
  let v128 : BitVec 32 := Scalar.addi c0_i32_37 v127
  let c1_i32_39 : BitVec 32 := 1#32
  ⟨v131, v128, c1_i32_39⟩
def k0_mult5 (i : grid0.Coords) (k0_t3 : Fin (k0_t3_loop i).trips) : BitVec 32 :=
  let c0_i32_37 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let v127 : BitVec 32 := Scalar.subi v1 c0_i32_37
  let c1_i32 : BitVec 32 := 1#32
  let v129 : BitVec 32 := Scalar.divsi v127 c1_i32
  let v130 : BitVec 32 := Scalar.muli v129 c1_i32
  let v131 : BitVec 32 := Scalar.addi c0_i32_37 v130
  let c1_i32_39 : BitVec 32 := 1#32
  let arg12 : BitVec 32 := Scf.iv v131 c1_i32_39 k0_t3
  let c1_i32_69 : BitVec 32 := 1#32
  let v226 : BitVec 32 := Scalar.addi arg12 c1_i32_69
  let c512_i32_70 : BitVec 32 := 512#32
  let v227 : BitVec 32 := Scalar.muli v226 c512_i32_70
  v227
def k0_off11 (i : grid0.Coords) (k0_t3 : Fin (k0_t3_loop i).trips) : Fin 3 → Nat :=
  let c0_71 : Index := 0#32
  let c0_i32_37 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let v127 : BitVec 32 := Scalar.subi v1 c0_i32_37
  let c1_i32 : BitVec 32 := 1#32
  let v129 : BitVec 32 := Scalar.divsi v127 c1_i32
  let v130 : BitVec 32 := Scalar.muli v129 c1_i32
  let v131 : BitVec 32 := Scalar.addi c0_i32_37 v130
  let c1_i32_39 : BitVec 32 := 1#32
  let arg12 : BitVec 32 := Scf.iv v131 c1_i32_39 k0_t3
  let c1_i32_69 : BitVec 32 := 1#32
  let v226 : BitVec 32 := Scalar.addi arg12 c1_i32_69
  let c512_i32_70 : BitVec 32 := 512#32
  let v227 : BitVec 32 := Scalar.muli v226 c512_i32_70
  let v228 : BitVec 32 := v227
  let v229 : Index := Scalar.indexCast v228
  let c0_72 : Index := 0#32
  ![0, v229.toNat, 0]
def k0_off12 (i : grid0.Coords) (k0_t3 : Fin (k0_t3_loop i).trips) : Fin 3 → Nat :=
  let c1_74 : Index := 1#32
  let c0_i32_37 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let v127 : BitVec 32 := Scalar.subi v1 c0_i32_37
  let c1_i32 : BitVec 32 := 1#32
  let v129 : BitVec 32 := Scalar.divsi v127 c1_i32
  let v130 : BitVec 32 := Scalar.muli v129 c1_i32
  let v131 : BitVec 32 := Scalar.addi c0_i32_37 v130
  let c1_i32_39 : BitVec 32 := 1#32
  let arg12 : BitVec 32 := Scf.iv v131 c1_i32_39 k0_t3
  let c1_i32_69 : BitVec 32 := 1#32
  let v226 : BitVec 32 := Scalar.addi arg12 c1_i32_69
  let c512_i32_70 : BitVec 32 := 512#32
  let v227 : BitVec 32 := Scalar.muli v226 c512_i32_70
  let v228 : BitVec 32 := v227
  let v233 : Index := Scalar.indexCast v228
  let c0_75 : Index := 0#32
  ![1, v233.toNat, 0]
def k0_mult6 (i : grid0.Coords) (k0_t3 : Fin (k0_t3_loop i).trips) : BitVec 32 :=
  let c0_i32_37 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let v127 : BitVec 32 := Scalar.subi v1 c0_i32_37
  let c1_i32 : BitVec 32 := 1#32
  let v129 : BitVec 32 := Scalar.divsi v127 c1_i32
  let v130 : BitVec 32 := Scalar.muli v129 c1_i32
  let v131 : BitVec 32 := Scalar.addi c0_i32_37 v130
  let c1_i32_39 : BitVec 32 := 1#32
  let arg12 : BitVec 32 := Scf.iv v131 c1_i32_39 k0_t3
  let c512_i32_83 : BitVec 32 := 512#32
  let v243 : BitVec 32 := Scalar.muli arg12 c512_i32_83
  v243
def k0_off13 (i : grid0.Coords) (k0_t3 : Fin (k0_t3_loop i).trips) : Fin 3 → Nat :=
  let c0_84 : Index := 0#32
  let c0_85 : Index := 0#32
  let c0_i32_37 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let v127 : BitVec 32 := Scalar.subi v1 c0_i32_37
  let c1_i32 : BitVec 32 := 1#32
  let v129 : BitVec 32 := Scalar.divsi v127 c1_i32
  let v130 : BitVec 32 := Scalar.muli v129 c1_i32
  let v131 : BitVec 32 := Scalar.addi c0_i32_37 v130
  let c1_i32_39 : BitVec 32 := 1#32
  let arg12 : BitVec 32 := Scf.iv v131 c1_i32_39 k0_t3
  let c512_i32_83 : BitVec 32 := 512#32
  let v243 : BitVec 32 := Scalar.muli arg12 c512_i32_83
  let v244 : BitVec 32 := v243
  let v247 : Index := Scalar.indexCast v244
  ![0, 0, v247.toNat]
def k0_off14 (i : grid0.Coords) (k0_t3 : Fin (k0_t3_loop i).trips) : Fin 3 → Nat :=
  let c1_87 : Index := 1#32
  let c0_88 : Index := 0#32
  let c0_i32_37 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let v127 : BitVec 32 := Scalar.subi v1 c0_i32_37
  let c1_i32 : BitVec 32 := 1#32
  let v129 : BitVec 32 := Scalar.divsi v127 c1_i32
  let v130 : BitVec 32 := Scalar.muli v129 c1_i32
  let v131 : BitVec 32 := Scalar.addi c0_i32_37 v130
  let c1_i32_39 : BitVec 32 := 1#32
  let arg12 : BitVec 32 := Scf.iv v131 c1_i32_39 k0_t3
  let c512_i32_83 : BitVec 32 := 512#32
  let v243 : BitVec 32 := Scalar.muli arg12 c512_i32_83
  let v244 : BitVec 32 := v243
  let v254 : Index := Scalar.indexCast v244
  ![1, 0, v254.toNat]
def k0_mult7 (i : grid0.Coords) : BitVec 32 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let c512_i32_52 : BitVec 32 := 512#32
  let v176 : BitVec 32 := Scalar.muli v1 c512_i32_52
  v176
def k0_off15 (i : grid0.Coords) : Fin 3 → Nat :=
  let c0_53 : Index := 0#32
  let c0_54 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let c512_i32_52 : BitVec 32 := 512#32
  let v176 : BitVec 32 := Scalar.muli v1 c512_i32_52
  let v177 : BitVec 32 := v176
  let v180 : Index := Scalar.indexCast v177
  ![0, 0, v180.toNat]
def k0_off16 (i : grid0.Coords) : Fin 3 → Nat :=
  let c1_56 : Index := 1#32
  let c0_57 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.divsi v0 c512_i32_0
  let c512_i32_52 : BitVec 32 := 512#32
  let v176 : BitVec 32 := Scalar.muli v1 c512_i32_52
  let v177 : BitVec 32 := v176
  let v187 : Index := Scalar.indexCast v177
  ![1, 0, v187.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c36_i32 : BitVec 32 := 36#32
  let v2 : BitVec 32 := Scalar.addi c36_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let v0 : BitVec 32 := Scalar.addi c44_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, c0_i32.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((1 / 8) * (Real.log 2)⁻¹ : ℝ) : EReal)
  | _ => none
-- ==== ReferenceIdeal.lean ====
abbrev S16384x7680 : Shape := ⟨2, ![16384, 7680]⟩
abbrev S8x16384 : Shape := ⟨2, ![8, 16384]⟩
abbrev S16384x512 : Shape := ⟨2, ![16384, 512]⟩
abbrev S2x8192x8x64 : Shape := ⟨4, ![2, 8192, 8, 64]⟩
abbrev S16384x8 : Shape := ⟨2, ![16384, 8]⟩
abbrev S2x8192x8 : Shape := ⟨3, ![2, 8192, 8]⟩
abbrev S2x8x8192x8192 : Shape := ⟨4, ![2, 8, 8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x1x8192 : Shape := ⟨4, ![2, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩

abbrev nBuf : Space → Nat
  | .hbm => 52
  | .vmem => 0
  | .smem => 0
  | _ => 0

abbrev bufTy : (tb : Table) → Fin (tcTables nBuf tb) → BufTy
  | .hbm, ⟨0, _⟩ => ⟨S16384x7680, .bf16⟩
  | .hbm, ⟨1, _⟩ => ⟨S8x16384, .f32⟩
  | .hbm, ⟨2, _⟩ => ⟨S16384x7680, .f32⟩
  | .hbm, ⟨3, _⟩ => ⟨S16384x512, .f32⟩
  | .hbm, ⟨4, _⟩ => ⟨S2x8192x8x64, .f32⟩
  | .hbm, ⟨5, _⟩ => ⟨S16384x512, .f32⟩
  | .hbm, ⟨6, _⟩ => ⟨S2x8192x8x64, .f32⟩
  | .hbm, ⟨7, _⟩ => ⟨S16384x512, .f32⟩
  | .hbm, ⟨8, _⟩ => ⟨S2x8192x8x64, .f32⟩
  | .hbm, ⟨9, _⟩ => ⟨S16384x8, .f32⟩
  | .hbm, ⟨10, _⟩ => ⟨S2x8192x8, .f32⟩
  | .hbm, ⟨11, _⟩ => ⟨S2x8x8192x8192, .f32⟩
  | .hbm, ⟨12, _⟩ => ⟨S_, .f32⟩
  | .hbm, ⟨13, _⟩ => ⟨S2x8x8192x8192, .f32⟩
  | .hbm, ⟨14, _⟩ => ⟨S2x8x8192x8192, .f32⟩
  | .hbm, ⟨15, _⟩ => ⟨S2x8x8192, .f32⟩
  | .hbm, ⟨16, _⟩ => ⟨S2x8x8192x1, .f32⟩
  | .hbm, ⟨17, _⟩ => ⟨S2x8x8192, .f32⟩
  | .hbm, ⟨18, _⟩ => ⟨S2x8x1x8192, .f32⟩
  | .hbm, ⟨19, _⟩ => ⟨S2x8x8192x8192, .f32⟩
  | .hbm, ⟨20, _⟩ => ⟨S2x8x8192x8192, .f32⟩
  | .hbm, ⟨21, _⟩ => ⟨S2x8x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S2x8x8192x8192, .f32⟩
  | .hbm, ⟨29, _⟩ => ⟨S_, .f32⟩
  | .hbm, ⟨30, _⟩ => ⟨S_, .f32⟩
  | .hbm, ⟨31, _⟩ => ⟨S2x8x8192x8192, .i1⟩
  | .hbm, ⟨32, _⟩ => ⟨S2x8x8192x8192, .f32⟩
  | .hbm, ⟨33, _⟩ => ⟨S2x8x8192x8192, .f32⟩
  | .hbm, ⟨34, _⟩ => ⟨S_, .f32⟩
  | .hbm, ⟨35, _⟩ => ⟨S2x8x8192, .f32⟩
  | .hbm, ⟨36, _⟩ => ⟨S_, .f32⟩
  | .hbm, ⟨37, _⟩ => ⟨S2x8x8192, .f32⟩
  | .hbm, ⟨38, _⟩ => ⟨S2x8x8192, .f32⟩
  | .hbm, ⟨39, _⟩ => ⟨S2x8x8192x1, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .f32⟩
  | .hbm, ⟨43, _⟩ => ⟨S_, .f32⟩
  | .hbm, ⟨44, _⟩ => ⟨S2x8x8192, .f32⟩
  | .hbm, ⟨45, _⟩ => ⟨S2x8x8192x1, .f32⟩
  | .hbm, ⟨46, _⟩ => ⟨S2x8x8192x8192, .f32⟩
  | .hbm, ⟨47, _⟩ => ⟨S2x8x8192x8192, .f32⟩
  | .hbm, ⟨48, _⟩ => ⟨S2x8x64x8192, .f32⟩
  | .hbm, ⟨49, _⟩ => ⟨S2x8192x8x64, .f32⟩
  | .hbm, ⟨50, _⟩ => ⟨S16384x512, .f32⟩
  | .hbm, ⟨51, _⟩ => ⟨S16384x512, .bf16⟩
  | _, _ => ⟨S16384x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel2.lean ====
abbrev S16384x1024 : Shape := ⟨2, ![16384, 1024]⟩
abbrev S2x1024 : Shape := ⟨2, ![2, 1024]⟩
abbrev S2x1024x7704 : Shape := ⟨3, ![2, 1024, 7704]⟩
abbrev S2x1024x256 : Shape := ⟨3, ![2, 1024, 256]⟩
abbrev S2x1024x512 : Shape := ⟨3, ![2, 1024, 512]⟩
abbrev S2x1024x16 : Shape := ⟨3, ![2, 1024, 16]⟩
abbrev S2x1024x8 : Shape := ⟨3, ![2, 1024, 8]⟩
abbrev S2x1024x3072 : Shape := ⟨3, ![2, 1024, 3072]⟩
abbrev S2x1024x7680 : Shape := ⟨3, ![2, 1024, 7680]⟩
abbrev S_ : Shape := ⟨0, ![]⟩
abbrev S2x1024x104 : Shape := ⟨3, ![2, 1024, 104]⟩
abbrev S2x1024x128 : Shape := ⟨3, ![2, 1024, 128]⟩
abbrev S2x8x1024 : Shape := ⟨3, ![2, 8, 1024]⟩
abbrev S1x1024 : Shape := ⟨2, ![1, 1024]⟩
abbrev S1024 : Shape := ⟨1, ![1024]⟩
abbrev S16384x7680 : Shape := ⟨2, ![16384, 7680]⟩
abbrev S2x512x8192 : Shape := ⟨3, ![2, 512, 8192]⟩
abbrev S16384x128 : Shape := ⟨2, ![16384, 128]⟩
abbrev S8x16384 : Shape := ⟨2, ![8, 16384]⟩
abbrev S1024x1024 : Shape := ⟨2, ![1024, 1024]⟩
abbrev S1x1024x1536 : Shape := ⟨3, ![1, 1024, 1536]⟩
abbrev S1x1024x128 : Shape := ⟨3, ![1, 1024, 128]⟩
abbrev S1x8x1024 : Shape := ⟨3, ![1, 8, 1024]⟩
abbrev S1024x1536 : Shape := ⟨2, ![1024, 1536]⟩
abbrev S1x512x1024 : Shape := ⟨3, ![1, 512, 1024]⟩
abbrev S1024x128 : Shape := ⟨2, ![1024, 128]⟩
abbrev S8x1024 : Shape := ⟨2, ![8, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 32
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x7704, .f32⟩
  | .hbm, ⟨3, _⟩ => ⟨S2x1024x256, .f32⟩
  | .hbm, ⟨4, _⟩ => ⟨S2x1024x256, .f32⟩
  | .hbm, ⟨5, _⟩ => ⟨S2x1024x512, .f32⟩
  | .hbm, ⟨6, _⟩ => ⟨S2x1024x16, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x8, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S2x1024x3072, .f32⟩
  | .hbm, ⟨16, _⟩ => ⟨S2x1024x7680, .f32⟩
  | .hbm, ⟨17, _⟩ => ⟨S2x1024x7680, .bf16⟩
  | .hbm, ⟨18, _⟩ => ⟨S_, .f32⟩
  | .hbm, ⟨19, _⟩ => ⟨S2x1024x104, .f32⟩
  | .hbm, ⟨20, _⟩ => ⟨S2x1024x128, .f32⟩
  | .hbm, ⟨21, _⟩ => ⟨S2x1024x128, .bf16⟩
  | .hbm, ⟨22, _⟩ => ⟨S2x8x1024, .f32⟩
  | .hbm, ⟨23, _⟩ => ⟨S2x8x1024, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S16384x7680, .bf16⟩
  | .hbm, ⟨28, _⟩ => ⟨S2x512x8192, .f32⟩
  | .hbm, ⟨29, _⟩ => ⟨S2x512x8192, .f32⟩
  | .hbm, ⟨30, _⟩ => ⟨S16384x128, .f32⟩
  | .hbm, ⟨31, _⟩ => ⟨S8x16384, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1536, .bf16⟩
  | .local _ .vmem, ⟨4, _⟩ => ⟨S1x1024x1536, .bf16⟩
  | .local _ .vmem, ⟨5, _⟩ => ⟨S1x1024x128, .bf16⟩
  | .local _ .vmem, ⟨6, _⟩ => ⟨S1x8x1024, .bf16⟩
  | .local _ .vmem, ⟨7, _⟩ => ⟨S1024x1536, .bf16⟩
  | .local _ .vmem, ⟨8, _⟩ => ⟨S1024x1536, .bf16⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1024x128, .f32⟩
  | .local _ .vmem, ⟨14, _⟩ => ⟨S1024x128, .f32⟩
  | .local _ .vmem, ⟨15, _⟩ => ⟨S8x1024, .f32⟩
  | .local _ .vmem, ⟨16, _⟩ => ⟨S8x1024, .f32⟩
  | .local _ .vmem, ⟨17, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23_0 : Ref sig .tc := ⟨.hbm, 27, rfl⟩
abbrev main_v23_1 : Ref sig .tc := ⟨.hbm, 28, rfl⟩
abbrev main_v23_2 : Ref sig .tc := ⟨.hbm, 29, rfl⟩
abbrev main_v23_3 : Ref sig .tc := ⟨.hbm, 30, rfl⟩
abbrev main_v23_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_7 : BitVec 32 := 0#32
  let v11 : BitVec 1 := Scalar.cmpi .ne v10 c0_i32_7
  v11

def k0_cond3 (i : grid0.Coords) : BitVec 1 :=
  let arg1 : BitVec 32 := BitVec.ofNat 32 (i 1).val
  let c3_i32_8 : BitVec 32 := 3#32
  let v12 : BitVec 1 := Scalar.cmpi .eq arg1 c3_i32_8
  let v13 : BitVec 32 := Scalar.extui v12
  let c0_i32_9 : BitVec 32 := 0#32
  let v14 : BitVec 1 := Scalar.cmpi .ne v13 c0_i32_9
  v14

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x1024 : Shape := ⟨2, ![16384, 1024]⟩
abbrev S2x1024 : Shape := ⟨2, ![2, 1024]⟩
abbrev S2x1024x7704 : Shape := ⟨3, ![2, 1024, 7704]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x7704 : Shape := ⟨3, ![1, 1024, 7704]⟩
abbrev S1024x7704 : Shape := ⟨2, ![1024, 7704]⟩
abbrev S16384x7704 : Shape := ⟨2, ![16384, 7704]⟩
abbrev S16384x256 : Shape := ⟨2, ![16384, 256]⟩
abbrev S16384x512 : Shape := ⟨2, ![16384, 512]⟩
abbrev S16384x16 : Shape := ⟨2, ![16384, 16]⟩
abbrev S16384x8 : Shape := ⟨2, ![16384, 8]⟩
abbrev S16384x3072 : Shape := ⟨2, ![16384, 3072]⟩
abbrev S16384x7680 : Shape := ⟨2, ![16384, 7680]⟩
abbrev S16384x104 : Shape := ⟨2, ![16384, 104]⟩
abbrev S16384x128 : Shape := ⟨2, ![16384, 128]⟩
abbrev S2x8192x512 : Shape := ⟨3, ![2, 8192, 512]⟩
abbrev S2x512x8192 : Shape := ⟨3, ![2, 512, 8192]⟩
abbrev S8x16384 : Shape := ⟨2, ![8, 16384]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x7704, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x7704, .f32⟩
  | .hbm, ⟨22, _⟩ => ⟨S1024x7704, .f32⟩
  | .hbm, ⟨23, _⟩ => ⟨S16384x7704, .f32⟩
  | .hbm, ⟨24, _⟩ => ⟨S16384x256, .f32⟩
  | .hbm, ⟨25, _⟩ => ⟨S16384x256, .f32⟩
  | .hbm, ⟨26, _⟩ => ⟨S16384x512, .f32⟩
  | .hbm, ⟨27, _⟩ => ⟨S16384x16, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x8, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x3072, .f32⟩
  | .hbm, ⟨37, _⟩ => ⟨S16384x7680, .f32⟩
  | .hbm, ⟨38, _⟩ => ⟨S_, .f32⟩
  | .hbm, ⟨39, _⟩ => ⟨S16384x104, .f32⟩
  | .hbm, ⟨40, _⟩ => ⟨S16384x128, .f32⟩
  | .hbm, ⟨41, _⟩ => ⟨S2x8192x512, .f32⟩
  | .hbm, ⟨42, _⟩ => ⟨S2x512x8192, .f32⟩
  | .hbm, ⟨43, _⟩ => ⟨S2x8192x512, .f32⟩
  | .hbm, ⟨44, _⟩ => ⟨S2x512x8192, .f32⟩
  | .hbm, ⟨45, _⟩ => ⟨S16384x7680, .bf16⟩
  | .hbm, ⟨46, _⟩ => ⟨S8x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== Kernel3.lean ====
abbrev S16384x1024 : Shape := ⟨2, ![16384, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x1024 : Shape := ⟨2, ![1, 1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S32x8x2816 : Shape := ⟨3, ![32, 8, 2816]⟩
abbrev S512x1024 : Shape := ⟨2, ![512, 1024]⟩
abbrev S1x1024x1408 : Shape := ⟨3, ![1, 1024, 1408]⟩
abbrev S3x1408 : Shape := ⟨2, ![3, 1408]⟩
abbrev S1x1408 : Shape := ⟨2, ![1, 1408]⟩
abbrev S1x1408x1024 : Shape := ⟨3, ![1, 1408, 1024]⟩
abbrev S1x8x1408 : Shape := ⟨3, ![1, 8, 1408]⟩
abbrev S520x1408 : Shape := ⟨2, ![520, 1408]⟩
abbrev S2x8x1408 : Shape := ⟨3, ![2, 8, 1408]⟩
abbrev S512 : Shape := ⟨1, ![512]⟩
abbrev S512x1 : Shape := ⟨2, ![512, 1]⟩
abbrev S8x1408 : Shape := ⟨2, ![8, 1408]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 20
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x5632, .f32⟩
  | .hbm, ⟨3, _⟩ => ⟨S2x3x2816, .f32⟩
  | .hbm, ⟨4, _⟩ => ⟨S2x2816, .f32⟩
  | .hbm, ⟨5, _⟩ => ⟨S2x2816x1024, .f32⟩
  | .hbm, ⟨6, _⟩ => ⟨S1024, .f32⟩
  | .hbm, ⟨7, _⟩ => ⟨S2x1024x5632, .bf16⟩
  | .hbm, ⟨8, _⟩ => ⟨S2x2816x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x3x2816, .f32⟩
  | .hbm, ⟨13, _⟩ => ⟨S3x2816, .f32⟩
  | .hbm, ⟨14, _⟩ => ⟨S1x2816, .f32⟩
  | .hbm, ⟨15, _⟩ => ⟨S2816, .f32⟩
  | .hbm, ⟨16, _⟩ => ⟨S1x2816, .f32⟩
  | .hbm, ⟨17, _⟩ => ⟨S1x1024, .f32⟩
  | .hbm, ⟨18, _⟩ => ⟨S16384x1024, .f32⟩
  | .hbm, ⟨19, _⟩ => ⟨S32x8x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S3x1408, .f32⟩
  | .local _ .vmem, ⟨8, _⟩ => ⟨S3x1408, .f32⟩
  | .local _ .vmem, ⟨9, _⟩ => ⟨S1x1408, .f32⟩
  | .local _ .vmem, ⟨10, _⟩ => ⟨S1x1408, .f32⟩
  | .local _ .vmem, ⟨11, _⟩ => ⟨S1x1408x1024, .bf16⟩
  | .local _ .vmem, ⟨12, _⟩ => ⟨S1x1408x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x8x1408, .f32⟩
  | .local _ .vmem, ⟨17, _⟩ => ⟨S1x8x1408, .f32⟩
  | .local _ .vmem, ⟨18, _⟩ => ⟨S512x1024, .bf16⟩
  | .local _ .vmem, ⟨19, _⟩ => ⟨S512x1024, .f32⟩
  | .local _ .vmem, ⟨20, _⟩ => ⟨S520x1408, .f32⟩
  | .local _ .vmem, ⟨21, _⟩ => ⟨S2x8x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg0 : BitVec 32 := BitVec.ofNat 32 (i 0).val
  let c16_i32 : BitVec 32 := 16#32
  let c0_i32_1 : BitVec 32 := 0#32
  let v3 : BitVec 1 := Scalar.cmpi .eq c16_i32 c0_i32_1
  let c1_i32 : BitVec 32 := 1#32
  let v4 : BitVec 32 := Scalar.select v3 c1_i32 c16_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v_true : BitVec 1 := 1#1
  let v16 : BitVec 1 := Scalar.xori v13 v_true
  let v17 : BitVec 32 := Scalar.extui v16
  let c0_i32_7 : BitVec 32 := 0#32
  let v18 : BitVec 1 := Scalar.cmpi .ne v17 c0_i32_7
  v18

def k0_off1 (i : grid0.Coords) : Fin 3 → Nat :=
  let arg1 : BitVec 32 := BitVec.ofNat 32 (i 1).val
  let v78 : Index := Scalar.indexCast arg1
  let c0_44 : Index := 0#32
  let c0_45 : Index := 0#32
  ![v78.toNat, 0, 0]
def k0_off2 (i : grid0.Coords) : Fin 3 → Nat :=
  let arg1 : BitVec 32 := BitVec.ofNat 32 (i 1).val
  let v53 : Index := Scalar.indexCast arg1
  let c0_29 : Index := 0#32
  let c0_30 : Index := 0#32
  ![v53.toNat, 0, 0]
def k0_cond4 (i : grid0.Coords) : BitVec 1 :=
  let arg1 : BitVec 32 := BitVec.ofNat 32 (i 1).val
  let c1_i32_42 : BitVec 32 := 1#32
  let v75 : BitVec 1 := Scalar.cmpi .eq arg1 c1_i32_42
  let v76 : BitVec 32 := Scalar.extui v75
  let c0_i32_43 : BitVec 32 := 0#32
  let v77 : BitVec 1 := Scalar.cmpi .ne v76 c0_i32_43
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S16384x1024 : Shape := ⟨2, ![16384, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S2x8192x2816 : Shape := ⟨3, ![2, 8192, 2816]⟩
abbrev S2x2x2816 : Shape := ⟨3, ![2, 2, 2816]⟩
abbrev S2x8194x2816 : Shape := ⟨3, ![2, 8194, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S32x512x2816 : Shape := ⟨3, ![32, 512, 2816]⟩
abbrev S32x8x2816 : Shape := ⟨3, ![32, 8, 2816]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x5632, .f32⟩
  | .hbm, ⟨3, _⟩ => ⟨S2x3x2816, .f32⟩
  | .hbm, ⟨4, _⟩ => ⟨S2x2816, .f32⟩
  | .hbm, ⟨5, _⟩ => ⟨S2x2816x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024x5632, .f32⟩
  | .hbm, ⟨26, _⟩ => ⟨S1024x5632, .f32⟩
  | .hbm, ⟨27, _⟩ => ⟨S16384x5632, .f32⟩
  | .hbm, ⟨28, _⟩ => ⟨S16384x2816, .f32⟩
  | .hbm, ⟨29, _⟩ => ⟨S2x8192x2816, .f32⟩
  | .hbm, ⟨30, _⟩ => ⟨S16384x2816, .f32⟩
  | .hbm, ⟨31, _⟩ => ⟨S_, .f32⟩
  | .hbm, ⟨32, _⟩ => ⟨S2x2x2816, .f32⟩
  | .hbm, ⟨33, _⟩ => ⟨S2x8194x2816, .f32⟩
  | .hbm, ⟨34, _⟩ => ⟨S2x8192x2816, .f32⟩
  | .hbm, ⟨35, _⟩ => ⟨S1x3x2816, .f32⟩
  | .hbm, ⟨36, _⟩ => ⟨S3x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S2x8192x2816, .f32⟩
  | .hbm, ⟨41, _⟩ => ⟨S2x8192x2816, .f32⟩
  | .hbm, ⟨42, _⟩ => ⟨S_, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S1x3x2816, .f32⟩
  | .hbm, ⟨47, _⟩ => ⟨S3x2816, .f32⟩
  | .hbm, ⟨48, _⟩ => ⟨S1x2816, .f32⟩
  | .hbm, ⟨49, _⟩ => ⟨S2816, .f32⟩
  | .hbm, ⟨50, _⟩ => ⟨S1x1x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S1x3x2816, .f32⟩
  | .hbm, ⟨56, _⟩ => ⟨S3x2816, .f32⟩
  | .hbm, ⟨57, _⟩ => ⟨S1x2816, .f32⟩
  | .hbm, ⟨58, _⟩ => ⟨S2816, .f32⟩
  | .hbm, ⟨59, _⟩ => ⟨S1x1x2816, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S16384x2816, .f32⟩
  | .hbm, ⟨64, _⟩ => ⟨S1x2816, .f32⟩
  | .hbm, ⟨65, _⟩ => ⟨S2816, .f32⟩
  | .hbm, ⟨66, _⟩ => ⟨S1x2816, .f32⟩
  | .hbm, ⟨67, _⟩ => ⟨S16384x2816, .f32⟩
  | .hbm, ⟨68, _⟩ => ⟨S16384x2816, .f32⟩
  | .hbm, ⟨69, _⟩ => ⟨S_, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S_, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S1x2816x1024, .f32⟩
  | .hbm, ⟨80, _⟩ => ⟨S2816x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S16384x1, .f32⟩
  | .hbm, ⟨94, _⟩ => ⟨S16384x1024, .f32⟩
  | .hbm, ⟨95, _⟩ => ⟨S16384x1024, .f32⟩
  | .hbm, ⟨96, _⟩ => ⟨S1x1024, .f32⟩
  | .hbm, ⟨97, _⟩ => ⟨S16384x1024, .f32⟩
  | .hbm, ⟨98, _⟩ => ⟨S16384x1024, .f32⟩
  | .hbm, ⟨99, _⟩ => ⟨S32x512x2816, .f32⟩
  | .hbm, ⟨100, _⟩ => ⟨S32x8x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_5 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_6 : Ref sig .tc := ⟨.hbm, 84, rfl⟩
abbrev main_v70 : Ref sig .tc := ⟨.hbm, 85, rfl⟩
abbrev main_v71 : Ref sig .tc := ⟨.hbm, 86, rfl⟩
abbrev main_cst_7 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== Kernel4.lean ====
abbrev S16384x1024 : Shape := ⟨2, ![16384, 1024]⟩
abbrev S16384x7680 : Shape := ⟨2, ![16384, 7680]⟩
abbrev S16384x512 : Shape := ⟨2, ![16384, 512]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S1x3x512 : Shape := ⟨3, ![1, 3, 512]⟩
abbrev S3x512 : Shape := ⟨2, ![3, 512]⟩
abbrev S32x8x512 : Shape := ⟨3, ![32, 8, 512]⟩
abbrev S512x1024 : Shape := ⟨2, ![512, 1024]⟩
abbrev S512x3072 : Shape := ⟨2, ![512, 3072]⟩
abbrev S512x1536 : Shape := ⟨2, ![512, 1536]⟩
abbrev S512x512 : Shape := ⟨2, ![512, 512]⟩
abbrev S1x3x512x1024 : Shape := ⟨4, ![1, 3, 512, 1024]⟩
abbrev S1x1024x1024 : Shape := ⟨3, ![1, 1024, 1024]⟩
abbrev S1x8x512 : Shape := ⟨3, ![1, 8, 512]⟩
abbrev S520x512 : Shape := ⟨2, ![520, 512]⟩
abbrev S8x512 : Shape := ⟨2, ![8, 512]⟩
abbrev S1x512 : Shape := ⟨2, ![1, 512]⟩
abbrev S1x1x512x1024 : Shape := ⟨4, ![1, 1, 512, 1024]⟩
abbrev S1024x1024 : Shape := ⟨2, ![1024, 1024]⟩

abbrev nBuf : Space → Nat
  | .hbm => 13
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x7680, .bf16⟩
  | .hbm, ⟨2, _⟩ => ⟨S16384x512, .bf16⟩
  | .hbm, ⟨3, _⟩ => ⟨S16384x512, .bf16⟩
  | .hbm, ⟨4, _⟩ => ⟨S2x3x512, .f32⟩
  | .hbm, ⟨5, _⟩ => ⟨S2x3x512x1024, .f32⟩
  | .hbm, ⟨6, _⟩ => ⟨S2x1024x1024, .f32⟩
  | .hbm, ⟨7, _⟩ => ⟨S2x3x512x1024, .bf16⟩
  | .hbm, ⟨8, _⟩ => ⟨S2x1024x1024, .bf16⟩
  | .hbm, ⟨9, _⟩ => ⟨S1x3x512, .f32⟩
  | .hbm, ⟨10, _⟩ => ⟨S3x512, .f32⟩
  | .hbm, ⟨11, _⟩ => ⟨S16384x1024, .f32⟩
  | .hbm, ⟨12, _⟩ => ⟨S32x8x512, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x1536, .bf16⟩
  | .local _ .vmem, ⟨5, _⟩ => ⟨S512x1536, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S3x512, .f32⟩
  | .local _ .vmem, ⟨11, _⟩ => ⟨S1x3x512x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S1x8x512, .f32⟩
  | .local _ .vmem, ⟨16, _⟩ => ⟨S1x8x512, .f32⟩
  | .local _ .vmem, ⟨17, _⟩ => ⟨S520x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S16384x7680 : Shape := ⟨2, ![16384, 7680]⟩
abbrev S16384x512 : Shape := ⟨2, ![16384, 512]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S16384x3072 : Shape := ⟨2, ![16384, 3072]⟩
abbrev S16384x3x1024 : Shape := ⟨3, ![16384, 3, 1024]⟩
abbrev S2x8192x512 : Shape := ⟨3, ![2, 8192, 512]⟩
abbrev S_ : Shape := ⟨0, ![]⟩
abbrev S2x2x512 : Shape := ⟨3, ![2, 2, 512]⟩
abbrev S2x8194x512 : Shape := ⟨3, ![2, 8194, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S1x1x512 : Shape := ⟨3, ![1, 1, 512]⟩
abbrev S16384x1x512 : Shape := ⟨3, ![16384, 1, 512]⟩
abbrev S16384x3x512 : Shape := ⟨3, ![16384, 3, 512]⟩
abbrev S1x3x512x1024 : Shape := ⟨4, ![1, 3, 512, 1024]⟩
abbrev S3x512x1024 : Shape := ⟨3, ![3, 512, 1024]⟩
abbrev S3x1024x16384 : Shape := ⟨3, ![3, 1024, 16384]⟩
abbrev S1x1024x1024 : Shape := ⟨3, ![1, 1024, 1024]⟩
abbrev S1024x1024 : Shape := ⟨2, ![1024, 1024]⟩
abbrev S32x512x512 : Shape := ⟨3, ![32, 512, 512]⟩
abbrev S32x8x512 : Shape := ⟨3, ![32, 8, 512]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x7680, .bf16⟩
  | .hbm, ⟨2, _⟩ => ⟨S16384x512, .bf16⟩
  | .hbm, ⟨3, _⟩ => ⟨S16384x512, .bf16⟩
  | .hbm, ⟨4, _⟩ => ⟨S2x3x512, .f32⟩
  | .hbm, ⟨5, _⟩ => ⟨S2x3x512x1024, .f32⟩
  | .hbm, ⟨6, _⟩ => ⟨S2x1024x1024, .f32⟩
  | .hbm, ⟨7, _⟩ => ⟨S16384x7680, .f32⟩
  | .hbm, ⟨8, _⟩ => ⟨S16384x3072, .f32⟩
  | .hbm, ⟨9, _⟩ => ⟨S16384x3x1024, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S2x8192x512, .f32⟩
  | .hbm, ⟨15, _⟩ => ⟨S_, .f32⟩
  | .hbm, ⟨16, _⟩ => ⟨S2x2x512, .f32⟩
  | .hbm, ⟨17, _⟩ => ⟨S2x8194x512, .f32⟩
  | .hbm, ⟨18, _⟩ => ⟨S2x8192x512, .f32⟩
  | .hbm, ⟨19, _⟩ => ⟨S1x3x512, .f32⟩
  | .hbm, ⟨20, _⟩ => ⟨S3x512, .f32⟩
  | .hbm, ⟨21, _⟩ => ⟨S1x512, .f32⟩
  | .hbm, ⟨22, _⟩ => ⟨S512, .f32⟩
  | .hbm, ⟨23, _⟩ => ⟨S1x1x512, .f32⟩
  | .hbm, ⟨24, _⟩ => ⟨S2x8192x512, .f32⟩
  | .hbm, ⟨25, _⟩ => ⟨S2x8192x512, .f32⟩
  | .hbm, ⟨26, _⟩ => ⟨S_, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S1x3x512, .f32⟩
  | .hbm, ⟨31, _⟩ => ⟨S3x512, .f32⟩
  | .hbm, ⟨32, _⟩ => ⟨S1x512, .f32⟩
  | .hbm, ⟨33, _⟩ => ⟨S512, .f32⟩
  | .hbm, ⟨34, _⟩ => ⟨S1x1x512, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S2x8192x512, .f32⟩
  | .hbm, ⟨39, _⟩ => ⟨S1x3x512, .f32⟩
  | .hbm, ⟨40, _⟩ => ⟨S3x512, .f32⟩
  | .hbm, ⟨41, _⟩ => ⟨S1x512, .f32⟩
  | .hbm, ⟨42, _⟩ => ⟨S512, .f32⟩
  | .hbm, ⟨43, _⟩ => ⟨S1x1x512, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x1x512, .f32⟩
  | .hbm, ⟨52, _⟩ => ⟨S16384x1x512, .f32⟩
  | .hbm, ⟨53, _⟩ => ⟨S16384x1x512, .f32⟩
  | .hbm, ⟨54, _⟩ => ⟨S16384x3x512, .f32⟩
  | .hbm, ⟨55, _⟩ => ⟨S1x3x512x1024, .f32⟩
  | .hbm, ⟨56, _⟩ => ⟨S3x512x1024, .f32⟩
  | .hbm, ⟨57, _⟩ => ⟨S3x1024x16384, .f32⟩
  | .hbm, ⟨58, _⟩ => ⟨S16384x3x1024, .f32⟩
  | .hbm, ⟨59, _⟩ => ⟨S16384x3x1024, .f32⟩
  | .hbm, ⟨60, _⟩ => ⟨S16384x3x1024, .f32⟩
  | .hbm, ⟨61, _⟩ => ⟨S_, .f32⟩
  | .hbm, ⟨62, _⟩ => ⟨S16384x3x1024, .f32⟩
  | .hbm, ⟨63, _⟩ => ⟨S16384x3x1024, .f32⟩
  | .hbm, ⟨64, _⟩ => ⟨S_, .f32⟩
  | .hbm, ⟨65, _⟩ => ⟨S16384x3x1024, .f32⟩
  | .hbm, ⟨66, _⟩ => ⟨S16384x3x1024, .f32⟩
  | .hbm, ⟨67, _⟩ => ⟨S16384x3x1024, .f32⟩
  | .hbm, ⟨68, _⟩ => ⟨S_, .f32⟩
  | .hbm, ⟨69, _⟩ => ⟨S16384x1024, .f32⟩
  | .hbm, ⟨70, _⟩ => ⟨S1x1024x1024, .f32⟩
  | .hbm, ⟨71, _⟩ => ⟨S1024x1024, .f32⟩
  | .hbm, ⟨72, _⟩ => ⟨S16384x1024, .f32⟩
  | .hbm, ⟨73, _⟩ => ⟨S16384x1024, .f32⟩
  | .hbm, ⟨74, _⟩ => ⟨S32x512x512, .f32⟩
  | .hbm, ⟨75, _⟩ => ⟨S32x8x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_1 : Ref sig .tc := ⟨.hbm, 61, rfl⟩
abbrev main_v52 : Ref sig .tc := ⟨.hbm, 62, rfl⟩
abbrev main_v53 : Ref sig .tc := ⟨.hbm, 63, rfl⟩
abbrev main_cst_2 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_3 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== Kernel5.lean ====
abbrev S512x1024 : Shape := ⟨2, ![512, 1024]⟩
abbrev S512x7680 : Shape := ⟨2, ![512, 7680]⟩
abbrev S512x512 : Shape := ⟨2, ![512, 512]⟩
abbrev S2x128x2x512 : Shape := ⟨4, ![2, 128, 2, 512]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S1x128x2x512 : Shape := ⟨4, ![1, 128, 2, 512]⟩
abbrev S128x2x512 : Shape := ⟨3, ![128, 2, 512]⟩
abbrev S2x128x512 : Shape := ⟨3, ![2, 128, 512]⟩
abbrev S256x512 : Shape := ⟨2, ![256, 512]⟩
abbrev S1x3x512 : Shape := ⟨3, ![1, 3, 512]⟩
abbrev S3x512 : Shape := ⟨2, ![3, 512]⟩
abbrev S1x256x512 : Shape := ⟨3, ![1, 256, 512]⟩
abbrev S512x3072 : Shape := ⟨2, ![512, 3072]⟩
abbrev S512x1536 : Shape := ⟨2, ![512, 1536]⟩
abbrev S1x3x512x1024 : Shape := ⟨4, ![1, 3, 512, 1024]⟩
abbrev S1x1024x1024 : Shape := ⟨3, ![1, 1024, 1024]⟩
abbrev S768x512 : Shape := ⟨2, ![768, 512]⟩
abbrev S1x512 : Shape := ⟨2, ![1, 512]⟩
abbrev S1x1x512x1024 : Shape := ⟨4, ![1, 1, 512, 1024]⟩
abbrev S1024x1024 : Shape := ⟨2, ![1024, 1024]⟩

abbrev nBuf : Space → Nat
  | .hbm => 18
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S512x7680, .bf16⟩
  | .hbm, ⟨2, _⟩ => ⟨S512x512, .bf16⟩
  | .hbm, ⟨3, _⟩ => ⟨S512x512, .bf16⟩
  | .hbm, ⟨4, _⟩ => ⟨S2x128x2x512, .f32⟩
  | .hbm, ⟨5, _⟩ => ⟨S2x3x512, .f32⟩
  | .hbm, ⟨6, _⟩ => ⟨S2x3x512x1024, .f32⟩
  | .hbm, ⟨7, _⟩ => ⟨S2x1024x1024, .f32⟩
  | .hbm, ⟨8, _⟩ => ⟨S2x3x512x1024, .bf16⟩
  | .hbm, ⟨9, _⟩ => ⟨S2x1024x1024, .bf16⟩
  | .hbm, ⟨10, _⟩ => ⟨S1x128x2x512, .f32⟩
  | .hbm, ⟨11, _⟩ => ⟨S128x2x512, .f32⟩
  | .hbm, ⟨12, _⟩ => ⟨S2x128x512, .f32⟩
  | .hbm, ⟨13, _⟩ => ⟨S256x512, .f32⟩
  | .hbm, ⟨14, _⟩ => ⟨S1x3x512, .f32⟩
  | .hbm, ⟨15, _⟩ => ⟨S3x512, .f32⟩
  | .hbm, ⟨16, _⟩ => ⟨S512x1024, .f32⟩
  | .hbm, ⟨17, _⟩ => ⟨S1x256x512, .f32⟩
  | .local _ .vmem, ⟨0, _⟩ => ⟨S512x1024, .f32⟩
  | .local _ .vmem, ⟨1, _⟩ => ⟨S512x3072, .bf16⟩
  | .local _ .vmem, ⟨2, _⟩ => ⟨S512x1536, .bf16⟩
  | .local _ .vmem, ⟨3, _⟩ => ⟨S512x512, .bf16⟩
  | .local _ .vmem, ⟨4, _⟩ => ⟨S512x512, .bf16⟩
  | .local _ .vmem, ⟨5, _⟩ => ⟨S3x512, .f32⟩
  | .local _ .vmem, ⟨6, _⟩ => ⟨S1x3x512x1024, .bf16⟩
  | .local _ .vmem, ⟨7, _⟩ => ⟨S1x1024x1024, .bf16⟩
  | .local _ .vmem, ⟨8, _⟩ => ⟨S256x512, .f32⟩
  | .local _ .vmem, ⟨9, _⟩ => ⟨S512x1024, .f32⟩
  | .local _ .vmem, ⟨10, _⟩ => ⟨S1x256x512, .f32⟩
  | .local _ .vmem, ⟨11, _⟩ => ⟨S768x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference5Ideal.lean ====
abbrev S512x1024 : Shape := ⟨2, ![512, 1024]⟩
abbrev S512x7680 : Shape := ⟨2, ![512, 7680]⟩
abbrev S512x512 : Shape := ⟨2, ![512, 512]⟩
abbrev S2x128x2x512 : Shape := ⟨4, ![2, 128, 2, 512]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S512x3072 : Shape := ⟨2, ![512, 3072]⟩
abbrev S512x3x1024 : Shape := ⟨3, ![512, 3, 1024]⟩
abbrev S4x128x512 : Shape := ⟨3, ![4, 128, 512]⟩
abbrev S1x128x2x512 : Shape := ⟨4, ![1, 128, 2, 512]⟩
abbrev S128x2x512 : Shape := ⟨3, ![128, 2, 512]⟩
abbrev S2x128x512 : Shape := ⟨3, ![2, 128, 512]⟩
abbrev S6x128x512 : Shape := ⟨3, ![6, 128, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S512x1x512 : Shape := ⟨3, ![512, 1, 512]⟩
abbrev S512x3x512 : Shape := ⟨3, ![512, 3, 512]⟩
abbrev S1x3x512x1024 : Shape := ⟨4, ![1, 3, 512, 1024]⟩
abbrev S3x512x1024 : Shape := ⟨3, ![3, 512, 1024]⟩
abbrev S3x1024x512 : Shape := ⟨3, ![3, 1024, 512]⟩
abbrev S1x1024x1024 : Shape := ⟨3, ![1, 1024, 1024]⟩
abbrev S1024x1024 : Shape := ⟨2, ![1024, 1024]⟩
abbrev S1x256x512 : Shape := ⟨3, ![1, 256, 512]⟩

abbrev nBuf : Space → Nat
  | .hbm => 78
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x7680, .bf16⟩
  | .hbm, ⟨2, _⟩ => ⟨S512x512, .bf16⟩
  | .hbm, ⟨3, _⟩ => ⟨S512x512, .bf16⟩
  | .hbm, ⟨4, _⟩ => ⟨S2x128x2x512, .f32⟩
  | .hbm, ⟨5, _⟩ => ⟨S2x3x512, .f32⟩
  | .hbm, ⟨6, _⟩ => ⟨S2x3x512x1024, .f32⟩
  | .hbm, ⟨7, _⟩ => ⟨S2x1024x1024, .f32⟩
  | .hbm, ⟨8, _⟩ => ⟨S512x7680, .f32⟩
  | .hbm, ⟨9, _⟩ => ⟨S512x3072, .f32⟩
  | .hbm, ⟨10, _⟩ => ⟨S512x3x1024, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S4x128x512, .f32⟩
  | .hbm, ⟨16, _⟩ => ⟨S1x128x2x512, .f32⟩
  | .hbm, ⟨17, _⟩ => ⟨S128x2x512, .f32⟩
  | .hbm, ⟨18, _⟩ => ⟨S2x128x512, .f32⟩
  | .hbm, ⟨19, _⟩ => ⟨S6x128x512, .f32⟩
  | .hbm, ⟨20, _⟩ => ⟨S4x128x512, .f32⟩
  | .hbm, ⟨21, _⟩ => ⟨S1x3x512, .f32⟩
  | .hbm, ⟨22, _⟩ => ⟨S3x512, .f32⟩
  | .hbm, ⟨23, _⟩ => ⟨S1x512, .f32⟩
  | .hbm, ⟨24, _⟩ => ⟨S512, .f32⟩
  | .hbm, ⟨25, _⟩ => ⟨S1x1x512, .f32⟩
  | .hbm, ⟨26, _⟩ => ⟨S4x128x512, .f32⟩
  | .hbm, ⟨27, _⟩ => ⟨S4x128x512, .f32⟩
  | .hbm, ⟨28, _⟩ => ⟨S_, .f32⟩
  | .hbm, ⟨29, _⟩ => ⟨S4x128x512, .f32⟩
  | .hbm, ⟨30, _⟩ => ⟨S4x128x512, .f32⟩
  | .hbm, ⟨31, _⟩ => ⟨S4x128x512, .f32⟩
  | .hbm, ⟨32, _⟩ => ⟨S1x3x512, .f32⟩
  | .hbm, ⟨33, _⟩ => ⟨S3x512, .f32⟩
  | .hbm, ⟨34, _⟩ => ⟨S1x512, .f32⟩
  | .hbm, ⟨35, _⟩ => ⟨S512, .f32⟩
  | .hbm, ⟨36, _⟩ => ⟨S1x1x512, .f32⟩
  | .hbm, ⟨37, _⟩ => ⟨S4x128x512, .f32⟩
  | .hbm, ⟨38, _⟩ => ⟨S4x128x512, .f32⟩
  | .hbm, ⟨39, _⟩ => ⟨S4x128x512, .f32⟩
  | .hbm, ⟨40, _⟩ => ⟨S4x128x512, .f32⟩
  | .hbm, ⟨41, _⟩ => ⟨S1x3x512, .f32⟩
  | .hbm, ⟨42, _⟩ => ⟨S3x512, .f32⟩
  | .hbm, ⟨43, _⟩ => ⟨S1x512, .f32⟩
  | .hbm, ⟨44, _⟩ => ⟨S512, .f32⟩
  | .hbm, ⟨45, _⟩ => ⟨S1x1x512, .f32⟩
  | .hbm, ⟨46, _⟩ => ⟨S4x128x512, .f32⟩
  | .hbm, ⟨47, _⟩ => ⟨S4x128x512, .f32⟩
  | .hbm, ⟨48, _⟩ => ⟨S4x128x512, .f32⟩
  | .hbm, ⟨49, _⟩ => ⟨S512x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S512x1x512, .f32⟩
  | .hbm, ⟨54, _⟩ => ⟨S512x1x512, .f32⟩
  | .hbm, ⟨55, _⟩ => ⟨S512x1x512, .f32⟩
  | .hbm, ⟨56, _⟩ => ⟨S512x3x512, .f32⟩
  | .hbm, ⟨57, _⟩ => ⟨S1x3x512x1024, .f32⟩
  | .hbm, ⟨58, _⟩ => ⟨S3x512x1024, .f32⟩
  | .hbm, ⟨59, _⟩ => ⟨S3x1024x512, .f32⟩
  | .hbm, ⟨60, _⟩ => ⟨S512x3x1024, .f32⟩
  | .hbm, ⟨61, _⟩ => ⟨S512x3x1024, .f32⟩
  | .hbm, ⟨62, _⟩ => ⟨S512x3x1024, .f32⟩
  | .hbm, ⟨63, _⟩ => ⟨S_, .f32⟩
  | .hbm, ⟨64, _⟩ => ⟨S512x3x1024, .f32⟩
  | .hbm, ⟨65, _⟩ => ⟨S512x3x1024, .f32⟩
  | .hbm, ⟨66, _⟩ => ⟨S_, .f32⟩
  | .hbm, ⟨67, _⟩ => ⟨S512x3x1024, .f32⟩
  | .hbm, ⟨68, _⟩ => ⟨S512x3x1024, .f32⟩
  | .hbm, ⟨69, _⟩ => ⟨S512x3x1024, .f32⟩
  | .hbm, ⟨70, _⟩ => ⟨S_, .f32⟩
  | .hbm, ⟨71, _⟩ => ⟨S512x1024, .f32⟩
  | .hbm, ⟨72, _⟩ => ⟨S1x1024x1024, .f32⟩
  | .hbm, ⟨73, _⟩ => ⟨S1024x1024, .f32⟩
  | .hbm, ⟨74, _⟩ => ⟨S512x1024, .f32⟩
  | .hbm, ⟨75, _⟩ => ⟨S512x1024, .f32⟩
  | .hbm, ⟨76, _⟩ => ⟨S2x128x512, .f32⟩
  | .hbm, ⟨77, _⟩ => ⟨S1x256x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_0 : Ref sig .tc := ⟨.hbm, 63, rfl⟩
abbrev main_v54 : Ref sig .tc := ⟨.hbm, 64, rfl⟩
abbrev main_v55 : Ref sig .tc := ⟨.hbm, 65, rfl⟩
abbrev main_cst_1 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_2 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]
-- ==== Kernel6.lean ====
abbrev S512x1024 : Shape := ⟨2, ![512, 1024]⟩
abbrev S2x1024 : Shape := ⟨2, ![2, 1024]⟩
abbrev S2x1024x5632 : Shape := ⟨3, ![2, 1024, 5632]⟩
abbrev S2x128x2x2816 : Shape := ⟨4, ![2, 128, 2, 2816]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x128x2x2816 : Shape := ⟨4, ![1, 128, 2, 2816]⟩
abbrev S128x2x2816 : Shape := ⟨3, ![128, 2, 2816]⟩
abbrev S2x128x2816 : Shape := ⟨3, ![2, 128, 2816]⟩
abbrev S256x2816 : Shape := ⟨2, ![256, 2816]⟩
abbrev S1x1024 : Shape := ⟨2, ![1, 1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x256x2816 : Shape := ⟨3, ![1, 256, 2816]⟩
abbrev S1x1024x1408 : Shape := ⟨3, ![1, 1024, 1408]⟩
abbrev S3x1408 : Shape := ⟨2, ![3, 1408]⟩
abbrev S1x1408 : Shape := ⟨2, ![1, 1408]⟩
abbrev S1x1408x1024 : Shape := ⟨3, ![1, 1408, 1024]⟩
abbrev S256x1408 : Shape := ⟨2, ![256, 1408]⟩
abbrev S1x256x1408 : Shape := ⟨3, ![1, 256, 1408]⟩
abbrev S768x1408 : Shape := ⟨2, ![768, 1408]⟩
abbrev S2x256x1408 : Shape := ⟨3, ![2, 256, 1408]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 25
  | .vmem => 22
  | .smem => 0
  | _ => 0

abbrev bufTy : (tb : Table) → Fin (tcTables nBuf tb) → BufTy
  | .hbm, ⟨0, _⟩ => ⟨S512x1024, .f32⟩
  | .hbm, ⟨1, _⟩ => ⟨S2x1024, .f32⟩
  | .hbm, ⟨2, _⟩ => ⟨S2x1024x5632, .f32⟩
  | .hbm, ⟨3, _⟩ => ⟨S2x128x2x2816, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S1024, .f32⟩
  | .hbm, ⟨8, _⟩ => ⟨S2x1024x5632, .bf16⟩
  | .hbm, ⟨9, _⟩ => ⟨S2x2816x1024, .bf16⟩
  | .hbm, ⟨10, _⟩ => ⟨S1x128x2x2816, .f32⟩
  | .hbm, ⟨11, _⟩ => ⟨S128x2x2816, .f32⟩
  | .hbm, ⟨12, _⟩ => ⟨S2x128x2816, .f32⟩
  | .hbm, ⟨13, _⟩ => ⟨S256x2816, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x3x2816, .f32⟩
  | .hbm, ⟨18, _⟩ => ⟨S3x2816, .f32⟩
  | .hbm, ⟨19, _⟩ => ⟨S1x2816, .f32⟩
  | .hbm, ⟨20, _⟩ => ⟨S2816, .f32⟩
  | .hbm, ⟨21, _⟩ => ⟨S1x2816, .f32⟩
  | .hbm, ⟨22, _⟩ => ⟨S1x1024, .f32⟩
  | .hbm, ⟨23, _⟩ => ⟨S512x1024, .f32⟩
  | .hbm, ⟨24, _⟩ => ⟨S1x256x2816, .f32⟩
  | .local _ .vmem, ⟨0, _⟩ => ⟨S512x1024, .f32⟩
  | .local _ .vmem, ⟨1, _⟩ => ⟨S1x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S1x1408x1024, .bf16⟩
  | .local _ .vmem, ⟨11, _⟩ => ⟨S1x1408x1024, .bf16⟩
  | .local _ .vmem, ⟨12, _⟩ => ⟨S256x1408, .f32⟩
  | .local _ .vmem, ⟨13, _⟩ => ⟨S256x1408, .f32⟩
  | .local _ .vmem, ⟨14, _⟩ => ⟨S1x1024, .f32⟩
  | .local _ .vmem, ⟨15, _⟩ => ⟨S512x1024, .f32⟩
  | .local _ .vmem, ⟨16, _⟩ => ⟨S1x256x1408, .f32⟩
  | .local _ .vmem, ⟨17, _⟩ => ⟨S1x256x1408, .f32⟩
  | .local _ .vmem, ⟨18, _⟩ => ⟨S512x1024, .bf16⟩
  | .local _ .vmem, ⟨19, _⟩ => ⟨S512x1024, .f32⟩
  | .local _ .vmem, ⟨20, _⟩ => ⟨S768x1408, .f32⟩
  | .local _ .vmem, ⟨21, _⟩ => ⟨S2x256x1408, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v60 : BitVec 1 := Scalar.cmpi .eq arg1 c1_i32
  let v61 : BitVec 32 := Scalar.extui v60
  let c0_i32_38 : BitVec 32 := 0#32
  let v62 : BitVec 1 := Scalar.cmpi .ne v61 c0_i32_38
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S512x1024 : Shape := ⟨2, ![512, 1024]⟩
abbrev S2x1024 : Shape := ⟨2, ![2, 1024]⟩
abbrev S2x1024x5632 : Shape := ⟨3, ![2, 1024, 5632]⟩
abbrev S2x128x2x2816 : Shape := ⟨4, ![2, 128, 2, 2816]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S1x1024x5632 : Shape := ⟨3, ![1, 1024, 5632]⟩
abbrev S1024x5632 : Shape := ⟨2, ![1024, 5632]⟩
abbrev S512x5632 : Shape := ⟨2, ![512, 5632]⟩
abbrev S512x2816 : Shape := ⟨2, ![512, 2816]⟩
abbrev S4x128x2816 : Shape := ⟨3, ![4, 128, 2816]⟩
abbrev S1x128x2x2816 : Shape := ⟨4, ![1, 128, 2, 2816]⟩
abbrev S128x2x2816 : Shape := ⟨3, ![128, 2, 2816]⟩
abbrev S2x128x2816 : Shape := ⟨3, ![2, 128, 2816]⟩
abbrev S6x128x2816 : Shape := ⟨3, ![6, 128, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S1x256x2816 : Shape := ⟨3, ![1, 256, 2816]⟩

abbrev nBuf : Space → Nat
  | .hbm => 103
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S2x1024, .f32⟩
  | .hbm, ⟨2, _⟩ => ⟨S2x1024x5632, .f32⟩
  | .hbm, ⟨3, _⟩ => ⟨S2x128x2x2816, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S1024, .f32⟩
  | .hbm, ⟨8, _⟩ => ⟨S512x1024, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x1024, .f32⟩
  | .hbm, ⟨20, _⟩ => ⟨S512x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S512x1024, .f32⟩
  | .hbm, ⟨25, _⟩ => ⟨S512x1024, .f32⟩
  | .hbm, ⟨26, _⟩ => ⟨S1x1024x5632, .f32⟩
  | .hbm, ⟨27, _⟩ => ⟨S1024x5632, .f32⟩
  | .hbm, ⟨28, _⟩ => ⟨S512x5632, .f32⟩
  | .hbm, ⟨29, _⟩ => ⟨S512x2816, .f32⟩
  | .hbm, ⟨30, _⟩ => ⟨S4x128x2816, .f32⟩
  | .hbm, ⟨31, _⟩ => ⟨S512x2816, .f32⟩
  | .hbm, ⟨32, _⟩ => ⟨S1x128x2x2816, .f32⟩
  | .hbm, ⟨33, _⟩ => ⟨S128x2x2816, .f32⟩
  | .hbm, ⟨34, _⟩ => ⟨S2x128x2816, .f32⟩
  | .hbm, ⟨35, _⟩ => ⟨S6x128x2816, .f32⟩
  | .hbm, ⟨36, _⟩ => ⟨S4x128x2816, .f32⟩
  | .hbm, ⟨37, _⟩ => ⟨S1x3x2816, .f32⟩
  | .hbm, ⟨38, _⟩ => ⟨S3x2816, .f32⟩
  | .hbm, ⟨39, _⟩ => ⟨S1x2816, .f32⟩
  | .hbm, ⟨40, _⟩ => ⟨S2816, .f32⟩
  | .hbm, ⟨41, _⟩ => ⟨S1x1x2816, .f32⟩
  | .hbm, ⟨42, _⟩ => ⟨S4x128x2816, .f32⟩
  | .hbm, ⟨43, _⟩ => ⟨S4x128x2816, .f32⟩
  | .hbm, ⟨44, _⟩ => ⟨S_, .f32⟩
  | .hbm, ⟨45, _⟩ => ⟨S4x128x2816, .f32⟩
  | .hbm, ⟨46, _⟩ => ⟨S4x128x2816, .f32⟩
  | .hbm, ⟨47, _⟩ => ⟨S4x128x2816, .f32⟩
  | .hbm, ⟨48, _⟩ => ⟨S1x3x2816, .f32⟩
  | .hbm, ⟨49, _⟩ => ⟨S3x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S4x128x2816, .f32⟩
  | .hbm, ⟨54, _⟩ => ⟨S4x128x2816, .f32⟩
  | .hbm, ⟨55, _⟩ => ⟨S4x128x2816, .f32⟩
  | .hbm, ⟨56, _⟩ => ⟨S4x128x2816, .f32⟩
  | .hbm, ⟨57, _⟩ => ⟨S1x3x2816, .f32⟩
  | .hbm, ⟨58, _⟩ => ⟨S3x2816, .f32⟩
  | .hbm, ⟨59, _⟩ => ⟨S1x2816, .f32⟩
  | .hbm, ⟨60, _⟩ => ⟨S2816, .f32⟩
  | .hbm, ⟨61, _⟩ => ⟨S1x1x2816, .f32⟩
  | .hbm, ⟨62, _⟩ => ⟨S4x128x2816, .f32⟩
  | .hbm, ⟨63, _⟩ => ⟨S4x128x2816, .f32⟩
  | .hbm, ⟨64, _⟩ => ⟨S4x128x2816, .f32⟩
  | .hbm, ⟨65, _⟩ => ⟨S512x2816, .f32⟩
  | .hbm, ⟨66, _⟩ => ⟨S1x2816, .f32⟩
  | .hbm, ⟨67, _⟩ => ⟨S2816, .f32⟩
  | .hbm, ⟨68, _⟩ => ⟨S1x2816, .f32⟩
  | .hbm, ⟨69, _⟩ => ⟨S512x2816, .f32⟩
  | .hbm, ⟨70, _⟩ => ⟨S512x2816, .f32⟩
  | .hbm, ⟨71, _⟩ => ⟨S_, .f32⟩
  | .hbm, ⟨72, _⟩ => ⟨S512x2816, .f32⟩
  | .hbm, ⟨73, _⟩ => ⟨S512x2816, .f32⟩
  | .hbm, ⟨74, _⟩ => ⟨S512x2816, .f32⟩
  | .hbm, ⟨75, _⟩ => ⟨S_, .f32⟩
  | .hbm, ⟨76, _⟩ => ⟨S512x2816, .f32⟩
  | .hbm, ⟨77, _⟩ => ⟨S512x2816, .f32⟩
  | .hbm, ⟨78, _⟩ => ⟨S512x2816, .f32⟩
  | .hbm, ⟨79, _⟩ => ⟨S512x2816, .f32⟩
  | .hbm, ⟨80, _⟩ => ⟨S512x2816, .f32⟩
  | .hbm, ⟨81, _⟩ => ⟨S1x2816x1024, .f32⟩
  | .hbm, ⟨82, _⟩ => ⟨S2816x1024, .f32⟩
  | .hbm, ⟨83, _⟩ => ⟨S512x1024, .f32⟩
  | .hbm, ⟨84, _⟩ => ⟨S512x1024, .f32⟩
  | .hbm, ⟨85, _⟩ => ⟨S512x1024, .f32⟩
  | .hbm, ⟨86, _⟩ => ⟨S_, .f32⟩
  | .hbm, ⟨87, _⟩ => ⟨S512, .f32⟩
  | .hbm, ⟨88, _⟩ => ⟨S512x1, .f32⟩
  | .hbm, ⟨89, _⟩ => ⟨S_, .f32⟩
  | .hbm, ⟨90, _⟩ => ⟨S512x1, .f32⟩
  | .hbm, ⟨91, _⟩ => ⟨S512x1, .f32⟩
  | .hbm, ⟨92, _⟩ => ⟨S_, .f32⟩
  | .hbm, ⟨93, _⟩ => ⟨S512x1, .f32⟩
  | .hbm, ⟨94, _⟩ => ⟨S512x1, .f32⟩
  | .hbm, ⟨95, _⟩ => ⟨S512x1, .f32⟩
  | .hbm, ⟨96, _⟩ => ⟨S512x1024, .f32⟩
  | .hbm, ⟨97, _⟩ => ⟨S512x1024, .f32⟩
  | .hbm, ⟨98, _⟩ => ⟨S1x1024, .f32⟩
  | .hbm, ⟨99, _⟩ => ⟨S512x1024, .f32⟩
  | .hbm, ⟨100, _⟩ => ⟨S512x1024, .f32⟩
  | .hbm, ⟨101, _⟩ => ⟨S2x128x2816, .f32⟩
  | .hbm, ⟨102, _⟩ => ⟨S1x256x2816, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_3 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_5 : Ref sig .tc := ⟨.hbm, 86, rfl⟩
abbrev main_v72 : Ref sig .tc := ⟨.hbm, 87, rfl⟩
abbrev main_v73 : Ref sig .tc := ⟨.hbm, 88, rfl⟩
abbrev main_cst_6 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Kernel7.lean ====
abbrev S512x1024 : Shape := ⟨2, ![512, 1024]⟩
abbrev S2x1024 : Shape := ⟨2, ![2, 1024]⟩
abbrev S2x1024x7704 : Shape := ⟨3, ![2, 1024, 7704]⟩
abbrev S2x1024x256 : Shape := ⟨3, ![2, 1024, 256]⟩
abbrev S2x1024x512 : Shape := ⟨3, ![2, 1024, 512]⟩
abbrev S2x1024x16 : Shape := ⟨3, ![2, 1024, 16]⟩
abbrev S2x1024x8 : Shape := ⟨3, ![2, 1024, 8]⟩
abbrev S2x1024x3072 : Shape := ⟨3, ![2, 1024, 3072]⟩
abbrev S2x1024x7680 : Shape := ⟨3, ![2, 1024, 7680]⟩
abbrev S_ : Shape := ⟨0, ![]⟩
abbrev S2x1024x104 : Shape := ⟨3, ![2, 1024, 104]⟩
abbrev S2x1024x128 : Shape := ⟨3, ![2, 1024, 128]⟩
abbrev S2x8x1024 : Shape := ⟨3, ![2, 8, 1024]⟩
abbrev S1x1024 : Shape := ⟨2, ![1, 1024]⟩
abbrev S1024 : Shape := ⟨1, ![1024]⟩
abbrev S512x7680 : Shape := ⟨2, ![512, 7680]⟩
abbrev S512x512 : Shape := ⟨2, ![512, 512]⟩
abbrev S512x128 : Shape := ⟨2, ![512, 128]⟩
abbrev S8x512 : Shape := ⟨2, ![8, 512]⟩
abbrev S1x1024x1536 : Shape := ⟨3, ![1, 1024, 1536]⟩
abbrev S1x1024x128 : Shape := ⟨3, ![1, 1024, 128]⟩
abbrev S1x8x1024 : Shape := ⟨3, ![1, 8, 1024]⟩
abbrev S512x1536 : Shape := ⟨2, ![512, 1536]⟩
abbrev S512 : Shape := ⟨1, ![512]⟩
abbrev S512x1 : Shape := ⟨2, ![512, 1]⟩
abbrev S1024x128 : Shape := ⟨2, ![1024, 128]⟩
abbrev S8x1024 : Shape := ⟨2, ![8, 1024]⟩
abbrev S1024x1536 : Shape := ⟨2, ![1024, 1536]⟩

abbrev nBuf : Space → Nat
  | .hbm => 32
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S2x1024, .f32⟩
  | .hbm, ⟨2, _⟩ => ⟨S2x1024x7704, .f32⟩
  | .hbm, ⟨3, _⟩ => ⟨S2x1024x256, .f32⟩
  | .hbm, ⟨4, _⟩ => ⟨S2x1024x256, .f32⟩
  | .hbm, ⟨5, _⟩ => ⟨S2x1024x512, .f32⟩
  | .hbm, ⟨6, _⟩ => ⟨S2x1024x16, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x8, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S2x1024x3072, .f32⟩
  | .hbm, ⟨16, _⟩ => ⟨S2x1024x7680, .f32⟩
  | .hbm, ⟨17, _⟩ => ⟨S2x1024x7680, .bf16⟩
  | .hbm, ⟨18, _⟩ => ⟨S_, .f32⟩
  | .hbm, ⟨19, _⟩ => ⟨S2x1024x104, .f32⟩
  | .hbm, ⟨20, _⟩ => ⟨S2x1024x128, .f32⟩
  | .hbm, ⟨21, _⟩ => ⟨S2x1024x128, .bf16⟩
  | .hbm, ⟨22, _⟩ => ⟨S2x8x1024, .f32⟩
  | .hbm, ⟨23, _⟩ => ⟨S2x8x1024, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S512x7680, .bf16⟩
  | .hbm, ⟨28, _⟩ => ⟨S512x512, .f32⟩
  | .hbm, ⟨29, _⟩ => ⟨S512x512, .f32⟩
  | .hbm, ⟨30, _⟩ => ⟨S512x128, .f32⟩
  | .hbm, ⟨31, _⟩ => ⟨S8x512, .f32⟩
  | .local _ .vmem, ⟨0, _⟩ => ⟨S512x1024, .f32⟩
  | .local _ .vmem, ⟨1, _⟩ => ⟨S1x1024, .f32⟩
  | .local _ .vmem, ⟨2, _⟩ => ⟨S1x1024x1536, .bf16⟩
  | .local _ .vmem, ⟨3, _⟩ => ⟨S1x1024x1536, .bf16⟩
  | .local _ .vmem, ⟨4, _⟩ => ⟨S1x1024x128, .bf16⟩
  | .local _ .vmem, ⟨5, _⟩ => ⟨S1x8x1024, .bf16⟩
  | .local _ .vmem, ⟨6, _⟩ => ⟨S512x1536, .bf16⟩
  | .local _ .vmem, ⟨7, _⟩ => ⟨S512x1536, .bf16⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S8x512, .f32⟩
  | .local _ .vmem, ⟨12, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23_0 : Ref sig .tc := ⟨.hbm, 27, rfl⟩
abbrev main_v23_1 : Ref sig .tc := ⟨.hbm, 28, rfl⟩
abbrev main_v23_2 : Ref sig .tc := ⟨.hbm, 29, rfl⟩
abbrev main_v23_3 : Ref sig .tc := ⟨.hbm, 30, rfl⟩
abbrev main_v23_4 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨2, ![1, 5], ![false, false]⟩

def k0_cond2 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_7 : BitVec 32 := 0#32
  let v11 : BitVec 1 := Scalar.cmpi .ne v10 c0_i32_7
  v11

def k0_cond3 (i : grid0.Coords) : BitVec 1 :=
  let arg1 : BitVec 32 := BitVec.ofNat 32 (i 1).val
  let c3_i32_8 : BitVec 32 := 3#32
  let v12 : BitVec 1 := Scalar.cmpi .eq arg1 c3_i32_8
  let v13 : BitVec 32 := Scalar.extui v12
  let c0_i32_9 : BitVec 32 := 0#32
  let v14 : BitVec 1 := Scalar.cmpi .ne v13 c0_i32_9
  v14

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference7Ideal.lean ====
abbrev S512x1024 : Shape := ⟨2, ![512, 1024]⟩
abbrev S2x1024 : Shape := ⟨2, ![2, 1024]⟩
abbrev S2x1024x7704 : Shape := ⟨3, ![2, 1024, 7704]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S1024 : Shape := ⟨1, ![1024]⟩
abbrev S1x1024x7704 : Shape := ⟨3, ![1, 1024, 7704]⟩
abbrev S1024x7704 : Shape := ⟨2, ![1024, 7704]⟩
abbrev S512x7704 : Shape := ⟨2, ![512, 7704]⟩
abbrev S512x256 : Shape := ⟨2, ![512, 256]⟩
abbrev S512x512 : Shape := ⟨2, ![512, 512]⟩
abbrev S512x16 : Shape := ⟨2, ![512, 16]⟩
abbrev S512x8 : Shape := ⟨2, ![512, 8]⟩
abbrev S512x3072 : Shape := ⟨2, ![512, 3072]⟩
abbrev S512x7680 : Shape := ⟨2, ![512, 7680]⟩
abbrev S512x104 : Shape := ⟨2, ![512, 104]⟩
abbrev S512x128 : Shape := ⟨2, ![512, 128]⟩
abbrev S8x512 : Shape := ⟨2, ![8, 512]⟩

abbrev nBuf : Space → Nat
  | .hbm => 43
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S2x1024, .f32⟩
  | .hbm, ⟨2, _⟩ => ⟨S2x1024x7704, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S512x1024, .f32⟩
  | .hbm, ⟨20, _⟩ => ⟨S512x1024, .f32⟩
  | .hbm, ⟨21, _⟩ => ⟨S1x1024x7704, .f32⟩
  | .hbm, ⟨22, _⟩ => ⟨S1024x7704, .f32⟩
  | .hbm, ⟨23, _⟩ => ⟨S512x7704, .f32⟩
  | .hbm, ⟨24, _⟩ => ⟨S512x256, .f32⟩
  | .hbm, ⟨25, _⟩ => ⟨S512x256, .f32⟩
  | .hbm, ⟨26, _⟩ => ⟨S512x512, .f32⟩
  | .hbm, ⟨27, _⟩ => ⟨S512x16, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x8, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x3072, .f32⟩
  | .hbm, ⟨37, _⟩ => ⟨S512x7680, .f32⟩
  | .hbm, ⟨38, _⟩ => ⟨S_, .f32⟩
  | .hbm, ⟨39, _⟩ => ⟨S512x104, .f32⟩
  | .hbm, ⟨40, _⟩ => ⟨S512x128, .f32⟩
  | .hbm, ⟨41, _⟩ => ⟨S512x7680, .bf16⟩
  | .hbm, ⟨42, _⟩ => ⟨S8x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Proof.KerRunA.lean ====
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Fox

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The body at a grid point that fills the key and value scratch runs to its end, its input blocks in place. -/
theorem runsA (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole)
    (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (hc0 : k0_cond1 i = 1#1)
    (x0 : Vec F S512x128 .bf16) (x1 : Vec F S8192x128 .bf16) (x2 : Vec F S8192x128 .bf16) (x3 : Vec F S1x8192x2 .f32) (x4 : Vec F S1x2x512 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__fox_prompt_body i arg3 harg3 arg4 harg4 arg5 harg5 arg6 harg6 arg7 harg7 arg8 harg8 arg9 harg9 arg10 harg10 arg11 harg11) K := by
  simp only [cc0__fox_prompt_body_eq_skeleton]; unfold cc0__fox_prompt_body_skel
  simp only [k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g9, %fs0, %hs0, HS0⟩, ⟨%g10, %fs1, %hs1, HS1⟩, ⟨%g11, %fs2, %hs2, HS2⟩, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hs0; obtain rfl := harg10.eq_unread hs1; obtain rfl := harg11.eq_unread hs2
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _, _; isplitr; swap; · iexact H5
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Kernel.Fox

end
-- ==== Proof.KerRunB.lean ====
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Fox

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The body at a grid point that takes the scratch as it finds it runs to its end, its input blocks in place. -/
theorem runsB (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole)
    (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (hc0 : ¬k0_cond1 i = 1#1)
    (x0 : Vec F S512x128 .bf16) (x1 : Vec F S8192x128 .bf16) (x2 : Vec F S8192x128 .bf16) (x3 : Vec F S1x8192x2 .f32) (x4 : Vec F S1x2x512 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__fox_prompt_body i arg3 harg3 arg4 harg4 arg5 harg5 arg6 harg6 arg7 harg7 arg8 harg8 arg9 harg9 arg10 harg10 arg11 harg11) K := by
  simp only [cc0__fox_prompt_body_eq_skeleton]; unfold cc0__fox_prompt_body_skel
  simp only [k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g9, %fs0, %hs0, HS0⟩, ⟨%g10, %fs1, %hs1, HS1⟩, ⟨%g11, %fs2, %hs2, HS2⟩, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hs0; obtain rfl := harg10.eq_unread hs1; obtain rfl := harg11.eq_unread hs2
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _, _; isplitr; swap; · iexact H5
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Kernel.Fox

end
-- ==== Proof.KerFrame.lean ====
module

public import proofs.«01_k».proof.Proof.KerRunA
public import proofs.«01_k».proof.Proof.KerRunB
public import Idealize.ShloMosaic.Lib.Claim

@[expose] public section

set_option maxRecDepth 16384

noncomputable section

namespace Cert.Kernel.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The staging memrefs at a point, and the scratch. -/
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev scM0_0 : Memref sig .tc .vmem S2x8192x128 .bf16 := Memref.whole cc0_scratch0
abbrev scM0_1 : Memref sig .tc .vmem S2x80x8192 .bf16 := Memref.whole cc0_scratch1
abbrev scM0_2 : Memref sig .tc .vmem S2x512x512 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The proof data: each input's buffer keeps its block; of the output's buffer and of the scratch nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q w := Pipeline.shareOf spec0 w
  owed _ := 0

/-- The window whose contents the frame does not follow: the output's. -/
def fgt (w : Fin cfg0.W) : Bool := match w with
  | ⟨0, _⟩ => false
  | ⟨1, _⟩ => false
  | ⟨2, _⟩ => false
  | ⟨3, _⟩ => false
  | ⟨4, _⟩ => false
  | ⟨5, _⟩ => true

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ X, owns (c : Thread nD τ) (ms0_5 t) fullShare X))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, owns (c : Thread nD τ) (ms0_5 t) fullShare X))

/-- The body at any point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = Pipeline.ΦA spec0 c from rfl, show (dats m 0 c).Φ t.castSucc = Pipeline.ΦA spec0 c from rfl, PhiA0_eq]
  by_cases h0 : k0_cond1 (grid0.coords t) = 1#1
  · iintro ⟨⟨⟨HS0, HS1, HS2⟩, Hg⟩, Ho, ⟨%d0, H0⟩, ⟨%d1, H1⟩, ⟨%d2, H2⟩, ⟨%d3, H3⟩, ⟨%d4, H4⟩, H5⟩
    iapply ((runsA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨HS0, HS1, HS2⟩, Hg⟩, Ho, ⟨%d0, H0⟩, ⟨%d1, H1⟩, ⟨%d2, H2⟩, ⟨%d3, H3⟩, ⟨%d4, H4⟩, H5⟩
    iapply ((runsB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The body obligation at every point, the output's window forgotten. -/
theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- Every execution terminates; the inputs' arrays end as launched; the counters at zero. -/
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := body_obligation m) (hq := fun _ _ _ => rfl)
    (howed := fun _ _ => rfl) (V := V m) (hmain := hmain m Variants.none) (hA := A_eq m) (hΦ := fun _ _ => rfl)

/-- The frame at any word model: every execution terminates, the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(Pipeline.RDat.FramePost.arr_in h.1 c 2 rfl).trans ((A_eq m c 2).trans (V_main_arg0 m c)),
        ((h.1 c).2 main_arg1 (Pipeline.mem_restRefs_of main_arg1 (by decide) (by decide))).trans (V_main_arg1 m c)⟩, h.2⟩)
    (run_main_quiescent m ρ)

end Cert.Kernel.Fox

end
-- ==== Proof.FoxPure.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Value
public import Idealize.ShloMosaic.Lib.ValueIdx

@[expose] public section

set_option maxRecDepth 16384

noncomputable section

namespace Cert.KernelIdeal.Fox

open Idealize.ShloMosaic Idealize.ShloMosaic.TcCoe Idealize.ShloMosaic.Tactic
open Idealize.ShloMosaic.ValueIdx
open Cert.KernelIdeal.Gen

variable {F : FTy → Type} [FloatOps F] [Named F]

/-- The 512 rows of key scratch head `h` that key tile `k` names. -/
def tileK (KS : Vec F S2x8192x128 .bf16) (h : Fin 2) (k : ℕ) : Vec F S1x512x128 .bf16 :=
  fun z => KS (ix3 h ⟨(512 * k + (z 1).val) % 8192, Nat.mod_lt _ (by norm_num)⟩ (z 2))

/-- The 512 columns of value scratch head `h` that key tile `k` names. -/
def tileV (VT : Vec F S2x80x8192 .bf16) (h : Fin 2) (k : ℕ) : Vec F S1x80x512 .bf16 :=
  fun z => VT (ix3 h (z 1) ⟨(512 * k + (z 2).val) % 8192, Nat.mod_lt _ (by norm_num)⟩)

/-- Head 0's scores of key tile `k`. -/
def SC0 (v60 : FVec F S128x512 .bf16) (KS : Vec F S2x8192x128 .bf16) (k : ℕ) : FVec F S1x512x512 .f32 :=
  k0_pay31 v60 (tileK KS 0 k)

/-- Head 1's scores of key tile `k`. -/
def SC1 (v109 : FVec F S128x512 .bf16) (KS : Vec F S2x8192x128 .bf16) (k : ℕ) : FVec F S1x512x512 .f32 :=
  k0_pay63 (k0_pay30 v109 (tileK KS 1 k))

/-- The four carried values: running maxima of both heads, accumulators of both heads. -/
abbrev Acc (F : FTy → Type) := FVec F S1x512 .f32 × FVec F S1x512 .f32 × FVec F S80x512 .f32 × FVec F S80x512 .f32

/-- The carried values before key tile `k`. -/
def carry (v60 v109 : FVec F S128x512 .bf16) (KS : Vec F S2x8192x128 .bf16) (VT : Vec F S2x80x8192 .bf16) : ℕ → Acc F
  | 0 => (k0_pay62, k0_pay62, k0_pay61, k0_pay61)
  | k + 1 =>
    (k0_pay24 (carry v60 v109 KS VT k).1 (SC0 v60 KS k), k0_pay27 (carry v60 v109 KS VT k).2.1 (SC1 v109 KS k),
      k0_pay64 (carry v60 v109 KS VT k).2.2.1 (k0_pay25 (carry v60 v109 KS VT k).1 (SC0 v60 KS k)) (k0_pay26 (carry v60 v109 KS VT k).1 (SC0 v60 KS k)) (tileV VT 0 k),
      k0_pay65 (carry v60 v109 KS VT k).2.2.2 (k0_pay28 (carry v60 v109 KS VT k).2.1 (SC1 v109 KS k)) (k0_pay29 (carry v60 v109 KS VT k).2.1 (SC1 v109 KS k)) (tileV VT 1 k))

/-- Head 0's tile of queries, with the rows that carry the decay. -/
def QT0 (x0 : Vec F S512x128 .bf16) (x4 : Vec F S1x2x512 .f32) : FVec F S128x512 .bf16 :=
  k0_pay50 (iota .tc S128x1 32 [0] iota_S128x1_d0_w32) (k0_pay44 x0)
    (k0_pay46 (View.ld x4 (Rect.unit ![0, 0, 0] S1x1x512.size inb_S1x2x512_S1x1x512_0_0_0)))
    (k0_pay47 (View.ld x4 (Rect.unit ![0, 0, 0] S1x1x512.size inb_S1x2x512_S1x1x512_0_0_0)))
    (k0_pay48 (View.ld x4 (Rect.unit ![0, 0, 0] S1x1x512.size inb_S1x2x512_S1x1x512_0_0_0))) k0_pay49

/-- Head 1's tile of queries. -/
def QT1 (x0 : Vec F S512x128 .bf16) (x4 : Vec F S1x2x512 .f32) : FVec F S128x512 .bf16 :=
  k0_pay58 (iota .tc S128x1 32 [0] iota_S128x1_d0_w32) (k0_pay51 (k0_pay43 x0) (iota .tc S128x1 32 [0] iota_S128x1_d0_w32))
    (k0_pay54 (View.ld x4 (Rect.unit ![0, 1, 0] S1x1x512.size inb_S1x2x512_S1x1x512_0_1_0)))
    (k0_pay55 (View.ld x4 (Rect.unit ![0, 1, 0] S1x1x512.size inb_S1x2x512_S1x1x512_0_1_0)))
    (k0_pay56 (iota .tc S128x1 32 [0] iota_S128x1_d0_w32))
    (k0_pay57 (View.ld x4 (Rect.unit ![0, 1, 0] S1x1x512.size inb_S1x2x512_S1x1x512_0_1_0)))

/-- The first query of the block, and the number of its key tile, as the body computes them. -/
abbrev w0 (n : ℕ) : BitVec 32 := Scalar.muli (BitVec.ofNat 32 n) 512#32
abbrev w1 (n : ℕ) : BitVec 32 := Scalar.divsi (w0 n) 512#32

/-- The output block of query block `n`, from the tiles of queries and the key and value scratch. -/
def OUTQ (n : ℕ) (v60 v109 : FVec F S128x512 .bf16) (KS : Vec F S2x8192x128 .bf16) (VT : Vec F S2x80x8192 .bf16) : FVec F S512x128 .bf16 :=
  k0_pay1 (carry v60 v109 KS VT n).2.2.1 (carry v60 v109 KS VT n).2.2.2
    (k0_pay71 (w0 n) (w1 n) (carry v60 v109 KS VT n).1 (SC0 v60 KS n)) (k0_pay72 (w0 n) (w1 n) (carry v60 v109 KS VT n).1 (SC0 v60 KS n))
    (k0_pay75 (w0 n) (w1 n) (carry v60 v109 KS VT n).2.1 (SC1 v109 KS n)) (k0_pay76 (w0 n) (w1 n) (carry v60 v109 KS VT n).2.1 (SC1 v109 KS n))
    (tileV VT 0 n) (tileV VT 1 n)

/-- A load of a key tile reads that tile. -/
theorem readAt_tileK {sp : Space} (v : View sig .tc sp S2x8192x128 .bf16) (f : v.ty.Contents (Elt F)) (off : Fin 3 → ℕ) (inb) (h : Fin 2) (k : ℕ) (hk : k < 16)
    (ho : off = ![h.val, 512 * k, 0]) :
    v.readAt (Elt F) (Rect.unit (s := S2x8192x128) off S1x512x128.size inb).toLoadRect f = tileK (v.read (Elt F) f) h k := by
  subst ho
  rw [View.readAt_eq_ld]
  funext z
  unfold tileK View.ld
  congr 1
  have h0 := (z 0).isLt
  have h1 := (z 1).isLt
  funext a
  apply Fin.ext
  fin_cases a
  · simp [LoadRect.idx, Rect.unit, ix3]
    change (z 0).val < 1 at h0
    omega
  · simp [LoadRect.idx, Rect.unit, ix3]
    change (z 1).val < 512 at h1
    omega
  · simp [LoadRect.idx, Rect.unit, ix3]

/-- A load of a value tile reads that tile. -/
theorem readAt_tileV {sp : Space} (v : View sig .tc sp S2x80x8192 .bf16) (f : v.ty.Contents (Elt F)) (off : Fin 3 → ℕ) (inb) (h : Fin 2) (k : ℕ) (hk : k < 16)
    (ho : off = ![h.val, 0, 512 * k]) :
    v.readAt (Elt F) (Rect.unit (s := S2x80x8192) off S1x80x512.size inb).toLoadRect f = tileV (v.read (Elt F) f) h k := by
  subst ho
  rw [View.readAt_eq_ld]
  funext z
  unfold tileV View.ld
  congr 1
  have h0 := (z 0).isLt
  have h1 := (z 2).isLt
  funext a
  apply Fin.ext
  fin_cases a
  · simp [LoadRect.idx, Rect.unit, ix3]
    change (z 0).val < 1 at h0
    omega
  · simp [LoadRect.idx, Rect.unit, ix3]
  · simp [LoadRect.idx, Rect.unit, ix3]
    change (z 2).val < 512 at h1
    omega

theorem t2_trips (i : grid0.Coords) : (k0_t2_loop i).trips = (i 2).val :=
  (by decide +kernel : ∀ n : Fin 16, Scf.trips (0#32) (Scalar.addi 0#32 (Scalar.muli (Scalar.divsi (Scalar.subi (w1 n.val) 0#32) 1#32) 1#32)) 1#32 = n.val) (i 2)

theorem t3_trips (i : grid0.Coords) : (k0_t3_loop i).trips = 0 := by
  have := (by decide +kernel : ∀ n : Fin 16, Scf.trips (Scalar.addi 0#32 (Scalar.muli (Scalar.divsi (Scalar.subi (w1 n.val) 0#32) 1#32) 1#32)) (Scalar.addi 0#32 (Scalar.subi (w1 n.val) 0#32)) 1#32 = 0) (i 2)
  exact this

theorem iv_off : ∀ k : Fin 16, (Scf.iv (0#32) (1#32) k.val) = BitVec.ofNat 32 k.val := by decide +kernel
theorem off_mul : ∀ k : Fin 16, (Scalar.indexCast (Scalar.muli (Scf.iv (0#32) (1#32) k.val) 512#32) : BitVec 32).toNat = 512 * k.val := by decide +kernel
theorem off_mul1 : ∀ k : Fin 15, (Scalar.indexCast (Scalar.muli (Scalar.addi (Scf.iv (0#32) (1#32) k.val) 1#32) 512#32) : BitVec 32).toNat = 512 * (k.val + 1) := by decide +kernel

end Cert.KernelIdeal.Fox
-- ==== Proof.FoxFill.lean ====
module

public import proofs.«01_k».proof.Proof.FoxPure

@[expose] public section

set_option maxRecDepth 16384

noncomputable section

namespace Cert.KernelIdeal.Fox

open Idealize.ShloMosaic Idealize.ShloMosaic.TcCoe Idealize.ShloMosaic.Tactic
open Idealize.ShloMosaic.ValueIdx
open Cert.KernelIdeal.Gen

variable {F : FTy → Type} [FloatOps F] [Named F]

/-- Rows `512 k` to `512 k + 511` of a block of keys or values. -/
def tileX (x : Vec F S8192x128 .bf16) (k : ℕ) : Vec F S512x128 .bf16 :=
  fun z => x (ix2 ⟨(512 * k + (z 0).val) % 8192, Nat.mod_lt _ (by norm_num)⟩ (z 1))

/-- The same rows of the decays. -/
def tileC (x : Vec F S1x8192x2 .f32) (k : ℕ) : Vec F S1x512x2 .f32 :=
  fun z => x (ix3 (z 0) ⟨(512 * k + (z 1).val) % 8192, Nat.mod_lt _ (by norm_num)⟩ (z 2))

/-- A load of a tile of keys or values reads that tile. -/
theorem readAt_tileX {sp : Space} (v : View sig .tc sp S8192x128 .bf16) (f : v.ty.Contents (Elt F)) (off : Fin 2 → ℕ) (inb) (k : ℕ) (hk : k < 16)
    (ho : off = ![512 * k, 0]) :
    v.readAt (Elt F) (Rect.unit (s := S8192x128) off S512x128.size inb).toLoadRect f = tileX (v.read (Elt F) f) k := by
  subst ho
  rw [View.readAt_eq_ld]
  funext z
  unfold tileX View.ld
  congr 1
  have h1 := (z 0).isLt
  funext a
  apply Fin.ext
  fin_cases a
  · simp [LoadRect.idx, Rect.unit, ix2]
    change (z 0).val < 512 at h1
    omega
  · simp [LoadRect.idx, Rect.unit, ix2]

/-- A load of a tile of decays reads that tile. -/
theorem readAt_tileC {sp : Space} (v : View sig .tc sp S1x8192x2 .f32) (f : v.ty.Contents (Elt F)) (off : Fin 3 → ℕ) (inb) (k : ℕ) (hk : k < 16)
    (ho : off = ![0, 512 * k, 0]) :
    v.readAt (Elt F) (Rect.unit (s := S1x8192x2) off S1x512x2.size inb).toLoadRect f = tileC (v.read (Elt F) f) k := by
  subst ho
  rw [View.readAt_eq_ld]
  funext z
  unfold tileC View.ld
  congr 1
  have h1 := (z 1).isLt
  funext a
  apply Fin.ext
  fin_cases a
  · have h0 : (z 0).val < 1 := (z 0).isLt
    simp [LoadRect.idx, Rect.unit, ix3]
    omega
  · simp [LoadRect.idx, Rect.unit, ix3]
    change (z 1).val < 512 at h1
    omega
  · simp [LoadRect.idx, Rect.unit, ix3]

/-- Head 0's tile of keys, with the decays in its extra lanes. -/
def KT0 (xk : Vec F S512x128 .bf16) (xc : Vec F S1x512x2 .f32) : FVec F S1x512x128 .bf16 :=
  k0_pay13 (iota .tc S1x128 32 [1] iota_S1x128_d1_w32) (k0_pay2 xk) (k0_pay9 xc) (k0_pay10 (iota .tc S1x128 32 [1] iota_S1x128_d1_w32) xc) (k0_pay11 (iota .tc S1x128 32 [1] iota_S1x128_d1_w32)) (k0_pay12 xc)

/-- Head 1's tile of keys, with the decays in its extra lanes. -/
def KT1 (xk : Vec F S512x128 .bf16) (xc : Vec F S1x512x2 .f32) : FVec F S1x512x128 .bf16 :=
  k0_pay20 (iota .tc S1x128 32 [1] iota_S1x128_d1_w32) (k0_pay15 (k0_pay2 xk)) (k0_pay16 (iota .tc S1x128 32 [1] iota_S1x128_d1_w32)) (k0_pay17 (k0_pay3 xc)) (k0_pay18 (k0_pay3 xc)) (k0_pay19 (k0_pay3 xc))

/-- Head 0's tile of values transposed, over rows of ones. -/
def VT0 (xv : Vec F S512x128 .bf16) : FVec F S1x80x512 .bf16 := k0_pay14 (k0_pay4 xv) k0_pay5

/-- Head 1's tile of values transposed, over rows of ones. -/
def VT1 (xv : Vec F S512x128 .bf16) : FVec F S1x80x512 .bf16 :=
  k0_pay42 (truncf .bf16 (concatenate S80x512 0 [⟨S64x512, extractStridedSlice S64x512 ![64, 0] (k0_pay4 xv) slices_S128x512_o64_0_S64x512⟩, ⟨S16x512, (k0_pay5 : FVec F S16x512 .f32)⟩] concatenates_S64x512_S16x512_S80x512_d0) bitsLt_bf16_f32)

/-- The key scratch of one batch row and head pair. -/
def KSof (x1 : Vec F S8192x128 .bf16) (x3 : Vec F S1x8192x2 .f32) : Vec F S2x8192x128 .bf16 :=
  fun y => if (y 0).val = 0
    then KT0 (tileX x1 ((y 1).val / 512)) (tileC x3 ((y 1).val / 512)) (ix3 0 ⟨(y 1).val % 512, Nat.mod_lt _ (by norm_num)⟩ (y 2))
    else KT1 (tileX x1 ((y 1).val / 512)) (tileC x3 ((y 1).val / 512)) (ix3 0 ⟨(y 1).val % 512, Nat.mod_lt _ (by norm_num)⟩ (y 2))

/-- The value scratch of one batch row and head pair. -/
def VTof (x2 : Vec F S8192x128 .bf16) : Vec F S2x80x8192 .bf16 :=
  fun y => if (y 0).val = 0
    then VT0 (tileX x2 ((y 2).val / 512)) (ix3 0 (y 1) ⟨(y 2).val % 512, Nat.mod_lt _ (by norm_num)⟩)
    else VT1 (tileX x2 ((y 2).val / 512)) (ix3 0 (y 1) ⟨(y 2).val % 512, Nat.mod_lt _ (by norm_num)⟩)

/-- A store of a key tile writes the key scratch's entries. -/
theorem KSof_emb (x1 : Vec F S8192x128 .bf16) (x3 : Vec F S1x8192x2 .f32) (off : Fin 3 → ℕ) (inb) (h : Fin 2) (k : ℕ) (ho : off = ![h.val, 512 * k, 0])
    (x : (Rect.unit (s := S2x8192x128) off S1x512x128.size inb).shape.Idx) :
    KSof x1 x3 ((Rect.unit (s := S2x8192x128) off S1x512x128.size inb).emb x)
      = if h.val = 0 then KT0 (tileX x1 k) (tileC x3 k) x else KT1 (tileX x1 k) (tileC x3 k) x := by
  subst ho
  have h0 : (x 0).val < 1 := (x 0).isLt
  have h1 : (x 1).val < 512 := (x 1).isLt
  have e0 : ((Rect.unit (s := S2x8192x128) ![h.val, 512 * k, 0] S1x512x128.size inb).emb x 0).val = h.val := by
    show h.val + 1 * (x 0).val = _; omega
  have e1 : ((Rect.unit (s := S2x8192x128) ![h.val, 512 * k, 0] S1x512x128.size inb).emb x 1).val = 512 * k + (x 1).val := by
    show 512 * k + 1 * (x 1).val = _; omega
  have ex : (ix3 0 ⟨((Rect.unit (s := S2x8192x128) ![h.val, 512 * k, 0] S1x512x128.size inb).emb x 1).val % 512, Nat.mod_lt _ (by norm_num)⟩ ((Rect.unit (s := S2x8192x128) ![h.val, 512 * k, 0] S1x512x128.size inb).emb x 2) : S1x512x128.Idx) = x := by
    funext a
    apply Fin.ext
    fin_cases a
    · show 0 = (x 0).val; omega
    · show _ % 512 = (x 1).val; rw [e1]; omega
    · show 0 + 1 * (x 2).val = (x 2).val; omega
  unfold KSof
  rw [ex, e0, e1, show (512 * k + (x 1).val) / 512 = k by omega]

/-- A store of a value tile writes the value scratch's entries. -/
theorem VTof_emb (x2 : Vec F S8192x128 .bf16) (off : Fin 3 → ℕ) (inb) (h : Fin 2) (k : ℕ) (ho : off = ![h.val, 0, 512 * k])
    (x : (Rect.unit (s := S2x80x8192) off S1x80x512.size inb).shape.Idx) :
    VTof x2 ((Rect.unit (s := S2x80x8192) off S1x80x512.size inb).emb x)
      = if h.val = 0 then VT0 (tileX x2 k) x else VT1 (tileX x2 k) x := by
  subst ho
  have h0 : (x 0).val < 1 := (x 0).isLt
  have h1 : (x 2).val < 512 := (x 2).isLt
  have e0 : ((Rect.unit (s := S2x80x8192) ![h.val, 0, 512 * k] S1x80x512.size inb).emb x 0).val = h.val := by
    show h.val + 1 * (x 0).val = _; omega
  have e1 : ((Rect.unit (s := S2x80x8192) ![h.val, 0, 512 * k] S1x80x512.size inb).emb x 2).val = 512 * k + (x 2).val := by
    show 512 * k + 1 * (x 2).val = _; omega
  have ex : (ix3 0 ((Rect.unit (s := S2x80x8192) ![h.val, 0, 512 * k] S1x80x512.size inb).emb x 1) ⟨((Rect.unit (s := S2x80x8192) ![h.val, 0, 512 * k] S1x80x512.size inb).emb x 2).val % 512, Nat.mod_lt _ (by norm_num)⟩ : S1x80x512.Idx) = x := by
    funext a
    apply Fin.ext
    fin_cases a
    · show 0 = (x 0).val; omega
    · show 0 + 1 * (x 1).val = (x 1).val; omega
    · show _ % 512 = (x 2).val; rw [e1]; omega
  unfold VTof
  rw [ex, e0, e1, show (512 * k + (x 2).val) / 512 = k by omega]

theorem offK (k : Fin k0_t1_loop.trips) : k0_off1 k = ![512 * k.val, 0] ∧ k0_off2 k = ![0, 512 * k.val, 0] ∧ k0_off3 k = ![(0 : Fin 2).val, 512 * k.val, 0]
    ∧ k0_off4 k = ![(0 : Fin 2).val, 0, 512 * k.val] ∧ k0_off5 k = ![(1 : Fin 2).val, 512 * k.val, 0] ∧ k0_off6 k = ![(1 : Fin 2).val, 0, 512 * k.val] := by
  have hk : k.val < 16 := Nat.lt_of_lt_of_le k.isLt k0_t1_abs.2.1
  have e := off_mul ⟨k.val, hk⟩
  refine ⟨?_, ?_, ?_, ?_, ?_, ?_⟩
  · unfold k0_off1; exact congrArg (fun x => ![x, 0]) e
  · unfold k0_off2; exact congrArg (fun x => ![0, x, 0]) e
  · unfold k0_off3; exact congrArg (fun x => ![0, x, 0]) e
  · unfold k0_off4; exact congrArg (fun x => ![0, 0, x]) e
  · unfold k0_off5; exact congrArg (fun x => ![1, x, 0]) e
  · unfold k0_off6; exact congrArg (fun x => ![1, 0, x]) e

section
variable (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole) (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (hc0 : k0_cond1 i = 1#1) (x1 : Vec F S8192x128 .bf16) (x2 : Vec F S8192x128 .bf16) (x3 : Vec F S1x8192x2 .f32)

/-- What one trip of the fill writes. -/
theorem trip1_eq (k : Fin k0_t1_loop.trips) :
    (tripL_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) k).1
      = [⟨Rect.unit (k0_off5 k) S1x512x128.size (k0_off5_inb i k hc0), KT1 (tileX x1 k.val) (tileC x3 k.val)⟩, ⟨Rect.unit (k0_off3 k) S1x512x128.size (k0_off3_inb i k hc0), KT0 (tileX x1 k.val) (tileC x3 k.val)⟩]
    ∧ (tripL_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) k).2
      = [⟨Rect.unit (k0_off6 k) S1x80x512.size (k0_off6_inb i k hc0), VT1 (tileX x2 k.val)⟩, ⟨Rect.unit (k0_off4 k) S1x80x512.size (k0_off4_inb i k hc0), VT0 (tileX x2 k.val)⟩] := by
  have hk : k.val < 16 := Nat.lt_of_lt_of_le k.isLt k0_t1_abs.2.1
  have a1 := readAt_tileX (F := F) arg4.view (harg4.unread x1) (k0_off1 k) (k0_off1_inb i k hc0) k.val hk (offK k).1
  have a2 := readAt_tileX (F := F) arg5.view (harg5.unread x2) (k0_off1 k) (k0_off1_inb i k hc0) k.val hk (offK k).1
  have a3 := readAt_tileC (F := F) arg6.view (harg6.unread x3) (k0_off2 k) (k0_off2_inb i k hc0) k.val hk (offK k).2.1
  rw [harg4.read_unread] at a1
  rw [harg5.read_unread] at a2
  rw [harg6.read_unread] at a3
  rw [← a1, ← a2, ← a3]
  unfold tripL_k0_t1 trip_k0_t1
  exact ⟨rfl, rfl⟩

/-- Every piece the fill has written holds the scratch's entries. -/
theorem fill_pieces (n : ℕ) (hn : n ≤ k0_t1_loop.trips) :
    (∀ p ∈ (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) n).1, ∀ x : p.1.shape.Idx, p.2 x = KSof x1 x3 (p.1.emb x))
    ∧ (∀ p ∈ (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) n).2, ∀ x : p.1.shape.Idx, p.2 x = VTof x2 (p.1.emb x)) := by
  induction n with
  | zero => exact ⟨fun p hp => absurd hp List.not_mem_nil, fun p hp => absurd hp List.not_mem_nil⟩
  | succ n ih =>
    obtain ⟨ih1, ih2⟩ := ih (by omega)
    have hs := pb_k0_t1_succ (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) ⟨n, by omega⟩
    have ht := trip1_eq (F := F) c i arg3 harg3 arg4 harg4 arg5 harg5 arg6 harg6 arg7 harg7 arg8 harg8 arg9 harg9 arg10 harg10 arg11 harg11 hc0 x1 x2 x3 ⟨n, by omega⟩
    obtain ⟨-, -, o3, o4, o5, o6⟩ := offK ⟨n, by omega⟩
    rw [show n + 1 = (⟨n, by omega⟩ : Fin k0_t1_loop.trips).val + 1 from rfl, hs]
    constructor
    · intro p hp
      rcases List.mem_append.mp hp with hp | hp
      · rw [ht.1] at hp
        rcases List.mem_cons.mp hp with rfl | hp
        · intro x
          exact (KSof_emb x1 x3 _ (k0_off5_inb i ⟨n, by omega⟩ hc0) 1 n o5 x).symm
        · obtain rfl := List.mem_singleton.mp hp
          intro x
          exact (KSof_emb x1 x3 _ (k0_off3_inb i ⟨n, by omega⟩ hc0) 0 n o3 x).symm
      · exact ih1 p hp
    · intro p hp
      rcases List.mem_append.mp hp with hp | hp
      · rw [ht.2] at hp
        rcases List.mem_cons.mp hp with rfl | hp
        · intro x
          exact (VTof_emb x2 _ (k0_off6_inb i ⟨n, by omega⟩ hc0) 1 n o6 x).symm
        · obtain rfl := List.mem_singleton.mp hp
          intro x
          exact (VTof_emb x2 _ (k0_off4_inb i ⟨n, by omega⟩ hc0) 0 n o4 x).symm
      · exact ih2 p hp

theorem fill_cover1 (y : S2x8192x128.Idx) :
    ∃ p ∈ (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).1, y ∈ p.1.set :=
  View.cover_of_tiledL (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).1 S1x512x128.size (by sl_kernel_rfl) y

theorem fill_cover2 (y : S2x80x8192.Idx) :
    ∃ p ∈ (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).2, y ∈ p.1.set :=
  View.cover_of_tiledL (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).2 S1x80x512.size (by sl_kernel_rfl) y

/-- The fill leaves the key scratch and the value scratch, whatever they held. -/
theorem fill_eq (f9 : BufTy.Contents (Elt F) arg9.view.ty) (f10 : BufTy.Contents (Elt F) arg10.view.ty) :
    arg9.view.read (Elt F) (arg9.view.writes (Elt F) f9 (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).1) = KSof x1 x3
    ∧ arg10.view.read (Elt F) (arg10.view.writes (Elt F) f10 (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).2) = VTof x2 := by
  obtain ⟨h1, h2⟩ := fill_pieces (F := F) c i arg3 harg3 arg4 harg4 arg5 harg5 arg6 harg6 arg7 harg7 arg8 harg8 arg9 harg9 arg10 harg10 arg11 harg11 hc0 x1 x2 x3 (Scf.trips k0_t1_loop.lb k0_t1_loop.ub k0_t1_loop.st) le_rfl
  constructor
  · rw [View.read_writes_eq_canon _ _ _ (fill_cover1 (F := F) c i arg3 harg3 arg4 harg4 arg5 harg5 arg6 harg6 arg7 harg7 arg8 harg8 arg9 harg9 arg10 harg10 arg11 harg11 hc0 x1 x2 x3)]
    funext y
    exact View.canon_apply_of_pieces (KSof x1 x3) _ h1 y (fill_cover1 (F := F) c i arg3 harg3 arg4 harg4 arg5 harg5 arg6 harg6 arg7 harg7 arg8 harg8 arg9 harg9 arg10 harg10 arg11 harg11 hc0 x1 x2 x3 y)
  · rw [View.read_writes_eq_canon _ _ _ (fill_cover2 (F := F) c i arg3 harg3 arg4 harg4 arg5 harg5 arg6 harg6 arg7 harg7 arg8 harg8 arg9 harg9 arg10 harg10 arg11 harg11 hc0 x1 x2 x3)]
    funext y
    exact View.canon_apply_of_pieces (VTof x2) _ h2 y (fill_cover2 (F := F) c i arg3 harg3 arg4 harg4 arg5 harg5 arg6 harg6 arg7 harg7 arg8 harg8 arg9 harg9 arg10 harg10 arg11 harg11 hc0 x1 x2 x3 y)

end

end Cert.KernelIdeal.Fox
-- ==== Proof.FoxReal.lean ====
module

public import Idealize.ShloMosaic.Lib.Pointwise
public import Mathlib.Analysis.SpecialFunctions.Pow.Real
public import Mathlib.Analysis.SpecialFunctions.Log.Basic

@[expose] public section

noncomputable section

namespace Cert.KernelIdeal.Fox

open Idealize.ShloMosaic

/-- The extended real of a finite sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many values, none `⊤` and one not `⊥`, is a real number. -/
theorem fold_max_real {ι : Type} [Fintype ι] (f : ι → EReal) (h1 : ∀ a, f a ≠ ⊤) (h2 : ∃ a, f a ≠ ⊥) :
    ∃ R : ℝ, Finset.univ.fold max ⊥ f = (R : EReal) := by
  have a1 : Finset.univ.fold max ⊥ f < ⊤ := Finset.fold_max_lt _ |>.2 ⟨bot_lt_top, fun x _ => lt_top_iff_ne_top.2 (h1 x)⟩
  have a2 : ⊥ < Finset.univ.fold max ⊥ f := Finset.lt_fold_max _ |>.2 (.inr (by
    obtain ⟨a, ha⟩ := h2
    exact ⟨a, Finset.mem_univ a, bot_lt_iff_ne_bot.2 ha⟩))
  exact ⟨_, (EReal.coe_toReal a1.ne a2.ne').symm⟩

/-- The weighted sum, over the first `n` keys, of two to the power of their scores. -/
def part (σ ν : ℕ → ℝ) (n : ℕ) : ℝ := ∑ j ∈ Finset.range n, ν j * (2 : ℝ) ^ (σ j)

/-- A running maximum `m` and an accumulator `A` hold the first `n` keys: the accumulator is their weighted sum, scaled
    down by two to the power of the maximum. -/
def Held (σ ν : ℕ → ℝ) (n : ℕ) (m A : EReal) : Prop :=
  (n = 0 ∧ m = ⊥ ∧ A = 0) ∨ ∃ M : ℝ, m = (M : EReal) ∧ A = ((part σ ν n * (2 : ℝ) ^ (-M) : ℝ) : EReal)

/-- A sum of `L` terms of which only the first `r` are not zero. -/
theorem sum_cut (L r : ℕ) (hr : r ≤ L) (g : ℕ → ℝ) :
    (∑ a : Fin L, if a.val < r then g a.val else 0) = ∑ j ∈ Finset.range r, g j := by
  rw [Fin.sum_univ_eq_sum_range (fun a => if a < r then g a else 0) L, ← Finset.sum_filter]
  congr 1
  ext a
  simp only [Finset.mem_filter, Finset.mem_range]
  omega

/-- One tile of `L` keys, of which the first `r` are seen, taken into the running maximum and the accumulator. -/
theorem Held.step {σ ν : ℕ → ℝ} {n : ℕ} {m A : EReal} (h : Held σ ν n m A) {L r : ℕ} (hr : 0 < r) (hL : r ≤ L) (S V : Fin L → EReal)
    (hS : ∀ a, S a = if a.val < r then (σ (n + a.val) : EReal) else ⊥) (hV : ∀ a, V a = (ν (n + a.val) : EReal)) :
    Held σ ν (n + r) (max m (Finset.univ.fold max ⊥ S))
      (Ideal.exp2 (m - max m (Finset.univ.fold max ⊥ S)) * A + ∑ a, V a * Ideal.exp2 (S a - max m (Finset.univ.fold max ⊥ S))) := by
  obtain ⟨R, hR⟩ := fold_max_real S (fun a => by rw [hS]; split <;> simp) ⟨⟨0, by omega⟩, by rw [hS, if_pos hr]; simp⟩
  have hM : ∃ M' : ℝ, max m (Finset.univ.fold max ⊥ S) = (M' : EReal) := by
    rw [hR]
    rcases h with ⟨_, hm, _⟩ | ⟨M, hm, _⟩
    · exact ⟨R, by rw [hm]; exact max_eq_right bot_le⟩
    · exact ⟨max M R, by rw [hm]; exact (EReal.coe_strictMono.monotone.map_max).symm⟩
  obtain ⟨M', hM'⟩ := hM
  rw [hM']
  refine .inr ⟨M', rfl, ?_⟩
  have e1 : Ideal.exp2 (m - (M' : EReal)) * A = ((part σ ν n * (2 : ℝ) ^ (-M') : ℝ) : EReal) := by
    rcases h with ⟨hn, hm, hA⟩ | ⟨M, hm, hA⟩
    · subst hn
      rw [hA, mul_zero]
      simp [part]
    · rw [hm, hA, ← EReal.coe_sub, Ideal.exp2_coe, ← EReal.coe_mul]
      congr 1
      show (2 : ℝ) ^ (M - M') * (part σ ν n * (2 : ℝ) ^ (-M)) = _
      rw [mul_left_comm, ← Real.rpow_add (by norm_num)]
      congr 2
      ring
  have e2 : ∀ a, V a * Ideal.exp2 (S a - (M' : EReal)) = ((if a.val < r then ν (n + a.val) * (2 : ℝ) ^ (σ (n + a.val)) * (2 : ℝ) ^ (-M') else 0 : ℝ) : EReal) := by
    intro a
    rw [hS, hV]
    by_cases ha : a.val < r
    · rw [if_pos ha, if_pos ha, ← EReal.coe_sub, Ideal.exp2_coe, ← EReal.coe_mul]
      congr 1
      show ν (n + a.val) * (2 : ℝ) ^ (σ (n + a.val) - M') = _
      rw [mul_assoc, ← Real.rpow_add (by norm_num), sub_eq_add_neg]
    · rw [if_neg ha, if_neg ha, EReal.bot_sub, Ideal.exp2_bot, mul_zero, EReal.coe_zero]
  rw [e1, Finset.sum_congr rfl fun a _ => e2 a, ← coe_sum, ← EReal.coe_add, sum_cut L r hL (fun j => ν (n + j) * (2 : ℝ) ^ (σ (n + j)) * (2 : ℝ) ^ (-M')),
    ← Finset.sum_mul, ← add_mul]
  congr 2
  unfold part
  rw [Finset.sum_range_add]

/-- Two accumulators under the same maximum, the second of weight one: their quotient is the weighted mean. -/
theorem Held.quot {σ ν : ℕ → ℝ} {n : ℕ} {m A B : EReal} (hn : 0 < n) (hA : Held σ ν n m A) (hB : Held σ (fun _ => 1) n m B) :
    Ideal.div A B = ((part σ ν n / part σ (fun _ => 1) n : ℝ) : EReal) := by
  have hp : 0 < part σ (fun _ => 1) n := Finset.sum_pos (fun j _ => by rw [one_mul]; exact Real.rpow_pos_of_pos (by norm_num) _) ⟨0, Finset.mem_range.2 hn⟩
  rcases hA with ⟨h0, _⟩ | ⟨M, hm, hA⟩
  · omega
  rcases hB with ⟨h0, _⟩ | ⟨M1, hm1, hB⟩
  · omega
  have : M = M1 := by rw [hm] at hm1; exact_mod_cast hm1
  subst this
  have h2 : (0 : ℝ) < (2 : ℝ) ^ (-M) := Real.rpow_pos_of_pos (by norm_num) _
  rw [hA, hB, Ideal.div_coe (by positivity), ← EReal.coe_mul]
  congr 1
  field_simp

/-- The softmax of the reference: scores in natural units, the keys after the query masked away, any real shift. -/
theorem softmax_mean {σ ν : ℕ → ℝ} (L r : ℕ) (hr : 0 < r) (hL : r ≤ L) (l v : Fin L → EReal) (M : ℝ)
    (hl : ∀ a, l a = if a.val < r then ((σ a.val * Real.log 2 : ℝ) : EReal) else ⊥) (hv : ∀ a, v a = (ν a.val : EReal)) :
    ∑ a, Ideal.div (Ideal.exp (l a - (M : EReal))) (∑ b, Ideal.exp (l b - (M : EReal))) * v a
      = ((part σ ν r / part σ (fun _ => 1) r : ℝ) : EReal) := by
  have hp : 0 < part σ (fun _ => 1) r := Finset.sum_pos (fun j _ => by rw [one_mul]; exact Real.rpow_pos_of_pos (by norm_num) _) ⟨0, Finset.mem_range.2 hr⟩
  have e : ∀ a, Ideal.exp (l a - (M : EReal)) = ((if a.val < r then (2 : ℝ) ^ (σ a.val) * Real.exp (-M) else 0 : ℝ) : EReal) := by
    intro a
    rw [hl]
    by_cases ha : a.val < r
    · rw [if_pos ha, if_pos ha, ← EReal.coe_sub, Ideal.exp_coe, Real.rpow_def_of_pos (by norm_num), ← Real.exp_add]
      congr 2
      ring
    · rw [if_neg ha, if_neg ha, EReal.bot_sub, Ideal.exp_bot, EReal.coe_zero]
  have hs : ∑ b, Ideal.exp (l b - (M : EReal)) = ((part σ (fun _ => 1) r * Real.exp (-M) : ℝ) : EReal) := by
    rw [Finset.sum_congr rfl fun a _ => e a, ← coe_sum, sum_cut L r hL (fun j => (2 : ℝ) ^ (σ j) * Real.exp (-M)), ← Finset.sum_mul]
    simp [part]
  have hE : 0 < Real.exp (-M) := Real.exp_pos _
  have e3 : ∀ a, Ideal.div (Ideal.exp (l a - (M : EReal))) (∑ b, Ideal.exp (l b - (M : EReal))) * v a
      = ((if a.val < r then ν a.val * (2 : ℝ) ^ (σ a.val) / part σ (fun _ => 1) r else 0 : ℝ) : EReal) := by
    intro a
    rw [hs, e, hv, Ideal.div_coe (by positivity), ← EReal.coe_mul, ← EReal.coe_mul]
    congr 1
    split
    · field_simp
    · simp
  rw [Finset.sum_congr rfl fun a _ => e3 a, ← coe_sum, sum_cut L r hL (fun j => ν j * (2 : ℝ) ^ (σ j) / part σ (fun _ => 1) r), ← Finset.sum_div]
  rfl

/-- A query against a key in 128 lanes: 64 lanes of products, one lane of the query's decay, one of the key's. -/
theorem score_sum (f : Fin 128 → EReal) (g : Fin 64 → ℝ) (a b : ℝ) (h : ∀ i : Fin 128, f i = if h : i.val < 64 then (g ⟨i.val, h⟩ : EReal) else if i.val = 64 then (a : EReal) else if i.val = 67 then (b : EReal) else 0) :
    ∑ i, f i = (((∑ i, g i) + a + b : ℝ) : EReal) := by
  rw [show (∑ i, f i) = (∑ i : Fin 64, f ⟨i.val, by omega⟩) + ∑ i : Fin 64, f ⟨64 + i.val, by omega⟩ from Fin.sum_univ_add (a := 64) (b := 64) f]
  have h1 : ∀ i : Fin 64, f ⟨i.val, by omega⟩ = (g i : EReal) := fun i => by rw [h, dif_pos i.isLt]
  have h2 : ∀ i : Fin 64, f ⟨64 + i.val, by omega⟩ = (((if i = 0 then a else 0) + (if i = 3 then b else 0) : ℝ) : EReal) := fun i => by
    rw [h, dif_neg (by show ¬ (64 + i.val < 64); omega)]
    by_cases h0 : i = 0
    · subst h0; simp
    · by_cases h3 : i = 3
      · subst h3; simp
      · have a0 : i.val ≠ 0 := fun hh => h0 (Fin.ext hh)
        have a3 : i.val ≠ 3 := fun hh => h3 (Fin.ext hh)
        rw [if_neg (by show ¬ (64 + i.val = 64); omega), if_neg (by show ¬ (64 + i.val = 67); omega), if_neg h0, if_neg h3]
        simp
  rw [Finset.sum_congr rfl fun i _ => h1 i, Finset.sum_congr rfl fun i _ => h2 i, ← coe_sum, ← coe_sum, ← EReal.coe_add, Finset.sum_add_distrib,
    Finset.sum_ite_eq' Finset.univ (0 : Fin 64) (fun _ => a), Finset.sum_ite_eq' Finset.univ (3 : Fin 64) (fun _ => b)]
  simp [add_assoc]

end Cert.KernelIdeal.Fox
-- ==== Proof.FoxPoint.lean ====
module

public import proofs.«01_k».proof.Proof.FoxFill
public import proofs.«01_k».proof.Proof.FoxReal
public import Idealize.ShloMosaic.Lib.Pointwise

@[expose] public section

set_option maxRecDepth 16384

noncomputable section

namespace Cert.KernelIdeal.Fox

open Idealize.ShloMosaic Idealize.ShloMosaic.TcCoe Idealize.ShloMosaic.Tactic
open Cert.KernelIdeal.Gen

/-- The values of the three named constants, and of the word of minus infinity. -/
theorem log2e_val : (Named.named κ "log2e" 0x3FB8AA3B#32 : Ideal .f32) = (((Real.log 2)⁻¹ : ℝ) : EReal) :=
  IdealRules.named_const.ideal_named_scalar _ _ _ _ rfl
theorem scale_val : (Named.named κ "scale_log2e" 0x3E38AA3B#32 : Ideal .f32) = (((1 / 8) * (Real.log 2)⁻¹ : ℝ) : EReal) :=
  IdealRules.named_const.ideal_named_scalar _ _ _ _ rfl
theorem mask_val : (Named.named κ "mask" 0xF149F2CA#32 : Ideal .f32) = (⊥ : EReal) :=
  IdealRules.named_const.ideal_named_scalar _ _ _ _ rfl
theorem neg_inf : Ideal.ofBits .f32 0xFF800000#32 = (⊥ : EReal) := by simp [Ideal.ofBits, Ideal.ieee]

/-- The running maximum after a tile of scores. -/
theorem p24 (m : FVec Ideal S1x512 .f32) (s : FVec Ideal S1x512x512 .f32) (q : Fin 512) :
    k0_pay24 m s (ix2 0 q) = max (m (ix2 0 q)) (Finset.univ.fold max ⊥ fun a : Fin 512 => s (ix3 0 a q)) := by
  pointwise [k0_pay24, k0_pay22, neg_inf]

/-- The weights of a tile of scores. -/
theorem p25 (m : FVec Ideal S1x512 .f32) (s : FVec Ideal S1x512x512 .f32) (a q : Fin 512) :
    k0_pay25 m s (ix2 a q) = Ideal.exp2 (s (ix3 0 a q) - k0_pay24 m s (ix2 0 q)) := by
  pointwise! [k0_pay25, k0_pay22]

/-- The factor that rescales the accumulator. -/
theorem p26 (m : FVec Ideal S1x512 .f32) (s : FVec Ideal S1x512x512 .f32) (q : Fin 512) :
    k0_pay26 m s (ix2 0 q) = Ideal.exp2 (m (ix2 0 q) - k0_pay24 m s (ix2 0 q)) := by
  pointwise! [k0_pay26, k0_pay22]

/-- The accumulator after a tile. -/
theorem p64 (acc : FVec Ideal S80x512 .f32) (p : FVec Ideal S512x512 .bf16) (al : FVec Ideal S1x512 .f32) (vt : FVec Ideal S1x80x512 .bf16) (d : Fin 80) (q : Fin 512) :
    k0_pay64 acc p al vt (ix2 d q) = al (ix2 0 q) * acc (ix2 d q) + ∑ a : Fin 512, vt (ix3 0 d a) * p (ix2 a q) := by
  pointwise [k0_pay64]

theorem w0_val : ∀ n : Fin 16, w0 n.val = BitVec.ofNat 32 (512 * n.val) := by decide +kernel
theorem w1_val : ∀ n : Fin 16, Scalar.muli (w1 n.val) 512#32 = BitVec.ofNat 32 (512 * n.val) := by decide +kernel

/-- The comparison that masks the diagonal tile. -/
theorem sle_val (n : ℕ) (hn : n < 16) (a q : Fin 512) :
    IntOp.cmpi .sle (IntOp.addi (BitVec.ofNat 32 (512 * n)) (BitVec.ofNat 32 a.val)) (IntOp.addi (BitVec.ofNat 32 (512 * n)) (BitVec.ofNat 32 q.val))
      = BitVec.ofBool (decide (a.val < q.val + 1)) := by
  have h (x : ℕ) (hx : x < 512) : IntOp.addi (BitVec.ofNat 32 (512 * n)) (BitVec.ofNat 32 x) = BitVec.ofNat 32 (512 * n + x) := by
    show BitVec.ofNat 32 _ + BitVec.ofNat 32 _ = _
    rw [BitVec.ofNat_add]
  have ht (x : ℕ) (hx : x < 512) : (BitVec.ofNat 32 (512 * n + x)).toInt = ((512 * n + x : ℕ) : ℤ) := by
    rw [BitVec.toInt_eq_toNat_of_lt (by rw [BitVec.toNat_ofNat]; omega), BitVec.toNat_ofNat, Nat.mod_eq_of_lt (by omega)]
  rw [h _ a.isLt, h _ q.isLt]
  show BitVec.ofBool (BitVec.sle _ _) = _
  unfold BitVec.sle
  rw [ht _ a.isLt, ht _ q.isLt]
  congr 1
  simp only [decide_eq_decide]
  omega

theorem select_ofBool {α : Type} (p : Prop) [Decidable p] (x y : α) : Scalar.select (BitVec.ofBool (decide p)) x y = if p then x else y := by
  by_cases h : p <;> simp [Scalar.select, h]

/-- The masked scores of the diagonal tile. -/
theorem p69 (n : ℕ) (hn : n < 16) (s : FVec Ideal S1x512x512 .f32) (a q : Fin 512) :
    k0_pay69 (w0 n) (w1 n) s (ix2 a q) = if a.val < q.val + 1 then s (ix3 0 a q) else ⊥ := by
  pointwise [k0_pay69, mask_val]
  rw [w1_val ⟨n, hn⟩, w0_val ⟨n, hn⟩, sle_val n hn, select_ofBool]

theorem p70 (v0 v1 : BitVec 32) (m : FVec Ideal S1x512 .f32) (s : FVec Ideal S1x512x512 .f32) (q : Fin 512) :
    k0_pay70 v0 v1 m s (ix2 0 q) = max (m (ix2 0 q)) (Finset.univ.fold max ⊥ fun a : Fin 512 => k0_pay69 (F := Ideal) v0 v1 s (ix2 a q)) := by
  pointwise [k0_pay70, neg_inf]

theorem p71 (v0 v1 : BitVec 32) (m : FVec Ideal S1x512 .f32) (s : FVec Ideal S1x512x512 .f32) (a q : Fin 512) :
    k0_pay71 v0 v1 m s (ix2 a q) = Ideal.exp2 (k0_pay69 (F := Ideal) v0 v1 s (ix2 a q) - k0_pay70 v0 v1 m s (ix2 0 q)) := by
  pointwise [k0_pay71]
  rfl

theorem p72 (v0 v1 : BitVec 32) (m : FVec Ideal S1x512 .f32) (s : FVec Ideal S1x512x512 .f32) (q : Fin 512) :
    k0_pay72 v0 v1 m s (ix2 0 q) = Ideal.exp2 (m (ix2 0 q) - k0_pay70 v0 v1 m s (ix2 0 q)) := by
  pointwise [k0_pay72]
  rfl

/-- The lanes of a key row: its 64 entries, three ones, the negated decay, zeros. -/
def kEnt (xk : Fin 64 → ℝ) (ck : ℝ) (i : Fin 128) : EReal :=
  if h : i.val < 64 then (xk ⟨i.val, h⟩ : EReal) else if i.val = 69 then 0 else if i.val = 68 then 0 else if i.val = 67 then ((-(ck * (Real.log 2)⁻¹) : ℝ) : EReal) else if i.val < 67 then 1 else 0

/-- The rows of a query column: its 64 scaled entries, the decay and two zeros, three ones, zeros. -/
def qEnt (xq : Fin 64 → ℝ) (cq : ℝ) (i : Fin 128) : EReal :=
  if i.val = 66 then 0 else if i.val = 65 then 0 else if i.val = 64 then ((cq * (Real.log 2)⁻¹ : ℝ) : EReal) else if 67 ≤ i.val ∧ i.val < 70 then 1
    else if h : i.val < 64 then ((xq ⟨i.val, h⟩ * ((1 / 8) * (Real.log 2)⁻¹) : ℝ) : EReal) else 0

/-- A key row against a query column: the score in units of powers of two. -/
theorem ent_sum (xk xq : Fin 64 → ℝ) (ck cq : ℝ) :
    ∑ i, kEnt xk ck i * qEnt xq cq i = ((((∑ i, xq i * xk i) * (1 / 8) + (cq - ck)) * (Real.log 2)⁻¹ : ℝ) : EReal) := by
  rw [score_sum _ (fun i => xk i * (xq i * ((1 / 8) * (Real.log 2)⁻¹))) (cq * (Real.log 2)⁻¹) (-(ck * (Real.log 2)⁻¹))]
  · congr 1
    rw [show (∑ i, xk i * (xq i * ((1 / 8) * (Real.log 2)⁻¹))) = (∑ i, xq i * xk i) * ((1 / 8) * (Real.log 2)⁻¹) by
      rw [Finset.sum_mul]; exact Finset.sum_congr rfl fun i _ => by ring]
    ring
  · intro i
    unfold kEnt qEnt
    by_cases h : i.val < 64
    · rw [dif_pos h, dif_pos h, if_neg (by omega), if_neg (by omega), if_neg (by omega), if_neg (by omega), dif_pos h, ← EReal.coe_mul]
    · rw [dif_neg h, dif_neg h, dif_neg h]
      by_cases h4 : i.val = 64
      · simp [h4]
      by_cases h5 : i.val = 65
      · simp [h5]
      by_cases h6 : i.val = 66
      · simp [h6]
      by_cases h7 : i.val = 67
      · simp [h7]
      by_cases h8 : i.val = 68
      · simp [h8]
      by_cases h9 : i.val = 69
      · simp [h9]
      have h67 : ¬ i.val < 67 := by omega
      simp only [h4, h7, h8, h9, h67, if_false, zero_mul]

theorem real_sub_self (x : ℝ) : (x : EReal) - (x : EReal) = 0 := by rw [← EReal.coe_sub, sub_self, EReal.coe_zero]

theorem sub_self_zero : (0 : EReal) - 0 = 0 := sub_zero 0

theorem neg_zero_sub (x : ℝ) : ((-x : ℝ) : EReal) = 0 - (x : EReal) := by rw [EReal.coe_neg, zero_sub]

theorem eqBit_all : ∀ i j : Fin 128, IntOp.cmpi .eq (BitVec.ofNat 32 i.val) (BitVec.ofNat 32 j.val) = BitVec.ofBool (decide (i.val = j.val)) := by decide +kernel
theorem ltBit_all : ∀ i j : Fin 128, IntOp.cmpi .slt (BitVec.ofNat 32 i.val) (BitVec.ofNat 32 j.val) = BitVec.ofBool (decide (i.val < j.val)) := by decide +kernel
theorem eqBit (i : Fin 128) (n : ℕ) (h : n < 128) : IntOp.cmpi .eq (BitVec.ofNat 32 i.val) (BitVec.ofNat 32 n) = BitVec.ofBool (decide (i.val = n)) := eqBit_all i ⟨n, h⟩
theorem ltBit (i : Fin 128) (n : ℕ) (h : n < 128) : IntOp.cmpi .slt (BitVec.ofNat 32 i.val) (BitVec.ofNat 32 n) = BitVec.ofBool (decide (i.val < n)) := ltBit_all i ⟨n, h⟩
theorem inBit : ∀ i : Fin 128, IntOp.andi (IntOp.cmpi .sge (BitVec.ofNat 32 i.val) 67#32) (IntOp.cmpi .slt (BitVec.ofNat 32 i.val) 70#32) = BitVec.ofBool (decide (67 ≤ i.val ∧ i.val < 70)) := by decide +kernel

/-- Head 0's query columns, from real queries and decays. -/
theorem QT0_ent (x0 : Vec Ideal S512x128 .bf16) (x4 : Vec Ideal S1x2x512 .f32) (q : Fin 512) (xq : Fin 64 → ℝ) (cq : ℝ)
    (hx : ∀ i : Fin 64, x0 (ix2 q ⟨i.val, by omega⟩) = (xq i : EReal)) (hc : x4 (ix3 0 0 q) = (cq : EReal)) (i : Fin 128) : QT0 x0 x4 (ix2 i q) = qEnt xq cq i := by
  pointwise [QT0, k0_pay50, k0_pay44, k0_pay43, k0_pay49, k0_pay46, k0_pay47, k0_pay48, k0_pay45, log2e_val, hc]
  rw [← EReal.coe_mul, real_sub_self, sub_zero, eqBit i 64 (by norm_num), eqBit i 65 (by norm_num), eqBit i 66 (by norm_num), inBit i]
  simp only [select_ofBool]
  unfold qEnt
  refine if_congr Iff.rfl rfl (if_congr Iff.rfl rfl (if_congr Iff.rfl rfl (if_congr Iff.rfl rfl ?_)))
  by_cases h : i.val < 64
  · rw [dif_pos h, dif_pos h]
    exact Eq.trans (congrArg₂ (· * ·) (hx ⟨i.val, h⟩) scale_val) (EReal.coe_mul _ _).symm
  · rw [dif_neg h, dif_neg h]

/-- Head 1's query columns, from real queries and decays. -/
theorem QT1_ent (x0 : Vec Ideal S512x128 .bf16) (x4 : Vec Ideal S1x2x512 .f32) (q : Fin 512) (xq : Fin 64 → ℝ) (cq : ℝ)
    (hx : ∀ i : Fin 64, x0 (ix2 q ⟨64 + i.val, by omega⟩) = (xq i : EReal)) (hc : x4 (ix3 0 1 q) = (cq : EReal)) (i : Fin 128) : QT1 x0 x4 (ix2 i q) = qEnt xq cq i := by
  pointwise [QT1, k0_pay58, k0_pay51, k0_pay43, k0_pay54, k0_pay55, k0_pay56, k0_pay57, k0_pay53, k0_pay52, log2e_val, hc]
  rw [← EReal.coe_mul, real_sub_self, sub_zero, eqBit i 64 (by norm_num), eqBit i 65 (by norm_num), eqBit i 66 (by norm_num), inBit i]
  simp only [select_ofBool]
  unfold qEnt
  refine if_congr Iff.rfl rfl (if_congr Iff.rfl rfl (if_congr Iff.rfl rfl (if_congr Iff.rfl rfl ?_)))
  by_cases h : i.val < 64
  · rw [dif_pos h, dif_pos h]
    exact Eq.trans (congrArg₂ (· * ·) (hx ⟨i.val, h⟩) scale_val) (EReal.coe_mul _ _).symm
  · rw [dif_neg h, dif_neg h]

/-- Head 0's key rows, from real keys and decays. -/
theorem KT0_ent (xk : Vec Ideal S512x128 .bf16) (xc : Vec Ideal S1x512x2 .f32) (a : Fin 512) (yk : Fin 64 → ℝ) (ck : ℝ)
    (hx : ∀ i : Fin 64, xk (ix2 a ⟨i.val, by omega⟩) = (yk i : EReal)) (hc : xc (ix3 0 a 0) = (ck : EReal)) (i : Fin 128) : KT0 xk xc (ix3 0 a i) = kEnt yk ck i := by
  pointwise [KT0, k0_pay13, k0_pay2, k0_pay9, k0_pay10, k0_pay11, k0_pay12, k0_pay8, k0_pay7, k0_pay6, k0_pay3, log2e_val, hc]
  rw [← EReal.coe_mul, real_sub_self, sub_self_zero, sub_self_zero, eqBit i 67 (by norm_num), eqBit i 68 (by norm_num), eqBit i 69 (by norm_num), ltBit i 67 (by norm_num), ltBit i 64 (by norm_num)]
  simp only [select_ofBool]
  unfold kEnt
  by_cases h : i.val < 64
  · rw [dif_pos h, if_pos h]
    exact hx ⟨i.val, h⟩
  · rw [dif_neg h, if_neg h, neg_zero_sub]

/-- Head 1's key rows, from real keys and decays. -/
theorem KT1_ent (xk : Vec Ideal S512x128 .bf16) (xc : Vec Ideal S1x512x2 .f32) (a : Fin 512) (yk : Fin 64 → ℝ) (ck : ℝ)
    (hx : ∀ i : Fin 64, xk (ix2 a ⟨64 + i.val, by omega⟩) = (yk i : EReal)) (hc : xc (ix3 0 a 1) = (ck : EReal)) (i : Fin 128) : KT1 xk xc (ix3 0 a i) = kEnt yk ck i := by
  pointwise [KT1, k0_pay20, k0_pay15, k0_pay2, k0_pay16, k0_pay17, k0_pay18, k0_pay19, k0_pay3, log2e_val, hc]
  rw [← EReal.coe_mul, real_sub_self, sub_self_zero, sub_self_zero, eqBit i 67 (by norm_num), eqBit i 68 (by norm_num), eqBit i 69 (by norm_num), ltBit i 67 (by norm_num), ltBit i 64 (by norm_num)]
  simp only [select_ofBool]
  unfold kEnt
  by_cases h : i.val < 64
  · rw [dif_pos h, if_pos h]
    refine Eq.trans (congrArg xk ?_) (hx ⟨i.val, h⟩)
    refine congrArg (ix2 a) (Fin.ext ?_)
    show (i.val + 128 - 64) % 128 = 64 + i.val
    omega
  · rw [dif_neg h, if_neg h, neg_zero_sub]

/-- The value rows: the values transposed, over ones. -/
theorem VT0_ent (xv : Vec Ideal S512x128 .bf16) (d : Fin 80) (a : Fin 512) : VT0 xv (ix3 0 d a) = if h : d.val < 64 then xv (ix2 a ⟨d.val, by omega⟩) else 1 := by
  pointwise [VT0, k0_pay14, k0_pay4, k0_pay5]
theorem VT1_ent (xv : Vec Ideal S512x128 .bf16) (d : Fin 80) (a : Fin 512) : VT1 xv (ix3 0 d a) = if h : d.val < 64 then xv (ix2 a ⟨64 + d.val, by omega⟩) else 1 := by
  pointwise [VT1, k0_pay42, k0_pay4, k0_pay5]

/-- One accumulator of the diagonal tile. -/
def fin (acc : FVec Ideal S80x512 .f32) (p : FVec Ideal S512x512 .bf16) (al : FVec Ideal S1x512 .f32) (v : FVec Ideal S1x80x512 .bf16) (d : Fin 80) (q : Fin 512) : EReal :=
  al (ix2 0 q) * acc (ix2 d q) + ∑ x : Fin 512, v (ix3 0 d x) * p (ix2 x q)

/-- The output block: each head's accumulators over its row of ones. -/
theorem p1 (a0 a1 : FVec Ideal S80x512 .f32) (p0 p1 : FVec Ideal S512x512 .bf16) (al0 al1 : FVec Ideal S1x512 .f32) (v0 v1 : FVec Ideal S1x80x512 .bf16) (q : Fin 512) (j : Fin 128) :
    k0_pay1 a0 a1 p0 al0 p1 al1 v0 v1 (ix2 q j)
      = if h : j.val < 64 then Ideal.div (fin a0 p0 al0 v0 ⟨j.val, by omega⟩ q) (fin a0 p0 al0 v0 64 q)
        else Ideal.div (fin a1 p1 al1 v1 ⟨j.val - 64, by omega⟩ q) (fin a1 p1 al1 v1 64 q) := by
  pointwise [k0_pay1, fin]

/-- A tile's scores: key rows against query columns. -/
theorem SC0_ent (v60 : FVec Ideal S128x512 .bf16) (KS : Vec Ideal S2x8192x128 .bf16) (k : ℕ) (a q : Fin 512) :
    SC0 v60 KS k (ix3 0 a q) = ∑ i : Fin 128, KS (ix3 0 ⟨(512 * k + a.val) % 8192, Nat.mod_lt _ (by norm_num)⟩ i) * v60 (ix2 i q) := by
  pointwise [SC0, k0_pay31]
  rfl
theorem SC1_ent (v109 : FVec Ideal S128x512 .bf16) (KS : Vec Ideal S2x8192x128 .bf16) (k : ℕ) (a q : Fin 512) :
    SC1 v109 KS k (ix3 0 a q) = ∑ i : Fin 128, KS (ix3 1 ⟨(512 * k + a.val) % 8192, Nat.mod_lt _ (by norm_num)⟩ i) * v109 (ix2 i q) := by
  pointwise [SC1, k0_pay63, k0_pay30]
  rfl

end Cert.KernelIdeal.Fox
-- ==== Proof.FoxSpec.lean ====
module

public import proofs.«01_k».proof.Proof.FoxReal

@[expose] public section

noncomputable section

namespace Cert.KernelIdeal.Fox

/-- The score of query `Q` against key `j` in batch row `b` and head `h`, in units of powers of two: the scaled product of
    the query's and the key's entries, plus the difference of their decays, over the logarithm of two. -/
def sco (X C : ℕ → ℕ → ℝ) (b h Q : ℕ) (j : ℕ) : ℝ :=
  ((∑ i : Fin 64, X (b * 8192 + Q) (4608 + (h * 64 + i.val)) * X (b * 8192 + j) (5120 + (h * 64 + i.val))) * (1 / 8)
    + (C h (b * 8192 + Q) - C h (b * 8192 + j))) * (Real.log 2)⁻¹

/-- The value of key `j` in batch row `b` at column `e` of the values. -/
def val (X : ℕ → ℕ → ℝ) (b e : ℕ) (j : ℕ) : ℝ := X (b * 8192 + j) (5632 + e)

/-- The attention's value at token `r` and column `e`: the mean of the values of the keys up to the query, weighted by
    two to the power of their scores. -/
def att (X C : ℕ → ℕ → ℝ) (r e : ℕ) : ℝ :=
  part (sco X C (r / 8192) (e / 64) (r % 8192)) (val X (r / 8192) e) (r % 8192 + 1)
    / part (sco X C (r / 8192) (e / 64) (r % 8192)) (fun _ => 1) (r % 8192 + 1)

end Cert.KernelIdeal.Fox
-- ==== Proof.FoxHead.lean ====
module

public import proofs.«01_k».proof.Proof.FoxPoint
public import proofs.«01_k».proof.Proof.FoxSpec

@[expose] public section

set_option maxRecDepth 16384

noncomputable section

namespace Cert.KernelIdeal.Fox

open Idealize.ShloMosaic Idealize.ShloMosaic.TcCoe Idealize.ShloMosaic.Tactic
open Cert.KernelIdeal.Gen

theorem e27 (m : FVec Ideal S1x512 .f32) (s : FVec Ideal S1x512x512 .f32) : k0_pay27 m s = k0_pay24 m s := rfl
theorem e28 (m : FVec Ideal S1x512 .f32) (s : FVec Ideal S1x512x512 .f32) : k0_pay28 m s = k0_pay25 m s := rfl
theorem e29 (m : FVec Ideal S1x512 .f32) (s : FVec Ideal S1x512x512 .f32) : k0_pay29 m s = k0_pay26 m s := rfl
theorem e65 (acc : FVec Ideal S80x512 .f32) (p : FVec Ideal S512x512 .bf16) (al : FVec Ideal S1x512 .f32) (vt : FVec Ideal S1x80x512 .bf16) :
    k0_pay65 acc p al vt = k0_pay64 acc p al vt := rfl
theorem e75 (v0 v1 : BitVec 32) (m : FVec Ideal S1x512 .f32) (s : FVec Ideal S1x512x512 .f32) : k0_pay75 v0 v1 m s = k0_pay71 v0 v1 m s := rfl
theorem e76 (v0 v1 : BitVec 32) (m : FVec Ideal S1x512 .f32) (s : FVec Ideal S1x512x512 .f32) : k0_pay76 v0 v1 m s = k0_pay72 v0 v1 m s := rfl

theorem start_max (q : Fin 512) : (k0_pay62 : FVec Ideal S1x512 .f32) (ix2 0 q) = (⊥ : EReal) := by
  pointwise [k0_pay62, mask_val]
theorem start_acc (d : Fin 80) (q : Fin 512) : (k0_pay61 : FVec Ideal S80x512 .f32) (ix2 d q) = (0 : EReal) := by
  pointwise [k0_pay61]

/-- One unmasked tile, at one query and one row of the accumulator. -/
theorem tile_step {σ ν : ℕ → ℝ} (k : ℕ) (m : FVec Ideal S1x512 .f32) (acc : FVec Ideal S80x512 .f32) (s : FVec Ideal S1x512x512 .f32) (vt : FVec Ideal S1x80x512 .bf16)
    (d : Fin 80) (q : Fin 512) (h : Held σ ν (512 * k) (m (ix2 0 q)) (acc (ix2 d q)))
    (hσ : ∀ a : Fin 512, s (ix3 0 a q) = (σ (512 * k + a.val) : EReal)) (hν : ∀ a : Fin 512, vt (ix3 0 d a) = (ν (512 * k + a.val) : EReal)) :
    Held σ ν (512 * (k + 1)) (k0_pay24 m s (ix2 0 q)) (k0_pay64 acc (k0_pay25 m s) (k0_pay26 m s) vt (ix2 d q)) := by
  rw [p64, p26]
  simp only [p25]
  rw [p24]
  exact h.step (L := 512) (r := 512) (by norm_num) le_rfl (fun a => s (ix3 0 a q)) (fun a => vt (ix3 0 d a)) (fun a => by rw [if_pos a.isLt]; exact hσ a) hν

/-- The diagonal tile, masked after the query. -/
theorem diag_step {σ ν : ℕ → ℝ} (n : ℕ) (hn : n < 16) (m : FVec Ideal S1x512 .f32) (acc : FVec Ideal S80x512 .f32) (s : FVec Ideal S1x512x512 .f32) (vt : FVec Ideal S1x80x512 .bf16)
    (d : Fin 80) (q : Fin 512) (h : Held σ ν (512 * n) (m (ix2 0 q)) (acc (ix2 d q)))
    (hσ : ∀ a : Fin 512, s (ix3 0 a q) = (σ (512 * n + a.val) : EReal)) (hν : ∀ a : Fin 512, vt (ix3 0 d a) = (ν (512 * n + a.val) : EReal)) :
    Held σ ν (512 * n + (q.val + 1)) (k0_pay70 (w0 n) (w1 n) m s (ix2 0 q)) (fin acc (k0_pay71 (w0 n) (w1 n) m s) (k0_pay72 (w0 n) (w1 n) m s) vt d q) := by
  unfold fin
  rw [p72]
  simp only [p71]
  rw [p70]
  exact h.step (L := 512) (r := q.val + 1) (by omega) (by omega) (fun a => (k0_pay69 (F := Ideal) (w0 n) (w1 n) s (ix2 a q) : EReal)) (fun a => vt (ix3 0 d a))
    (fun a => by rw [p69 n hn]; exact if_congr Iff.rfl (hσ a) rfl) hν

section
variable (v60 v109 : FVec Ideal S128x512 .bf16) (KS : Vec Ideal S2x8192x128 .bf16) (VT : Vec Ideal S2x80x8192 .bf16)

/-- Head 0's carried values hold the keys of the tiles taken. -/
theorem held0 {σ ν : ℕ → ℝ} (d : Fin 80) (q : Fin 512) (N : ℕ) (hσ : ∀ k < N, ∀ a : Fin 512, SC0 v60 KS k (ix3 0 a q) = (σ (512 * k + a.val) : EReal))
    (hν : ∀ k < N, ∀ a : Fin 512, tileV VT 0 k (ix3 0 d a) = (ν (512 * k + a.val) : EReal)) :
    ∀ n ≤ N, Held σ ν (512 * n) ((carry v60 v109 KS VT n).1 (ix2 0 q)) ((carry v60 v109 KS VT n).2.2.1 (ix2 d q)) := by
  intro n
  induction n with
  | zero => intro _; exact .inl ⟨rfl, start_max q, start_acc d q⟩
  | succ k ih => intro hk; exact tile_step k _ _ _ _ d q (ih (by omega)) (hσ k (by omega)) (hν k (by omega))

/-- Head 1's carried values hold the keys of the tiles taken. -/
theorem held1 {σ ν : ℕ → ℝ} (d : Fin 80) (q : Fin 512) (N : ℕ) (hσ : ∀ k < N, ∀ a : Fin 512, SC1 v109 KS k (ix3 0 a q) = (σ (512 * k + a.val) : EReal))
    (hν : ∀ k < N, ∀ a : Fin 512, tileV VT 1 k (ix3 0 d a) = (ν (512 * k + a.val) : EReal)) :
    ∀ n ≤ N, Held σ ν (512 * n) ((carry v60 v109 KS VT n).2.1 (ix2 0 q)) ((carry v60 v109 KS VT n).2.2.2 (ix2 d q)) := by
  intro n
  induction n with
  | zero => intro _; exact .inl ⟨rfl, start_max q, start_acc d q⟩
  | succ k ih =>
    intro hk
    show Held σ ν (512 * (k + 1)) (k0_pay27 (carry v60 v109 KS VT k).2.1 (SC1 v109 KS k) (ix2 0 q))
      (k0_pay65 (carry v60 v109 KS VT k).2.2.2 (k0_pay28 (carry v60 v109 KS VT k).2.1 (SC1 v109 KS k)) (k0_pay29 (carry v60 v109 KS VT k).2.1 (SC1 v109 KS k)) (tileV VT 1 k) (ix2 d q))
    rw [e27, e28, e29, e65]
    exact tile_step k _ _ _ _ d q (ih (by omega)) (hσ k (by omega)) (hν k (by omega))

/-- An output column of head 0. -/
theorem OUTQ_head0 {σ ν : ℕ → ℝ} (n : ℕ) (hn : n < 16) (q : Fin 512) (j : Fin 128) (hj : j.val < 64)
    (hσ : ∀ k < n + 1, ∀ a : Fin 512, SC0 v60 KS k (ix3 0 a q) = (σ (512 * k + a.val) : EReal))
    (hν : ∀ k < n + 1, ∀ a : Fin 512, tileV VT 0 k (ix3 0 ⟨j.val, by omega⟩ a) = (ν (512 * k + a.val) : EReal))
    (h1 : ∀ k < n + 1, ∀ a : Fin 512, tileV VT 0 k (ix3 0 64 a) = (1 : EReal)) :
    OUTQ n v60 v109 KS VT (ix2 q j) = ((part σ ν (512 * n + (q.val + 1)) / part σ (fun _ => 1) (512 * n + (q.val + 1)) : ℝ) : EReal) := by
  unfold OUTQ
  rw [p1, dif_pos hj]
  exact Held.quot (by omega)
    (diag_step n hn _ _ _ _ _ q (held0 v60 v109 KS VT _ q (n + 1) hσ hν n (by omega)) (hσ n (by omega)) (hν n (by omega)))
    (diag_step n hn _ _ _ _ 64 q (held0 v60 v109 KS VT 64 q (n + 1) hσ (fun k hk a => (h1 k hk a).trans EReal.coe_one.symm) n (by omega)) (hσ n (by omega)) (fun a => (h1 n (by omega) a).trans EReal.coe_one.symm))

/-- An output column of head 1. -/
theorem OUTQ_head1 {σ ν : ℕ → ℝ} (n : ℕ) (hn : n < 16) (q : Fin 512) (j : Fin 128) (hj : ¬ j.val < 64)
    (hσ : ∀ k < n + 1, ∀ a : Fin 512, SC1 v109 KS k (ix3 0 a q) = (σ (512 * k + a.val) : EReal))
    (hν : ∀ k < n + 1, ∀ a : Fin 512, tileV VT 1 k (ix3 0 ⟨j.val - 64, by omega⟩ a) = (ν (512 * k + a.val) : EReal))
    (h1 : ∀ k < n + 1, ∀ a : Fin 512, tileV VT 1 k (ix3 0 64 a) = (1 : EReal)) :
    OUTQ n v60 v109 KS VT (ix2 q j) = ((part σ ν (512 * n + (q.val + 1)) / part σ (fun _ => 1) (512 * n + (q.val + 1)) : ℝ) : EReal) := by
  unfold OUTQ
  rw [p1, dif_neg hj, e75, e76]
  exact Held.quot (by omega)
    (diag_step n hn _ _ _ _ _ q (held1 v60 v109 KS VT _ q (n + 1) hσ hν n (by omega)) (hσ n (by omega)) (hν n (by omega)))
    (diag_step n hn _ _ _ _ 64 q (held1 v60 v109 KS VT 64 q (n + 1) hσ (fun k hk a => (h1 k hk a).trans EReal.coe_one.symm) n (by omega)) (hσ n (by omega)) (fun a => (h1 n (by omega) a).trans EReal.coe_one.symm))

end

section
variable (x1 : Vec Ideal S8192x128 .bf16) (x2 : Vec Ideal S8192x128 .bf16) (x3 : Vec Ideal S1x8192x2 .f32)

theorem KSof_at0 (r : Fin 8192) (i : Fin 128) :
    KSof x1 x3 (ix3 0 r i) = KT0 (tileX x1 (r.val / 512)) (tileC x3 (r.val / 512)) (ix3 0 ⟨r.val % 512, Nat.mod_lt _ (by norm_num)⟩ i) := rfl
theorem KSof_at1 (r : Fin 8192) (i : Fin 128) :
    KSof x1 x3 (ix3 1 r i) = KT1 (tileX x1 (r.val / 512)) (tileC x3 (r.val / 512)) (ix3 0 ⟨r.val % 512, Nat.mod_lt _ (by norm_num)⟩ i) := rfl
theorem VTof_at0 (r : Fin 8192) (d : Fin 80) :
    VTof x2 (ix3 0 d r) = VT0 (tileX x2 (r.val / 512)) (ix3 0 d ⟨r.val % 512, Nat.mod_lt _ (by norm_num)⟩) := rfl
theorem VTof_at1 (r : Fin 8192) (d : Fin 80) :
    VTof x2 (ix3 1 d r) = VT1 (tileX x2 (r.val / 512)) (ix3 0 d ⟨r.val % 512, Nat.mod_lt _ (by norm_num)⟩) := rfl
theorem tileX_at (x : Vec Ideal S8192x128 .bf16) (r : Fin 8192) (i : Fin 128) : tileX x (r.val / 512) (ix2 ⟨r.val % 512, Nat.mod_lt _ (by norm_num)⟩ i) = x (ix2 r i) := by
  refine congrArg x (congrArg (ix2 · i) (Fin.ext ?_))
  show (512 * (r.val / 512) + r.val % 512) % 8192 = r.val
  omega
theorem tileC_at (r : Fin 8192) (i : Fin 2) : tileC x3 (r.val / 512) (ix3 0 ⟨r.val % 512, Nat.mod_lt _ (by norm_num)⟩ i) = x3 (ix3 0 r i) := by
  refine congrArg x3 (congrArg (ix3 0 · i) (Fin.ext ?_))
  show (512 * (r.val / 512) + r.val % 512) % 8192 = r.val
  omega

/-- The key scratch's rows, from real keys and decays. -/
theorem KSof_ent0 (r : Fin 8192) (yk : Fin 64 → ℝ) (ck : ℝ) (hx : ∀ i : Fin 64, x1 (ix2 r ⟨i.val, by omega⟩) = (yk i : EReal)) (hc : x3 (ix3 0 r 0) = (ck : EReal)) (i : Fin 128) :
    KSof x1 x3 (ix3 0 r i) = kEnt yk ck i := by
  rw [KSof_at0]
  exact KT0_ent _ _ _ yk ck (fun i => (tileX_at x1 r _).trans (hx i)) ((tileC_at x3 r 0).trans hc) i
theorem KSof_ent1 (r : Fin 8192) (yk : Fin 64 → ℝ) (ck : ℝ) (hx : ∀ i : Fin 64, x1 (ix2 r ⟨64 + i.val, by omega⟩) = (yk i : EReal)) (hc : x3 (ix3 0 r 1) = (ck : EReal)) (i : Fin 128) :
    KSof x1 x3 (ix3 1 r i) = kEnt yk ck i := by
  rw [KSof_at1]
  exact KT1_ent _ _ _ yk ck (fun i => (tileX_at x1 r _).trans (hx i)) ((tileC_at x3 r 1).trans hc) i

/-- A score of head 0, from real queries, keys and decays. -/
theorem score0 (x0 : Vec Ideal S512x128 .bf16) (x4 : Vec Ideal S1x2x512 .f32) (k : ℕ) (hk : k < 16) (a q : Fin 512) (yk yq : Fin 64 → ℝ) (ck cq : ℝ)
    (hk1 : ∀ i : Fin 64, x1 (ix2 ⟨512 * k + a.val, by omega⟩ ⟨i.val, by omega⟩) = (yk i : EReal)) (hk2 : x3 (ix3 0 ⟨512 * k + a.val, by omega⟩ 0) = (ck : EReal))
    (hq1 : ∀ i : Fin 64, x0 (ix2 q ⟨i.val, by omega⟩) = (yq i : EReal)) (hq2 : x4 (ix3 0 0 q) = (cq : EReal)) :
    SC0 (QT0 x0 x4) (KSof x1 x3) k (ix3 0 a q) = ((((∑ i, yq i * yk i) * (1 / 8) + (cq - ck)) * (Real.log 2)⁻¹ : ℝ) : EReal) := by
  rw [SC0_ent, ← ent_sum]
  refine Finset.sum_congr rfl fun i _ => ?_
  rw [QT0_ent x0 x4 q yq cq hq1 hq2, ← KSof_ent0 x1 x3 ⟨512 * k + a.val, by omega⟩ yk ck hk1 hk2]
  congr 3
  exact Fin.ext (Nat.mod_eq_of_lt (by omega))
theorem score1 (x0 : Vec Ideal S512x128 .bf16) (x4 : Vec Ideal S1x2x512 .f32) (k : ℕ) (hk : k < 16) (a q : Fin 512) (yk yq : Fin 64 → ℝ) (ck cq : ℝ)
    (hk1 : ∀ i : Fin 64, x1 (ix2 ⟨512 * k + a.val, by omega⟩ ⟨64 + i.val, by omega⟩) = (yk i : EReal)) (hk2 : x3 (ix3 0 ⟨512 * k + a.val, by omega⟩ 1) = (ck : EReal))
    (hq1 : ∀ i : Fin 64, x0 (ix2 q ⟨64 + i.val, by omega⟩) = (yq i : EReal)) (hq2 : x4 (ix3 0 1 q) = (cq : EReal)) :
    SC1 (QT1 x0 x4) (KSof x1 x3) k (ix3 0 a q) = ((((∑ i, yq i * yk i) * (1 / 8) + (cq - ck)) * (Real.log 2)⁻¹ : ℝ) : EReal) := by
  rw [SC1_ent, ← ent_sum]
  refine Finset.sum_congr rfl fun i _ => ?_
  rw [QT1_ent x0 x4 q yq cq hq1 hq2, ← KSof_ent1 x1 x3 ⟨512 * k + a.val, by omega⟩ yk ck hk1 hk2]
  congr 3
  exact Fin.ext (Nat.mod_eq_of_lt (by omega))

/-- A tile of the value scratch: the values transposed, over ones. -/
theorem value0 (k : ℕ) (hk : k < 16) (a : Fin 512) (d : Fin 80) :
    tileV (VTof x2) 0 k (ix3 0 d a) = if h : d.val < 64 then x2 (ix2 ⟨512 * k + a.val, by omega⟩ ⟨d.val, by omega⟩) else (1 : EReal) := by
  have e : tileV (VTof x2) 0 k (ix3 0 d a) = VTof x2 (ix3 0 d ⟨512 * k + a.val, by omega⟩) := by
    refine congrArg (VTof x2) (congrArg (ix3 0 d) (Fin.ext (Nat.mod_eq_of_lt (by show 512 * k + a.val < 8192; omega))))
  rw [e, VTof_at0, VT0_ent]
  by_cases h : d.val < 64
  · rw [dif_pos h, dif_pos h]; exact tileX_at x2 _ _
  · rw [dif_neg h, dif_neg h]
theorem value1 (k : ℕ) (hk : k < 16) (a : Fin 512) (d : Fin 80) :
    tileV (VTof x2) 1 k (ix3 0 d a) = if h : d.val < 64 then x2 (ix2 ⟨512 * k + a.val, by omega⟩ ⟨64 + d.val, by omega⟩) else (1 : EReal) := by
  have e : tileV (VTof x2) 1 k (ix3 0 d a) = VTof x2 (ix3 1 d ⟨512 * k + a.val, by omega⟩) := by
    refine congrArg (VTof x2) (congrArg (ix3 1 d) (Fin.ext (Nat.mod_eq_of_lt (by show 512 * k + a.val < 8192; omega))))
  rw [e, VTof_at1, VT1_ent]
  by_cases h : d.val < 64
  · rw [dif_pos h, dif_pos h]; exact tileX_at x2 _ _
  · rw [dif_neg h, dif_neg h]

end

end Cert.KernelIdeal.Fox
-- ==== Proof.FoxLoop.lean ====
module

public import proofs.«01_k».proof.Proof.FoxPure

@[expose] public section

set_option maxRecDepth 16384

noncomputable section

namespace Cert.KernelIdeal.Fox

open Idealize.ShloMosaic Idealize.ShloMosaic.TcCoe Idealize.ShloMosaic.Tactic
open Idealize.ShloMosaic.ValueIdx
open Cert.KernelIdeal.Gen

variable {F : FTy → Type} [FloatOps F] [Named F]

abbrev R0 : Rect S2x512x512 := Rect.unit ![0, 0, 0] S1x512x512.size inb_S2x512x512_S1x512x512_0_0_0
abbrev R1 : Rect S2x512x512 := Rect.unit ![1, 0, 0] S1x512x512.size inb_S2x512x512_S1x512x512_1_0_0

/-- The two score blocks' rectangles do not meet. -/
theorem R01 (y : R0.shape.Idx) : R0.emb y ∉ R1.set := by
  unfold R1
  rw [Rect.mem_set_unit]
  intro h
  have h0 := (h 0).1
  have h1 := (y 0).isLt
  change (y 0).val < 1 at h1
  simp [R0, Rect.emb, Rect.unit] at h0
  omega

/-- Loads of the two score blocks after both were stored. -/
theorem readAt_R1 {sp : Space} (v : View sig .tc sp S2x512x512 .f32) (G : v.ty.Contents (Elt F)) (p1 p0) (L) :
    v.readAt (Elt F) R1.toLoadRect (v.writes (Elt F) G (⟨R1, p1⟩ :: ⟨R0, p0⟩ :: L)) = p1 := by
  funext z
  exact View.read_writes_cons_emb v G R1 p1 _ z

theorem readAt_R0 {sp : Space} (v : View sig .tc sp S2x512x512 .f32) (G : v.ty.Contents (Elt F)) (p1 p0) (L) :
    v.readAt (Elt F) R0.toLoadRect (v.writes (Elt F) G (⟨R1, p1⟩ :: ⟨R0, p0⟩ :: L)) = p0 := by
  funext z
  have h : v.read (Elt F) (v.writes (Elt F) G (⟨R1, p1⟩ :: ⟨R0, p0⟩ :: L)) (R0.emb z) = v.read (Elt F) (v.writes (Elt F) G (⟨R0, p0⟩ :: L)) (R0.emb z) := by
    have hy : R0.emb z ∉ Finset.univ.map R1.emb := by rw [Rect.map_emb_univ]; exact R01 z
    rw [View.writes_cons]; exact View.read_slice_write_of_not_mem R1 _ _ _ hy
  exact h.trans (View.read_writes_cons_emb v G R0 p0 _ z)

/-- What one trip of the first loop leaves: the carried values of both heads. -/
theorem trip2_R (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole) (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (v60 : FVec F S128x512 .bf16) (v109 : FVec F S128x512 .bf16) (X_arg9 : BufTy.Contents (Elt F) arg9.view.ty) (X_arg10 : BufTy.Contents (Elt F) arg10.view.ty) (v131 : BitVec 32) (k : Fin (k0_t2_loop i).trips) (acc : Acc F) (f : BufTy.Contents (Elt F) arg11.view.ty) :
    (trip_k0_t2 (F := F) Variants.none c none i arg3 harg3 arg4 harg4 arg5 harg5 arg6 harg6 arg7 harg7 arg8 harg8 arg9 harg9 arg10 harg10 arg11 harg11 (w0 (i 2).val) (w1 (i 2).val) v60 v109 k0_pay61 k0_pay62 (0#32) v131 X_arg9 X_arg10 k).1 acc f
      = (k0_pay24 acc.1 (arg11.view.readAt (Elt F) R0.toLoadRect f), k0_pay27 acc.2.1 (arg11.view.readAt (Elt F) R1.toLoadRect f),
        k0_pay64 acc.2.2.1 (k0_pay25 acc.1 (arg11.view.readAt (Elt F) R0.toLoadRect f)) (k0_pay26 acc.1 (arg11.view.readAt (Elt F) R0.toLoadRect f)) (tileV (arg10.view.read (Elt F) X_arg10) 0 k.val),
        k0_pay65 acc.2.2.2 (k0_pay28 acc.2.1 (arg11.view.readAt (Elt F) R1.toLoadRect f)) (k0_pay29 acc.2.1 (arg11.view.readAt (Elt F) R1.toLoadRect f)) (tileV (arg10.view.read (Elt F) X_arg10) 1 k.val)) := by
  have hk : k.val < 15 := Nat.lt_of_lt_of_le k.isLt (k0_t2_abs i).2.1
  have h9 : k0_off9 i k = ![(0 : Fin 2).val, 0, 512 * k.val] := by
    have := off_mul ⟨k.val, by omega⟩
    unfold k0_off9; exact congrArg (fun x => ![0, 0, x]) this
  have h10 : k0_off10 i k = ![(1 : Fin 2).val, 0, 512 * k.val] := by
    have := off_mul ⟨k.val, by omega⟩
    unfold k0_off10; exact congrArg (fun x => ![1, 0, x]) this
  rw [← readAt_tileV arg10.view X_arg10 (k0_off9 i k) (k0_off9_inb i k) 0 k.val (by omega) h9,
    ← readAt_tileV arg10.view X_arg10 (k0_off10 i k) (k0_off10_inb i k) 1 k.val (by omega) h10]
  unfold trip_k0_t2
  rfl

/-- What one trip of the first loop stores: both heads' scores of the next key tile. -/
theorem trip2_L (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole) (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (v60 : FVec F S128x512 .bf16) (v109 : FVec F S128x512 .bf16) (X_arg9 : BufTy.Contents (Elt F) arg9.view.ty) (X_arg10 : BufTy.Contents (Elt F) arg10.view.ty) (v131 : BitVec 32) (k : Fin (k0_t2_loop i).trips) (acc : Acc F) (f : BufTy.Contents (Elt F) arg11.view.ty) :
    (trip_k0_t2 (F := F) Variants.none c none i arg3 harg3 arg4 harg4 arg5 harg5 arg6 harg6 arg7 harg7 arg8 harg8 arg9 harg9 arg10 harg10 arg11 harg11 (w0 (i 2).val) (w1 (i 2).val) v60 v109 k0_pay61 k0_pay62 (0#32) v131 X_arg9 X_arg10 k).2.1 acc f
      = [⟨R1, SC1 v109 (arg9.view.read (Elt F) X_arg9) (k.val + 1)⟩, ⟨R0, SC0 v60 (arg9.view.read (Elt F) X_arg9) (k.val + 1)⟩] := by
  have hk : k.val < 15 := Nat.lt_of_lt_of_le k.isLt (k0_t2_abs i).2.1
  have h7 : k0_off7 i k = ![(0 : Fin 2).val, 512 * (k.val + 1), 0] := by
    have := off_mul1 ⟨k.val, by omega⟩
    unfold k0_off7; exact congrArg (fun x => ![0, x, 0]) this
  have h8 : k0_off8 i k = ![(1 : Fin 2).val, 512 * (k.val + 1), 0] := by
    have := off_mul1 ⟨k.val, by omega⟩
    unfold k0_off8; exact congrArg (fun x => ![1, x, 0]) this
  unfold SC0 SC1
  rw [← readAt_tileK arg9.view X_arg9 (k0_off7 i k) (k0_off7_inb i k) 0 (k.val + 1) (by omega) h7,
    ← readAt_tileK arg9.view X_arg9 (k0_off8 i k) (k0_off8_inb i k) 1 (k.val + 1) (by omega) h8]
  unfold trip_k0_t2
  rfl

/-- The loop's state before each trip: the carried values, and both heads' scores of that key tile in the score buffer. -/
theorem st2_eq (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole) (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (v60 : FVec F S128x512 .bf16) (v109 : FVec F S128x512 .bf16) (X_arg9 : BufTy.Contents (Elt F) arg9.view.ty) (X_arg10 : BufTy.Contents (Elt F) arg10.view.ty) (v131 : BitVec 32) (G : BufTy.Contents (Elt F) arg11.view.ty)
    (hG0 : arg11.view.readAt (Elt F) R0.toLoadRect G = SC0 v60 (arg9.view.read (Elt F) X_arg9) 0)
    (hG1 : arg11.view.readAt (Elt F) R1.toLoadRect G = SC1 v109 (arg9.view.read (Elt F) X_arg9) 0) (n : ℕ) (hn : n ≤ (k0_t2_loop i).trips) :
    (st_k0_t2 (F := F) Variants.none c none i arg3 harg3 arg4 harg4 arg5 harg5 arg6 harg6 arg7 harg7 arg8 harg8 arg9 harg9 arg10 harg10 arg11 harg11 (w0 (i 2).val) (w1 (i 2).val) v60 v109 k0_pay61 k0_pay62 (0#32) v131 X_arg9 X_arg10 G (k0_pay62, k0_pay62, k0_pay61, k0_pay61) n).1 = carry v60 v109 (arg9.view.read (Elt F) X_arg9) (arg10.view.read (Elt F) X_arg10) n
    ∧ arg11.view.readAt (Elt F) R0.toLoadRect (arg11.view.writes (Elt F) G (st_k0_t2 (F := F) Variants.none c none i arg3 harg3 arg4 harg4 arg5 harg5 arg6 harg6 arg7 harg7 arg8 harg8 arg9 harg9 arg10 harg10 arg11 harg11 (w0 (i 2).val) (w1 (i 2).val) v60 v109 k0_pay61 k0_pay62 (0#32) v131 X_arg9 X_arg10 G (k0_pay62, k0_pay62, k0_pay61, k0_pay61) n).2) = SC0 v60 (arg9.view.read (Elt F) X_arg9) n
    ∧ arg11.view.readAt (Elt F) R1.toLoadRect (arg11.view.writes (Elt F) G (st_k0_t2 (F := F) Variants.none c none i arg3 harg3 arg4 harg4 arg5 harg5 arg6 harg6 arg7 harg7 arg8 harg8 arg9 harg9 arg10 harg10 arg11 harg11 (w0 (i 2).val) (w1 (i 2).val) v60 v109 k0_pay61 k0_pay62 (0#32) v131 X_arg9 X_arg10 G (k0_pay62, k0_pay62, k0_pay61, k0_pay61) n).2) = SC1 v109 (arg9.view.read (Elt F) X_arg9) n := by
  induction n with
  | zero => exact ⟨rfl, hG0, hG1⟩
  | succ n ih =>
    obtain ⟨h1, h2, h3⟩ := ih (by omega)
    have hs := st_k0_t2_succ (F := F) Variants.none c none i arg3 harg3 arg4 harg4 arg5 harg5 arg6 harg6 arg7 harg7 arg8 harg8 arg9 harg9 arg10 harg10 arg11 harg11 (w0 (i 2).val) (w1 (i 2).val) v60 v109 k0_pay61 k0_pay62 (0#32) v131 X_arg9 X_arg10 G (k0_pay62, k0_pay62, k0_pay61, k0_pay61) ⟨n, by omega⟩
    refine ⟨?_, ?_, ?_⟩
    · rw [show n + 1 = (⟨n, by omega⟩ : Fin (k0_t2_loop i).trips).val + 1 from rfl, hs]
      dsimp only [tripR_k0_t2]
      rw [trip2_R, h1, h2, h3]
      rfl
    · rw [show n + 1 = (⟨n, by omega⟩ : Fin (k0_t2_loop i).trips).val + 1 from rfl, hs]
      dsimp only [tripL_k0_t2]
      rw [trip2_L]
      exact readAt_R0 _ _ _ _ _
    · rw [show n + 1 = (⟨n, by omega⟩ : Fin (k0_t2_loop i).trips).val + 1 from rfl, hs]
      dsimp only [tripL_k0_t2]
      rw [trip2_L]
      exact readAt_R1 _ _ _ _ _

end Cert.KernelIdeal.Fox
-- ==== Proof.FoxRunA.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a grid point that fills the key and value scratch: the pieces it leaves in the output block and in the two scratch arrays, as functions of the input blocks and of what the scratch held, with the proof that the body runs to them. -/
noncomputable def runA (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole)
    (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (hc0 : k0_cond1 i = 1#1)
    (x0 : Vec F S512x128 .bf16) (x1 : Vec F S8192x128 .bf16) (x2 : Vec F S8192x128 .bf16) (x3 : Vec F S1x8192x2 .f32) (x4 : Vec F S1x2x512 .f32)
    (g9 : Vec F S2x8192x128 .bf16) (g10 : Vec F S2x80x8192 .bf16) (g11 : Vec F S2x512x512 .f32) :
    Σ' (L8 : List (View.Piece (Elt F) S512x128 .bf16)) (L9 : List (View.Piece (Elt F) S2x8192x128 .bf16)), { L10 : List (View.Piece (Elt F) S2x80x8192 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare g9 ∗ owns (c : Thread nD τ) arg10 fullShare g10 ∗ owns (c : Thread nD τ) arg11 fullShare g11
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ (arg9.view.loc (c : Thread nD τ) ↦[arg9.view.set]{fullShare} arg9.view.writes (Elt F) (harg9.unread g9) L9) ∗ (arg10.view.loc (c : Thread nD τ) ↦[arg10.view.set]{fullShare} arg10.view.writes (Elt F) (harg10.unread g10) L10) ∗ (∃ d, owns (c : Thread nD τ) arg11 fullShare d)) -∗ K ⟨⟩))
          ⊢ wp frame (wpE (defs₀ (F := F)) Variants.none c none) E (cc0__fox_prompt_body i arg3 harg3 arg4 harg4 arg5 harg5 arg6 harg6 arg7 harg7 arg8 harg8 arg9 harg9 arg10 harg10 arg11 harg11) K } := by
  refine ⟨?_, ?_, ?_, fun E K => ?run⟩
  case run =>
    simp only [cc0__fox_prompt_body_eq_skeleton]; unfold cc0__fox_prompt_body_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, ⟨%fs2, %hs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hs0; obtain rfl := harg10.eq_unread hs1; obtain rfl := harg11.eq_unread hs2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [HS0]; · iexact HS0
    isplitl [HS1]; · iexact HS1
    iexists _, _; isplitr; swap; · iexact HS2
    ipureintro; rfl

end Cert.KernelIdeal.Fox

end
-- ==== Proof.FoxRunB.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a grid point that takes the key and value scratch as the point before left it: the pieces it leaves in the output block, as functions of the input blocks and of what the scratch held, with the proof that the body runs to them. -/
noncomputable def runB (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole)
    (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (hc0 : ¬k0_cond1 i = 1#1)
    (x0 : Vec F S512x128 .bf16) (x1 : Vec F S8192x128 .bf16) (x2 : Vec F S8192x128 .bf16) (x3 : Vec F S1x8192x2 .f32) (x4 : Vec F S1x2x512 .f32)
    (g9 : Vec F S2x8192x128 .bf16) (g10 : Vec F S2x80x8192 .bf16) (g11 : Vec F S2x512x512 .f32) :
    { L8 : List (View.Piece (Elt F) S512x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare g9 ∗ owns (c : Thread nD τ) arg10 fullShare g10 ∗ owns (c : Thread nD τ) arg11 fullShare g11
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ owns (c : Thread nD τ) arg9 fullShare g9 ∗ owns (c : Thread nD τ) arg10 fullShare g10 ∗ (∃ d, owns (c : Thread nD τ) arg11 fullShare d)) -∗ K ⟨⟩))
          ⊢ wp frame (wpE (defs₀ (F := F)) Variants.none c none) E (cc0__fox_prompt_body i arg3 harg3 arg4 harg4 arg5 harg5 arg6 harg6 arg7 harg7 arg8 harg8 arg9 harg9 arg10 harg10 arg11 harg11) K } := by
  refine ⟨?_, fun E K => ?run⟩
  case run =>
    simp only [cc0__fox_prompt_body_eq_skeleton]; unfold cc0__fox_prompt_body_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, ⟨%fs2, %hs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hs0; obtain rfl := harg10.eq_unread hs1; obtain rfl := harg11.eq_unread hs2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [HS0]
    · iexists _; isplitr; · ipureintro; exact harg9.read_unread _
      iexact HS0
    isplitl [HS1]
    · iexists _; isplitr; · ipureintro; exact harg10.read_unread _
      iexact HS1
    iexists _, _; isplitr; swap; · iexact HS2
    ipureintro; rfl

end Cert.KernelIdeal.Fox

end
-- ==== Proof.FoxOut.lean ====
module

public import proofs.«01_k».proof.Proof.FoxLoop
public import proofs.«01_k».proof.Proof.FoxRunA
public import proofs.«01_k».proof.Proof.FoxRunB

@[expose] public section

set_option maxRecDepth 16384

noncomputable section

namespace Cert.KernelIdeal.Fox

open Idealize.ShloMosaic Idealize.ShloMosaic.TcCoe Idealize.ShloMosaic.Tactic
open Idealize.ShloMosaic.ValueIdx
open Cert.KernelIdeal.Gen

variable {F : FTy → Type} [FloatOps F] [Named F]

theorem off15_eq : ∀ n : Fin 16, (Scalar.indexCast (Scalar.muli (w1 n.val) 512#32) : BitVec 32).toNat = 512 * n.val := by decide +kernel

/-- What the body stores into the output block, from the contents of the key and value scratch as it goes through the loops. -/
theorem tail_out (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole) (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (v60 : FVec F S128x512 .bf16) (v109 : FVec F S128x512 .bf16) (X_arg9 : BufTy.Contents (Elt F) arg9.view.ty) (X_arg10 : BufTy.Contents (Elt F) arg10.view.ty) (v131 : BitVec 32) (HS : List (View.Piece (Elt F) S2x512x512 .f32))
    (hHS : HS = [⟨R1, SC1 v109 (arg9.view.read (Elt F) X_arg9) 0⟩, ⟨R0, SC0 v60 (arg9.view.read (Elt F) X_arg9) 0⟩])
    (ST2 ST3 : Acc F × List (View.Piece (Elt F) S2x512x512 .f32))
    (h2 : ST2 = st_k0_t2 (F := F) Variants.none c none i arg3 harg3 arg4 harg4 arg5 harg5 arg6 harg6 arg7 harg7 arg8 harg8 arg9 harg9 arg10 harg10 arg11 harg11 (w0 (i 2).val) (w1 (i 2).val) v60 v109 k0_pay61 k0_pay62 (0#32) v131 X_arg9 X_arg10 (arg11.view.writes (Elt F) arg11.view.junk HS) (k0_pay62, k0_pay62, k0_pay61, k0_pay61) (Scf.trips (k0_t2_loop i).lb (k0_t2_loop i).ub (k0_t2_loop i).st))
    (h3 : ST3 = st_k0_t3 (F := F) Variants.none c none i arg3 harg3 arg4 harg4 arg5 harg5 arg6 harg6 arg7 harg7 arg8 harg8 arg9 harg9 arg10 harg10 arg11 harg11 (w0 (i 2).val) (w1 (i 2).val) v60 v109 k0_pay61 k0_pay62 (0#32) v131 X_arg9 X_arg10 (arg11.view.writes (Elt F) arg11.view.junk (ST2.2 ++ HS)) (ST2.1.1, ST2.1.2.1, ST2.1.2.2.1, ST2.1.2.2.2) (Scf.trips (k0_t3_loop i).lb (k0_t3_loop i).ub (k0_t3_loop i).st))
    (inb15) (inb16) :
    k0_pay1 ST3.1.2.2.1 ST3.1.2.2.2
      (k0_pay71 (w0 (i 2).val) (w1 (i 2).val) ST3.1.1 (arg11.view.readCov (ST3.2 ++ (ST2.2 ++ HS)) R0.toLoadRect))
      (k0_pay72 (w0 (i 2).val) (w1 (i 2).val) ST3.1.1 (arg11.view.readCov (ST3.2 ++ (ST2.2 ++ HS)) R0.toLoadRect))
      (k0_pay75 (w0 (i 2).val) (w1 (i 2).val) ST3.1.2.1 (arg11.view.readCov (ST3.2 ++ (ST2.2 ++ HS)) R1.toLoadRect))
      (k0_pay76 (w0 (i 2).val) (w1 (i 2).val) ST3.1.2.1 (arg11.view.readCov (ST3.2 ++ (ST2.2 ++ HS)) R1.toLoadRect))
      (arg10.view.readAt (Elt F) (Rect.unit (s := S2x80x8192) (k0_off15 i) S1x80x512.size inb15).toLoadRect X_arg10)
      (arg10.view.readAt (Elt F) (Rect.unit (s := S2x80x8192) (k0_off16 i) S1x80x512.size inb16).toLoadRect X_arg10)
    = OUTQ (i 2).val v60 v109 (arg9.view.read (Elt F) X_arg9) (arg10.view.read (Elt F) X_arg10) := by
  have hi : (i 2).val < 16 := (i 2).isLt
  have e3 : Scf.trips (k0_t3_loop i).lb (k0_t3_loop i).ub (k0_t3_loop i).st = 0 := t3_trips i
  have e2 : Scf.trips (k0_t2_loop i).lb (k0_t2_loop i).ub (k0_t2_loop i).st = (i 2).val := t2_trips i
  rw [e3] at h3
  rw [e2] at h2
  have hST3 : ST3 = (ST2.1, []) := h3
  have h15 : k0_off15 i = ![(0 : Fin 2).val, 0, 512 * (i 2).val] := by
    have := off15_eq ⟨(i 2).val, hi⟩
    unfold k0_off15; exact congrArg (fun x => ![0, 0, x]) this
  have h16 : k0_off16 i = ![(1 : Fin 2).val, 0, 512 * (i 2).val] := by
    have := off15_eq ⟨(i 2).val, hi⟩
    unfold k0_off16; exact congrArg (fun x => ![1, 0, x]) this
  rw [readAt_tileV arg10.view X_arg10 (k0_off15 i) inb15 0 (i 2).val hi h15,
    readAt_tileV arg10.view X_arg10 (k0_off16 i) inb16 1 (i 2).val hi h16]
  obtain ⟨a1, a2, a3⟩ := st2_eq (F := F) c i arg3 harg3 arg4 harg4 arg5 harg5 arg6 harg6 arg7 harg7 arg8 harg8 arg9 harg9 arg10 harg10 arg11 harg11 v60 v109 X_arg9 X_arg10 v131 (arg11.view.writes (Elt F) arg11.view.junk HS)
    (by rw [hHS]; exact readAt_R0 _ _ _ _ _) (by rw [hHS]; exact readAt_R1 _ _ _ _ _) (i 2).val (le_of_eq (t2_trips i).symm)
  rw [← h2] at a1 a2 a3
  rw [← View.writes_append] at a2 a3
  rw [hST3]
  dsimp only [List.nil_append]
  rw [show arg11.view.readCov (ST2.2 ++ HS) R0.toLoadRect = _ from a2, show arg11.view.readCov (ST2.2 ++ HS) R1.toLoadRect = _ from a3, a1]
  rfl

/-- The tiles of queries, from the loads of the query block and of its decays. -/
theorem QT0_eq {sp : Space} (v3 : View sig .tc sp S512x128 .bf16) (v7 : View sig .tc sp S1x2x512 .f32) (f3 : v3.ty.Contents (Elt F)) (f7 : v7.ty.Contents (Elt F)) :
    k0_pay50 (iota .tc S128x1 32 [0] iota_S128x1_d0_w32) (k0_pay44 (v3.readAt (Elt F) (Rect.unit (s := S512x128) ![0, 0] S512x128.size inb_S512x128_S512x128_0_0).toLoadRect f3))
      (k0_pay46 (v7.readAt (Elt F) (Rect.unit (s := S1x2x512) ![0, 0, 0] S1x1x512.size inb_S1x2x512_S1x1x512_0_0_0).toLoadRect f7))
      (k0_pay47 (v7.readAt (Elt F) (Rect.unit (s := S1x2x512) ![0, 0, 0] S1x1x512.size inb_S1x2x512_S1x1x512_0_0_0).toLoadRect f7))
      (k0_pay48 (v7.readAt (Elt F) (Rect.unit (s := S1x2x512) ![0, 0, 0] S1x1x512.size inb_S1x2x512_S1x1x512_0_0_0).toLoadRect f7)) k0_pay49
    = QT0 (v3.read (Elt F) f3) (v7.read (Elt F) f7) := by
  unfold QT0
  rw [View.readAt_eq_ld, View.readAt_eq_ld, View.ld_unit_zero (show (![0, 0] : Fin 2 → ℕ) = fun _ => 0 by decide)]

theorem QT1_eq {sp : Space} (v3 : View sig .tc sp S512x128 .bf16) (v7 : View sig .tc sp S1x2x512 .f32) (f3 : v3.ty.Contents (Elt F)) (f7 : v7.ty.Contents (Elt F)) :
    k0_pay58 (iota .tc S128x1 32 [0] iota_S128x1_d0_w32) (k0_pay51 (k0_pay43 (v3.readAt (Elt F) (Rect.unit (s := S512x128) ![0, 0] S512x128.size inb_S512x128_S512x128_0_0).toLoadRect f3)) (iota .tc S128x1 32 [0] iota_S128x1_d0_w32))
      (k0_pay54 (v7.readAt (Elt F) (Rect.unit (s := S1x2x512) ![0, 1, 0] S1x1x512.size inb_S1x2x512_S1x1x512_0_1_0).toLoadRect f7))
      (k0_pay55 (v7.readAt (Elt F) (Rect.unit (s := S1x2x512) ![0, 1, 0] S1x1x512.size inb_S1x2x512_S1x1x512_0_1_0).toLoadRect f7))
      (k0_pay56 (iota .tc S128x1 32 [0] iota_S128x1_d0_w32))
      (k0_pay57 (v7.readAt (Elt F) (Rect.unit (s := S1x2x512) ![0, 1, 0] S1x1x512.size inb_S1x2x512_S1x1x512_0_1_0).toLoadRect f7))
    = QT1 (v3.read (Elt F) f3) (v7.read (Elt F) f7) := by
  unfold QT1
  rw [View.readAt_eq_ld, View.readAt_eq_ld, View.ld_unit_zero (show (![0, 0] : Fin 2 → ℕ) = fun _ => 0 by decide)]

set_option maxHeartbeats 1000000 in
/-- The output block of a point that takes the scratch as it finds it. -/
theorem runB_out (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole) (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (hc0 : ¬k0_cond1 i = 1#1) (x0 : Vec F S512x128 .bf16) (x1 : Vec F S8192x128 .bf16) (x2 : Vec F S8192x128 .bf16) (x3 : Vec F S1x8192x2 .f32) (x4 : Vec F S1x2x512 .f32) (g9 : Vec F S2x8192x128 .bf16) (g10 : Vec F S2x80x8192 .bf16) (g11 : Vec F S2x512x512 .f32) :
    (runB c i arg3 harg3 arg4 harg4 arg5 harg5 arg6 harg6 arg7 harg7 arg8 harg8 arg9 harg9 arg10 harg10 arg11 harg11 hc0 x0 x1 x2 x3 x4 g9 g10 g11).1
      = [⟨Rect.unit ![0, 0] ![512, 128] inb_S512x128_S512x128_0_0, OUTQ (i 2).val (QT0 x0 x4) (QT1 x0 x4) (g9) (g10)⟩] := by
  unfold runB
  dsimp only
  refine congrArg (fun w => [(⟨Rect.unit ![0, 0] ![512, 128] inb_S512x128_S512x128_0_0, w⟩ : View.Piece (Elt F) S512x128 .bf16)]) ?_
  have q0 := QT0_eq (F := F) arg3.view arg7.view (harg3.unread x0) (harg7.unread x4)
  have q1 := QT1_eq (F := F) arg3.view arg7.view (harg3.unread x0) (harg7.unread x4)
  rw [harg3.read_unread, harg7.read_unread] at q0 q1
  rw [← q0, ← q1]
  refine Eq.trans (tail_out (F := F) c i arg3 harg3 arg4 harg4 arg5 harg5 arg6 harg6 arg7 harg7 arg8 harg8 arg9 harg9 arg10 harg10 arg11 harg11 _ _ (harg9.unread g9) (harg10.unread g10) _ _ ?_ _ _ rfl rfl _ _) ?_
  · unfold SC0 SC1
    rw [← readAt_tileK arg9.view (harg9.unread g9) ![0, 0, 0] inb_S2x8192x128_S1x512x128_0_0_0 0 0 (by norm_num) (by decide),
      ← readAt_tileK arg9.view (harg9.unread g9) ![1, 0, 0] inb_S2x8192x128_S1x512x128_1_0_0 1 0 (by norm_num) (by decide)]
    rfl
  · first | (rw [harg9.read_unread, harg10.read_unread]; rfl) | rfl

set_option maxHeartbeats 1000000 in
/-- The output block of a point that fills the scratch first. -/
theorem runA_out (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192x2 .f32) (harg6 : arg6.IsWhole) (arg7 : Memref sig .tc .vmem S1x2x512 .f32) (harg7 : arg7.IsWhole) (arg8 : Memref sig .tc .vmem S512x128 .bf16) (harg8 : arg8.IsWhole) (arg9 : Memref sig .tc .vmem S2x8192x128 .bf16) (harg9 : arg9.IsWhole) (arg10 : Memref sig .tc .vmem S2x80x8192 .bf16) (harg10 : arg10.IsWhole) (arg11 : Memref sig .tc .vmem S2x512x512 .f32) (harg11 : arg11.IsWhole) (hc0 : k0_cond1 i = 1#1) (x0 : Vec F S512x128 .bf16) (x1 : Vec F S8192x128 .bf16) (x2 : Vec F S8192x128 .bf16) (x3 : Vec F S1x8192x2 .f32) (x4 : Vec F S1x2x512 .f32) (g9 : Vec F S2x8192x128 .bf16) (g10 : Vec F S2x80x8192 .bf16) (g11 : Vec F S2x512x512 .f32) :
    (runA c i arg3 harg3 arg4 harg4 arg5 harg5 arg6 harg6 arg7 harg7 arg8 harg8 arg9 harg9 arg10 harg10 arg11 harg11 hc0 x0 x1 x2 x3 x4 g9 g10 g11).1
      = [⟨Rect.unit ![0, 0] ![512, 128] inb_S512x128_S512x128_0_0, OUTQ (i 2).val (QT0 x0 x4) (QT1 x0 x4) (arg9.view.read (Elt F) (arg9.view.writes (Elt F) (harg9.unread g9) (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).1)) (arg10.view.read (Elt F) (arg10.view.writes (Elt F) (harg10.unread g10) (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).2))⟩] := by
  unfold runA
  dsimp only
  refine congrArg (fun w => [(⟨Rect.unit ![0, 0] ![512, 128] inb_S512x128_S512x128_0_0, w⟩ : View.Piece (Elt F) S512x128 .bf16)]) ?_
  have q0 := QT0_eq (F := F) arg3.view arg7.view (harg3.unread x0) (harg7.unread x4)
  have q1 := QT1_eq (F := F) arg3.view arg7.view (harg3.unread x0) (harg7.unread x4)
  rw [harg3.read_unread, harg7.read_unread] at q0 q1
  rw [← q0, ← q1]
  refine Eq.trans (tail_out (F := F) c i arg3 harg3 arg4 harg4 arg5 harg5 arg6 harg6 arg7 harg7 arg8 harg8 arg9 harg9 arg10 harg10 arg11 harg11 _ _ (arg9.view.writes (Elt F) (harg9.unread g9) (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).1) (arg10.view.writes (Elt F) (harg10.unread g10) (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).2) _ _ ?_ _ _ rfl rfl _ _) ?_
  · unfold SC0 SC1
    rw [← readAt_tileK arg9.view (arg9.view.writes (Elt F) (harg9.unread g9) (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).1) ![0, 0, 0] inb_S2x8192x128_S1x512x128_0_0_0 0 0 (by norm_num) (by decide),
      ← readAt_tileK arg9.view (arg9.view.writes (Elt F) (harg9.unread g9) (pb_k0_t1 (F := F) Variants.none c none i arg3 harg3 arg4 harg4 arg5 harg5 arg6 harg6 arg7 harg7 arg8 harg8 arg9 harg9 arg10 harg10 arg11 harg11 (iota .tc S1x128 32 [1] iota_S1x128_d1_w32) hc0 (harg4.unread x1) (harg5.unread x2) (harg6.unread x3) (Scf.trips k0_t1_loop.lb k0_t1_loop.ub k0_t1_loop.st)).1) ![1, 0, 0] inb_S2x8192x128_S1x512x128_1_0_0 1 0 (by norm_num) (by decide)]
    rfl
  · first | (rw [harg9.read_unread, harg10.read_unread]; rfl) | rfl

end Cert.KernelIdeal.Fox
-- ==== Proof.FoxFrame.lean ====
module

public import proofs.«01_k».proof.Proof.FoxOut
public import proofs.«01_k».proof.Proof.FoxFill
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The fill runs at the first query block of each batch row and head pair. -/
theorem hcond : ∀ t : Fin cfg0.N, k0_cond1 (grid0.coords t) = 1#1 ↔ t.val % 16 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 16 % 4 := Pipeline.Grid.coords_val t 1 (by decide) rfl
    have e2 : (grid0.coords t 2).val = t.val / 1 % 16 := Pipeline.Grid.coords_val t 2 (by decide) rfl
    simp only [k0_cond1, e0, e1, e2]
    word_cmp
   : ∀ t : Fin grid0.N, k0_cond1 (grid0.coords t) = 1#1 ↔ t.val % 16 = 0)

/-- The staging memrefs at a point, and the scratch. -/
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev scM0_0 : Memref sig .tc .vmem S2x8192x128 .bf16 := Memref.whole cc0_scratch0
abbrev scM0_1 : Memref sig .tc .vmem S2x80x8192 .bf16 := Memref.whole cc0_scratch1
abbrev scM0_2 : Memref sig .tc .vmem S2x512x512 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- A store of a whole output block leaves the block stored. -/
theorem out_read {sp : Space} (v : View sig .tc sp S512x128 .bf16) (f : v.ty.Contents (Elt F)) (w : FVec F S512x128 .bf16) :
    v.read (Elt F) (v.writes (Elt F) f [⟨Rect.unit ![0, 0] ![512, 128] inb_S512x128_S512x128_0_0, w⟩]) = w := by
  rw [View.read_writes_eq_canon _ _ _ (fun y => ⟨_, List.mem_singleton_self _, View.mem_set_unit_zero (by decide) inb_S512x128_S512x128_0_0 y⟩)]
  exact View.canon_unit_zero (by decide) _ _

/-- The first point of the row of points that position `n` lies in. -/
abbrev rowPt (n : ℕ) (hn : n < cfg0.N) : Fin cfg0.N := ⟨n / 16 * 16, lt_of_le_of_lt (Nat.div_mul_le_self n 16) hn⟩

/-- The key scratch after the point at position `n`. -/
def KSat (c : Dev nD) (n : ℕ) (hn : n < cfg0.N) : Vec F S2x8192x128 .bf16 := KSof (iblk m c 1 (rowPt n hn)) (iblk m c 3 (rowPt n hn))

/-- The value scratch after the point at position `n`. -/
def VTat (c : Dev nD) (n : ℕ) (hn : n < cfg0.N) : Vec F S2x80x8192 .bf16 := VTof (iblk m c 2 (rowPt n hn))

theorem rowPt_start (t : Fin cfg0.N) (h : t.val % 16 = 0) : rowPt t.val t.isLt = t := Fin.ext (by show t.val / 16 * 16 = t.val; omega)

theorem KSat_start (c : Dev nD) (t : Fin cfg0.N) (h : t.val % 16 = 0) : KSat m c t.val t.isLt = KSof (iblk m c 1 t) (iblk m c 3 t) := by
  unfold KSat; rw [rowPt_start t h]

theorem VTat_start (c : Dev nD) (t : Fin cfg0.N) (h : t.val % 16 = 0) : VTat m c t.val t.isLt = VTof (iblk m c 2 t) := by
  unfold VTat; rw [rowPt_start t h]

theorem rowPt_step (n : ℕ) (hn : n < cfg0.N) (h : ¬n % 16 = 0) : rowPt (n - 1) (by omega) = rowPt n hn :=
  Fin.ext (by show (n - 1) / 16 * 16 = n / 16 * 16; omega)

theorem KSat_step (c : Dev nD) (n : ℕ) (hn : n < cfg0.N) (h : ¬n % 16 = 0) : KSat m c (n - 1) (by omega) = KSat m c n hn := by
  unfold KSat; rw [rowPt_step n hn h]

theorem VTat_step (c : Dev nD) (n : ℕ) (hn : n < cfg0.N) (h : ¬n % 16 = 0) : VTat m c (n - 1) (by omega) = VTat m c n hn := by
  unfold VTat; rw [rowPt_step n hn h]

/-- The output block of point `t`. -/
def outAt (c : Dev nD) (t : Fin cfg0.N) : FVec F S512x128 .bf16 :=
  OUTQ (grid0.coords t 2).val (QT0 (iblk m c 0 t) (iblk m c 4 t)) (QT1 (iblk m c 0 t) (iblk m c 4 t)) (KSat m c t.val t.isLt) (VTat m c t.val t.isLt)

/-- Between points the key and value scratch hold the row's keys and values; before the first point anything. -/
def PhiS (c : Dev nD) : (n : ℕ) → n ≤ cfg0.N → sProp 𝕄
  | 0, _ => Pipeline.ΦA spec0 c
  | n + 1, hn => iprop(iprop(owns (c : Thread nD τ) scM0_0 fullShare (KSat m c n hn) ∗ owns (c : Thread nD τ) scM0_1 fullShare (VTat m c n hn) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (KSat m c n hn) ∗ owns (c : Thread nD τ) scM0_1 fullShare (VTat m c n hn) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (KSat m c (n - 1) (by omega)) ∗ owns (c : Thread nD τ) scM0_1 fullShare (VTat m c (n - 1) (by omega)) ∗ (∃ d, owns (c : Thread nD τ) scM0_2 fullShare d)) ∗ (∃ r, prngReg c r)) := by
  cases n with
  | zero => exact absurd rfl hz
  | succ n => rfl

/-- The proof data: each input's buffer keeps its block, the output's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · unfold outAt
    rw [KSat_start m c t h0, VTat_start m c t h0]
    by_cases hz : t.val = 0
    · rw [PhiS_castSucc m c t, PhiS_zero m c _ _ hz, PhiA0_eq]
      iintro ⟨⟨⟨⟨%g9, HS0⟩, ⟨%g10, HS1⟩, ⟨%g11, HS2⟩⟩, Hg⟩, Ho, ⟨%d0, H0⟩, ⟨%d1, H1⟩, ⟨%d2, H2⟩, ⟨%d3, H3⟩, ⟨%d4, H4⟩, ⟨%d5, H5⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond t).mpr h0) (iblk m c 0 t) (iblk m c 1 t) (iblk m c 2 t) (iblk m c 3 t) (iblk m c 4 t) _ _ g11).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hg]
      · isplitl [HS0 HS1 HS2]
        · isplitl [HS0]
          · unfold owns; iexists _; isplitr
            swap; · iexact HS0
            ipureintro; exact (fill_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond t).mpr h0) (iblk m c 1 t) (iblk m c 2 t) (iblk m c 3 t) _ scM0_1.view.junk).1
          isplitl [HS1]
          · unfold owns; iexists _; isplitr
            swap; · iexact HS1
            ipureintro; exact (fill_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond t).mpr h0) (iblk m c 1 t) (iblk m c 2 t) (iblk m c 3 t) scM0_0.view.junk _).2
          iexact HS2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      rw [runA_out]
      refine (out_read _ _ _).trans ?_
      rw [(fill_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond t).mpr h0) (iblk m c 1 t) (iblk m c 2 t) (iblk m c 3 t) _ scM0_1.view.junk).1, (fill_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond t).mpr h0) (iblk m c 1 t) (iblk m c 2 t) (iblk m c 3 t) scM0_0.view.junk _).2]
    · rw [PhiS_castSucc m c t, PhiS_pos m c _ _ hz]
      iintro ⟨⟨⟨HS0, HS1, ⟨%g11, HS2⟩⟩, Hg⟩, Ho, ⟨%d0, H0⟩, ⟨%d1, H1⟩, ⟨%d2, H2⟩, ⟨%d3, H3⟩, ⟨%d4, H4⟩, ⟨%d5, H5⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond t).mpr h0) (iblk m c 0 t) (iblk m c 1 t) (iblk m c 2 t) (iblk m c 3 t) (iblk m c 4 t) _ _ g11).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hg]
      · isplitl [HS0 HS1 HS2]
        · isplitl [HS0]
          · unfold owns; iexists _; isplitr
            swap; · iexact HS0
            ipureintro; exact (fill_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond t).mpr h0) (iblk m c 1 t) (iblk m c 2 t) (iblk m c 3 t) _ scM0_1.view.junk).1
          isplitl [HS1]
          · unfold owns; iexists _; isplitr
            swap; · iexact HS1
            ipureintro; exact (fill_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond t).mpr h0) (iblk m c 1 t) (iblk m c 2 t) (iblk m c 3 t) scM0_0.view.junk _).2
          iexact HS2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      rw [runA_out]
      refine (out_read _ _ _).trans ?_
      rw [(fill_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond t).mpr h0) (iblk m c 1 t) (iblk m c 2 t) (iblk m c 3 t) _ scM0_1.view.junk).1, (fill_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond t).mpr h0) (iblk m c 1 t) (iblk m c 2 t) (iblk m c 3 t) scM0_0.view.junk _).2]
  · by_cases hz : t.val = 0
    · exfalso; omega
    · rw [PhiS_castSucc m c t, PhiS_pos m c _ _ hz, KSat_step m c t.val t.isLt h0, VTat_step m c t.val t.isLt h0]
      unfold outAt
      iintro ⟨⟨⟨HS0, HS1, ⟨%g11, HS2⟩⟩, Hg⟩, Ho, ⟨%d0, H0⟩, ⟨%d1, H1⟩, ⟨%d2, H2⟩, ⟨%d3, H3⟩, ⟨%d4, H4⟩, ⟨%d5, H5⟩⟩
      iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond t).mp h)) (iblk m c 0 t) (iblk m c 1 t) (iblk m c 2 t) (iblk m c 3 t) (iblk m c 4 t) _ _ g11).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      rw [runB_out]
      refine (out_read _ _ _).trans ?_
      rfl

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
/-- Every execution terminates; the arrays end as the proof data says; the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame at any float model: every execution terminates, the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Fox
-- ==== Proof.FoxBlock.lean ====
module

public import proofs.«01_k».proof.Proof.FoxFrame
public import Idealize.ShloMosaic.Lib.Pointwise
public import Idealize.ShloMosaic.Lib.Pipeline.ValueKit

@[expose] public section

set_option maxRecDepth 16384

noncomputable section

namespace Cert.KernelIdeal.Fox

open Idealize.ShloMosaic Idealize.ShloMosaic.TcCoe Idealize.SL.Sem
open Cert.KernelIdeal Cert.KernelIdeal.Gen

variable (m : (ℓ : Loc nD τ sig) → Buf (Elt Ideal) ℓ)

/-- The windows' block indices at each point. -/
theorem idx : ∀ t : Fin cfg0.N, win0_0.index t = ![t.val / 64 * 16 + t.val % 16, 36 + t.val / 16 % 4] ∧ win0_1.index t = ![t.val / 64, 40 + t.val / 16 % 4]
    ∧ win0_2.index t = ![t.val / 64, 44 + t.val / 16 % 4] ∧ win0_3.index t = ![t.val / 16 % 4, t.val / 64, 0]
    ∧ win0_4.index t = ![t.val / 16 % 4, 0, t.val / 64 * 16 + t.val % 16] ∧ win0_5.index t = ![t.val / 64 * 16 + t.val % 16, t.val / 16 % 4] :=
  (by decide +kernel : ∀ t : Fin grid0.N, _)

theorem lt128 (t : Fin cfg0.N) : t.val < 128 := t.isLt

/-- The queries' block. -/
theorem blk0 (c : Dev nD) (t : Fin cfg0.N) (q : Fin 512) (j : Fin 128) :
    iblk m c 0 t (ix2 q j) = m ((c : Thread nD τ).loc main_arg0) (ix2 ⟨t.val / 64 * 8192 + (t.val % 16 * 512 + q.val), by have := lt128 t; omega⟩ ⟨4608 + (t.val / 16 % 4 * 128 + j.val), by omega⟩) := by
  blk_ext [iblk, V, idx t]
/-- The keys' block. -/
theorem blk1 (c : Dev nD) (t : Fin cfg0.N) (r : Fin 8192) (j : Fin 128) :
    iblk m c 1 t (ix2 r j) = m ((c : Thread nD τ).loc main_arg0) (ix2 ⟨t.val / 64 * 8192 + r.val, by have := lt128 t; omega⟩ ⟨5120 + (t.val / 16 % 4 * 128 + j.val), by omega⟩) := by
  blk_ext [iblk, V, idx t]
/-- The values' block. -/
theorem blk2 (c : Dev nD) (t : Fin cfg0.N) (r : Fin 8192) (j : Fin 128) :
    iblk m c 2 t (ix2 r j) = m ((c : Thread nD τ).loc main_arg0) (ix2 ⟨t.val / 64 * 8192 + r.val, by have := lt128 t; omega⟩ ⟨5632 + (t.val / 16 % 4 * 128 + j.val), by omega⟩) := by
  blk_ext [iblk, V, idx t]
/-- The keys' decays. -/
theorem blk3 (c : Dev nD) (t : Fin cfg0.N) (r : Fin 8192) (h : Fin 2) :
    iblk m c 3 t (ix3 0 r h) = m ((c : Thread nD τ).loc main_arg1) (ix2 ⟨t.val / 16 % 4 * 2 + h.val, by omega⟩ ⟨t.val / 64 * 8192 + r.val, by have := lt128 t; omega⟩) := by
  blk_simp [iblk, idx t]
  entry_read
  pointwise
  blk_ext [idx t]
/-- The queries' decays. -/
theorem blk4 (c : Dev nD) (t : Fin cfg0.N) (q : Fin 512) (h : Fin 2) :
    iblk m c 4 t (ix3 0 h q) = m ((c : Thread nD τ).loc main_arg1) (ix2 ⟨t.val / 16 % 4 * 2 + h.val, by omega⟩ ⟨t.val / 64 * 8192 + (t.val % 16 * 512 + q.val), by have := lt128 t; omega⟩) := by
  blk_simp [iblk, idx t]
  entry_read
  pointwise
  blk_ext [idx t]

end Cert.KernelIdeal.Fox
-- ==== Proof.FoxOutAt.lean ====
module

public import proofs.«01_k».proof.Proof.FoxHead
public import proofs.«01_k».proof.Proof.FoxBlock

@[expose] public section

set_option maxRecDepth 16384

noncomputable section

namespace Cert.KernelIdeal.Fox

open Idealize.ShloMosaic Idealize.ShloMosaic.TcCoe Idealize.SL.Sem
open Cert.KernelIdeal Cert.KernelIdeal.Gen

variable (m : (ℓ : Loc nD τ sig) → Buf (Elt Ideal) ℓ)

/-- A query's token, split into its batch row, its position and its block. -/
theorem tok (b n q : ℕ) (hn : n < 16) (hq : q < 512) : (b * 8192 + (n * 512 + q)) / 8192 = b ∧ (b * 8192 + (n * 512 + q)) % 8192 = 512 * n + q := by omega

theorem coord2 (t : Fin cfg0.N) : (grid0.coords t 2).val = t.val % 16 := by
  have h : (grid0.coords t 2).val = t.val / 1 % 16 := Pipeline.Grid.coords_val t 2 (by decide) rfl
  rw [h, Nat.div_one]

theorem row_div (t : Fin cfg0.N) : t.val / 16 * 16 / 64 = t.val / 64 ∧ t.val / 16 * 16 / 16 % 4 = t.val / 16 % 4 := by omega

section
variable (c : Dev nD) (X C : ℕ → ℕ → ℝ)
  (hX : ∀ (r : Fin 16384) (e : Fin 7680), m ((c : Thread nD τ).loc main_arg0) (ix2 r e) = (X r.val e.val : EReal))
  (hC : ∀ (h : Fin 8) (r : Fin 16384), m ((c : Thread nD τ).loc main_arg1) (ix2 h r) = (C h.val r.val : EReal))
include hX hC

theorem q_real (t : Fin cfg0.N) (q : Fin 512) (j : Fin 128) :
    iblk m c 0 t (ix2 q j) = (X (t.val / 64 * 8192 + (512 * (t.val % 16) + q.val)) (4608 + (t.val / 16 % 4 * 128 + j.val)) : EReal) := by
  rw [blk0, hX]
  show ((X (t.val / 64 * 8192 + (t.val % 16 * 512 + q.val)) _ : ℝ) : EReal) = _
  rw [mul_comm (t.val % 16)]
theorem k_real (t : Fin cfg0.N) (r : Fin 8192) (j : Fin 128) :
    iblk m c 1 (rowPt t.val t.isLt) (ix2 r j) = (X (t.val / 64 * 8192 + r.val) (5120 + (t.val / 16 % 4 * 128 + j.val)) : EReal) := by
  rw [blk1, hX]
  show ((X (t.val / 16 * 16 / 64 * 8192 + r.val) (5120 + (t.val / 16 * 16 / 16 % 4 * 128 + j.val)) : ℝ) : EReal) = _
  rw [(row_div t).1, (row_div t).2]
theorem v_real (t : Fin cfg0.N) (r : Fin 8192) (j : Fin 128) :
    iblk m c 2 (rowPt t.val t.isLt) (ix2 r j) = (X (t.val / 64 * 8192 + r.val) (5632 + (t.val / 16 % 4 * 128 + j.val)) : EReal) := by
  rw [blk2, hX]
  show ((X (t.val / 16 * 16 / 64 * 8192 + r.val) (5632 + (t.val / 16 * 16 / 16 % 4 * 128 + j.val)) : ℝ) : EReal) = _
  rw [(row_div t).1, (row_div t).2]
theorem ck_real (t : Fin cfg0.N) (r : Fin 8192) (h : Fin 2) :
    iblk m c 3 (rowPt t.val t.isLt) (ix3 0 r h) = (C (t.val / 16 % 4 * 2 + h.val) (t.val / 64 * 8192 + r.val) : EReal) := by
  rw [blk3, hC]
  show ((C (t.val / 16 * 16 / 16 % 4 * 2 + h.val) (t.val / 16 * 16 / 64 * 8192 + r.val) : ℝ) : EReal) = _
  rw [(row_div t).1, (row_div t).2]
theorem cq_real (t : Fin cfg0.N) (q : Fin 512) (h : Fin 2) :
    iblk m c 4 t (ix3 0 h q) = (C (t.val / 16 % 4 * 2 + h.val) (t.val / 64 * 8192 + (512 * (t.val % 16) + q.val)) : EReal) := by
  rw [blk4, hC]
  show ((C _ (t.val / 64 * 8192 + (t.val % 16 * 512 + q.val)) : ℝ) : EReal) = _
  rw [mul_comm (t.val % 16)]

/-- What a point writes: the attention of its queries, in its pair of heads. -/
theorem outAt_att (t : Fin cfg0.N) (q : Fin 512) (j : Fin 128) :
    outAt m c t (ix2 q j) = (att X C (t.val / 64 * 8192 + (t.val % 16 * 512 + q.val)) (t.val / 16 % 4 * 128 + j.val) : EReal) := by
  have hn : t.val % 16 < 16 := Nat.mod_lt _ (by norm_num)
  unfold outAt att
  rw [(tok (t.val / 64) (t.val % 16) q.val hn q.isLt).1, (tok (t.val / 64) (t.val % 16) q.val hn q.isLt).2, coord2, add_assoc (512 * (t.val % 16))]
  by_cases hj : j.val < 64
  · rw [show (t.val / 16 % 4 * 128 + j.val) / 64 = t.val / 16 % 4 * 2 from by omega]
    refine OUTQ_head0 _ _ _ _ (t.val % 16) hn q j hj (fun k hk a => ?_) (fun k hk a => ?_) (fun k hk a => ?_)
    · refine (score0 _ _ _ _ k (by omega) a q (fun i => X (t.val / 64 * 8192 + (512 * k + a.val)) (5120 + (t.val / 16 % 4 * 2 * 64 + i.val))) (fun i => X (t.val / 64 * 8192 + (512 * (t.val % 16) + q.val)) (4608 + (t.val / 16 % 4 * 2 * 64 + i.val)))
        (C (t.val / 16 % 4 * 2) (t.val / 64 * 8192 + (512 * k + a.val))) (C (t.val / 16 % 4 * 2) (t.val / 64 * 8192 + (512 * (t.val % 16) + q.val))) (fun i => ?_) ?_ (fun i => ?_) ?_).trans rfl
      · rw [k_real m c X C hX hC t]; simp only [mul_assoc, Nat.reduceMul]
      · exact ck_real m c X C hX hC t _ 0
      · rw [q_real m c X C hX hC t]; simp only [mul_assoc, Nat.reduceMul]
      · exact cq_real m c X C hX hC t q 0
    · rw [show VTat m c t.val t.isLt = VTof (iblk m c 2 (rowPt t.val t.isLt)) from rfl, value0 _ k (by omega), dif_pos hj]
      exact v_real m c X C hX hC t _ _
    · rw [show VTat m c t.val t.isLt = VTof (iblk m c 2 (rowPt t.val t.isLt)) from rfl, value0 _ k (by omega), dif_neg (by decide)]
  · rw [show (t.val / 16 % 4 * 128 + j.val) / 64 = t.val / 16 % 4 * 2 + 1 from by omega]
    refine OUTQ_head1 _ _ _ _ (t.val % 16) hn q j hj (fun k hk a => ?_) (fun k hk a => ?_) (fun k hk a => ?_)
    · refine (score1 _ _ _ _ k (by omega) a q (fun i => X (t.val / 64 * 8192 + (512 * k + a.val)) (5120 + ((t.val / 16 % 4 * 2 + 1) * 64 + i.val))) (fun i => X (t.val / 64 * 8192 + (512 * (t.val % 16) + q.val)) (4608 + ((t.val / 16 % 4 * 2 + 1) * 64 + i.val)))
        (C (t.val / 16 % 4 * 2 + 1) (t.val / 64 * 8192 + (512 * k + a.val))) (C (t.val / 16 % 4 * 2 + 1) (t.val / 64 * 8192 + (512 * (t.val % 16) + q.val))) (fun i => ?_) ?_ (fun i => ?_) ?_).trans rfl
      · rw [k_real m c X C hX hC t]; simp only [add_mul, mul_assoc, Nat.reduceMul, one_mul, add_assoc]
      · exact ck_real m c X C hX hC t _ 1
      · rw [q_real m c X C hX hC t]; simp only [add_mul, mul_assoc, Nat.reduceMul, one_mul, add_assoc]
      · exact cq_real m c X C hX hC t q 1
    · rw [show VTat m c t.val t.isLt = VTof (iblk m c 2 (rowPt t.val t.isLt)) from rfl, value1 _ k (by omega), dif_pos (by show j.val - 64 < 64; omega)]
      refine (v_real m c X C hX hC t _ _).trans ?_
      show ((X _ (5632 + (t.val / 16 % 4 * 128 + (64 + (j.val - 64)))) : ℝ) : EReal) = _
      rw [show 64 + (j.val - 64) = j.val from by omega]; rfl
    · rw [show VTat m c t.val t.isLt = VTof (iblk m c 2 (rowPt t.val t.isLt)) from rfl, value1 _ k (by omega), dif_neg (by decide)]

/-- The kernel's whole result: the attention. -/
theorem final_att : (dats m 0 c).arrAt 5 cfg0.N = fun i : S16384x512.Idx => (att X C (i 0).val (i 1).val : EReal) := by
  refine (dats m 0 c).arrAt_eq_of_covers 5 _ (by decide +kernel) fun t _ y => ?_
  rw [after0_5]
  blk_simp [idx t]
  refine Eq.trans (congrArg (outAt m c t) (eq_ix2 y)) ((outAt_att m c X C hX hC t (y 0) (y 1)).trans ?_)
  rw [add_mul, mul_assoc, add_assoc, show 16 * 512 = 8192 from rfl]

end

end Cert.KernelIdeal.Fox
-- ==== Proof.FoxRef.lean ====
module

public import proofs.«01_k».proof.Proof.Gen.ReferenceIdeal.Read
public import proofs.«01_k».proof.Proof.FoxSpec
public import Idealize.ShloMosaic.Lib.Pointwise
public import Idealize.ShloMosaic.Lib.KernelVsHost

@[expose] public section

set_option maxRecDepth 16384

noncomputable section

namespace Cert.ReferenceIdeal.Fox

open Idealize.ShloMosaic Idealize.ShloMosaic.TcCoe Idealize.SL.Sem
open Cert.ReferenceIdeal Cert.ReferenceIdeal.Gen Cert.ReferenceIdeal.Read
open Cert.KernelIdeal.Fox (val att part coe_sum fold_max_real softmax_mean)

theorem neg_inf : Ideal.ofBits .f32 0xFF800000#32 = (⊥ : EReal) := by simp [Ideal.ofBits, Ideal.ieee]
theorem eighth : Ideal.ofBits .f32 0x3E000000#32 = ((1 / 8 : ℝ) : EReal) := by
  simp [Ideal.ofBits, Ideal.ieee, -EReal.coe_mul]; norm_num

/-- The causal mask's comparison of two positions. -/
theorem sle_pos (k q : Fin 8192) : IntOp.cmpi .sle (BitVec.ofNat 32 k.val) (BitVec.ofNat 32 q.val) = BitVec.ofBool (decide (k.val < q.val + 1)) := by
  have ht (x : Fin 8192) : (BitVec.ofNat 32 x.val).toInt = (x.val : ℤ) := by
    rw [BitVec.toInt_eq_toNat_of_lt (by rw [BitVec.toNat_ofNat]; omega), BitVec.toNat_ofNat, Nat.mod_eq_of_lt (by omega)]
  show BitVec.ofBool (BitVec.sle _ _) = _
  unfold BitVec.sle
  rw [ht, ht]
  congr 1
  simp only [decide_eq_decide]
  omega

theorem select_bit {α : Type} (p : Prop) [Decidable p] (x y : α) : Scalar.select (BitVec.ofBool (decide p)) x y = if p then x else y := by
  by_cases h : p <;> simp [Scalar.select, h]

/-- The masked logits. -/
theorem logits (x0 : FVec Ideal S16384x7680 .bf16) (x1 : FVec Ideal S8x16384 .f32) (b : Fin 2) (h : Fin 8) (q k : Fin 8192) :
    val_main_v26 (F := Ideal) x0 x1 (ix4 b h q k)
      = if k.val < q.val + 1 then (∑ i : Fin 64, x0 (ix2 ⟨b.val * 8192 + q.val, by omega⟩ ⟨4608 + (h.val * 64 + i.val), by omega⟩) * x0 (ix2 ⟨b.val * 8192 + k.val, by omega⟩ ⟨5120 + (h.val * 64 + i.val), by omega⟩)) * ((1 / 8 : ℝ) : EReal)
          + (x1 (ix2 h ⟨b.val * 8192 + q.val, by omega⟩) - x1 (ix2 h ⟨b.val * 8192 + k.val, by omega⟩)) else ⊥ := by
  pointwise [val_main_v26, val_main_v25, val_main_v11, val_main_v9, val_main_v10, val_main_cst, val_main_v2, val_main_v1, val_main_v0, val_main_v4, val_main_v3, val_main_v18, val_main_v16, val_main_v17,
    val_main_v13, val_main_v15, val_main_v14, val_main_v12, val_main_v8, val_main_v7, val_main_call0_v0, val_main_call0_v1, val_main_call0_v2, val_main_cst_0, val_main_v24, val_main_v23, val_main_v22, val_main_v21, val_main_v20, val_main_v19]
  rw [sle_pos, select_bit, eighth]
  exact if_congr Iff.rfl rfl neg_inf

theorem red : S2x8x8192x8192.Reduces [3] S2x8x8192 := by decide

/-- The maximum over the keys, at a row: a fold of `max` over the keys. -/
theorem reduce_max (y : FVec Ideal S2x8x8192x8192 .f32) (i : S2x8x8192.Idx) :
    Host.reduce (FloatOps.maximumf (F := Ideal) (φ := .f32)) y (constant (F := Ideal) S_ .f32 0xFF800000#32) reducesTo_S2x8x8192x8192_S2x8x8192_d3 h_S_ i
      = (Finset.univ : Finset (Fin 8192)).fold max (Ideal.ofBits .f32 0xFF800000#32) (y ∘ red.lift i) :=
  (congrFun (hostReduce_maximumf_eq_multiReduction y 0xFF800000#32 reducesTo_S2x8x8192x8192_S2x8x8192_d3 h_S_ red (.inl rfl) rfl) i).trans
    (Ideal.multiReduction_maximumf_single y 0xFF800000#32 red (.inl rfl) rfl i)

/-- The shift of a row of logits is a real number, when the row's logits are never `⊤` and not all `⊥`. -/
theorem shift_real (x0 : FVec Ideal S16384x7680 .bf16) (x1 : FVec Ideal S8x16384 .f32) (b : Fin 2) (h : Fin 8) (q : Fin 8192)
    (h1 : ∀ k : Fin 8192, val_main_v26 (F := Ideal) x0 x1 (ix4 b h q k) ≠ (⊤ : EReal)) (h2 : ∃ k : Fin 8192, val_main_v26 (F := Ideal) x0 x1 (ix4 b h q k) ≠ (⊥ : EReal)) :
    ∃ R : ℝ, val_main_v29 (F := Ideal) x0 x1 (ix3 b h q) = (R : EReal) := by
  have e2 : ∀ k : Fin 8192, red.lift (ix3 b h q) k = ix4 b h q k := fun k => by
    funext a; apply Fin.ext; fin_cases a <;> rfl
  obtain ⟨R, hR⟩ := fold_max_real (fun k : Fin 8192 => val_main_v26 (F := Ideal) x0 x1 (ix4 b h q k)) h1 h2
  refine ⟨R, ?_⟩
  have e : (val_main_v27 (F := Ideal) x0 x1 (ix3 b h q) : EReal) = Finset.univ.fold max ⊥ (fun k : Fin 8192 => val_main_v26 (F := Ideal) x0 x1 (ix4 b h q k)) := by
    unfold val_main_v27 val_main_cst_1
    generalize val_main_v26 (F := Ideal) x0 x1 = y
    rw [← neg_inf]
    exact (reduce_max y _).trans (congrArg (fun g : Fin 8192 → EReal => Finset.univ.fold max (Ideal.ofBits .f32 0xFF800000#32) g) (funext fun k => congrArg y (e2 k)))
  have e4 : (val_main_v28 (F := Ideal) (ix3 b h q) : EReal) = ⊥ := neg_inf
  rw [val_main_v29_apply]
  show max (val_main_v28 (F := Ideal) (ix3 b h q) : EReal) (val_main_v27 (F := Ideal) x0 x1 (ix3 b h q) : EReal) = _
  rw [e, e4, hR]
  exact max_eq_right bot_le

/-- The attention's result, before the logits are opened. -/
theorem result (x0 : FVec Ideal S16384x7680 .bf16) (x1 : FVec Ideal S8x16384 .f32) (t : Fin 16384) (j : Fin 512) :
    val_main_v41 (F := Ideal) x0 x1 (ix2 t j)
      = ∑ x : Fin 8192, x0 (ix2 ⟨t.val / 8192 * 8192 + x.val, by omega⟩ ⟨5632 + j.val, by omega⟩) *
        Ideal.div (Ideal.exp (val_main_v26 (F := Ideal) x0 x1 (ix4 ⟨t.val / 8192, by omega⟩ ⟨j.val / 64, by omega⟩ ⟨t.val % 8192, by omega⟩ x) - val_main_v29 (F := Ideal) x0 x1 (ix3 ⟨t.val / 8192, by omega⟩ ⟨j.val / 64, by omega⟩ ⟨t.val % 8192, by omega⟩)))
          (∑ y : Fin 8192, Ideal.exp (val_main_v26 (F := Ideal) x0 x1 (ix4 ⟨t.val / 8192, by omega⟩ ⟨j.val / 64, by omega⟩ ⟨t.val % 8192, by omega⟩ y) - val_main_v29 (F := Ideal) x0 x1 (ix3 ⟨t.val / 8192, by omega⟩ ⟨j.val / 64, by omega⟩ ⟨t.val % 8192, by omega⟩))) := by
  pointwise [val_main_v41, val_main_v40, val_main_v39, val_main_v38, val_main_v37, val_main_v36, val_main_v35, val_main_v34, val_main_v33, val_main_v32, val_main_v31, val_main_v30, val_main_cst_3, val_main_v6, val_main_v5, val_main_v0]

/-- The reference's result, from real entries: the attention. -/
theorem ref_att (x0 : FVec Ideal S16384x7680 .bf16) (x1 : FVec Ideal S8x16384 .f32) (X C : ℕ → ℕ → ℝ)
    (hX : ∀ (r : Fin 16384) (c : Fin 7680), x0 (ix2 r c) = (X r.val c.val : EReal)) (hC : ∀ (h : Fin 8) (r : Fin 16384), x1 (ix2 h r) = (C h.val r.val : EReal)) (t : Fin 16384) (j : Fin 512) :
    val_main_v41 (F := Ideal) x0 x1 (ix2 t j) = (att X C t.val j.val : EReal) := by
  have hl : ∀ k : Fin 8192, val_main_v26 (F := Ideal) x0 x1 (ix4 ⟨t.val / 8192, by omega⟩ ⟨j.val / 64, by omega⟩ ⟨t.val % 8192, by omega⟩ k)
      = if k.val < t.val % 8192 + 1 then ((Cert.KernelIdeal.Fox.sco X C (t.val / 8192) (j.val / 64) (t.val % 8192) k.val * Real.log 2 : ℝ) : EReal) else ⊥ := by
    intro k
    rw [logits]
    refine if_congr Iff.rfl ?_ rfl
    rw [hC, hC, ← EReal.coe_sub]
    simp only [hX, ← EReal.coe_mul]
    rw [← coe_sum, ← EReal.coe_mul, ← EReal.coe_add]
    congr 1
    unfold Cert.KernelIdeal.Fox.sco
    rw [mul_assoc _ (Real.log 2)⁻¹, inv_mul_cancel₀ (Real.log_pos (by norm_num)).ne', mul_one]
  obtain ⟨R, hR⟩ := shift_real x0 x1 ⟨t.val / 8192, by omega⟩ ⟨j.val / 64, by omega⟩ ⟨t.val % 8192, by omega⟩
    (fun k => by rw [hl]; split <;> simp [-EReal.coe_mul]) ⟨⟨0, by norm_num⟩, by rw [hl, if_pos (by show 0 < _; omega)]; simp [-EReal.coe_mul]⟩
  rw [result, hR]
  refine Eq.trans (Finset.sum_congr rfl fun x _ => mul_comm _ _) ?_
  exact softmax_mean (σ := Cert.KernelIdeal.Fox.sco X C (t.val / 8192) (j.val / 64) (t.val % 8192)) (ν := val X (t.val / 8192) j.val) 8192 (t.val % 8192 + 1) (by omega) (by omega) _ _ R hl (fun a => hX _ _)

end Cert.ReferenceIdeal.Fox
-- ==== Proof.FoxPre.lean ====
module

public import proofs.«01_k».proof.Proof.Gen.Pre_finite
public import proofs.«01_k».proof.Proof.FoxSpec
public import Idealize.ShloMosaic.Lib.ReduceAll
public import Idealize.ShloMosaic.Lib.StableHlo.Predicate
public import Idealize.ShloMosaic.Lib.WordArith
public import Idealize.ShloMosaic.Lib.Pointwise

@[expose] public section

noncomputable section

namespace Cert.Pre_finite.Fox

open Idealize.ShloMosaic Idealize.SL.Sem
open Cert.Pre_finite Cert.Pre_finite.Gen

theorem pos_inf : Ideal.ofBits .f32 0x7F800000#32 = (⊤ : EReal) := by simp [Ideal.ofBits, Ideal.ieee]

/-- A number whose magnitude is below infinity is real. -/
theorem real_of_abs (x : EReal) (h : max x (-x) < ⊤) : x = (x.toReal : EReal) := by
  refine (EReal.coe_toReal ?_ ?_).symm
  · rintro rfl; simp at h
  · rintro rfl; simp at h

theorem one_S : Subsingleton S_.Idx := ⟨fun a b => by funext k; exact k.elim0⟩

/-- Under the precondition every entry of both arguments is a real number. -/
theorem real_of_fn (x0 : FVec Ideal S16384x7680 .bf16) (x1 : FVec Ideal S8x16384 .f32) (h : fn (F := Ideal) x0 x1 = fun _ => 1#1) :
    (∀ i, x0 i = ((x0 i : EReal).toReal : EReal)) ∧ ∀ i, x1 i = ((x1 i : EReal).toReal : EReal) := by
  haveI := one_S
  have h0 : IntOp.andi (Host.reduce IntOp.andi (cmpf (F := Ideal) .olt (Host.absf (extf .f32 x0 bitsLt_bf16_f32)) (broadcastInDim S16384x7680 ![] bcast_S_S16384x7680 (constant S_ .f32 0x7F800000#32))) (constantI S_ 1 1#1) reducesTo_S16384x7680_S_d0_1 h_S_ ix0)
      (Host.reduce IntOp.andi (cmpf (F := Ideal) .olt (Host.absf x1) (broadcastInDim S8x16384 ![] bcast_S_S8x16384 (constant S_ .f32 0x7F800000#32))) (constantI S_ 1 1#1) reducesTo_S8x16384_S_d0_1 h_S_ ix0) = 1#1 := congrFun h ix0
  have hab : ∀ a b : BitVec 1, IntOp.andi a b = 1#1 → a = 1#1 ∧ b = 1#1 := by decide
  obtain ⟨ha, hb⟩ := hab _ _ h0
  have key : ∀ z : EReal, BitVec.ofBool (decide (max z (-z) < Ideal.ofBits .f32 0x7F800000#32)) = 1#1 → z = (z.toReal : EReal) := by
    intro z hz
    rw [pos_inf] at hz
    exact real_of_abs z (of_decide_eq_true ((StableHlo.Predicate.ofBool_eq_one_iff _).1 hz))
  exact ⟨fun i => key _ (Host.reduce_andi_all _ _ _ _ _ ha i), fun i => key _ (Host.reduce_andi_all _ _ _ _ _ hb i)⟩

end Cert.Pre_finite.Fox
-- ==== Proof.FoxClaim.lean ====
module

public import proofs.«01_k».proof.Proof.FoxOutAt
public import proofs.«01_k».proof.Proof.FoxRef
public import proofs.«01_k».proof.Proof.FoxPre
public import proofs.«01_k».proof.Defs

@[expose] public section

noncomputable section

namespace Cert.KernelIdeal.Fox

open Idealize.ShloMosaic Idealize.ShloMosaic.TcCoe Idealize.SL.Sem

/-- The real numbers of a 16384 × 7680 array, by row and column. -/
def realX (x : FVec Ideal S16384x7680 .bf16) (r e : ℕ) : ℝ := if h : r < 16384 ∧ e < 7680 then (x (ix2 ⟨r, h.1⟩ ⟨e, h.2⟩) : EReal).toReal else 0
/-- The real numbers of an 8 × 16384 array, by row and column. -/
def realC (x : FVec Ideal S8x16384 .f32) (h r : ℕ) : ℝ := if g : h < 8 ∧ r < 16384 then (x (ix2 ⟨h, g.1⟩ ⟨r, g.2⟩) : EReal).toReal else 0

theorem realX_eq (x : FVec Ideal S16384x7680 .bf16) (h : ∀ i, x i = ((x i : EReal).toReal : EReal)) (r : Fin 16384) (e : Fin 7680) : x (ix2 r e) = (realX x r.val e.val : EReal) := by
  unfold realX; rw [dif_pos ⟨r.isLt, e.isLt⟩]; exact h _
theorem realC_eq (x : FVec Ideal S8x16384 .f32) (h : ∀ i, x i = ((x i : EReal).toReal : EReal)) (g : Fin 8) (r : Fin 16384) : x (ix2 g r) = (realC x g.val r.val : EReal) := by
  unfold realC; rw [dif_pos ⟨g.isLt, r.isLt⟩]; exact h _

/-- On finite arguments the kernel and the reference end with the same result: the attention of the arguments. -/
theorem algebraic : Cert.algebraic_KernelIdeal_ReferenceIdeal_pre_finite := by
  intro m g m' g' hpre hin
  have hr := fun c : Dev Cert.KernelIdeal.nD => Cert.Pre_finite.Fox.real_of_fn _ _ (hpre c)
  refine ⟨fun c => fun i : S16384x512.Idx => (att (realX (m ((c.tc : Thread nD τ).loc main_arg0))) (realC (m ((c.tc : Thread nD τ).loc main_arg1))) (i 0).val (i 1).val : EReal), ?_, ?_⟩
  · exact (θ_run _ _ _).mono (fun _ h c => ⟨((h.1 c).1 5).trans (final_att m c _ _ (realX_eq _ (hr c).1) (realC_eq _ (hr c).2)), h.2 c⟩)
      (θ_run_and (run_main m g) (unchanged m g))
  · refine (θ_run _ _ _).mono (fun _ h c => ⟨(h c).1.trans ?_, (h c).2⟩) (Cert.ReferenceIdeal.Value.run (F := Ideal) m' g')
    refine (Cert.ReferenceIdeal.Read.val_main_v41_eq m' c).trans ?_
    rw [(hin c).1, (hin c).2]
    funext i
    exact (congrArg (Cert.ReferenceIdeal.Read.val_main_v41 (F := Ideal) _ _) (eq_ix2 i)).trans
      (Cert.ReferenceIdeal.Fox.ref_att _ _ _ _ (realX_eq _ (hr c).1) (realC_eq _ (hr c).2) (i 0) (i 1))

/-- The rewrites that lead to the ideal kernel are the named rules'. -/
theorem preserves : Cert.preserves_Kernel_KernelIdeal :=
  ⟨IdealRules.named_const.statement Cert.KernelIdeal.κ "log2e" .f32 0x3FB8AA3B#32 _ rfl, IdealRules.bf16_pack.statement _,
    IdealRules.named_const.statement Cert.KernelIdeal.κ "scale_log2e" .f32 0x3E38AA3B#32 _ rfl, IdealRules.bf16_pack.statement _,
    IdealRules.named_const.statement Cert.KernelIdeal.κ "mask" .f32 0xF149F2CA#32 _ rfl⟩

end Cert.KernelIdeal.Fox
-- ==== Proof.InpRun.lean ====
module

public import proofs.«01_k».proof.Proof.Gen.Kernel2Ideal.Frame
public import proofs.«01_k».proof.Proof.Gen.Kernel2Ideal.Skeleton
public import Idealize.ShloMosaic.Lib.Claim
public import Idealize.ShloMosaic.Lib.Pipeline.Value

@[expose] public section

set_option maxRecDepth 16384

noncomputable section

namespace Cert.Kernel2Ideal.Inp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- A store over a whole array leaves what was stored. -/
theorem store_read {sp : Space} {s : Shape} {e : EltTy} (v : View sig .tc sp s e) (f : v.ty.Contents (Elt F)) (off : Fin s.rank → ℕ) (hoff : off = fun _ => 0)
    (h : ∀ d, off d + s.size d ≤ s.size d) (w : s.Idx → Elt F e) :
    v.read (Elt F) (v.writes (Elt F) f [⟨Rect.unit off s.size h, w⟩]) = w := by
  rw [View.read_writes_eq_canon _ _ _ (fun y => ⟨_, List.mem_singleton_self _, View.mem_set_unit_zero hoff h y⟩)]
  exact View.canon_unit_zero hoff _ _

/-- A load of a whole array reads its contents. -/
theorem load_read {sp : Space} {s : Shape} {e : EltTy} {m : Memref sig .tc sp s e} (hm : m.IsWhole) (X : s.Idx → Elt F e) (off : Fin s.rank → ℕ) (hoff : off = fun _ => 0)
    (h : ∀ d, off d + s.size d ≤ s.size d) :
    m.view.readAt (Elt F) (Rect.unit off s.size h).toLoadRect (hm.unread X) = X := by
  rw [View.readAt_eq_ld, hm.read_unread]
  exact View.ld_unit_zero hoff _ _

section
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1536 .bf16) (harg4 : arg4.IsWhole) (arg5 : Memref sig .tc .vmem S1x1024x128 .bf16) (harg5 : arg5.IsWhole) (arg6 : Memref sig .tc .vmem S1x8x1024 .bf16) (harg6 : arg6.IsWhole) (arg7 : Memref sig .tc .vmem S1024x1536 .bf16) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1024x128 .f32) (harg10 : arg10.IsWhole) (arg11 : Memref sig .tc .vmem S8x1024 .f32) (harg11 : arg11.IsWhole) (arg12 : Memref sig .tc .vmem S1024x1024 .bf16) (harg12 : arg12.IsWhole)

set_option maxHeartbeats 1000000 in
/-- The body at a first column block: it normalises the rows into the scratch, and leaves the two narrow products and the first block of columns. -/
theorem runA
    (hc0 : k0_cond1 i = 1#1) (hc1 : ¬k0_cond2 i = 1#1) (hc2 : ¬k0_cond3 i = 1#1)
    (x0 : Vec F S1024x1024 .f32) (x1 : Vec F S1x1024 .f32) (x2 : Vec F S1x1024x1536 .bf16) (x3 : Vec F S1x1024x128 .bf16) (x4 : Vec F S1x8x1024 .bf16) (y6 : Vec F S1x512x1024 .f32) (y7 : Vec F S1x512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 (k0_pay2 x0 x1) x2) ∗ owns (c : Thread nD τ) arg8 fullShare y6 ∗ owns (c : Thread nD τ) arg9 fullShare y7 ∗ owns (c : Thread nD τ) arg10 fullShare (k0_pay3 x0 x1 x3) ∗ owns (c : Thread nD τ) arg11 fullShare (k0_pay4 x0 x1 x4) ∗ owns (c : Thread nD τ) arg12 fullShare (k0_pay2 x0 x1)) -∗ K ⟨⟩))
      ⊢ wp frame (wpE (defs₀ (F := F)) Variants.none c none) E (cc0__in_proj_body i arg2 harg2 arg3 harg3 arg4 harg4 arg5 harg5 arg6 harg6 arg7 harg7 arg8 harg8 arg9 harg9 arg10 harg10 arg11 harg11 arg12 harg12) K := by
  simp only [cc0__in_proj_body_eq_skeleton]; unfold cc0__in_proj_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact (store_read _ _ _ (by decide) _ _).trans (congrArg₂ k0_pay6 ((View.readCov_unit_zero _ (by decide) _ _).trans (congrArg₂ k0_pay2 (load_read harg2 x0 _ (by decide) _) (load_read harg3 x1 _ (by decide) _))) (load_read harg4 x2 _ (by decide) _))
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; exact (store_read _ _ _ (by decide) _ _).trans (congr (congrArg₂ k0_pay3 (load_read harg2 x0 _ (by decide) _) (load_read harg3 x1 _ (by decide) _)) (load_read harg5 x3 _ (by decide) _))
  isplitl [H9]
  · iexists _; isplitr; swap; · iexact H9
    ipureintro; exact (store_read _ _ _ (by decide) _ _).trans (congr (congrArg₂ k0_pay4 (load_read harg2 x0 _ (by decide) _) (load_read harg3 x1 _ (by decide) _)) (load_read harg6 x4 _ (by decide) _))
  · iexists _; isplitr; swap; · iexact H10
    ipureintro; exact (store_read _ _ _ (by decide) _ _).trans (congrArg₂ k0_pay2 (load_read harg2 x0 _ (by decide) _) (load_read harg3 x1 _ (by decide) _))

set_option maxHeartbeats 1000000 in
/-- The body at a column block that holds neither keys nor values of the attention: it leaves that block of columns. -/
theorem runB
    (hc0 : ¬k0_cond1 i = 1#1) (hc1 : ¬k0_cond2 i = 1#1) (hc2 : ¬k0_cond3 i = 1#1)
    (x0 : Vec F S1024x1024 .f32) (x1 : Vec F S1x1024 .f32) (x2 : Vec F S1x1024x1536 .bf16) (x3 : Vec F S1x1024x128 .bf16) (x4 : Vec F S1x8x1024 .bf16) (y6 : Vec F S1x512x1024 .f32) (y7 : Vec F S1x512x1024 .f32) (y8 : Vec F S1024x128 .f32) (y9 : Vec F S8x1024 .f32) (xs : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 xs x2) ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare xs) -∗ K ⟨⟩))
      ⊢ wp frame (wpE (defs₀ (F := F)) Variants.none c none) E (cc0__in_proj_body i arg2 harg2 arg3 harg3 arg4 harg4 arg5 harg5 arg6 harg6 arg7 harg7 arg8 harg8 arg9 harg9 arg10 harg10 arg11 harg11 arg12 harg12) K := by
  simp only [cc0__in_proj_body_eq_skeleton]; unfold cc0__in_proj_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact (store_read _ _ _ (by decide) _ _).trans (congrArg₂ k0_pay6 (load_read harg12 xs _ (by decide) _) (load_read harg4 x2 _ (by decide) _))
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  · iexists _; isplitr; · ipureintro; exact harg12.read_unread _
    iexact H10

set_option maxHeartbeats 1000000 in
/-- The body at the column block that holds the attention's keys and values: it leaves that block of columns, and the keys and the values transposed. -/
theorem runC
    (hc0 : ¬k0_cond1 i = 1#1) (hc1 : k0_cond2 i = 1#1) (hc2 : k0_cond3 i = 1#1)
    (x0 : Vec F S1024x1024 .f32) (x1 : Vec F S1x1024 .f32) (x2 : Vec F S1x1024x1536 .bf16) (x3 : Vec F S1x1024x128 .bf16) (x4 : Vec F S1x8x1024 .bf16) (y8 : Vec F S1024x128 .f32) (y9 : Vec F S8x1024 .f32) (xs : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare y8 ∗ owns (c : Thread nD τ) arg11 fullShare y9 ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 xs x2) ∗ owns (c : Thread nD τ) arg8 fullShare (k0_pay7 xs x2) ∗ owns (c : Thread nD τ) arg9 fullShare (k0_pay8 xs x2) ∗ owns (c : Thread nD τ) arg10 fullShare y8 ∗ owns (c : Thread nD τ) arg11 fullShare y9 ∗ owns (c : Thread nD τ) arg12 fullShare xs) -∗ K ⟨⟩))
      ⊢ wp frame (wpE (defs₀ (F := F)) Variants.none c none) E (cc0__in_proj_body i arg2 harg2 arg3 harg3 arg4 harg4 arg5 harg5 arg6 harg6 arg7 harg7 arg8 harg8 arg9 harg9 arg10 harg10 arg11 harg11 arg12 harg12) K := by
  simp only [cc0__in_proj_body_eq_skeleton]; unfold cc0__in_proj_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact (store_read _ _ _ (by decide) _ _).trans (congrArg₂ k0_pay6 (load_read harg12 xs _ (by decide) _) (load_read harg4 x2 _ (by decide) _))
  isplitl [H6]
  · iexists _; isplitr; swap; · iexact H6
    ipureintro; exact (store_read _ _ _ (by decide) _ _).trans (congrArg₂ k0_pay7 (load_read harg12 xs _ (by decide) _) (load_read harg4 x2 _ (by decide) _))
  isplitl [H7]
  · iexists _; isplitr; swap; · iexact H7
    ipureintro; exact (store_read _ _ _ (by decide) _ _).trans (congrArg₂ k0_pay8 (load_read harg12 xs _ (by decide) _) (load_read harg4 x2 _ (by decide) _))
  isplitl [H8]
  · iexists _; isplitr; · ipureintro; exact harg10.read_unread _
    iexact H8
  isplitl [H9]
  · iexists _; isplitr; · ipureintro; exact harg11.read_unread _
    iexact H9
  · iexists _; isplitr; · ipureintro; exact harg12.read_unread _
    iexact H10

end

end Cert.Kernel2Ideal.Inp

end
-- ==== Proof.InpFrame.lean ====
module

public import proofs.«01_k».proof.Proof.InpRun
public import Idealize.ShloMosaic.Lib.Pipeline.DatRel
public import Idealize.ShloMosaic.Lib.Pipeline.ArrRel

@[expose] public section

set_option maxRecDepth 16384

noncomputable section

namespace Cert.Kernel2Ideal.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows are normalised at the first column block. -/
theorem hcond1 : ∀ t : Fin cfg0.N, k0_cond1 (grid0.coords t) = 1#1 ↔ t.val % 5 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [k0_cond1, e0, e1]
    word_cmp
   : ∀ t : Fin grid0.N, k0_cond1 (grid0.coords t) = 1#1 ↔ t.val % 5 = 0)

/-- The keys are written at the fourth column block. -/
theorem hcond2 : ∀ t : Fin cfg0.N, k0_cond2 (grid0.coords t) = 1#1 ↔ t.val % 5 = 3 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [k0_cond2, e0, e1]
    word_cmp
   : ∀ t : Fin grid0.N, k0_cond2 (grid0.coords t) = 1#1 ↔ t.val % 5 = 3)

/-- The values are written at the fourth column block. -/
theorem hcond3 : ∀ t : Fin cfg0.N, k0_cond3 (grid0.coords t) = 1#1 ↔ t.val % 5 = 3 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [k0_cond3, e0, e1]
    word_cmp
   : ∀ t : Fin grid0.N, k0_cond3 (grid0.coords t) = 1#1 ↔ t.val % 5 = 3)

/-- The staging memrefs at a point, and the scratch. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x1024 .f32 := win0_9.stage (cfg0.slots t 9)
abbrev hs0_9 (t : Fin cfg0.N) : (ms0_9 t).IsWhole := hstage0_9 ((cfg0.slots t 9).cast nbuf0_9)
abbrev scM0_0 : Memref sig .tc .vmem S1024x1024 .bf16 := Memref.whole cc0_scratch0

theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- The first point of the row of points that position `n` lies in. -/
abbrev rowPt (n : ℕ) (hn : n < cfg0.N) : Fin cfg0.N := ⟨n / 5 * 5, lt_of_le_of_lt (Nat.div_mul_le_self n 5) hn⟩

/-- The row's fourth point, where keys and values are written. -/
abbrev kvPt (n : ℕ) (hn : n < cfg0.N) : Fin cfg0.N := ⟨n / 5 * 5 + 3, by have : cfg0.N = 80 := N_0; omega⟩

theorem rowPt_start (t : Fin cfg0.N) (h : t.val % 5 = 0) : rowPt t.val t.isLt = t := Fin.ext (by show t.val / 5 * 5 = t.val; omega)

theorem kvPt_here (t : Fin cfg0.N) (h : t.val % 5 = 3) : kvPt t.val t.isLt = t := Fin.ext (by show t.val / 5 * 5 + 3 = t.val; omega)

theorem rowPt_step (n : ℕ) (hn : n < cfg0.N) (h : ¬n % 5 = 0) : rowPt (n - 1) (by omega) = rowPt n hn :=
  Fin.ext (by show (n - 1) / 5 * 5 = n / 5 * 5; omega)

theorem kvPt_step (n : ℕ) (hn : n < cfg0.N) (h : ¬n % 5 = 0) : kvPt (n - 1) (by omega) = kvPt n hn :=
  Fin.ext (by show (n - 1) / 5 * 5 + 3 = n / 5 * 5 + 3; omega)

/-- The scratch after the point at position `n`: the row's normalised rows. -/
def XNat (c : Dev nD) (n : ℕ) (hn : n < cfg0.N) : Vec F S1024x1024 .bf16 := k0_pay2 (iblk m c 0 (rowPt n hn)) (iblk m c 1 (rowPt n hn))

theorem XNat_start (c : Dev nD) (t : Fin cfg0.N) (h : t.val % 5 = 0) : XNat m c t.val t.isLt = k0_pay2 (iblk m c 0 t) (iblk m c 1 t) := by
  unfold XNat; rw [rowPt_start t h]

theorem XNat_step (c : Dev nD) (n : ℕ) (hn : n < cfg0.N) (h : ¬n % 5 = 0) : XNat m c (n - 1) (by omega) = XNat m c n hn := by
  unfold XNat; rw [rowPt_step n hn h]

/-- Between points the scratch holds the row's normalised rows; before the first point anything. -/
def PhiS (c : Dev nD) : (n : ℕ) → n ≤ cfg0.N → sProp 𝕄
  | 0, _ => Pipeline.ΦA spec0 c
  | n + 1, hn => iprop(owns (c : Thread nD τ) scM0_0 fullShare (XNat m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (XNat m c n hn) ∗ (∃ r, prngReg c r)) := rfl

theorem PhiS_pos (c : Dev nD) (n : ℕ) (h : n ≤ cfg0.N) (hz : n ≠ 0) :
    PhiS m c n h = iprop(owns (c : Thread nD τ) scM0_0 fullShare (XNat m c (n - 1) (by omega)) ∗ (∃ r, prngReg c r)) := by
  cases n with
  | zero => exact absurd rfl hz
  | succ n => rfl

/-- The proof data: each input's buffer keeps its block; of the outputs' buffers `Rl` says what is known. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ t := PhiS m c t.val (Nat.le_of_lt_succ t.isLt)
  q w := Pipeline.shareOf spec0 w
  owed _ := 0

/-- The windows of which a relation says what they hold: the outputs'. -/
def fgt (w : Fin cfg0.W) : Bool := match w with
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true

/-- What an output's buffer holds after point `t`: the block of columns of the point; the row's keys and values once they are written; the row's two narrow products. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => X = k0_pay6 (XNat m c t.val t.isLt) (iblk m c 2 t)
  | ⟨6, _⟩ => fun X => 3 ≤ t.val % 5 → X = k0_pay7 (XNat m c t.val t.isLt) (iblk m c 2 (kvPt t.val t.isLt))
  | ⟨7, _⟩ => fun X => 3 ≤ t.val % 5 → X = k0_pay8 (XNat m c t.val t.isLt) (iblk m c 2 (kvPt t.val t.isLt))
  | ⟨8, _⟩ => fun X => X = k0_pay3 (iblk m c 0 (rowPt t.val t.isLt)) (iblk m c 1 (rowPt t.val t.isLt)) (iblk m c 3 (rowPt t.val t.isLt))
  | ⟨9, _⟩ => fun X => X = k0_pay4 (iblk m c 0 (rowPt t.val t.isLt)) (iblk m c 1 (rowPt t.val t.isLt)) (iblk m c 4 (rowPt t.val t.isLt))

/-- The proof data with the outputs held to `Rl`. -/
abbrev rdat (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem found6 (c : Dev nD) (t : Fin cfg0.N) (h : ¬t.val % 5 = 0) (Y : Vec F S1x512x1024 .f32) (hY : (rdat m c).Finds 6 t Y) : Rl m c 6 ⟨t.val - 1, by omega⟩ Y := by
  rcases (Pipeline.RDat.finds_of_pos (rdat m c) (w := 6) (t := t) rfl (by omega) Y).mp hY with hf | hl
  · exfalso; have := (flush0_6 ⟨t.val - 1, by omega⟩).mp hf; dsimp only at this; omega
  · exact (dats m 0 c).toRRel_leaves (fgt := fgt) (Rl := Rl m c) rfl hl

theorem found7 (c : Dev nD) (t : Fin cfg0.N) (h : ¬t.val % 5 = 0) (Y : Vec F S1x512x1024 .f32) (hY : (rdat m c).Finds 7 t Y) : Rl m c 7 ⟨t.val - 1, by omega⟩ Y := by
  rcases (Pipeline.RDat.finds_of_pos (rdat m c) (w := 7) (t := t) rfl (by omega) Y).mp hY with hf | hl
  · exfalso; have := (flush0_7 ⟨t.val - 1, by omega⟩).mp hf; dsimp only at this; omega
  · exact (dats m 0 c).toRRel_leaves (fgt := fgt) (Rl := Rl m c) rfl hl

theorem found8 (c : Dev nD) (t : Fin cfg0.N) (h : ¬t.val % 5 = 0) (Y : Vec F S1024x128 .f32) (hY : (rdat m c).Finds 8 t Y) : Rl m c 8 ⟨t.val - 1, by omega⟩ Y := by
  rcases (Pipeline.RDat.finds_of_pos (rdat m c) (w := 8) (t := t) rfl (by omega) Y).mp hY with hf | hl
  · exfalso; have := (flush0_8 ⟨t.val - 1, by omega⟩).mp hf; dsimp only at this; omega
  · exact (dats m 0 c).toRRel_leaves (fgt := fgt) (Rl := Rl m c) rfl hl

theorem found9 (c : Dev nD) (t : Fin cfg0.N) (h : ¬t.val % 5 = 0) (Y : Vec F S8x1024 .f32) (hY : (rdat m c).Finds 9 t Y) : Rl m c 9 ⟨t.val - 1, by omega⟩ Y := by
  rcases (Pipeline.RDat.finds_of_pos (rdat m c) (w := 9) (t := t) rfl (by omega) Y).mp hY with hf | hl
  · exfalso; have := (flush0_9 ⟨t.val - 1, by omega⟩).mp hf; dsimp only at this; omega
  · exact (dats m 0 c).toRRel_leaves (fgt := fgt) (Rl := Rl m c) rfl hl

theorem rl5_start (c : Dev nD) (t : Fin cfg0.N) (h : t.val % 5 = 0) : Rl m c 5 t (k0_pay6 (k0_pay2 (iblk m c 0 t) (iblk m c 1 t)) (iblk m c 2 t)) := by
  show _ = k0_pay6 (XNat m c t.val t.isLt) (iblk m c 2 t)
  rw [XNat_start m c t h]

theorem rl6_early (c : Dev nD) (t : Fin cfg0.N) (h : t.val % 5 < 3) (X : Vec F S1x512x1024 .f32) : Rl m c 6 t X :=
  fun h' => absurd h' (by omega)

theorem rl6_here (c : Dev nD) (t : Fin cfg0.N) (h : t.val % 5 = 3) : Rl m c 6 t (k0_pay7 (XNat m c t.val t.isLt) (iblk m c 2 t)) := by
  intro _
  show _ = k0_pay7 (XNat m c t.val t.isLt) (iblk m c 2 (kvPt t.val t.isLt))
  rw [kvPt_here t h]

theorem rl6_step (c : Dev nD) (t : Fin cfg0.N) (h : ¬t.val % 5 = 0) (h3 : ¬t.val % 5 = 3) (X : Vec F S1x512x1024 .f32)
    (hX : Rl m c 6 ⟨t.val - 1, by omega⟩ X) : Rl m c 6 t X := by
  intro h'
  have e := hX (by show 3 ≤ (t.val - 1) % 5; omega)
  rw [e]
  show k0_pay7 (XNat m c (t.val - 1) _) (iblk m c 2 (kvPt (t.val - 1) _)) = _
  rw [XNat_step m c t.val t.isLt h, kvPt_step t.val t.isLt h]

theorem rl7_early (c : Dev nD) (t : Fin cfg0.N) (h : t.val % 5 < 3) (X : Vec F S1x512x1024 .f32) : Rl m c 7 t X :=
  fun h' => absurd h' (by omega)

theorem rl7_here (c : Dev nD) (t : Fin cfg0.N) (h : t.val % 5 = 3) : Rl m c 7 t (k0_pay8 (XNat m c t.val t.isLt) (iblk m c 2 t)) := by
  intro _
  show _ = k0_pay8 (XNat m c t.val t.isLt) (iblk m c 2 (kvPt t.val t.isLt))
  rw [kvPt_here t h]

theorem rl7_step (c : Dev nD) (t : Fin cfg0.N) (h : ¬t.val % 5 = 0) (h3 : ¬t.val % 5 = 3) (X : Vec F S1x512x1024 .f32)
    (hX : Rl m c 7 ⟨t.val - 1, by omega⟩ X) : Rl m c 7 t X := by
  intro h'
  have e := hX (by show 3 ≤ (t.val - 1) % 5; omega)
  rw [e]
  show k0_pay8 (XNat m c (t.val - 1) _) (iblk m c 2 (kvPt (t.val - 1) _)) = _
  rw [XNat_step m c t.val t.isLt h, kvPt_step t.val t.isLt h]

theorem rl8_start (c : Dev nD) (t : Fin cfg0.N) (h : t.val % 5 = 0) : Rl m c 8 t (k0_pay3 (iblk m c 0 t) (iblk m c 1 t) (iblk m c 3 t)) := by
  show _ = k0_pay3 (iblk m c 0 (rowPt t.val t.isLt)) (iblk m c 1 (rowPt t.val t.isLt)) (iblk m c 3 (rowPt t.val t.isLt))
  rw [rowPt_start t h]

theorem rl8_step (c : Dev nD) (t : Fin cfg0.N) (h : ¬t.val % 5 = 0) (X : Vec F S1024x128 .f32)
    (hX : Rl m c 8 ⟨t.val - 1, by omega⟩ X) : Rl m c 8 t X := by
  have e : X = k0_pay3 (iblk m c 0 (rowPt (t.val - 1) (by omega))) (iblk m c 1 (rowPt (t.val - 1) (by omega))) (iblk m c 3 (rowPt (t.val - 1) (by omega))) := hX
  rw [e, rowPt_step t.val t.isLt h]
  exact rfl

theorem rl9_start (c : Dev nD) (t : Fin cfg0.N) (h : t.val % 5 = 0) : Rl m c 9 t (k0_pay4 (iblk m c 0 t) (iblk m c 1 t) (iblk m c 4 t)) := by
  show _ = k0_pay4 (iblk m c 0 (rowPt t.val t.isLt)) (iblk m c 1 (rowPt t.val t.isLt)) (iblk m c 4 (rowPt t.val t.isLt))
  rw [rowPt_start t h]

theorem rl9_step (c : Dev nD) (t : Fin cfg0.N) (h : ¬t.val % 5 = 0) (X : Vec F S8x1024 .f32)
    (hX : Rl m c 9 ⟨t.val - 1, by omega⟩ X) : Rl m c 9 t X := by
  have e : X = k0_pay4 (iblk m c 0 (rowPt (t.val - 1) (by omega))) (iblk m c 1 (rowPt (t.val - 1) (by omega))) (iblk m c 4 (rowPt (t.val - 1) (by omega))) := hX
  rw [e, rowPt_step t.val t.isLt h]
  exact rfl

/-- What the body is called with at point `t`, window by window. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ Y, ⌜(rdat m c).Finds 5 t Y⌝ ∗ owns (c : Thread nD τ) (ms0_5 t) fullShare Y) ∗ (∃ Y, ⌜(rdat m c).Finds 6 t Y⌝ ∗ owns (c : Thread nD τ) (ms0_6 t) fullShare Y) ∗ (∃ Y, ⌜(rdat m c).Finds 7 t Y⌝ ∗ owns (c : Thread nD τ) (ms0_7 t) fullShare Y) ∗ (∃ Y, ⌜(rdat m c).Finds 8 t Y⌝ ∗ owns (c : Thread nD τ) (ms0_8 t) fullShare Y) ∗ (∃ Y, ⌜(rdat m c).Finds 9 t Y⌝ ∗ owns (c : Thread nD τ) (ms0_9 t) fullShare Y))

/-- What it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ (∃ X, ⌜Rl m c 5 t X⌝ ∗ owns (c : Thread nD τ) (ms0_5 t) fullShare X) ∗ (∃ X, ⌜Rl m c 6 t X⌝ ∗ owns (c : Thread nD τ) (ms0_6 t) fullShare X) ∗ (∃ X, ⌜Rl m c 7 t X⌝ ∗ owns (c : Thread nD τ) (ms0_7 t) fullShare X) ∗ (∃ X, ⌜Rl m c 8 t X⌝ ∗ owns (c : Thread nD τ) (ms0_8 t) fullShare X) ∗ (∃ X, ⌜Rl m c 9 t X⌝ ∗ owns (c : Thread nD τ) (ms0_9 t) fullShare X))

set_option maxHeartbeats 1600000 in
/-- The body at any point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ, PhiS_castSucc m c t]
  by_cases h0 : t.val % 5 = 0
  · rw [XNat_start m c t h0]
    have hE : PhiS m c t.val (Nat.le_of_lt t.isLt) ⊢ iprop((∃ d, owns (c : Thread nD τ) scM0_0 fullShare d) ∗ (∃ r, prngReg c r)) := by
      by_cases hz : t.val = 0
      · rw [PhiS_zero m c _ _ hz, PhiA0_eq]
      · rw [PhiS_pos m c _ _ hz]
        iintro ⟨HS, Hg⟩
        isplitl [HS]; · iexists _; iexact HS
        iexact Hg
    refine (sep_mono hE .rfl).trans ?_
    iintro ⟨⟨⟨%g, HS⟩, Hg⟩, Ho, ⟨%d0, H0⟩, ⟨%d1, H1⟩, ⟨%d2, H2⟩, ⟨%d3, H3⟩, ⟨%d4, H4⟩, ⟨%Y5, %hY5, H5⟩, ⟨%Y6, %hY6, H6⟩, ⟨%Y7, %hY7, H7⟩, ⟨%Y8, %hY8, H8⟩, ⟨%Y9, %hY9, H9⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond1 t).mpr h0) (fun h => by have := (hcond2 t).mp h; omega) (fun h => by have := (hcond3 t).mp h; omega) (iblk m c 0 t) (iblk m c 1 t) (iblk m c 2 t) (iblk m c 3 t) (iblk m c 4 t) Y6 Y7 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    isplitl [H9]; · iexists _; iexact H9
    isplitl [HS]; · iexists _; iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact rl5_start m c t h0
    isplitl [H6]
    · iexists _; isplitr; swap; · iexact H6
      ipureintro; exact rl6_early m c t (by omega) _
    isplitl [H7]
    · iexists _; isplitr; swap; · iexact H7
      ipureintro; exact rl7_early m c t (by omega) _
    isplitl [H8]
    · iexists _; isplitr; swap; · iexact H8
      ipureintro; exact rl8_start m c t h0
    iexists _; isplitr; swap; · iexact H9
    ipureintro; exact rl9_start m c t h0
  · rw [PhiS_pos m c _ _ (by omega), XNat_step m c t.val t.isLt h0]
    by_cases h3 : t.val % 5 = 3
    · iintro ⟨⟨HS, Hg⟩, Ho, ⟨%d0, H0⟩, ⟨%d1, H1⟩, ⟨%d2, H2⟩, ⟨%d3, H3⟩, ⟨%d4, H4⟩, ⟨%Y5, %hY5, H5⟩, ⟨%Y6, %hY6, H6⟩, ⟨%Y7, %hY7, H7⟩, ⟨%Y8, %hY8, H8⟩, ⟨%Y9, %hY9, H9⟩⟩
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond1 t).mp h)) ((hcond2 t).mpr h3) ((hcond3 t).mpr h3) (iblk m c 0 t) (iblk m c 1 t) (iblk m c 2 t) (iblk m c 3 t) (iblk m c 4 t) Y8 Y9 (XNat m c t.val t.isLt) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [H9]; · iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact rfl
      isplitl [H6]
      · iexists _; isplitr; swap; · iexact H6
        ipureintro; exact rl6_here m c t h3
      isplitl [H7]
      · iexists _; isplitr; swap; · iexact H7
        ipureintro; exact rl7_here m c t h3
      isplitl [H8]
      · iexists _; isplitr; swap; · iexact H8
        ipureintro; exact rl8_step m c t h0 _ (found8 m c t h0 _ hY8)
      iexists _; isplitr; swap; · iexact H9
      ipureintro; exact rl9_step m c t h0 _ (found9 m c t h0 _ hY9)
    · iintro ⟨⟨HS, Hg⟩, Ho, ⟨%d0, H0⟩, ⟨%d1, H1⟩, ⟨%d2, H2⟩, ⟨%d3, H3⟩, ⟨%d4, H4⟩, ⟨%Y5, %hY5, H5⟩, ⟨%Y6, %hY6, H6⟩, ⟨%Y7, %hY7, H7⟩, ⟨%Y8, %hY8, H8⟩, ⟨%Y9, %hY9, H9⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond1 t).mp h)) (fun h => h3 ((hcond2 t).mp h)) (fun h => h3 ((hcond3 t).mp h)) (iblk m c 0 t) (iblk m c 1 t) (iblk m c 2 t) (iblk m c 3 t) (iblk m c 4 t) Y6 Y7 Y8 Y9 (XNat m c t.val t.isLt) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact rfl
      isplitl [H6]
      · iexists _; isplitr; swap; · iexact H6
        ipureintro; exact rl6_step m c t h0 h3 _ (found6 m c t h0 _ hY6)
      isplitl [H7]
      · iexists _; isplitr; swap; · iexact H7
        ipureintro; exact rl7_step m c t h0 h3 _ (found7 m c t h0 _ hY7)
      isplitl [H8]
      · iexists _; isplitr; swap; · iexact H8
        ipureintro; exact rl8_step m c t h0 _ (found8 m c t h0 _ hY8)
      iexists _; isplitr; swap; · iexact H9
      ipureintro; exact rl9_step m c t h0 _ (found9 m c t h0 _ hY9)

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 (Nat.zero_le _) from rfl, PhiS_zero m c 0 _ rfl]

theorem hout (c : Dev nD) : (rdat m c).Φ (Fin.last cfg0.N) ⊢ Pipeline.ΦA spec0 c := by
  rw [show (rdat m c).Φ (Fin.last cfg0.N) = PhiS m c cfg0.N le_rfl from rfl, PhiS_pos m c _ _ (by have : cfg0.N = 80 := N_0; omega), PhiA0_eq]
  iintro ⟨HS, Hg⟩
  isplitl [HS]; · iexists _; iexact HS
  iexact Hg

set_option backward.isDefEq.respectTransparency.types false in
/-- Every execution terminates; the arrays end as the proof data says; the counters at zero. -/
theorem run_main_quiescent : θ_run defs (onTc (τ := τ) (main (F := F))) (s₀ m ρ) (fun r => (Pipeline.RDat.FramePost cfg0 (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c w => by fin_cases w <;> rfl)
    (howed := fun _ _ => rfl) (V := V m) (hmain := hmain m Variants.none) (hA := fun c w => A_eq m c w) (hin := hin m) (hout := hout m)

/-- The frame at any float model: every execution terminates, the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(Pipeline.RDat.FramePost.arr_in h.1 c 0 rfl).trans ((A_eq m c 0).trans (V_main_arg0 m c)),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩, h.2⟩)
    (run_main_quiescent m ρ)

end Cert.Kernel2Ideal.Inp

end
-- ==== Proof.KinFrame.lean ====
module

public import proofs.«01_k».proof.Proof.InpFrame
public import proofs.«01_k».proof.Defs
public import proofs.«01_k».proof.Proof.Gen.Kernel2

@[expose] public section

noncomputable section

namespace Cert.Kernel2.Inp
open Idealize.ShloMosaic

/-- The body tables of the kernel as compiled and of its ideal form are the same. -/
theorem defs₀_eq : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => funext fun a => ?_)
  match l, a with
  | ⟨0, _⟩, (_, _) => rfl

/-- And so are the tables with the pipelines. -/
theorem defs_eq : @Cert.Kernel2.defs Bits _ Cert.Kernel2.Gen.facts = @Cert.Kernel2Ideal.defs Bits _ Cert.Kernel2Ideal.Gen.facts :=
  congrArg (Pipeline.defs (@Cert.Kernel2Ideal.pcfgs Bits Cert.Kernel2Ideal.Gen.facts)) defs₀_eq

/-- The kernel as compiled is the ideal one, term by term, so the frame is the same. -/
theorem frame : @Cert.quiescent_Kernel2 Cert.Kernel2.Gen.facts := fun m ρ _ =>
  Eq.mpr (congrArg (fun D => θ_run D (onTc (τ := Cert.Kernel2Ideal.τ) (Cert.Kernel2Ideal.main (F := Bits))) ⟨m, fun _ => 0, ρ⟩ _) defs_eq) (Cert.Kernel2Ideal.Inp.frame (F := Bits) m ρ)

end Cert.Kernel2.Inp

end
-- ==== Proof.InpSpec.lean ====
module

public import Idealize.ShloMosaic.Lib.Pointwise

@[expose] public section

noncomputable section

namespace Cert.Kernel2Ideal.Inp

open Idealize.ShloMosaic

/-- The column of the weights that lands in column `e` of the packed product: the gates first, then the other parts in their order, without the two narrow ones. -/
def perm (e : ℕ) : ℕ := if e < 3072 then 4632 + e else if e < 4096 then e - 3072 else if e < 6144 then e - 3056 else e - 3048

theorem perm_cases (e : ℕ) : (e < 3072 ∧ perm e = 4632 + e) ∨ (3072 ≤ e ∧ e < 4096 ∧ perm e = e - 3072) ∨ (4096 ≤ e ∧ e < 6144 ∧ perm e = e - 3056) ∨ (6144 ≤ e ∧ perm e = e - 3048) := by
  unfold perm; split_ifs <;> omega

theorem perm_lt (e : Fin 7680) : perm e.val < 7704 := by have := perm_cases e.val; omega

/-- Eleven parts side by side, read at a column. -/
theorem ladder (f : Fin 7704 → EReal) (e : Fin 7680) :
    (if h : e.val < 3072 then f ⟨4632 + e.val, by omega⟩ else if h : e.val - 3072 < 256 then f ⟨e.val - 3072, by omega⟩ else if h : e.val - 3072 - 256 < 256 then f ⟨256 + (e.val - 3072 - 256), by omega⟩ else if h : e.val - 3072 - 256 - 256 < 512 then f ⟨512 + (e.val - 3072 - 256 - 256), by omega⟩ else if h : e.val - 3072 - 256 - 256 - 512 < 512 then f ⟨1040 + (e.val - 3072 - 256 - 256 - 512), by omega⟩ else if h : e.val - 3072 - 256 - 256 - 512 - 512 < 512 then f ⟨1552 + (e.val - 3072 - 256 - 256 - 512 - 512), by omega⟩ else if h : e.val - 3072 - 256 - 256 - 512 - 512 - 512 < 512 then f ⟨2064 + (e.val - 3072 - 256 - 256 - 512 - 512 - 512), by omega⟩ else if h : e.val - 3072 - 256 - 256 - 512 - 512 - 512 - 512 < 512 then f ⟨2576 + (e.val - 3072 - 256 - 256 - 512 - 512 - 512 - 512), by omega⟩ else if h : e.val - 3072 - 256 - 256 - 512 - 512 - 512 - 512 - 512 < 512 then f ⟨3096 + (e.val - 3072 - 256 - 256 - 512 - 512 - 512 - 512 - 512), by omega⟩ else if h : e.val - 3072 - 256 - 256 - 512 - 512 - 512 - 512 - 512 - 512 < 512 then f ⟨3608 + (e.val - 3072 - 256 - 256 - 512 - 512 - 512 - 512 - 512 - 512), by omega⟩ else f ⟨4120 + (e.val - 3072 - 256 - 256 - 512 - 512 - 512 - 512 - 512 - 512 - 512), by omega⟩) = f ⟨perm e.val, perm_lt e⟩ := by
  have hp := perm_cases e.val
  by_cases h0 : e.val < 3072
  · rw [dif_pos h0]; exact congrArg f (Fin.ext (by dsimp only; omega))
  rw [dif_neg h0]
  by_cases h1 : e.val - 3072 < 256
  · rw [dif_pos h1]; exact congrArg f (Fin.ext (by dsimp only; omega))
  rw [dif_neg h1]
  by_cases h2 : e.val - 3072 - 256 < 256
  · rw [dif_pos h2]; exact congrArg f (Fin.ext (by dsimp only; omega))
  rw [dif_neg h2]
  by_cases h3 : e.val - 3072 - 256 - 256 < 512
  · rw [dif_pos h3]; exact congrArg f (Fin.ext (by dsimp only; omega))
  rw [dif_neg h3]
  by_cases h4 : e.val - 3072 - 256 - 256 - 512 < 512
  · rw [dif_pos h4]; exact congrArg f (Fin.ext (by dsimp only; omega))
  rw [dif_neg h4]
  by_cases h5 : e.val - 3072 - 256 - 256 - 512 - 512 < 512
  · rw [dif_pos h5]; exact congrArg f (Fin.ext (by dsimp only; omega))
  rw [dif_neg h5]
  by_cases h6 : e.val - 3072 - 256 - 256 - 512 - 512 - 512 < 512
  · rw [dif_pos h6]; exact congrArg f (Fin.ext (by dsimp only; omega))
  rw [dif_neg h6]
  by_cases h7 : e.val - 3072 - 256 - 256 - 512 - 512 - 512 - 512 < 512
  · rw [dif_pos h7]; exact congrArg f (Fin.ext (by dsimp only; omega))
  rw [dif_neg h7]
  by_cases h8 : e.val - 3072 - 256 - 256 - 512 - 512 - 512 - 512 - 512 < 512
  · rw [dif_pos h8]; exact congrArg f (Fin.ext (by dsimp only; omega))
  rw [dif_neg h8]
  by_cases h9 : e.val - 3072 - 256 - 256 - 512 - 512 - 512 - 512 - 512 - 512 < 512
  · rw [dif_pos h9]; exact congrArg f (Fin.ext (by dsimp only; omega))
  rw [dif_neg h9]
  exact congrArg f (Fin.ext (by dsimp only; omega))

/-- Two narrow parts side by side with zeros behind, read at a column. -/
theorem ladder_small (f : Fin 7704 → EReal) (j : Fin 128) :
    (if h : j.val < 16 then f ⟨1024 + j.val, by omega⟩ else if h : j.val - 16 < 8 then f ⟨3088 + (j.val - 16), by omega⟩ else (0 : EReal))
      = if h : j.val < 16 then f ⟨1024 + j.val, by omega⟩ else if h : j.val < 24 then f ⟨3072 + j.val, by omega⟩ else 0 := by
  by_cases h0 : j.val < 16
  · rw [dif_pos h0, dif_pos h0]
  rw [dif_neg h0, dif_neg h0]
  by_cases h1 : j.val < 24
  · rw [dif_pos h1, dif_pos (by omega)]; exact congrArg f (Fin.ext (by dsimp only; omega))
  rw [dif_neg h1, dif_neg (by omega)]

/-- The scaled, normalised entry of a row. -/
def normed (x g : Fin 1024 → EReal) (k : Fin 1024) : EReal :=
  x k * (Ideal.rsqrt (Ideal.div (∑ i : Fin 1024, x i * x i) (Ideal.ofBits .f32 0x44800000#32) + Ideal.ofBits .f32 0x358637BD#32)) * g k

/-- A normalised row times a column of weights. -/
def prod (x g w : Fin 1024 → EReal) : EReal := ∑ k : Fin 1024, normed x g k * w k

end Cert.Kernel2Ideal.Inp

end
-- ==== Proof.InpPack.lean ====
module

public import proofs.«01_k».proof.Proof.InpSpec
public import proofs.«01_k».proof.Proof.Gen.Kernel2Ideal.Frame
public import Idealize.ShloMosaic.Lib.Pointwise
public import Idealize.ShloMosaic.Lib.Pipeline.ValueKit

@[expose] public section

set_option maxRecDepth 16384

noncomputable section

namespace Cert.Kernel2Ideal.Inp

open Idealize.ShloMosaic Idealize.ShloMosaic.TcCoe Idealize.SL.Sem
open Cert.Kernel2Ideal Cert.Kernel2Ideal.Gen

/-- The packed weights of an array of weights. -/
def packed (w : FVec Ideal S2x1024x7704 .f32) : FVec Ideal S2x1024x7680 .bf16 := truncf .bf16 (concatenate S2x1024x7680 2 [⟨S2x1024x3072, extractStridedSlice S2x1024x3072 ![0, 0, 4632] w slices_S2x1024x7704_S2x1024x3072_0_0_4632⟩, ⟨S2x1024x256, extractStridedSlice S2x1024x256 ![0, 0, 0] w slices_S2x1024x7704_S2x1024x256_0_0_0⟩, ⟨S2x1024x256, extractStridedSlice S2x1024x256 ![0, 0, 256] w slices_S2x1024x7704_S2x1024x256_0_0_256⟩, ⟨S2x1024x512, extractStridedSlice S2x1024x512 ![0, 0, 512] w slices_S2x1024x7704_S2x1024x512_0_0_512⟩, ⟨S2x1024x512, extractStridedSlice S2x1024x512 ![0, 0, 1040] w slices_S2x1024x7704_S2x1024x512_0_0_1040⟩, ⟨S2x1024x512, extractStridedSlice S2x1024x512 ![0, 0, 1552] w slices_S2x1024x7704_S2x1024x512_0_0_1552⟩, ⟨S2x1024x512, extractStridedSlice S2x1024x512 ![0, 0, 2064] w slices_S2x1024x7704_S2x1024x512_0_0_2064⟩, ⟨S2x1024x512, extractStridedSlice S2x1024x512 ![0, 0, 2576] w slices_S2x1024x7704_S2x1024x512_0_0_2576⟩, ⟨S2x1024x512, extractStridedSlice S2x1024x512 ![0, 0, 3096] w slices_S2x1024x7704_S2x1024x512_0_0_3096⟩, ⟨S2x1024x512, extractStridedSlice S2x1024x512 ![0, 0, 3608] w slices_S2x1024x7704_S2x1024x512_0_0_3608⟩, ⟨S2x1024x512, extractStridedSlice S2x1024x512 ![0, 0, 4120] w slices_S2x1024x7704_S2x1024x512_0_0_4120⟩] concatenates_S2x1024x3072_S2x1024x256_S2x1024x256_S2x1024x512_S2x1024x512_S2x1024x512_S2x1024x512_S2x1024x512_S2x1024x512_S2x1024x512_S2x1024x512_S2x1024x7680_d2) bitsLt_bf16_f32

/-- The packed weights, column by column. -/
theorem packed_at (w : FVec Ideal S2x1024x7704 .f32) (k : Fin 1024) (e : Fin 7680) :
    (packed w (ix3 0 k e) : EReal) = w (ix3 0 k ⟨perm e.val, perm_lt e⟩) := by
  pointwise [packed]
  exact ladder (fun j => w (ix3 0 k j)) e

/-- The narrow weights of an array of weights. -/
def narrow (w : FVec Ideal S2x1024x7704 .f32) : FVec Ideal S2x1024x128 .bf16 := truncf .bf16 (concatenate S2x1024x128 2 [⟨S2x1024x16, extractStridedSlice S2x1024x16 ![0, 0, 1024] w slices_S2x1024x7704_S2x1024x16_0_0_1024⟩, ⟨S2x1024x8, extractStridedSlice S2x1024x8 ![0, 0, 3088] w slices_S2x1024x7704_S2x1024x8_0_0_3088⟩, ⟨S2x1024x104, broadcastInDim S2x1024x104 ![] bcast_S_S2x1024x104 (constant S_ .f32 0x00000000#32)⟩] concatenates_S2x1024x16_S2x1024x8_S2x1024x104_S2x1024x128_d2) bitsLt_bf16_f32

/-- The narrow weights, column by column. -/
theorem narrow_at (w : FVec Ideal S2x1024x7704 .f32) (k : Fin 1024) (j : Fin 128) :
    (narrow w (ix3 0 k j) : EReal) = if h : j.val < 16 then w (ix3 0 k ⟨1024 + j.val, by omega⟩)
      else if h : j.val < 24 then w (ix3 0 k ⟨3072 + j.val, by omega⟩) else (0 : EReal) := by
  pointwise [narrow]
  exact ladder_small (fun j => w (ix3 0 k j)) j

variable (m : (ℓ : Loc nD τ sig) → Buf (Elt Ideal) ℓ)

set_option maxHeartbeats 1600000 in
/-- What the host line writes as the packed weights. -/
theorem entry_packed (c : Dev nD) : V m c main_v14 = packed (m ((c : Thread nD τ).loc main_arg2)) := by
  show StableHlo.after _ _ _ = _
  after_results_simp <;> (try dsimp only [Matrix.cons_val]) <;> (try after_results_simp) <;> rfl

set_option maxHeartbeats 1600000 in
/-- What the host line writes as the narrow weights. -/
theorem entry_narrow (c : Dev nD) : V m c main_v17 = narrow (m ((c : Thread nD τ).loc main_arg2)) := by
  show StableHlo.after _ _ _ = _
  after_results_simp <;> (try dsimp only [Matrix.cons_val]) <;> (try after_results_simp) <;> rfl

end Cert.Kernel2Ideal.Inp

end
-- ==== Proof.InpBlock.lean ====
module

public import proofs.«01_k».proof.Proof.InpFrame
public import proofs.«01_k».proof.Proof.InpPack
public import Idealize.ShloMosaic.Lib.Pointwise
public import Idealize.ShloMosaic.Lib.Pipeline.ValueKit

@[expose] public section

set_option maxRecDepth 16384

noncomputable section

namespace Cert.Kernel2Ideal.Inp

open Idealize.ShloMosaic Idealize.ShloMosaic.TcCoe Idealize.SL.Sem
open Cert.Kernel2Ideal Cert.Kernel2Ideal.Gen

variable (m : (ℓ : Loc nD τ sig) → Buf (Elt Ideal) ℓ)

/-- The windows' block indices at each point. -/
theorem idx : ∀ t : Fin cfg0.N, win0_0.index t = ![t.val / 5, 0] ∧ win0_1.index t = ![0, 0] ∧ win0_2.index t = ![0, 0, t.val % 5]
    ∧ win0_3.index t = ![0, 0, 0] ∧ win0_4.index t = ![0, 0, 0] ∧ win0_5.index t = ![t.val / 5, t.val % 5]
    ∧ win0_6.index t = ![t.val / 40, 0, t.val / 5 % 8] ∧ win0_7.index t = ![t.val / 40, 0, t.val / 5 % 8]
    ∧ win0_8.index t = ![t.val / 5, 0] ∧ win0_9.index t = ![0, t.val / 5] :=
  (by decide +kernel : ∀ t : Fin grid0.N, _)

theorem lt80 (t : Fin cfg0.N) : t.val < 80 := t.isLt

/-- The rows' block. -/
theorem blk0 (c : Dev nD) (t : Fin cfg0.N) (q k : Fin 1024) :
    iblk m c 0 t (ix2 q k) = m ((c : Thread nD τ).loc main_arg0) (ix2 ⟨t.val / 5 * 1024 + q.val, by have := lt80 t; omega⟩ k) := by
  blk_ext [iblk, V, idx t]
/-- The scales, before the blocks. -/
theorem entry1 (c : Dev nD) (k : Fin 1024) : V m c main_v22 (ix2 0 k) = m ((c : Thread nD τ).loc main_arg1) (ix2 0 k) := by
  entry_read
  pointwise
/-- The block of scales. -/
theorem blk1 (c : Dev nD) (t : Fin cfg0.N) (k : Fin 1024) :
    iblk m c 1 t (ix2 0 k) = m ((c : Thread nD τ).loc main_arg1) (ix2 0 k) := by
  refine Eq.trans ?_ (entry1 m c k)
  blk_ext [iblk, idx t]

/-- The packed weights, column by column. -/
theorem entry2 (c : Dev nD) (k : Fin 1024) (e : Fin 7680) :
    V m c main_v14 (ix3 0 k e) = m ((c : Thread nD τ).loc main_arg2) (ix3 0 k ⟨perm e.val, perm_lt e⟩) := by
  rw [entry_packed]; exact packed_at _ k e

/-- The narrow weights, column by column. -/
theorem entry3 (c : Dev nD) (k : Fin 1024) (j : Fin 128) :
    (V m c main_v17 (ix3 0 k j) : EReal) = if h : j.val < 16 then m ((c : Thread nD τ).loc main_arg2) (ix3 0 k ⟨1024 + j.val, by omega⟩)
      else if h : j.val < 24 then m ((c : Thread nD τ).loc main_arg2) (ix3 0 k ⟨3072 + j.val, by omega⟩) else (0 : EReal) := by
  rw [entry_narrow]; exact narrow_at _ k j

/-- The weights of a block of columns. -/
theorem blk2 (c : Dev nD) (t : Fin cfg0.N) (k : Fin 1024) (j : Fin 1536) :
    iblk m c 2 t (ix3 0 k j) = m ((c : Thread nD τ).loc main_arg2) (ix3 0 k ⟨perm (t.val % 5 * 1536 + j.val), perm_lt ⟨t.val % 5 * 1536 + j.val, by omega⟩⟩) := by
  refine Eq.trans ?_ (entry2 m c k ⟨t.val % 5 * 1536 + j.val, by omega⟩)
  blk_ext [iblk, idx t]

/-- The block of narrow weights. -/
theorem blk3 (c : Dev nD) (t : Fin cfg0.N) (k : Fin 1024) (j : Fin 128) :
    (iblk m c 3 t (ix3 0 k j) : EReal) = if h : j.val < 16 then m ((c : Thread nD τ).loc main_arg2) (ix3 0 k ⟨1024 + j.val, by omega⟩)
      else if h : j.val < 24 then m ((c : Thread nD τ).loc main_arg2) (ix3 0 k ⟨3072 + j.val, by omega⟩) else (0 : EReal) := by
  refine Eq.trans ?_ (entry3 m c k j)
  blk_ext [iblk, idx t]

/-- The forget gates' weights, before the blocks. -/
theorem entry4 (c : Dev nD) (h : Fin 8) (k : Fin 1024) : V m c main_v19 (ix3 0 h k) = m ((c : Thread nD τ).loc main_arg2) (ix3 0 k ⟨3088 + h.val, by omega⟩) := by
  entry_read
  pointwise
/-- The forget gates' weights. -/
theorem blk4 (c : Dev nD) (t : Fin cfg0.N) (h : Fin 8) (k : Fin 1024) :
    iblk m c 4 t (ix3 0 h k) = m ((c : Thread nD τ).loc main_arg2) (ix3 0 k ⟨3088 + h.val, by omega⟩) := by
  refine Eq.trans ?_ (entry4 m c h k)
  blk_ext [iblk, idx t]

end Cert.Kernel2Ideal.Inp

end
-- ==== Proof.InpPay.lean ====
module

public import proofs.«01_k».proof.Proof.InpSpec
public import proofs.«01_k».proof.Proof.Gen.Kernel2Ideal.Skeleton
public import Idealize.ShloMosaic.Lib.Pointwise
public import Idealize.ShloMosaic.Lib.Pipeline.ValueKit

@[expose] public section

set_option maxRecDepth 16384

noncomputable section

namespace Cert.Kernel2Ideal.Inp

open Idealize.ShloMosaic Idealize.ShloMosaic.TcCoe Idealize.SL.Sem
open Cert.Kernel2Ideal Cert.Kernel2Ideal.Gen

/-- A row of the scratch: the normalised row. -/
theorem pay1_at (x : Vec Ideal S1024x1024 .f32) (g : Vec Ideal S1x1024 .f32) (q k : Fin 1024) :
    (k0_pay1 x g (ix2 q k) : EReal) = normed (fun k => x (ix2 q k)) (fun k => g (ix2 0 k)) k := by
  unfold normed
  pointwise [k0_pay1]

theorem pay2_at (x : Vec Ideal S1024x1024 .f32) (g : Vec Ideal S1x1024 .f32) (q k : Fin 1024) :
    (k0_pay2 x g (ix2 q k) : EReal) = normed (fun k => x (ix2 q k)) (fun k => g (ix2 0 k)) k := by
  unfold normed
  pointwise [k0_pay2, k0_pay1]

/-- The narrow product. -/
theorem pay3_at (x : Vec Ideal S1024x1024 .f32) (g : Vec Ideal S1x1024 .f32) (w : Vec Ideal S1x1024x128 .bf16) (q : Fin 1024) (j : Fin 128) :
    (k0_pay3 x g w (ix2 q j) : EReal) = prod (fun k => x (ix2 q k)) (fun k => g (ix2 0 k)) (fun k => w (ix3 0 k j)) := by
  unfold prod
  refine Eq.trans (b := ∑ k : Fin 1024, (k0_pay1 x g (ix2 q k) : EReal) * w (ix3 0 k j)) ?_ (Finset.sum_congr rfl fun k _ => by rw [pay1_at])
  pointwise [k0_pay3]

/-- The forget gates' product. -/
theorem pay4_at (x : Vec Ideal S1024x1024 .f32) (g : Vec Ideal S1x1024 .f32) (w : Vec Ideal S1x8x1024 .bf16) (h : Fin 8) (q : Fin 1024) :
    (k0_pay4 x g w (ix2 h q) : EReal) = prod (fun k => x (ix2 q k)) (fun k => g (ix2 0 k)) (fun k => w (ix3 0 h k)) := by
  unfold prod
  refine Eq.trans (b := ∑ k : Fin 1024, (w (ix3 0 h k) : EReal) * k0_pay1 x g (ix2 q k)) ?_ (Finset.sum_congr rfl fun k _ => by rw [pay1_at, mul_comm])
  pointwise [k0_pay4]

/-- The packed product. -/
theorem pay6_at (xs : Vec Ideal S1024x1024 .bf16) (w : Vec Ideal S1x1024x1536 .bf16) (q : Fin 1024) (j : Fin 1536) :
    (k0_pay6 xs w (ix2 q j) : EReal) = ∑ k : Fin 1024, (xs (ix2 q k) : EReal) * w (ix3 0 k j) := by
  pointwise [k0_pay6, k0_pay5]

/-- The keys. -/
theorem pay7_at (xs : Vec Ideal S1024x1024 .bf16) (w : Vec Ideal S1x1024x1536 .bf16) (d : Fin 512) (q : Fin 1024) :
    (k0_pay7 xs w (ix3 0 d q) : EReal) = ∑ k : Fin 1024, (xs (ix2 q k) : EReal) * w (ix3 0 k ⟨512 + d.val, by omega⟩) := by
  pointwise [k0_pay7, k0_pay5]

/-- The values. -/
theorem pay8_at (xs : Vec Ideal S1024x1024 .bf16) (w : Vec Ideal S1x1024x1536 .bf16) (d : Fin 512) (q : Fin 1024) :
    (k0_pay8 xs w (ix3 0 d q) : EReal) = ∑ k : Fin 1024, (xs (ix2 q k) : EReal) * w (ix3 0 k ⟨1024 + d.val, by omega⟩) := by
  pointwise [k0_pay8, k0_pay5]
end Cert.Kernel2Ideal.Inp

end
-- ==== Proof.InpOut.lean ====
module

public import proofs.«01_k».proof.Proof.InpBlock
public import proofs.«01_k».proof.Proof.InpPay

@[expose] public section

set_option maxRecDepth 16384

noncomputable section

namespace Cert.Kernel2Ideal.Inp

open Idealize.ShloMosaic Idealize.ShloMosaic.TcCoe Idealize.SL.Sem
open Cert.Kernel2Ideal Cert.Kernel2Ideal.Gen

/-- The product of the normalised rows with the first layer's weights, by row and column. -/
def zAt (x0 : FVec Ideal S16384x1024 .f32) (x1 : FVec Ideal S2x1024 .f32) (x2 : FVec Ideal S2x1024x7704 .f32) (r : Fin 16384) (e : Fin 7704) : EReal :=
  prod (fun k => x0 (ix2 r k)) (fun k => x1 (ix2 0 k)) (fun k => x2 (ix3 0 k e))

/-- The same by numbers, zero outside. -/
def zN (x0 : FVec Ideal S16384x1024 .f32) (x1 : FVec Ideal S2x1024 .f32) (x2 : FVec Ideal S2x1024x7704 .f32) (r e : ℕ) : EReal := if h : r < 16384 ∧ e < 7704 then zAt x0 x1 x2 ⟨r, h.1⟩ ⟨e, h.2⟩ else 0
theorem zN_of (x0 : FVec Ideal S16384x1024 .f32) (x1 : FVec Ideal S2x1024 .f32) (x2 : FVec Ideal S2x1024x7704 .f32) (r : Fin 16384) (e : Fin 7704) : zAt x0 x1 x2 r e = zN x0 x1 x2 r.val e.val := by
  unfold zN; rw [dif_pos ⟨r.isLt, e.isLt⟩]

/-- The packed product. -/
def out0 (x0 : FVec Ideal S16384x1024 .f32) (x1 : FVec Ideal S2x1024 .f32) (x2 : FVec Ideal S2x1024x7704 .f32) : FVec Ideal S16384x7680 .bf16 := fun i => zN x0 x1 x2 (i 0).val (perm (i 1).val)
/-- The keys. -/
def out1 (x0 : FVec Ideal S16384x1024 .f32) (x1 : FVec Ideal S2x1024 .f32) (x2 : FVec Ideal S2x1024x7704 .f32) : FVec Ideal S2x512x8192 .f32 := fun i => zN x0 x1 x2 ((i 0).val * 8192 + (i 2).val) (2064 + (i 1).val)
/-- The values. -/
def out2 (x0 : FVec Ideal S16384x1024 .f32) (x1 : FVec Ideal S2x1024 .f32) (x2 : FVec Ideal S2x1024x7704 .f32) : FVec Ideal S2x512x8192 .f32 := fun i => zN x0 x1 x2 ((i 0).val * 8192 + (i 2).val) (2576 + (i 1).val)
/-- The narrow product, by numbers. -/
def sN (x0 : FVec Ideal S16384x1024 .f32) (x1 : FVec Ideal S2x1024 .f32) (x2 : FVec Ideal S2x1024x7704 .f32) (r j : ℕ) : EReal := if j < 16 then zN x0 x1 x2 r (1024 + j) else if j < 24 then zN x0 x1 x2 r (3072 + j) else 0
/-- The narrow product. -/
def out3 (x0 : FVec Ideal S16384x1024 .f32) (x1 : FVec Ideal S2x1024 .f32) (x2 : FVec Ideal S2x1024x7704 .f32) : FVec Ideal S16384x128 .f32 := fun i => sN x0 x1 x2 (i 0).val (i 1).val
/-- The forget gates. -/
def out4 (x0 : FVec Ideal S16384x1024 .f32) (x1 : FVec Ideal S2x1024 .f32) (x2 : FVec Ideal S2x1024x7704 .f32) : FVec Ideal S8x16384 .f32 := fun i => zN x0 x1 x2 (i 1).val (3088 + (i 0).val)

variable (m : (ℓ : Loc nD τ sig) → Buf (Elt Ideal) ℓ)

/-- A point's row of rows starts a group of five points. -/
theorem row_idx (t : Fin cfg0.N) : (rowPt t.val t.isLt).val / 5 = t.val / 5 := by unfold rowPt; dsimp only; omega
theorem kv_idx (t : Fin cfg0.N) : (kvPt t.val t.isLt).val % 5 = 3 := by unfold kvPt; dsimp only; omega

/-- The rows a point works on. -/
theorem rows (c : Dev nD) (t : Fin cfg0.N) (q k : Fin 1024) :
    iblk m c 0 (rowPt t.val t.isLt) (ix2 q k) = m ((c : Thread nD τ).loc main_arg0) (ix2 ⟨t.val / 5 * 1024 + q.val, by have := lt80 t; omega⟩ k) := by
  rw [blk0]
  exact congrArg (fun r => m ((c : Thread nD τ).loc main_arg0) (ix2 r k)) (Fin.ext (by dsimp only; rw [row_idx]))

/-- The scratch holds the normalised rows. -/
theorem XNat_at (c : Dev nD) (t : Fin cfg0.N) (q k : Fin 1024) :
    (XNat m c t.val t.isLt (ix2 q k) : EReal) = normed (fun k => m ((c : Thread nD τ).loc main_arg0) (ix2 ⟨t.val / 5 * 1024 + q.val, by have := lt80 t; omega⟩ k)) (fun k => m ((c : Thread nD τ).loc main_arg1) (ix2 0 k)) k := by
  unfold XNat
  rw [pay2_at]
  simp only [rows m c t, blk1 m c]

/-- The packed product of a point's rows and columns. -/
theorem out0_at (c : Dev nD) (t : Fin cfg0.N) (q : Fin 1024) (j : Fin 1536) :
    (k0_pay6 (XNat m c t.val t.isLt) (iblk m c 2 t) (ix2 q j) : EReal) = zN (m ((c : Thread nD τ).loc main_arg0)) (m ((c : Thread nD τ).loc main_arg1)) (m ((c : Thread nD τ).loc main_arg2)) (t.val / 5 * 1024 + q.val) (perm (t.val % 5 * 1536 + j.val)) := by
  refine Eq.trans ?_ (zN_of _ _ _ ⟨t.val / 5 * 1024 + q.val, by have := lt80 t; omega⟩ ⟨perm (t.val % 5 * 1536 + j.val), perm_lt ⟨t.val % 5 * 1536 + j.val, by omega⟩⟩)
  rw [pay6_at]
  exact Finset.sum_congr rfl fun k _ => congrArg₂ (· * ·) (XNat_at m c t q k) (blk2 m c t k j)

/-- The keys of a point's rows. -/
theorem out1_at (c : Dev nD) (t : Fin cfg0.N) (d : Fin 512) (q : Fin 1024) :
    (k0_pay7 (XNat m c t.val t.isLt) (iblk m c 2 (kvPt t.val t.isLt)) (ix3 0 d q) : EReal) = zN (m ((c : Thread nD τ).loc main_arg0)) (m ((c : Thread nD τ).loc main_arg1)) (m ((c : Thread nD τ).loc main_arg2)) (t.val / 5 * 1024 + q.val) (2064 + d.val) := by
  refine Eq.trans ?_ (zN_of _ _ _ ⟨t.val / 5 * 1024 + q.val, by have := lt80 t; omega⟩ ⟨2064 + d.val, by omega⟩)
  unfold zAt prod
  rw [pay7_at]
  refine Finset.sum_congr rfl fun k _ => congrArg₂ (· * ·) (XNat_at m c t q k) ((blk2 m c _ k _).trans ?_)
  refine congrArg (fun e => m ((c : Thread nD τ).loc main_arg2) (ix3 0 k e)) (Fin.ext ?_)
  dsimp only
  rw [kv_idx]
  have := perm_cases (3 * 1536 + (512 + d.val))
  omega

/-- The values of a point's rows. -/
theorem out2_at (c : Dev nD) (t : Fin cfg0.N) (d : Fin 512) (q : Fin 1024) :
    (k0_pay8 (XNat m c t.val t.isLt) (iblk m c 2 (kvPt t.val t.isLt)) (ix3 0 d q) : EReal) = zN (m ((c : Thread nD τ).loc main_arg0)) (m ((c : Thread nD τ).loc main_arg1)) (m ((c : Thread nD τ).loc main_arg2)) (t.val / 5 * 1024 + q.val) (2576 + d.val) := by
  refine Eq.trans ?_ (zN_of _ _ _ ⟨t.val / 5 * 1024 + q.val, by have := lt80 t; omega⟩ ⟨2576 + d.val, by omega⟩)
  unfold zAt prod
  rw [pay8_at]
  refine Finset.sum_congr rfl fun k _ => congrArg₂ (· * ·) (XNat_at m c t q k) ((blk2 m c _ k _).trans ?_)
  refine congrArg (fun e => m ((c : Thread nD τ).loc main_arg2) (ix3 0 k e)) (Fin.ext ?_)
  dsimp only
  rw [kv_idx]
  have := perm_cases (3 * 1536 + (1024 + d.val))
  omega

/-- The narrow product of a point's rows. -/
theorem out3_at (c : Dev nD) (t : Fin cfg0.N) (q : Fin 1024) (j : Fin 128) :
    (k0_pay3 (iblk m c 0 (rowPt t.val t.isLt)) (iblk m c 1 (rowPt t.val t.isLt)) (iblk m c 3 (rowPt t.val t.isLt)) (ix2 q j) : EReal)
      = sN (m ((c : Thread nD τ).loc main_arg0)) (m ((c : Thread nD τ).loc main_arg1)) (m ((c : Thread nD τ).loc main_arg2)) (t.val / 5 * 1024 + q.val) j.val := by
  rw [pay3_at]
  simp only [rows m c t, blk1 m c, blk3 m c]
  unfold sN
  by_cases h0 : j.val < 16
  · simp only [dif_pos h0, if_pos h0]; exact zN_of _ _ _ ⟨t.val / 5 * 1024 + q.val, by have := lt80 t; omega⟩ ⟨1024 + j.val, by omega⟩
  · by_cases h1 : j.val < 24
    · simp only [dif_neg h0, dif_pos h1, if_neg h0, if_pos h1]; exact zN_of _ _ _ ⟨t.val / 5 * 1024 + q.val, by have := lt80 t; omega⟩ ⟨3072 + j.val, by omega⟩
    · simp only [dif_neg h0, dif_neg h1, if_neg h0, if_neg h1]
      exact Finset.sum_eq_zero fun k _ => mul_zero _

/-- The forget gates of a point's rows. -/
theorem out4_at (c : Dev nD) (t : Fin cfg0.N) (h : Fin 8) (q : Fin 1024) :
    (k0_pay4 (iblk m c 0 (rowPt t.val t.isLt)) (iblk m c 1 (rowPt t.val t.isLt)) (iblk m c 4 (rowPt t.val t.isLt)) (ix2 h q) : EReal)
      = zN (m ((c : Thread nD τ).loc main_arg0)) (m ((c : Thread nD τ).loc main_arg1)) (m ((c : Thread nD τ).loc main_arg2)) (t.val / 5 * 1024 + q.val) (3088 + h.val) := by
  refine Eq.trans ?_ (zN_of _ _ _ ⟨t.val / 5 * 1024 + q.val, by have := lt80 t; omega⟩ ⟨3088 + h.val, by omega⟩)
  rw [pay4_at]
  simp only [rows m c t, blk1 m c, blk4 m c]
  rfl

section
variable (c : Dev nD) (after : (w : Fin cfg0.W) → Fin cfg0.N → ((cfg0.win w).block.Idx → Elt Ideal (cfg0.win w).elt))
  (hL : ∀ w u, (cfg0.win w).flush u = true → (rdat m c).Leaves w u (after w u))
include hL

/-- The packed product, whole. -/
theorem final0 : ((rdat m c).withAfter after).arrAt 5 cfg0.N = out0 (m ((c : Thread nD τ).loc main_arg0)) (m ((c : Thread nD τ).loc main_arg1)) (m ((c : Thread nD τ).loc main_arg2)) := by
  unfold out0
  refine ((rdat m c).withAfter after).arrAt_eq_of_covers 5 _ (by decide +kernel) fun t hf y => ?_
  have ha : after 5 t = k0_pay6 (XNat m c t.val t.isLt) (iblk m c 2 t) := (dats m 0 c).toRRel_leaves (fgt := fgt) (Rl := Rl m c) rfl (hL 5 t hf)
  rw [Pipeline.RDat.withAfter_after, ha]
  blk_simp [idx t]
  exact (congrArg (k0_pay6 (XNat m c t.val t.isLt) (iblk m c 2 t)) (eq_ix2 y)).trans (out0_at m c t (y 0) (y 1))

/-- The keys, whole. -/
theorem final1 : ((rdat m c).withAfter after).arrAt 6 cfg0.N = out1 (m ((c : Thread nD τ).loc main_arg0)) (m ((c : Thread nD τ).loc main_arg1)) (m ((c : Thread nD τ).loc main_arg2)) := by
  unfold out1
  refine ((rdat m c).withAfter after).arrAt_eq_of_covers 6 _ (by decide +kernel) fun t hf y => ?_
  have ha : after 6 t = k0_pay7 (XNat m c t.val t.isLt) (iblk m c 2 (kvPt t.val t.isLt)) := (dats m 0 c).toRRel_leaves (fgt := fgt) (Rl := Rl m c) rfl (hL 6 t hf) (by have := (flush0_6 t).mp hf; omega)
  rw [Pipeline.RDat.withAfter_after, ha]
  blk_simp [idx t]
  have hy : y = ix3 0 (y 1) (y 2) := (eq_ix3 y).trans (congrArg (fun a => ix3 a (y 1) (y 2)) (Fin.ext (by have h : (y 0).val < 1 := (y 0).isLt; show (y 0).val = 0; omega)))
  refine (congrArg (k0_pay7 (XNat m c t.val t.isLt) (iblk m c 2 (kvPt t.val t.isLt))) hy).trans ((out1_at m c t (y 1) (y 2)).trans ?_)
  congr 1
  have := lt80 t
  have h0 : (y 0).val < 1 := (y 0).isLt
  omega

/-- The values, whole. -/
theorem final2 : ((rdat m c).withAfter after).arrAt 7 cfg0.N = out2 (m ((c : Thread nD τ).loc main_arg0)) (m ((c : Thread nD τ).loc main_arg1)) (m ((c : Thread nD τ).loc main_arg2)) := by
  unfold out2
  refine ((rdat m c).withAfter after).arrAt_eq_of_covers 7 _ (by decide +kernel) fun t hf y => ?_
  have ha : after 7 t = k0_pay8 (XNat m c t.val t.isLt) (iblk m c 2 (kvPt t.val t.isLt)) := (dats m 0 c).toRRel_leaves (fgt := fgt) (Rl := Rl m c) rfl (hL 7 t hf) (by have := (flush0_7 t).mp hf; omega)
  rw [Pipeline.RDat.withAfter_after, ha]
  blk_simp [idx t]
  have hy : y = ix3 0 (y 1) (y 2) := (eq_ix3 y).trans (congrArg (fun a => ix3 a (y 1) (y 2)) (Fin.ext (by have h : (y 0).val < 1 := (y 0).isLt; show (y 0).val = 0; omega)))
  refine (congrArg (k0_pay8 (XNat m c t.val t.isLt) (iblk m c 2 (kvPt t.val t.isLt))) hy).trans ((out2_at m c t (y 1) (y 2)).trans ?_)
  congr 1
  have := lt80 t
  have h0 : (y 0).val < 1 := (y 0).isLt
  omega

/-- The narrow product, whole. -/
theorem final3 : ((rdat m c).withAfter after).arrAt 8 cfg0.N = out3 (m ((c : Thread nD τ).loc main_arg0)) (m ((c : Thread nD τ).loc main_arg1)) (m ((c : Thread nD τ).loc main_arg2)) := by
  unfold out3
  refine ((rdat m c).withAfter after).arrAt_eq_of_covers 8 _ (by decide +kernel) fun t hf y => ?_
  have ha : after 8 t = k0_pay3 (iblk m c 0 (rowPt t.val t.isLt)) (iblk m c 1 (rowPt t.val t.isLt)) (iblk m c 3 (rowPt t.val t.isLt)) := (dats m 0 c).toRRel_leaves (fgt := fgt) (Rl := Rl m c) rfl (hL 8 t hf)
  rw [Pipeline.RDat.withAfter_after, ha]
  blk_simp [idx t]
  exact (congrArg (k0_pay3 (iblk m c 0 (rowPt t.val t.isLt)) (iblk m c 1 (rowPt t.val t.isLt)) (iblk m c 3 (rowPt t.val t.isLt))) (eq_ix2 y)).trans (out3_at m c t (y 0) (y 1))

/-- The forget gates, whole. -/
theorem final4 : ((rdat m c).withAfter after).arrAt 9 cfg0.N = out4 (m ((c : Thread nD τ).loc main_arg0)) (m ((c : Thread nD τ).loc main_arg1)) (m ((c : Thread nD τ).loc main_arg2)) := by
  unfold out4
  refine ((rdat m c).withAfter after).arrAt_eq_of_covers 9 _ (by decide +kernel) fun t hf y => ?_
  have ha : after 9 t = k0_pay4 (iblk m c 0 (rowPt t.val t.isLt)) (iblk m c 1 (rowPt t.val t.isLt)) (iblk m c 4 (rowPt t.val t.isLt)) := (dats m 0 c).toRRel_leaves (fgt := fgt) (Rl := Rl m c) rfl (hL 9 t hf)
  rw [Pipeline.RDat.withAfter_after, ha]
  blk_simp [idx t]
  exact (congrArg (k0_pay4 (iblk m c 0 (rowPt t.val t.isLt)) (iblk m c 1 (rowPt t.val t.isLt)) (iblk m c 4 (rowPt t.val t.isLt))) (eq_ix2 y)).trans (out4_at m c t (y 0) (y 1))

end

end Cert.Kernel2Ideal.Inp

end
-- ==== Proof.InpRef.lean ====
module

public import proofs.«01_k».proof.Proof.Gen.Reference2Ideal.Read
public import proofs.«01_k».proof.Proof.InpSpec
public import Idealize.ShloMosaic.Lib.Pointwise
public import Idealize.ShloMosaic.Lib.KernelVsHost

@[expose] public section

set_option maxRecDepth 16384

noncomputable section

namespace Cert.Reference2Ideal.Inp

open Idealize.ShloMosaic Idealize.ShloMosaic.TcCoe Idealize.SL.Sem
open Cert.Reference2Ideal Cert.Reference2Ideal.Gen Cert.Reference2Ideal.Read
open Cert.Kernel2Ideal.Inp (perm perm_lt ladder ladder_small normed prod)

/-- The whole product. -/
theorem z_at (x0 : FVec Ideal S16384x1024 .f32) (x1 : FVec Ideal S2x1024 .f32) (x2 : FVec Ideal S2x1024x7704 .f32) (r : Fin 16384) (e : Fin 7704) :
    (val_main_v17 (F := Ideal) x0 x1 x2 (ix2 r e) : EReal) = prod (fun k => x0 (ix2 r k)) (fun k => x1 (ix2 0 k)) (fun k => x2 (ix3 0 k e)) := by
  unfold prod normed
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The packed product. -/
theorem packed_at (x0 : FVec Ideal S16384x1024 .f32) (x1 : FVec Ideal S2x1024 .f32) (x2 : FVec Ideal S2x1024x7704 .f32) (r : Fin 16384) (e : Fin 7680) :
    (val_main_v38 (F := Ideal) x0 x1 x2 (ix2 r e) : EReal) = val_main_v17 (F := Ideal) x0 x1 x2 (ix2 r ⟨perm e.val, perm_lt e⟩) := by
  generalize hz : val_main_v17 (F := Ideal) x0 x1 x2 = z
  pointwise [val_main_v38, val_main_v31, val_main_v18, val_main_v19, val_main_v20, val_main_v21, val_main_v22, val_main_v23, val_main_v24, val_main_v25, val_main_v26, val_main_v27, val_main_v28, val_main_v29, val_main_v30]
  rw [hz]
  exact ladder (fun j => z (ix2 r j)) e

/-- The keys of the attention. -/
theorem keys_at (x0 : FVec Ideal S16384x1024 .f32) (x1 : FVec Ideal S2x1024 .f32) (x2 : FVec Ideal S2x1024x7704 .f32) (b : Fin 2) (d : Fin 512) (l : Fin 8192) :
    (val_main_v35 (F := Ideal) x0 x1 x2 (ix3 b d l) : EReal) = val_main_v17 (F := Ideal) x0 x1 x2 (ix2 ⟨b.val * 8192 + l.val, by omega⟩ ⟨2064 + d.val, by omega⟩) := by
  generalize hz : val_main_v17 (F := Ideal) x0 x1 x2 = z
  pointwise [val_main_v35, val_main_v34, val_main_v24]
  rw [hz]

/-- The values of the attention. -/
theorem values_at (x0 : FVec Ideal S16384x1024 .f32) (x1 : FVec Ideal S2x1024 .f32) (x2 : FVec Ideal S2x1024x7704 .f32) (b : Fin 2) (d : Fin 512) (l : Fin 8192) :
    (val_main_v37 (F := Ideal) x0 x1 x2 (ix3 b d l) : EReal) = val_main_v17 (F := Ideal) x0 x1 x2 (ix2 ⟨b.val * 8192 + l.val, by omega⟩ ⟨2576 + d.val, by omega⟩) := by
  generalize hz : val_main_v17 (F := Ideal) x0 x1 x2 = z
  pointwise [val_main_v37, val_main_v36, val_main_v25]
  rw [hz]

/-- The narrow product. -/
theorem small_at (x0 : FVec Ideal S16384x1024 .f32) (x1 : FVec Ideal S2x1024 .f32) (x2 : FVec Ideal S2x1024x7704 .f32) (r : Fin 16384) (j : Fin 128) :
    (val_main_v33 (F := Ideal) x0 x1 x2 (ix2 r j) : EReal) = if h : j.val < 16 then val_main_v17 (F := Ideal) x0 x1 x2 (ix2 r ⟨1024 + j.val, by omega⟩)
      else if h : j.val < 24 then val_main_v17 (F := Ideal) x0 x1 x2 (ix2 r ⟨3072 + j.val, by omega⟩) else (0 : EReal) := by
  pointwise [val_main_v33, val_main_v21, val_main_v26, val_main_v32, val_main_cst_2]
  exact ladder_small (fun k => val_main_v17 (F := Ideal) x0 x1 x2 (ix2 r k)) j

/-- The forget gates' product. -/
theorem fft_at (x0 : FVec Ideal S16384x1024 .f32) (x1 : FVec Ideal S2x1024 .f32) (x2 : FVec Ideal S2x1024x7704 .f32) (h : Fin 8) (r : Fin 16384) :
    (val_main_v39 (F := Ideal) x0 x1 x2 (ix2 h r) : EReal) = val_main_v17 (F := Ideal) x0 x1 x2 (ix2 r ⟨3088 + h.val, by omega⟩) := by
  generalize hz : val_main_v17 (F := Ideal) x0 x1 x2 = z
  pointwise [val_main_v39, val_main_v26]
  rw [hz]

end Cert.Reference2Ideal.Inp

end
-- ==== Proof.InpClaim.lean ====
module

public import proofs.«01_k».proof.Proof.InpOut
public import proofs.«01_k».proof.Proof.InpRef
public import proofs.«01_k».proof.Proof.Gen.Reference2Ideal.Run
public import proofs.«01_k».proof.Defs

@[expose] public section

noncomputable section

namespace Cert.Reference2Ideal.Inp

open Idealize.ShloMosaic Idealize.ShloMosaic.TcCoe Idealize.SL.Sem
open Cert.Reference2Ideal Cert.Reference2Ideal.Gen Cert.Reference2Ideal.Read
open Cert.Kernel2Ideal.Inp (perm perm_lt zN zN_of zAt sN out0 out1 out2 out3 out4)

variable (x0 : FVec Ideal S16384x1024 .f32) (x1 : FVec Ideal S2x1024 .f32) (x2 : FVec Ideal S2x1024x7704 .f32)

/-- The reference's whole product, by numbers. -/
theorem z_num (r : Fin 16384) (e : Fin 7704) : (val_main_v17 (F := Ideal) x0 x1 x2 (ix2 r e) : EReal) = zN x0 x1 x2 r.val e.val :=
  (z_at x0 x1 x2 r e).trans (zN_of x0 x1 x2 r e)

/-- The reference's packed product. -/
theorem ref0 : val_main_v38 (F := Ideal) x0 x1 x2 = out0 x0 x1 x2 := by
  funext i
  exact (congrArg (val_main_v38 (F := Ideal) x0 x1 x2) (eq_ix2 i)).trans ((packed_at x0 x1 x2 (i 0) (i 1)).trans (z_num x0 x1 x2 _ _))
/-- The reference's keys. -/
theorem ref1 : val_main_v35 (F := Ideal) x0 x1 x2 = out1 x0 x1 x2 := by
  funext i
  exact (congrArg (val_main_v35 (F := Ideal) x0 x1 x2) (eq_ix3 i)).trans ((keys_at x0 x1 x2 (i 0) (i 1) (i 2)).trans (z_num x0 x1 x2 _ _))
/-- The reference's values. -/
theorem ref2 : val_main_v37 (F := Ideal) x0 x1 x2 = out2 x0 x1 x2 := by
  funext i
  exact (congrArg (val_main_v37 (F := Ideal) x0 x1 x2) (eq_ix3 i)).trans ((values_at x0 x1 x2 (i 0) (i 1) (i 2)).trans (z_num x0 x1 x2 _ _))
/-- The reference's narrow product at an index. -/
theorem ref3_at (r : Fin 16384) (j : Fin 128) : (val_main_v33 (F := Ideal) x0 x1 x2 (ix2 r j) : EReal) = sN x0 x1 x2 r.val j.val := by
  rw [small_at]
  unfold sN
  by_cases h0 : j.val < 16
  · rw [dif_pos h0, if_pos h0]; exact z_num x0 x1 x2 _ _
  rw [dif_neg h0, if_neg h0]
  by_cases h1 : j.val < 24
  · rw [dif_pos h1, if_pos h1]; exact z_num x0 x1 x2 _ _
  rw [dif_neg h1, if_neg h1]
/-- The reference's narrow product. -/
theorem ref3 : val_main_v33 (F := Ideal) x0 x1 x2 = out3 x0 x1 x2 := by
  funext i
  exact (congrArg (val_main_v33 (F := Ideal) x0 x1 x2) (eq_ix2 i)).trans (ref3_at x0 x1 x2 (i 0) (i 1))
/-- The reference's forget gates. -/
theorem ref4 : val_main_v39 (F := Ideal) x0 x1 x2 = out4 x0 x1 x2 := by
  funext i
  exact (congrArg (val_main_v39 (F := Ideal) x0 x1 x2) (eq_ix2 i)).trans ((fft_at x0 x1 x2 (i 0) (i 1)).trans (z_num x0 x1 x2 _ _))

end Cert.Reference2Ideal.Inp

namespace Cert.Kernel2Ideal.Inp

open Idealize.ShloMosaic Idealize.ShloMosaic.TcCoe Idealize.SL.Sem
open Cert.Reference2Ideal.Inp (ref0 ref1 ref2 ref3 ref4)

/-- The projection kernel and its reference end with the same five results: the product of the normalised rows with the weights, laid out in five ways. -/
theorem algebraic : Cert.algebraic_Kernel2Ideal_Reference2Ideal := by
  intro m g m' g' _ hin
  refine ⟨fun c => out0 (m ((c.tc : Thread nD τ).loc main_arg0)) (m ((c.tc : Thread nD τ).loc main_arg1)) (m ((c.tc : Thread nD τ).loc main_arg2)),
    fun c => out1 (m ((c.tc : Thread nD τ).loc main_arg0)) (m ((c.tc : Thread nD τ).loc main_arg1)) (m ((c.tc : Thread nD τ).loc main_arg2)),
    fun c => out2 (m ((c.tc : Thread nD τ).loc main_arg0)) (m ((c.tc : Thread nD τ).loc main_arg1)) (m ((c.tc : Thread nD τ).loc main_arg2)),
    fun c => out3 (m ((c.tc : Thread nD τ).loc main_arg0)) (m ((c.tc : Thread nD τ).loc main_arg1)) (m ((c.tc : Thread nD τ).loc main_arg2)),
    fun c => out4 (m ((c.tc : Thread nD τ).loc main_arg0)) (m ((c.tc : Thread nD τ).loc main_arg1)) (m ((c.tc : Thread nD τ).loc main_arg2)), ?_, ?_⟩
  · refine (θ_run _ _ _).mono (fun r h c => ?_) (θ_run_and (run_main_quiescent m g) (frame m g))
    obtain ⟨after, hL, hA⟩ := Pipeline.RDat.FramePost.exists_exact h.1.1 c
    exact ⟨(hA 5).trans (final0 m c after hL), (hA 6).trans (final1 m c after hL), (hA 7).trans (final2 m c after hL),
      (hA 8).trans (final3 m c after hL), (hA 9).trans (final4 m c after hL), h.2.1 c⟩
  · refine (θ_run _ _ _).mono (fun _ h c => ?_) (Cert.Reference2Ideal.Value.run (F := Ideal) m' g')
    obtain ⟨h0, h1, h2, h3, h4, ha⟩ := h c
    refine ⟨h0.trans ?_, h1.trans ?_, h2.trans ?_, h3.trans ?_, h4.trans ?_, ha⟩
    · refine (Cert.Reference2Ideal.Read.val_main_v38_eq m' c).trans ?_
      rw [(hin c).1, (hin c).2.1, (hin c).2.2]; exact ref0 _ _ _
    · refine (Cert.Reference2Ideal.Read.val_main_v35_eq _ _ _).trans ?_
      rw [(hin c).1, (hin c).2.1, (hin c).2.2]; exact ref1 _ _ _
    · refine (Cert.Reference2Ideal.Read.val_main_v37_eq _ _ _).trans ?_
      rw [(hin c).1, (hin c).2.1, (hin c).2.2]; exact ref2 _ _ _
    · refine (Cert.Reference2Ideal.Read.val_main_v33_eq _ _ _).trans ?_
      rw [(hin c).1, (hin c).2.1, (hin c).2.2]; exact ref3 _ _ _
    · refine (Cert.Reference2Ideal.Read.val_main_v39_eq _ _ _).trans ?_
      rw [(hin c).1, (hin c).2.1, (hin c).2.2]; exact ref4 _ _ _

end Cert.Kernel2Ideal.Inp

end
-- ==== Proof.FfnPure.lean ====
module

public import proofs.«01_k».proof.Proof.Gen.Kernel3Ideal.Frame
public import proofs.«01_k».proof.Proof.Gen.Kernel3Ideal.Skeleton
public import Idealize.ShloMosaic.Lib.Claim
public import Idealize.ShloMosaic.Lib.Pipeline.Value
public import Idealize.ShloMosaic.Lib.ValueIdx

@[expose] public section

set_option maxRecDepth 16384

noncomputable section

namespace Cert.Kernel3Ideal.Ffn

open Cert.Kernel3Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- Whether a point starts a sequence, as the body computes it. -/
abbrev k0_start (i : grid0.Coords) : BitVec 1 :=
  have v4 : BitVec 32 := Scalar.select (Scalar.cmpi .eq 16#32 0#32) 1#32 16#32
  have v5 : BitVec 32 := Scalar.remsi (BitVec.ofNat 32 (i 0).val) v4
  Scalar.cmpi .ne (Scalar.extui (Scalar.cmpi .eq (Scalar.select (Scalar.andi (Scalar.xori (Scalar.cmpi .slt v5 0#32) (Scalar.cmpi .slt v4 0#32)) (Scalar.cmpi .ne v5 0#32)) (Scalar.addi v5 v4) v5) 0#32)) 0#32

/-- The last eight rows of a tile. -/
def tail8 (A : Vec F S512x1408 .f32) : Vec F S8x1408 .f32 := fun z => A (ix2 ⟨504 + (z 0).val, by have : (z 0).val < 8 := (z 0).isLt; omega⟩ (z 1))

/-- A tile's rows shifted down by `d` rows, the rows that enter being the last `d` of the eight before the tile. -/
def shifted (d : ℕ) (H : Vec F S8x1408 .f32) (A : Vec F S512x1408 .f32) : Vec F S512x1408 .f32 := fun z =>
  if (z 0).val < d then H (ix2 ⟨(8 - d + (z 0).val) % 8, Nat.mod_lt _ (by norm_num)⟩ (z 1)) else A (ix2 ⟨(z 0).val - d, by have : (z 0).val < 512 := (z 0).isLt; omega⟩ (z 1))

/-- Row `k` of the convolution's weights. -/
def cwRow (k : Fin 3) (w : Vec F S3x1408 .f32) : Vec F S1x1408 .f32 := fun z => w (ix2 k (z 1))

/-- One of the two kept blocks of eight rows. -/
def slot (k : Fin 2) (g : Vec F S2x8x1408 .f32) : Vec F S1x8x1408 .f32 := fun z => g (ix3 k (z 1) (z 2))

/-- The kept blocks with one of them replaced. -/
def setSlot (k : Fin 2) (g : Vec F S2x8x1408 .f32) (X : Vec F S1x8x1408 .f32) : Vec F S2x8x1408 .f32 := fun z => if (z 0).val = k.val then X (ix3 0 (z 1) (z 2)) else g z

/-- The gated activation of a tile and a chunk of columns, from the tile's products and the eight rows before it. -/
def actOf (H : Vec F S8x1408 .f32) (xn : Vec F S512x1024 .bf16) (wa wg : Vec F S1x1024x1408 .bf16) (cw : Vec F S3x1408 .f32) (cb : Vec F S1x1408 .f32) : FVec F S512x1408 .f32 :=
  k0_pay12 (k0_pay7 xn wa) (k0_pay8 xn wg) (cwRow 2 cw) (cwRow 1 cw) (shifted 1 H (k0_pay9 xn wa)) (cwRow 0 cw) (shifted 2 H (k0_pay9 xn wa)) cb

/-- The gated activation from equal parts. -/
theorem act_congr {H : Vec F S8x1408 .f32} {xn : Vec F S512x1024 .bf16} {wa wg : Vec F S1x1024x1408 .bf16} {cw : Vec F S3x1408 .f32} {cb : Vec F S1x1408 .f32}
    {v22 v25 : FVec F S512x1408 .f32} {v29 v33 v39 v45 : Vec F S1x1408 .f32} {v35 v41 : Vec F S512x1408 .f32}
    (e1 : v22 = k0_pay7 xn wa) (e2 : v25 = k0_pay8 xn wg) (e3 : v29 = cwRow 2 cw) (e4 : v33 = cwRow 1 cw) (e5 : v35 = shifted 1 H (k0_pay9 xn wa))
    (e6 : v39 = cwRow 0 cw) (e7 : v41 = shifted 2 H (k0_pay9 xn wa)) (e8 : v45 = cb) :
    k0_pay12 v22 v25 v29 v33 v35 v39 v41 v45 = actOf H xn wa wg cw cb := by
  subst e1 e2 e3 e4 e5 e6 e7 e8; rfl

/-- A store over a whole array leaves what was stored. -/
theorem store_read {sp : Space} {s : Shape} {e : EltTy} (v : View sig .tc sp s e) (f : v.ty.Contents (Elt F)) (off : Fin s.rank → ℕ) (hoff : off = fun _ => 0)
    (h : ∀ d, off d + s.size d ≤ s.size d) (w : s.Idx → Elt F e) (L : List (View.Piece (Elt F) s e)) :
    v.read (Elt F) (v.writes (Elt F) f (⟨Rect.unit off s.size h, w⟩ :: L)) = w := by
  rw [View.read_writes_eq_canon _ _ _ (fun y => ⟨_, List.mem_cons_self, View.mem_set_unit_zero hoff h y⟩)]
  exact View.canon_cons_unit_zero hoff _ _ _

/-- A load of a whole array reads its contents. -/
theorem load_read {sp : Space} {s : Shape} {e : EltTy} {m : Memref sig .tc sp s e} (hm : m.IsWhole) (X : s.Idx → Elt F e) (off : Fin s.rank → ℕ) (hoff : off = fun _ => 0)
    (h : ∀ d, off d + s.size d ≤ s.size d) :
    m.view.readAt (Elt F) (Rect.unit off s.size h).toLoadRect (hm.unread X) = X := by
  rw [View.readAt_eq_ld, hm.read_unread]
  exact View.ld_unit_zero hoff _ _

/-- A load of one row of the convolution's weights reads that row. -/
theorem cw_read {sp : Space} {m : Memref sig .tc sp S3x1408 .f32} (hm : m.IsWhole) (X : Vec F S3x1408 .f32) (k : Fin 3) (inb) :
    m.view.readAt (Elt F) (Rect.unit (s := S3x1408) ![k.val, 0] S1x1408.size inb).toLoadRect (hm.unread X) = cwRow k X := by
  rw [View.readAt_eq_ld, hm.read_unread]
  funext z
  unfold cwRow View.ld
  congr 1
  have h0 : (z 0).val < 1 := (z 0).isLt
  funext a
  apply Fin.ext
  fin_cases a
  · simp [LoadRect.idx, Rect.unit, ix2]; omega
  · simp [LoadRect.idx, Rect.unit, ix2]

/-- A load of a kept block reads that block. -/
theorem slot_read {sp : Space} {m : Memref sig .tc sp S2x8x1408 .f32} (hm : m.IsWhole) (X : Vec F S2x8x1408 .f32) (k : Fin 2) (off : Fin 3 → ℕ) (ho : off = ![k.val, 0, 0]) (inb) :
    m.view.readAt (Elt F) (Rect.unit (s := S2x8x1408) off S1x8x1408.size inb).toLoadRect (hm.unread X) = slot k X := by
  subst ho
  rw [View.readAt_eq_ld, hm.read_unread]
  funext z
  unfold slot View.ld
  congr 1
  have h0 : (z 0).val < 1 := (z 0).isLt
  funext a
  apply Fin.ext
  fin_cases a
  · simp [LoadRect.idx, Rect.unit, ix3]; omega
  · simp [LoadRect.idx, Rect.unit, ix3]
  · simp [LoadRect.idx, Rect.unit, ix3]

/-- A store of a kept block replaces that block and leaves the other. -/
theorem slot_store {sp : Space} {m : Memref sig .tc sp S2x8x1408 .f32} (hm : m.IsWhole) (g : Vec F S2x8x1408 .f32) (X : Vec F S1x8x1408 .f32) (k : Fin 2) (off : Fin 3 → ℕ) (ho : off = ![k.val, 0, 0]) (inb) :
    m.view.read (Elt F) (m.view.writes (Elt F) (hm.unread g) [⟨Rect.unit (s := S2x8x1408) off S1x8x1408.size inb, X⟩]) = setSlot k g X := by
  subst ho
  funext z
  unfold setSlot
  split
  case isTrue h =>
    have e : z = (Rect.unit (s := S2x8x1408) ![k.val, 0, 0] S1x8x1408.size inb).emb (ix3 (0 : Fin 1) (z 1) (z 2)) := by
      funext a
      apply Fin.ext
      fin_cases a
      · simp [Rect.emb, Rect.unit, ix3]; exact h
      · simp [Rect.emb, Rect.unit, ix3]
      · simp [Rect.emb, Rect.unit, ix3]
    conv_lhs => rw [e]
    exact View.read_writes_cons_emb _ _ _ _ _ _
  case isFalse h =>
    rw [View.read_writes_apply_of_forall_not_mem, hm.read_unread]
    intro p hp
    rw [List.mem_singleton] at hp
    subst hp
    intro hm'
    apply h
    have := (Rect.mem_set_unit.mp (show z ∈ (Rect.unit (s := S2x8x1408) ![k.val, 0, 0] S1x8x1408.size inb).set from hm')) 0
    simp [Matrix.cons_val] at this
    have h1 : S1x8x1408.size 0 = 1 := rfl
    omega

/-- The two stores that fill the tile with the eight rows before it. -/
abbrev extL (H : Vec F S8x1408 .f32) (A : Vec F S512x1408 .f32) (inb : ∀ a, (![8, 0] : Fin 2 → ℕ) a + S512x1408.size a ≤ S520x1408.size a) (inb' : ∀ a, (![0, 0] : Fin 2 → ℕ) a + S8x1408.size a ≤ S520x1408.size a) : List (View.Piece (Elt F) S520x1408 .f32) :=
  [⟨Rect.unit (s := S520x1408) ![8, 0] S512x1408.size inb, A⟩, ⟨Rect.unit (s := S520x1408) ![0, 0] S8x1408.size inb', H⟩]

theorem canon_hi (H : Vec F S8x1408 .f32) (A : Vec F S512x1408 .f32) (inb inb') (y : S520x1408.Idx) (h : 8 ≤ (y 0).val) :
    View.canon (extL H A inb inb') y = A (ix2 ⟨(y 0).val - 8, by have : (y 0).val < 520 := (y 0).isLt; omega⟩ (y 1)) := by
  have e : y = (Rect.unit (s := S520x1408) ![8, 0] S512x1408.size inb).emb (ix2 (⟨(y 0).val - 8, by have : (y 0).val < 520 := (y 0).isLt; omega⟩ : Fin 512) (y 1)) := by
    funext a
    apply Fin.ext
    fin_cases a
    · simp [Rect.emb, Rect.unit, ix2]; omega
    · simp [Rect.emb, Rect.unit, ix2]
  conv_lhs => rw [e]
  exact View.canon_cons_emb _ _ _ _

theorem canon_lo (H : Vec F S8x1408 .f32) (A : Vec F S512x1408 .f32) (inb inb') (y : S520x1408.Idx) (h : (y 0).val < 8) :
    View.canon (extL H A inb inb') y = H (ix2 ⟨(y 0).val, h⟩ (y 1)) := by
  rw [View.canon_cons_of_not_mem]
  · have e : y = (Rect.unit (s := S520x1408) ![0, 0] S8x1408.size inb').emb (ix2 (⟨(y 0).val, h⟩ : Fin 8) (y 1)) := by
      funext a
      apply Fin.ext
      fin_cases a
      · simp [Rect.emb, Rect.unit, ix2]
      · simp [Rect.emb, Rect.unit, ix2]
    conv_lhs => rw [e]
    exact View.canon_cons_emb _ _ _ _
  · intro hm
    have := (Rect.mem_set_unit.mp (show y ∈ (Rect.unit (s := S520x1408) ![8, 0] S512x1408.size inb).set from hm)) 0
    simp [Matrix.cons_val] at this
    omega

/-- A load of the tile's rows shifted down by `d`. -/
theorem ext_read (d : ℕ) (hd : d ≤ 8) {sp : Space} (v : View sig .tc sp S520x1408 .f32) (H : Vec F S8x1408 .f32) (A : Vec F S512x1408 .f32) (inb inb') (off : Fin 2 → ℕ) (ho : off = ![8 - d, 0]) (inbk) :
    v.readCov (extL H A inb inb') (Rect.unit (s := S520x1408) off S512x1408.size inbk).toLoadRect = shifted d H A := by
  subst ho
  rw [View.readCov_eq_canon']
  funext z
  have hz : (z 0).val < 512 := (z 0).isLt
  have e0 : (((Rect.unit (s := S520x1408) ![8 - d, 0] S512x1408.size inbk).toLoadRect.idx z) 0).val = 8 - d + (z 0).val := by simp [LoadRect.idx, Rect.unit]
  have e1 : (((Rect.unit (s := S520x1408) ![8 - d, 0] S512x1408.size inbk).toLoadRect.idx z) 1) = z 1 := by apply Fin.ext; simp [LoadRect.idx, Rect.unit]
  unfold shifted
  split
  case isTrue h =>
    refine (canon_lo _ _ _ _ _ (by omega)).trans ?_
    refine congrArg₂ (fun a b => H (ix2 a b)) (Fin.ext ?_) e1
    show _ = (8 - d + (z 0).val) % 8
    rw [Nat.mod_eq_of_lt (by omega)]; exact e0
  case isFalse h =>
    refine (canon_hi _ _ _ _ _ (by omega)).trans ?_
    refine congrArg₂ (fun a b => A (ix2 a b)) (Fin.ext ?_) e1
    show _ - 8 = (z 0).val - d
    omega

/-- A load of the tile's last eight rows. -/
theorem tail_read {sp : Space} (v : View sig .tc sp S520x1408 .f32) (H : Vec F S8x1408 .f32) (A : Vec F S512x1408 .f32) (inb inb' inbk) :
    v.readCov (extL H A inb inb') (Rect.unit (s := S520x1408) ![512, 0] S8x1408.size inbk).toLoadRect = tail8 A := by
  rw [View.readCov_eq_canon']
  funext z
  have hz : (z 0).val < 8 := (z 0).isLt
  have e0 : (((Rect.unit (s := S520x1408) ![512, 0] S8x1408.size inbk).toLoadRect.idx z) 0).val = 512 + (z 0).val := by simp [LoadRect.idx, Rect.unit]
  have e1 : (((Rect.unit (s := S520x1408) ![512, 0] S8x1408.size inbk).toLoadRect.idx z) 1) = z 1 := by apply Fin.ext; simp [LoadRect.idx, Rect.unit]
  unfold tail8
  refine (canon_hi _ _ _ _ _ (by omega)).trans ?_
  refine congrArg₂ (fun a b => A (ix2 a b)) (Fin.ext ?_) e1
  show _ - 8 = 504 + (z 0).val
  omega

end Cert.Kernel3Ideal.Ffn

end
-- ==== Proof.FfnRun.lean ====
module

public import proofs.«01_k».proof.Proof.FfnPure

@[expose] public section

set_option maxRecDepth 16384

noncomputable section

namespace Cert.Kernel3Ideal.Ffn

open Cert.Kernel3Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x1408 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S520x1408 .f32) (harg14 : arg14.IsWhole) (arg15 : Memref sig .tc .vmem S2x8x1408 .f32) (harg15 : arg15.IsWhole)

set_option maxHeartbeats 2000000 in
/-- The body at a sequence's first tile and the first chunk of columns: it normalises the rows, starts the sum at zero, adds the chunk's product, and leaves the last eight rows. -/
theorem runA
    (hc1 : Scalar.cmpi .ne (Scalar.extui (Scalar.cmpi .eq (BitVec.ofNat 32 (i 1).val) 0#32)) 0#32 = 1#1)
    (hc2 : k0_start i = 1#1)
    (hc3 : ¬k0_cond3 i = 1#1)
    (hc4 : ¬k0_cond4 i = 1#1)
    (ho1 : k0_off1 i = ![0, 0, 0]) (ho2 : k0_off2 i = ![0, 0, 0])
    (x0 : Vec F S512x1024 .f32) (x1 : Vec F S1x1024 .f32) (x2 : Vec F S1x1024x1408 .bf16) (x3 : Vec F S1x1024x1408 .bf16) (x4 : Vec F S3x1408 .f32) (x5 : Vec F S1x1408 .f32) (x6 : Vec F S1x1408x1024 .bf16) (x7 : Vec F S1x1024 .f32) (y8 : Vec F S512x1024 .f32) (xh : Vec F S2x8x1408 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare (k0_pay10 (tail8 (k0_pay9 (k0_pay3 x0 x1) x2))) ∗ owns (c : Thread nD τ) arg12 fullShare (k0_pay3 x0 x1) ∗ owns (c : Thread nD τ) arg13 fullShare (k0_pay1 (actOf k0_pay5 (k0_pay3 x0 x1) x2 x3 x4 x5) k0_pay4 x6) ∗ (∃ d, owns (c : Thread nD τ) arg14 fullShare d) ∗ owns (c : Thread nD τ) arg15 fullShare (setSlot 0 xh (k0_pay11 (tail8 (k0_pay9 (k0_pay3 x0 x1) x2))))) -∗ K ⟨⟩))
      ⊢ wp frame (wpE (defs₀ (F := F)) Variants.none c none) E (cc0__ffn_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__ffn_body_eq_skeleton]; unfold cc0__ffn_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg15.eq_unread hf13
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; exact (store_read _ _ _ (by decide) _ _ _).trans (congrArg k0_pay10 ((tail_read _ _ _ _ _ _).trans (congrArg tail8 (congrArg₂ k0_pay9 ((View.readCov_unit_zero _ (by decide) _ _).trans (congrArg₂ k0_pay3 (load_read harg2 x0 _ (by decide) _) (load_read harg3 x1 _ (by decide) _))) (load_read harg4 x2 _ (by decide) _)))))
  isplitl [H10]
  · iexists _; isplitr; swap; · iexact H10
    ipureintro; exact (store_read _ _ _ (by decide) _ _ _).trans (congrArg₂ k0_pay3 (load_read harg2 x0 _ (by decide) _) (load_read harg3 x1 _ (by decide) _))
  isplitl [H11]
  · iexists _; isplitr; swap; · iexact H11
    ipureintro; exact (store_read _ _ _ (by decide) _ _ _).trans (congr (congrArg₂ k0_pay1 (act_congr (congrArg₂ k0_pay7 ((View.readCov_unit_zero _ (by decide) _ _).trans (congrArg₂ k0_pay3 (load_read harg2 x0 _ (by decide) _) (load_read harg3 x1 _ (by decide) _))) (load_read harg4 x2 _ (by decide) _)) (congrArg₂ k0_pay8 ((View.readCov_unit_zero _ (by decide) _ _).trans (congrArg₂ k0_pay3 (load_read harg2 x0 _ (by decide) _) (load_read harg3 x1 _ (by decide) _))) (load_read harg5 x3 _ (by decide) _)) (cw_read harg6 x4 2 _) (cw_read harg6 x4 1 _) ((ext_read 1 (by decide) _ _ _ _ _ _ (by decide) _).trans (congrArg₂ (shifted 1) rfl (congrArg₂ k0_pay9 ((View.readCov_unit_zero _ (by decide) _ _).trans (congrArg₂ k0_pay3 (load_read harg2 x0 _ (by decide) _) (load_read harg3 x1 _ (by decide) _))) (load_read harg4 x2 _ (by decide) _)))) (cw_read harg6 x4 0 _) ((ext_read 2 (by decide) _ _ _ _ _ _ (by decide) _).trans (congrArg₂ (shifted 2) rfl (congrArg₂ k0_pay9 ((View.readCov_unit_zero _ (by decide) _ _).trans (congrArg₂ k0_pay3 (load_read harg2 x0 _ (by decide) _) (load_read harg3 x1 _ (by decide) _))) (load_read harg4 x2 _ (by decide) _)))) (load_read harg7 x5 _ (by decide) _)) (View.readCov_unit_zero _ (by decide) _ _)) (load_read harg8 x6 _ (by decide) _))
  isplitl [H12]
  · iexists _, _; isplitr; swap; · iexact H12
    ipureintro; rfl
  · iexists _; isplitr; swap; · iexact H13
    ipureintro; exact (slot_store harg15 xh _ 0 _ ho2 _).trans (congrArg (setSlot 0 xh) (congrArg k0_pay11 ((tail_read _ _ _ _ _ _).trans (congrArg tail8 (congrArg₂ k0_pay9 ((View.readCov_unit_zero _ (by decide) _ _).trans (congrArg₂ k0_pay3 (load_read harg2 x0 _ (by decide) _) (load_read harg3 x1 _ (by decide) _))) (load_read harg4 x2 _ (by decide) _))))))

set_option maxHeartbeats 2000000 in
/-- The body at a later tile and the first chunk of columns: the same, the eight rows before the tile being the kept ones. -/
theorem runB
    (hc1 : Scalar.cmpi .ne (Scalar.extui (Scalar.cmpi .eq (BitVec.ofNat 32 (i 1).val) 0#32)) 0#32 = 1#1)
    (hc2 : ¬k0_start i = 1#1)
    (hc3 : k0_cond3 i = 1#1)
    (hc4 : ¬k0_cond4 i = 1#1)
    (ho1 : k0_off1 i = ![0, 0, 0]) (ho2 : k0_off2 i = ![0, 0, 0])
    (x0 : Vec F S512x1024 .f32) (x1 : Vec F S1x1024 .f32) (x2 : Vec F S1x1024x1408 .bf16) (x3 : Vec F S1x1024x1408 .bf16) (x4 : Vec F S3x1408 .f32) (x5 : Vec F S1x1408 .f32) (x6 : Vec F S1x1408x1024 .bf16) (x7 : Vec F S1x1024 .f32) (y8 : Vec F S512x1024 .f32) (xh : Vec F S2x8x1408 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare (k0_pay10 (tail8 (k0_pay9 (k0_pay3 x0 x1) x2))) ∗ owns (c : Thread nD τ) arg12 fullShare (k0_pay3 x0 x1) ∗ owns (c : Thread nD τ) arg13 fullShare (k0_pay1 (actOf (k0_pay6 (slot 0 xh)) (k0_pay3 x0 x1) x2 x3 x4 x5) k0_pay4 x6) ∗ (∃ d, owns (c : Thread nD τ) arg14 fullShare d) ∗ owns (c : Thread nD τ) arg15 fullShare (setSlot 0 xh (k0_pay11 (tail8 (k0_pay9 (k0_pay3 x0 x1) x2))))) -∗ K ⟨⟩))
      ⊢ wp frame (wpE (defs₀ (F := F)) Variants.none c none) E (cc0__ffn_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__ffn_body_eq_skeleton]; unfold cc0__ffn_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg15.eq_unread hf13
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; exact (store_read _ _ _ (by decide) _ _ _).trans (congrArg k0_pay10 ((tail_read _ _ _ _ _ _).trans (congrArg tail8 (congrArg₂ k0_pay9 ((View.readCov_unit_zero _ (by decide) _ _).trans (congrArg₂ k0_pay3 (load_read harg2 x0 _ (by decide) _) (load_read harg3 x1 _ (by decide) _))) (load_read harg4 x2 _ (by decide) _)))))
  isplitl [H10]
  · iexists _; isplitr; swap; · iexact H10
    ipureintro; exact (store_read _ _ _ (by decide) _ _ _).trans (congrArg₂ k0_pay3 (load_read harg2 x0 _ (by decide) _) (load_read harg3 x1 _ (by decide) _))
  isplitl [H11]
  · iexists _; isplitr; swap; · iexact H11
    ipureintro; exact (store_read _ _ _ (by decide) _ _ _).trans (congr (congrArg₂ k0_pay1 (act_congr (congrArg₂ k0_pay7 ((View.readCov_unit_zero _ (by decide) _ _).trans (congrArg₂ k0_pay3 (load_read harg2 x0 _ (by decide) _) (load_read harg3 x1 _ (by decide) _))) (load_read harg4 x2 _ (by decide) _)) (congrArg₂ k0_pay8 ((View.readCov_unit_zero _ (by decide) _ _).trans (congrArg₂ k0_pay3 (load_read harg2 x0 _ (by decide) _) (load_read harg3 x1 _ (by decide) _))) (load_read harg5 x3 _ (by decide) _)) (cw_read harg6 x4 2 _) (cw_read harg6 x4 1 _) ((ext_read 1 (by decide) _ _ _ _ _ _ (by decide) _).trans (congrArg₂ (shifted 1) (congrArg k0_pay6 (slot_read harg15 xh 0 _ ho1 _)) (congrArg₂ k0_pay9 ((View.readCov_unit_zero _ (by decide) _ _).trans (congrArg₂ k0_pay3 (load_read harg2 x0 _ (by decide) _) (load_read harg3 x1 _ (by decide) _))) (load_read harg4 x2 _ (by decide) _)))) (cw_read harg6 x4 0 _) ((ext_read 2 (by decide) _ _ _ _ _ _ (by decide) _).trans (congrArg₂ (shifted 2) (congrArg k0_pay6 (slot_read harg15 xh 0 _ ho1 _)) (congrArg₂ k0_pay9 ((View.readCov_unit_zero _ (by decide) _ _).trans (congrArg₂ k0_pay3 (load_read harg2 x0 _ (by decide) _) (load_read harg3 x1 _ (by decide) _))) (load_read harg4 x2 _ (by decide) _)))) (load_read harg7 x5 _ (by decide) _)) (View.readCov_unit_zero _ (by decide) _ _)) (load_read harg8 x6 _ (by decide) _))
  isplitl [H12]
  · iexists _, _; isplitr; swap; · iexact H12
    ipureintro; rfl
  · iexists _; isplitr; swap; · iexact H13
    ipureintro; exact (slot_store harg15 xh _ 0 _ ho2 _).trans (congrArg (setSlot 0 xh) (congrArg k0_pay11 ((tail_read _ _ _ _ _ _).trans (congrArg tail8 (congrArg₂ k0_pay9 ((View.readCov_unit_zero _ (by decide) _ _).trans (congrArg₂ k0_pay3 (load_read harg2 x0 _ (by decide) _) (load_read harg3 x1 _ (by decide) _))) (load_read harg4 x2 _ (by decide) _))))))

set_option maxHeartbeats 2000000 in
/-- The body at a sequence's first tile and the last chunk of columns: it adds the chunk's product and leaves the normalised sum. -/
theorem runC
    (hc1 : ¬Scalar.cmpi .ne (Scalar.extui (Scalar.cmpi .eq (BitVec.ofNat 32 (i 1).val) 0#32)) 0#32 = 1#1)
    (hc2 : k0_start i = 1#1)
    (hc3 : ¬k0_cond3 i = 1#1)
    (hc4 : k0_cond4 i = 1#1)
    (ho1 : k0_off1 i = ![1, 0, 0]) (ho2 : k0_off2 i = ![1, 0, 0])
    (x0 : Vec F S512x1024 .f32) (x1 : Vec F S1x1024 .f32) (x2 : Vec F S1x1024x1408 .bf16) (x3 : Vec F S1x1024x1408 .bf16) (x4 : Vec F S3x1408 .f32) (x5 : Vec F S1x1408 .f32) (x6 : Vec F S1x1408x1024 .bf16) (x7 : Vec F S1x1024 .f32) (xn : Vec F S512x1024 .bf16) (xa : Vec F S512x1024 .f32) (xh : Vec F S2x8x1408 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xn ∗ owns (c : Thread nD τ) arg13 fullShare xa ∗ (∃ d, owns (c : Thread nD τ) arg14 fullShare d) ∗ owns (c : Thread nD τ) arg15 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay2 x0 (k0_pay1 (actOf k0_pay5 xn x2 x3 x4 x5) xa x6) x7) ∗ owns (c : Thread nD τ) arg11 fullShare (k0_pay10 (tail8 (k0_pay9 xn x2))) ∗ owns (c : Thread nD τ) arg12 fullShare xn ∗ owns (c : Thread nD τ) arg13 fullShare (k0_pay1 (actOf k0_pay5 xn x2 x3 x4 x5) xa x6) ∗ (∃ d, owns (c : Thread nD τ) arg14 fullShare d) ∗ owns (c : Thread nD τ) arg15 fullShare (setSlot 1 xh (k0_pay11 (tail8 (k0_pay9 xn x2))))) -∗ K ⟨⟩))
      ⊢ wp frame (wpE (defs₀ (F := F)) Variants.none c none) E (cc0__ffn_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__ffn_body_eq_skeleton]; unfold cc0__ffn_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%d12, %f12, -, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hf11; obtain rfl := harg15.eq_unread hf13
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; exact (store_read _ _ _ (by decide) _ _ _).trans (congr (congrArg₂ k0_pay2 (load_read harg2 x0 _ (by decide) _) ((View.readCov_unit_zero _ (by decide) _ _).trans (congr (congrArg₂ k0_pay1 (act_congr (congrArg₂ k0_pay7 (load_read harg12 xn _ (by decide) _) (load_read harg4 x2 _ (by decide) _)) (congrArg₂ k0_pay8 (load_read harg12 xn _ (by decide) _) (load_read harg5 x3 _ (by decide) _)) (cw_read harg6 x4 2 _) (cw_read harg6 x4 1 _) ((ext_read 1 (by decide) _ _ _ _ _ _ (by decide) _).trans (congrArg₂ (shifted 1) rfl (congrArg₂ k0_pay9 (load_read harg12 xn _ (by decide) _) (load_read harg4 x2 _ (by decide) _)))) (cw_read harg6 x4 0 _) ((ext_read 2 (by decide) _ _ _ _ _ _ (by decide) _).trans (congrArg₂ (shifted 2) rfl (congrArg₂ k0_pay9 (load_read harg12 xn _ (by decide) _) (load_read harg4 x2 _ (by decide) _)))) (load_read harg7 x5 _ (by decide) _)) (load_read harg13 xa _ (by decide) _)) (load_read harg8 x6 _ (by decide) _)))) (load_read harg9 x7 _ (by decide) _))
  isplitl [H9]
  · iexists _; isplitr; swap; · iexact H9
    ipureintro; exact (store_read _ _ _ (by decide) _ _ _).trans (congrArg k0_pay10 ((tail_read _ _ _ _ _ _).trans (congrArg tail8 (congrArg₂ k0_pay9 (load_read harg12 xn _ (by decide) _) (load_read harg4 x2 _ (by decide) _)))))
  isplitl [H10]
  · iexists _; isplitr; · ipureintro; exact harg12.read_unread _
    iexact H10
  isplitl [H11]
  · iexists _; isplitr; swap; · iexact H11
    ipureintro; exact (store_read _ _ _ (by decide) _ _ _).trans (congr (congrArg₂ k0_pay1 (act_congr (congrArg₂ k0_pay7 (load_read harg12 xn _ (by decide) _) (load_read harg4 x2 _ (by decide) _)) (congrArg₂ k0_pay8 (load_read harg12 xn _ (by decide) _) (load_read harg5 x3 _ (by decide) _)) (cw_read harg6 x4 2 _) (cw_read harg6 x4 1 _) ((ext_read 1 (by decide) _ _ _ _ _ _ (by decide) _).trans (congrArg₂ (shifted 1) rfl (congrArg₂ k0_pay9 (load_read harg12 xn _ (by decide) _) (load_read harg4 x2 _ (by decide) _)))) (cw_read harg6 x4 0 _) ((ext_read 2 (by decide) _ _ _ _ _ _ (by decide) _).trans (congrArg₂ (shifted 2) rfl (congrArg₂ k0_pay9 (load_read harg12 xn _ (by decide) _) (load_read harg4 x2 _ (by decide) _)))) (load_read harg7 x5 _ (by decide) _)) (load_read harg13 xa _ (by decide) _)) (load_read harg8 x6 _ (by decide) _))
  isplitl [H12]
  · iexists _, _; isplitr; swap; · iexact H12
    ipureintro; rfl
  · iexists _; isplitr; swap; · iexact H13
    ipureintro; exact (slot_store harg15 xh _ 1 _ ho2 _).trans (congrArg (setSlot 1 xh) (congrArg k0_pay11 ((tail_read _ _ _ _ _ _).trans (congrArg tail8 (congrArg₂ k0_pay9 (load_read harg12 xn _ (by decide) _) (load_read harg4 x2 _ (by decide) _))))))

set_option maxHeartbeats 2000000 in
/-- The body at a later tile and the last chunk of columns. -/
theorem runD
    (hc1 : ¬Scalar.cmpi .ne (Scalar.extui (Scalar.cmpi .eq (BitVec.ofNat 32 (i 1).val) 0#32)) 0#32 = 1#1)
    (hc2 : ¬k0_start i = 1#1)
    (hc3 : k0_cond3 i = 1#1)
    (hc4 : k0_cond4 i = 1#1)
    (ho1 : k0_off1 i = ![1, 0, 0]) (ho2 : k0_off2 i = ![1, 0, 0])
    (x0 : Vec F S512x1024 .f32) (x1 : Vec F S1x1024 .f32) (x2 : Vec F S1x1024x1408 .bf16) (x3 : Vec F S1x1024x1408 .bf16) (x4 : Vec F S3x1408 .f32) (x5 : Vec F S1x1408 .f32) (x6 : Vec F S1x1408x1024 .bf16) (x7 : Vec F S1x1024 .f32) (xn : Vec F S512x1024 .bf16) (xa : Vec F S512x1024 .f32) (xh : Vec F S2x8x1408 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xn ∗ owns (c : Thread nD τ) arg13 fullShare xa ∗ (∃ d, owns (c : Thread nD τ) arg14 fullShare d) ∗ owns (c : Thread nD τ) arg15 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay2 x0 (k0_pay1 (actOf (k0_pay6 (slot 1 xh)) xn x2 x3 x4 x5) xa x6) x7) ∗ owns (c : Thread nD τ) arg11 fullShare (k0_pay10 (tail8 (k0_pay9 xn x2))) ∗ owns (c : Thread nD τ) arg12 fullShare xn ∗ owns (c : Thread nD τ) arg13 fullShare (k0_pay1 (actOf (k0_pay6 (slot 1 xh)) xn x2 x3 x4 x5) xa x6) ∗ (∃ d, owns (c : Thread nD τ) arg14 fullShare d) ∗ owns (c : Thread nD τ) arg15 fullShare (setSlot 1 xh (k0_pay11 (tail8 (k0_pay9 xn x2))))) -∗ K ⟨⟩))
      ⊢ wp frame (wpE (defs₀ (F := F)) Variants.none c none) E (cc0__ffn_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__ffn_body_eq_skeleton]; unfold cc0__ffn_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%d12, %f12, -, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hf11; obtain rfl := harg15.eq_unread hf13
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; exact (store_read _ _ _ (by decide) _ _ _).trans (congr (congrArg₂ k0_pay2 (load_read harg2 x0 _ (by decide) _) ((View.readCov_unit_zero _ (by decide) _ _).trans (congr (congrArg₂ k0_pay1 (act_congr (congrArg₂ k0_pay7 (load_read harg12 xn _ (by decide) _) (load_read harg4 x2 _ (by decide) _)) (congrArg₂ k0_pay8 (load_read harg12 xn _ (by decide) _) (load_read harg5 x3 _ (by decide) _)) (cw_read harg6 x4 2 _) (cw_read harg6 x4 1 _) ((ext_read 1 (by decide) _ _ _ _ _ _ (by decide) _).trans (congrArg₂ (shifted 1) (congrArg k0_pay6 (slot_read harg15 xh 1 _ ho1 _)) (congrArg₂ k0_pay9 (load_read harg12 xn _ (by decide) _) (load_read harg4 x2 _ (by decide) _)))) (cw_read harg6 x4 0 _) ((ext_read 2 (by decide) _ _ _ _ _ _ (by decide) _).trans (congrArg₂ (shifted 2) (congrArg k0_pay6 (slot_read harg15 xh 1 _ ho1 _)) (congrArg₂ k0_pay9 (load_read harg12 xn _ (by decide) _) (load_read harg4 x2 _ (by decide) _)))) (load_read harg7 x5 _ (by decide) _)) (load_read harg13 xa _ (by decide) _)) (load_read harg8 x6 _ (by decide) _)))) (load_read harg9 x7 _ (by decide) _))
  isplitl [H9]
  · iexists _; isplitr; swap; · iexact H9
    ipureintro; exact (store_read _ _ _ (by decide) _ _ _).trans (congrArg k0_pay10 ((tail_read _ _ _ _ _ _).trans (congrArg tail8 (congrArg₂ k0_pay9 (load_read harg12 xn _ (by decide) _) (load_read harg4 x2 _ (by decide) _)))))
  isplitl [H10]
  · iexists _; isplitr; · ipureintro; exact harg12.read_unread _
    iexact H10
  isplitl [H11]
  · iexists _; isplitr; swap; · iexact H11
    ipureintro; exact (store_read _ _ _ (by decide) _ _ _).trans (congr (congrArg₂ k0_pay1 (act_congr (congrArg₂ k0_pay7 (load_read harg12 xn _ (by decide) _) (load_read harg4 x2 _ (by decide) _)) (congrArg₂ k0_pay8 (load_read harg12 xn _ (by decide) _) (load_read harg5 x3 _ (by decide) _)) (cw_read harg6 x4 2 _) (cw_read harg6 x4 1 _) ((ext_read 1 (by decide) _ _ _ _ _ _ (by decide) _).trans (congrArg₂ (shifted 1) (congrArg k0_pay6 (slot_read harg15 xh 1 _ ho1 _)) (congrArg₂ k0_pay9 (load_read harg12 xn _ (by decide) _) (load_read harg4 x2 _ (by decide) _)))) (cw_read harg6 x4 0 _) ((ext_read 2 (by decide) _ _ _ _ _ _ (by decide) _).trans (congrArg₂ (shifted 2) (congrArg k0_pay6 (slot_read harg15 xh 1 _ ho1 _)) (congrArg₂ k0_pay9 (load_read harg12 xn _ (by decide) _) (load_read harg4 x2 _ (by decide) _)))) (load_read harg7 x5 _ (by decide) _)) (load_read harg13 xa _ (by decide) _)) (load_read harg8 x6 _ (by decide) _))
  isplitl [H12]
  · iexists _, _; isplitr; swap; · iexact H12
    ipureintro; rfl
  · iexists _; isplitr; swap; · iexact H13
    ipureintro; exact (slot_store harg15 xh _ 1 _ ho2 _).trans (congrArg (setSlot 1 xh) (congrArg k0_pay11 ((tail_read _ _ _ _ _ _).trans (congrArg tail8 (congrArg₂ k0_pay9 (load_read harg12 xn _ (by decide) _) (load_read harg4 x2 _ (by decide) _))))))

end

end Cert.Kernel3Ideal.Ffn

end
-- ==== Proof.FfnFrame.lean ====
module

public import proofs.«01_k».proof.Proof.FfnRun
public import Idealize.ShloMosaic.Lib.Pipeline.DatRel
public import Idealize.ShloMosaic.Lib.Pipeline.ArrRel
public import proofs.«01_k».proof.Proof.Gen.Kernel3Ideal.Launch
public import proofs.«01_k».proof.Proof.Gen.Kernel3Ideal.Points
public import proofs.«01_k».proof.Proof.Gen.Kernel3Ideal.Frame

@[expose] public section

set_option maxRecDepth 16384

noncomputable section

namespace Cert.Kernel3Ideal.Ffn

open Cert.Kernel3Ideal.Gen
open Idealize.ShloMosaic.Rounds
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body's conditions and offsets are at a point: the chunk of columns is the point's parity, and a sequence is sixteen tiles. -/
theorem conds : ∀ t : Fin cfg0.N,
    ((Scalar.cmpi .ne (Scalar.extui (Scalar.cmpi .eq (BitVec.ofNat 32 (grid0.coords t 1).val) 0#32)) 0#32 : BitVec 1) = 1#1 ↔ t.val % 2 = 0)
    ∧ (k0_start (grid0.coords t) = 1#1 ↔ t.val / 2 % 16 = 0) ∧ (k0_cond3 (grid0.coords t) = 1#1 ↔ ¬t.val / 2 % 16 = 0)
    ∧ (k0_cond4 (grid0.coords t) = 1#1 ↔ t.val % 2 = 1)
    ∧ k0_off1 (grid0.coords t) = ![t.val % 2, 0, 0] ∧ k0_off2 (grid0.coords t) = ![t.val % 2, 0, 0] :=
  (by decide +kernel : ∀ t : Fin grid0.N,
    ((Scalar.cmpi .ne (Scalar.extui (Scalar.cmpi .eq (BitVec.ofNat 32 (grid0.coords t 1).val) 0#32)) 0#32 : BitVec 1) = 1#1 ↔ t.val % 2 = 0)
    ∧ (k0_start (grid0.coords t) = 1#1 ↔ t.val / 2 % 16 = 0) ∧ (k0_cond3 (grid0.coords t) = 1#1 ↔ ¬t.val / 2 % 16 = 0)
    ∧ (k0_cond4 (grid0.coords t) = 1#1 ↔ t.val % 2 = 1)
    ∧ k0_off1 (grid0.coords t) = ![t.val % 2, 0, 0] ∧ k0_off2 (grid0.coords t) = ![t.val % 2, 0, 0])

/-- The staging memrefs at a point, and the scratch. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1408 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1408 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1408 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1408x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x1408 .f32 := win0_9.stage (cfg0.slots t 9)
abbrev hs0_9 (t : Fin cfg0.N) : (ms0_9 t).IsWhole := hstage0_9 ((cfg0.slots t 9).cast nbuf0_9)
abbrev scM0_0 : Memref sig .tc .vmem S512x1024 .bf16 := Memref.whole cc0_scratch0
abbrev scM0_1 : Memref sig .tc .vmem S512x1024 .f32 := Memref.whole cc0_scratch1
abbrev scM0_2 : Memref sig .tc .vmem S520x1408 .f32 := Memref.whole cc0_scratch2
abbrev scM0_3 : Memref sig .tc .vmem S2x8x1408 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The point at position `n`. -/
def P (n : ℕ) : Fin cfg0.N := ⟨n % 64, by have : cfg0.N = 64 := N_0; omega⟩

theorem P_val (t : Fin cfg0.N) : P t.val = t := Fin.ext (by
  have : cfg0.N = 64 := N_0
  have h := t.isLt
  show t.val % 64 = t.val
  omega)

/-- The tile's normalised rows, as the first chunk's point stores them. -/
def XN (c : Dev nD) (n : ℕ) : Vec F S512x1024 .bf16 := k0_pay3 (iblk m c 0 (P (n / 2 * 2))) (iblk m c 1 (P (n / 2 * 2)))

/-- The tile's product with the chunk of columns that the convolution reads. -/
def AT (c : Dev nD) (n : ℕ) : Vec F S512x1408 .f32 := k0_pay9 (XN m c n) (iblk m c 2 (P n))

/-- Its last eight rows. -/
def TL (c : Dev nD) (n : ℕ) : Vec F S1x8x1408 .f32 := k0_pay11 (tail8 (AT m c n))

/-- The eight rows before the tile: zeros at a sequence's first tile, the previous tile's last eight after it. -/
def HL (c : Dev nD) (n : ℕ) : Vec F S8x1408 .f32 := if n / 2 % 16 = 0 then k0_pay5 else k0_pay6 (TL m c (n - 2))

/-- The gated activation at a point. -/
def ACT (c : Dev nD) (n : ℕ) : FVec F S512x1408 .f32 :=
  actOf (HL m c n) (XN m c n) (iblk m c 2 (P n)) (iblk m c 3 (P n)) (iblk m c 4 (P n)) (iblk m c 5 (P n))

/-- The sum over the chunks up to a point's. -/
def AC (c : Dev nD) (n : ℕ) : Vec F S512x1024 .f32 :=
  if n % 2 = 0 then k0_pay1 (ACT m c n) k0_pay4 (iblk m c 6 (P n))
  else k0_pay1 (ACT m c n) (k0_pay1 (ACT m c (n - 1)) k0_pay4 (iblk m c 6 (P (n - 1)))) (iblk m c 6 (P n))

/-- What the kept blocks hold after the point at position `n`: the last eight rows of that point's tile and chunk, and of the point before it. -/
def Good (c : Dev nD) (n : ℕ) (g : Vec F S2x8x1408 .f32) : Prop :=
  (n % 2 = 0 → slot 0 g = TL m c n ∧ (n ≠ 0 → slot 1 g = TL m c (n - 1))) ∧ (n % 2 = 1 → slot 1 g = TL m c n ∧ slot 0 g = TL m c (n - 1))

theorem XN_even (c : Dev nD) (t : Fin cfg0.N) (h : t.val % 2 = 0) : XN m c t.val = k0_pay3 (iblk m c 0 t) (iblk m c 1 t) := by
  unfold XN; rw [show t.val / 2 * 2 = t.val by omega, P_val]

theorem XN_odd (c : Dev nD) (n : ℕ) (h : n % 2 = 1) : XN m c (n - 1) = XN m c n := by
  unfold XN; rw [show (n - 1) / 2 = n / 2 by omega]

theorem slot_set_same (k : Fin 2) (g : Vec F S2x8x1408 .f32) (X : Vec F S1x8x1408 .f32) : slot k (setSlot k g X) = X := by
  funext z
  show (if k.val = k.val then X (ix3 0 (z 1) (z 2)) else _) = X z
  rw [if_pos rfl]
  congr 1
  funext a
  apply Fin.ext
  have h0 : (z 0).val < 1 := (z 0).isLt
  fin_cases a
  · show 0 = (z 0).val
    omega
  · rfl
  · rfl

theorem slot_set_other (k l : Fin 2) (h : l ≠ k) (g : Vec F S2x8x1408 .f32) (X : Vec F S1x8x1408 .f32) : slot l (setSlot k g X) = slot l g := by
  funext z
  show (if l.val = k.val then _ else g _) = _
  rw [if_neg (fun e => h (Fin.ext e))]
  rfl

theorem HL_start (c : Dev nD) (n : ℕ) (h : n / 2 % 16 = 0) : HL m c n = k0_pay5 := by unfold HL; rw [if_pos h]

theorem HL_later (c : Dev nD) (n : ℕ) (h : ¬n / 2 % 16 = 0) : HL m c n = k0_pay6 (TL m c (n - 2)) := by unfold HL; rw [if_neg h]

/-- The block of rows that a later tile reads is the previous tile's. -/
theorem good_prev (c : Dev nD) (n : ℕ) (g : Vec F S2x8x1408 .f32) (hg : n ≠ 0 → Good m c (n - 1) g) (h : ¬n / 2 % 16 = 0) :
    (n % 2 = 0 → slot 0 g = TL m c (n - 2)) ∧ (n % 2 = 1 → slot 1 g = TL m c (n - 2)) := by
  have G := hg (by omega)
  constructor
  · intro h2
    have := (G.2 (by omega)).2
    rwa [show n - 1 - 1 = n - 2 by omega] at this
  · intro h2
    have := (G.1 (by omega)).2 (by omega)
    rwa [show n - 1 - 1 = n - 2 by omega] at this

/-- Keeping the point's last eight rows leaves the kept blocks as they should be. -/
theorem good_even (c : Dev nD) (n : ℕ) (g : Vec F S2x8x1408 .f32) (hg : n ≠ 0 → Good m c (n - 1) g) (h : n % 2 = 0) : Good m c n (setSlot 0 g (TL m c n)) :=
  ⟨fun _ => ⟨slot_set_same 0 g _, fun h0 => (slot_set_other 0 1 (by decide) g _).trans ((hg h0).2 (by omega)).1⟩, fun h' => absurd h' (by omega)⟩

theorem good_odd (c : Dev nD) (n : ℕ) (g : Vec F S2x8x1408 .f32) (hg : n ≠ 0 → Good m c (n - 1) g) (h : n % 2 = 1) : Good m c n (setSlot 1 g (TL m c n)) :=
  ⟨fun h' => absurd h' (by omega), fun _ => ⟨slot_set_same 1 g _, (slot_set_other 1 0 (by decide) g _).trans ((hg (by omega)).1 (by omega)).1⟩⟩

/-- Between points the scratch holds the tile's normalised rows, the sum so far and the kept rows; before the first point anything. -/
def PhiS (c : Dev nD) : (n : ℕ) → n ≤ cfg0.N → sProp 𝕄
  | 0, _ => Pipeline.ΦA spec0 c
  | n + 1, hn => iprop(iprop(owns (c : Thread nD τ) scM0_0 fullShare (XN m c n) ∗ owns (c : Thread nD τ) scM0_1 fullShare (AC m c n) ∗ (∃ d, owns (c : Thread nD τ) scM0_2 fullShare d) ∗ (∃ g, ⌜Good m c n g⌝ ∗ owns (c : Thread nD τ) scM0_3 fullShare g)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (XN m c n) ∗ owns (c : Thread nD τ) scM0_1 fullShare (AC m c n) ∗ (∃ d, owns (c : Thread nD τ) scM0_2 fullShare d) ∗ (∃ g, ⌜Good m c n g⌝ ∗ owns (c : Thread nD τ) scM0_3 fullShare g)) ∗ (∃ r, prngReg c r)) := rfl

theorem PhiS_pos (c : Dev nD) (n : ℕ) (h : n ≤ cfg0.N) (hz : n ≠ 0) :
    PhiS m c n h = iprop(iprop(owns (c : Thread nD τ) scM0_0 fullShare (XN m c (n - 1)) ∗ owns (c : Thread nD τ) scM0_1 fullShare (AC m c (n - 1)) ∗ (∃ d, owns (c : Thread nD τ) scM0_2 fullShare d) ∗ (∃ g, ⌜Good m c (n - 1) g⌝ ∗ owns (c : Thread nD τ) scM0_3 fullShare g)) ∗ (∃ r, prngReg c r)) := by
  cases n with
  | zero => exact absurd rfl hz
  | succ n => rfl

/-- The proof data: each input's buffer keeps its block; of the outputs' buffers `Rl` says what is known. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ t := PhiS m c t.val (Nat.le_of_lt_succ t.isLt)
  q w := Pipeline.shareOf spec0 w
  owed _ := 0

/-- The windows of which a relation says what they hold: the outputs'. -/
def fgt (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true

/-- What an output's buffer holds after point `t`: the normalised sum once both chunks are in it; the last eight rows of the point's tile and chunk. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun X => t.val % 2 = 1 → X = k0_pay2 (iblk m c 0 t) (AC m c t.val) (iblk m c 7 t)
  | ⟨9, _⟩ => fun X => X = k0_pay10 (tail8 (AT m c t.val))

/-- The proof data with the outputs held to `Rl`. -/
abbrev rdat (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem AC_A (c : Dev nD) (t : Fin cfg0.N) (h : t.val % 2 = 0) (hs : t.val / 2 % 16 = 0) :
    k0_pay1 (actOf k0_pay5 (k0_pay3 (iblk m c 0 t) (iblk m c 1 t)) (iblk m c 2 t) (iblk m c 3 t) (iblk m c 4 t) (iblk m c 5 t)) k0_pay4 (iblk m c 6 t) = AC m c t.val := by
  unfold AC ACT; rw [if_pos h, HL_start m c _ hs, XN_even m c t h, P_val]

theorem AC_B (c : Dev nD) (t : Fin cfg0.N) (h : t.val % 2 = 0) (hs : ¬t.val / 2 % 16 = 0) (g : Vec F S2x8x1408 .f32) (hg : t.val ≠ 0 → Good m c (t.val - 1) g) :
    k0_pay1 (actOf (k0_pay6 (slot 0 g)) (k0_pay3 (iblk m c 0 t) (iblk m c 1 t)) (iblk m c 2 t) (iblk m c 3 t) (iblk m c 4 t) (iblk m c 5 t)) k0_pay4 (iblk m c 6 t) = AC m c t.val := by
  unfold AC ACT; rw [if_pos h, HL_later m c _ hs, XN_even m c t h, P_val, (good_prev m c t.val g hg hs).1 h]

theorem AC_prev (c : Dev nD) (n : ℕ) (h : n % 2 = 1) : AC m c (n - 1) = k0_pay1 (ACT m c (n - 1)) k0_pay4 (iblk m c 6 (P (n - 1))) := by
  unfold AC; rw [if_pos (by omega)]

theorem AC_odd (c : Dev nD) (n : ℕ) (h : n % 2 = 1) : AC m c n = k0_pay1 (ACT m c n) (k0_pay1 (ACT m c (n - 1)) k0_pay4 (iblk m c 6 (P (n - 1)))) (iblk m c 6 (P n)) := by
  unfold AC; rw [if_neg (by omega)]

theorem ACT_at (c : Dev nD) (t : Fin cfg0.N) (H : Vec F S8x1408 .f32) (hH : H = HL m c t.val) : actOf H (XN m c t.val) (iblk m c 2 t) (iblk m c 3 t) (iblk m c 4 t) (iblk m c 5 t) = ACT m c t.val := by
  subst hH; unfold ACT; rw [P_val]

theorem AC_C (c : Dev nD) (t : Fin cfg0.N) (h : t.val % 2 = 1) (hs : t.val / 2 % 16 = 0) :
    k0_pay1 (actOf k0_pay5 (XN m c (t.val - 1)) (iblk m c 2 t) (iblk m c 3 t) (iblk m c 4 t) (iblk m c 5 t)) (AC m c (t.val - 1)) (iblk m c 6 t) = AC m c t.val := by
  rw [AC_prev m c _ h, XN_odd m c _ h, AC_odd m c _ h, ACT_at m c t _ (HL_start m c _ hs).symm, P_val]

theorem AC_D (c : Dev nD) (t : Fin cfg0.N) (h : t.val % 2 = 1) (hs : ¬t.val / 2 % 16 = 0) (g : Vec F S2x8x1408 .f32) (hg : t.val ≠ 0 → Good m c (t.val - 1) g) :
    k0_pay1 (actOf (k0_pay6 (slot 1 g)) (XN m c (t.val - 1)) (iblk m c 2 t) (iblk m c 3 t) (iblk m c 4 t) (iblk m c 5 t)) (AC m c (t.val - 1)) (iblk m c 6 t) = AC m c t.val := by
  rw [AC_prev m c _ h, XN_odd m c _ h, AC_odd m c _ h, ACT_at m c t _ ((congrArg k0_pay6 ((good_prev m c t.val g hg hs).2 h)).trans (HL_later m c _ hs).symm), P_val]

theorem AT_even (c : Dev nD) (t : Fin cfg0.N) (h : t.val % 2 = 0) : k0_pay9 (k0_pay3 (iblk m c 0 t) (iblk m c 1 t)) (iblk m c 2 t) = AT m c t.val := by
  unfold AT; rw [XN_even m c t h, P_val]

theorem AT_odd (c : Dev nD) (t : Fin cfg0.N) (h : t.val % 2 = 1) : k0_pay9 (XN m c (t.val - 1)) (iblk m c 2 t) = AT m c t.val := by
  unfold AT; rw [XN_odd m c _ h, P_val]

theorem rl8_early (c : Dev nD) (t : Fin cfg0.N) (h : t.val % 2 = 0) (X : Vec F S512x1024 .f32) : Rl m c 8 t X := fun h' => absurd h' (by omega)

theorem rl8_here (c : Dev nD) (t : Fin cfg0.N) (X : Vec F S512x1024 .f32) (e : X = AC m c t.val) : Rl m c 8 t (k0_pay2 (iblk m c 0 t) X (iblk m c 7 t)) :=
  fun _ => congrArg (fun Y => k0_pay2 (iblk m c 0 t) Y (iblk m c 7 t)) e

theorem rl9_here (c : Dev nD) (t : Fin cfg0.N) (X : Vec F S512x1408 .f32) (e : X = AT m c t.val) : Rl m c 9 t (k0_pay10 (tail8 X)) :=
  congrArg (fun Y => k0_pay10 (tail8 Y)) e

/-- What the body is called with at point `t`, window by window. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ Y, ⌜(rdat m c).Finds 8 t Y⌝ ∗ owns (c : Thread nD τ) (ms0_8 t) fullShare Y) ∗ (∃ Y, ⌜(rdat m c).Finds 9 t Y⌝ ∗ owns (c : Thread nD τ) (ms0_9 t) fullShare Y))

/-- What it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ (∃ X, ⌜Rl m c 8 t X⌝ ∗ owns (c : Thread nD τ) (ms0_8 t) fullShare X) ∗ (∃ X, ⌜Rl m c 9 t X⌝ ∗ owns (c : Thread nD τ) (ms0_9 t) fullShare X))

/-- Before a point of the first chunk: what the scratch holds is anything but for the kept rows. -/
theorem entry_even (c : Dev nD) (t : Fin cfg0.N) : PhiS m c t.val (Nat.le_of_lt t.isLt) ⊢ iprop(iprop((∃ d, owns (c : Thread nD τ) scM0_0 fullShare d) ∗ (∃ d, owns (c : Thread nD τ) scM0_1 fullShare d) ∗ (∃ d, owns (c : Thread nD τ) scM0_2 fullShare d) ∗ (∃ g, ⌜t.val ≠ 0 → Good m c (t.val - 1) g⌝ ∗ owns (c : Thread nD τ) scM0_3 fullShare g)) ∗ (∃ r, prngReg c r)) := by
  by_cases hz : t.val = 0
  · rw [PhiS_zero m c _ _ hz, PhiA0_eq]
    iintro ⟨⟨HX, HA, HE, ⟨%g, HG⟩⟩, Hr⟩
    isplitr [Hr]; swap; · iexact Hr
    isplitl [HX]; · iexact HX
    isplitl [HA]; · iexact HA
    isplitl [HE]; · iexact HE
    iexists g; isplitr; swap; · iexact HG
    ipureintro; exact fun h => absurd hz h
  · rw [PhiS_pos m c _ _ hz]
    iintro ⟨⟨HX, HA, HE, ⟨%g, %hg, HG⟩⟩, Hr⟩
    isplitr [Hr]; swap; · iexact Hr
    isplitl [HX]; · iexists _; iexact HX
    isplitl [HA]; · iexists _; iexact HA
    isplitl [HE]; · iexact HE
    iexists g; isplitr; swap; · iexact HG
    ipureintro; exact fun _ => hg

set_option maxHeartbeats 1600000 in
/-- The body at a point of the first chunk of columns, from its runs. -/
theorem sound_even (c : Dev nD) (t : Fin cfg0.N) (h0 : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ, PhiS_castSucc m c t]
  refine (sep_mono (entry_even m c t) .rfl).trans ?_
  by_cases hs : t.val / 2 % 16 = 0
  · iintro ⟨⟨⟨⟨%dx, HX⟩, ⟨%da, HA⟩, ⟨%de, HE⟩, ⟨%g, %hg, HG⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%Y9, %hY9, H9⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((conds t).1.mpr h0) ((conds t).2.1.mpr hs) (fun h => (conds t).2.2.1.mp h hs) (fun h => by have := (conds t).2.2.2.1.mp h; omega) ((conds t).2.2.2.2.1.trans (by rw [h0])) ((conds t).2.2.2.2.2.trans (by rw [h0])) (iblk m c 0 t) (iblk m c 1 t) (iblk m c 2 t) (iblk m c 3 t) (iblk m c 4 t) (iblk m c 5 t) (iblk m c 6 t) (iblk m c 7 t) Y8 g Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HX]; · iexists _; iexact HX
    isplitl [HA]; · iexists _; iexact HA
    isplitl [HE]; · iexists _; iexact HE
    isplitl [HG]; · iexact HG
    iintro ⟨H0, H1, H2, H3, H4, H5, H6, H7, H8, H9, HX, HA, ⟨%df, HE⟩, HG⟩
    isplitl [HX HA HE HG Hr]
    · isplitl [HX HA HE HG]
      · isplitl [HX]; · rw [XN_even m c t h0]; iexact HX
        isplitl [HA]; · rw [← AC_A m c t h0 hs]; iexact HA
        isplitl [HE]; · iexists _; iexact HE
        iexists _; isplitr; swap; · iexact HG
        ipureintro; rw [AT_even m c t h0]; exact good_even m c t.val g hg h0
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; · iexact H8
      ipureintro; exact rl8_early m c t h0 _
    iexists _; isplitr; swap; · iexact H9
    ipureintro; exact rl9_here m c t _ (AT_even m c t h0)
  · iintro ⟨⟨⟨⟨%dx, HX⟩, ⟨%da, HA⟩, ⟨%de, HE⟩, ⟨%g, %hg, HG⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%Y9, %hY9, H9⟩⟩
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((conds t).1.mpr h0) (fun h => hs ((conds t).2.1.mp h)) ((conds t).2.2.1.mpr hs) (fun h => by have := (conds t).2.2.2.1.mp h; omega) ((conds t).2.2.2.2.1.trans (by rw [h0])) ((conds t).2.2.2.2.2.trans (by rw [h0])) (iblk m c 0 t) (iblk m c 1 t) (iblk m c 2 t) (iblk m c 3 t) (iblk m c 4 t) (iblk m c 5 t) (iblk m c 6 t) (iblk m c 7 t) Y8 g Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HX]; · iexists _; iexact HX
    isplitl [HA]; · iexists _; iexact HA
    isplitl [HE]; · iexists _; iexact HE
    isplitl [HG]; · iexact HG
    iintro ⟨H0, H1, H2, H3, H4, H5, H6, H7, H8, H9, HX, HA, ⟨%df, HE⟩, HG⟩
    isplitl [HX HA HE HG Hr]
    · isplitl [HX HA HE HG]
      · isplitl [HX]; · rw [XN_even m c t h0]; iexact HX
        isplitl [HA]; · rw [← AC_B m c t h0 hs g hg]; iexact HA
        isplitl [HE]; · iexists _; iexact HE
        iexists _; isplitr; swap; · iexact HG
        ipureintro; rw [AT_even m c t h0]; exact good_even m c t.val g hg h0
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; · iexact H8
      ipureintro; exact rl8_early m c t h0 _
    iexists _; isplitr; swap; · iexact H9
    ipureintro; exact rl9_here m c t _ (AT_even m c t h0)

set_option maxHeartbeats 1600000 in
/-- The body at a point of the last chunk of columns, from its runs. -/
theorem sound_odd (c : Dev nD) (t : Fin cfg0.N) (h0 : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ, PhiS_castSucc m c t]
  rw [PhiS_pos m c _ _ (by omega)]
  by_cases hs : t.val / 2 % 16 = 0
  · iintro ⟨⟨⟨HX, HA, ⟨%de, HE⟩, ⟨%g, %hg, HG⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%Y9, %hY9, H9⟩⟩
    have hg : t.val ≠ 0 → Good m c (t.val - 1) g := fun _ => hg
    iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => by have := (conds t).1.mp h; omega) ((conds t).2.1.mpr hs) (fun h => (conds t).2.2.1.mp h hs) ((conds t).2.2.2.1.mpr h0) ((conds t).2.2.2.2.1.trans (by rw [h0])) ((conds t).2.2.2.2.2.trans (by rw [h0])) (iblk m c 0 t) (iblk m c 1 t) (iblk m c 2 t) (iblk m c 3 t) (iblk m c 4 t) (iblk m c 5 t) (iblk m c 6 t) (iblk m c 7 t) (XN m c (t.val - 1)) (AC m c (t.val - 1)) g Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HX]; · iexact HX
    isplitl [HA]; · iexact HA
    isplitl [HE]; · iexists _; iexact HE
    isplitl [HG]; · iexact HG
    iintro ⟨H0, H1, H2, H3, H4, H5, H6, H7, H8, H9, HX, HA, ⟨%df, HE⟩, HG⟩
    isplitl [HX HA HE HG Hr]
    · isplitl [HX HA HE HG]
      · isplitl [HX]; · rw [← XN_odd m c _ h0]; iexact HX
        isplitl [HA]; · rw [← AC_C m c t h0 hs]; iexact HA
        isplitl [HE]; · iexists _; iexact HE
        iexists _; isplitr; swap; · iexact HG
        ipureintro; rw [AT_odd m c t h0]; exact good_odd m c t.val g hg h0
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; · iexact H8
      ipureintro; exact rl8_here m c t _ (AC_C m c t h0 hs)
    iexists _; isplitr; swap; · iexact H9
    ipureintro; exact rl9_here m c t _ (AT_odd m c t h0)
  · iintro ⟨⟨⟨HX, HA, ⟨%de, HE⟩, ⟨%g, %hg, HG⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%Y9, %hY9, H9⟩⟩
    have hg : t.val ≠ 0 → Good m c (t.val - 1) g := fun _ => hg
    iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => by have := (conds t).1.mp h; omega) (fun h => hs ((conds t).2.1.mp h)) ((conds t).2.2.1.mpr hs) ((conds t).2.2.2.1.mpr h0) ((conds t).2.2.2.2.1.trans (by rw [h0])) ((conds t).2.2.2.2.2.trans (by rw [h0])) (iblk m c 0 t) (iblk m c 1 t) (iblk m c 2 t) (iblk m c 3 t) (iblk m c 4 t) (iblk m c 5 t) (iblk m c 6 t) (iblk m c 7 t) (XN m c (t.val - 1)) (AC m c (t.val - 1)) g Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HX]; · iexact HX
    isplitl [HA]; · iexact HA
    isplitl [HE]; · iexists _; iexact HE
    isplitl [HG]; · iexact HG
    iintro ⟨H0, H1, H2, H3, H4, H5, H6, H7, H8, H9, HX, HA, ⟨%df, HE⟩, HG⟩
    isplitl [HX HA HE HG Hr]
    · isplitl [HX HA HE HG]
      · isplitl [HX]; · rw [← XN_odd m c _ h0]; iexact HX
        isplitl [HA]; · rw [← AC_D m c t h0 hs g hg]; iexact HA
        isplitl [HE]; · iexists _; iexact HE
        iexists _; isplitr; swap; · iexact HG
        ipureintro; rw [AT_odd m c t h0]; exact good_odd m c t.val g hg h0
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; · iexact H8
      ipureintro; exact rl8_here m c t _ (AC_D m c t h0 hs g hg)
    iexists _; isplitr; swap; · iexact H9
    ipureintro; exact rl9_here m c t _ (AT_odd m c t h0)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 2 = 0
  · exact sound_even m c t h0
  · exact sound_odd m c t (by omega)

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 (Nat.zero_le _) from rfl, PhiS_zero m c 0 _ rfl]

theorem hout (c : Dev nD) : (rdat m c).Φ (Fin.last cfg0.N) ⊢ Pipeline.ΦA spec0 c := by
  rw [show (rdat m c).Φ (Fin.last cfg0.N) = PhiS m c cfg0.N le_rfl from rfl, PhiS_pos m c _ _ (by have : cfg0.N = 64 := N_0; omega), PhiA0_eq]
  iintro ⟨⟨HX, HA, HE, ⟨%g, %hg, HG⟩⟩, Hr⟩
  isplitr [Hr]; swap; · iexact Hr
  isplitl [HX]; · iexists _; iexact HX
  isplitl [HA]; · iexists _; iexact HA
  isplitl [HE]; · iexact HE
  iexists _; iexact HG

set_option backward.isDefEq.respectTransparency.types false in
/-- Every execution terminates; the arrays end as the proof data says; the counters at zero. -/
theorem run_main_quiescent : θ_run defs (onTc (τ := τ) (main (F := F))) (s₀ m ρ) (fun r => (Pipeline.RDat.FramePost cfg0 (fun c => rdat m c) (V m)) r ∧ r.2.sem = fun _ => 0) :=
  Pipeline.RDat.θ_run_frame_track_shared (Q' := _) cfgs (0 : Fin 1) launch₀0 defs₀ Variants.none (fun c => rdat m c) m ρ main
    (hbody := fun c => (body_obligation m c).toRRel) (hq := fun _ _ _ => rfl)
    (howed := fun _ _ => rfl) (V := V m) (hmain := hmain m Variants.none) (hA := fun c w => A_eq m c w) (hin := hin m) (hout := hout m)

/-- The frame at any float model: every execution terminates, the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(Pipeline.RDat.FramePost.arr_in h.1 c 0 rfl).trans ((A_eq m c 0).trans (V_main_arg0 m c)),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c),
        ((h.1 c).2 main_arg4 (Pipeline.mem_restRefs_of main_arg4 (by decide) (by decide))).trans (V_main_arg4 m c),
        ((h.1 c).2 main_arg5 (Pipeline.mem_restRefs_of main_arg5 (by decide) (by decide))).trans (V_main_arg5 m c),
        ((h.1 c).2 main_arg6 (Pipeline.mem_restRefs_of main_arg6 (by decide) (by decide))).trans (V_main_arg6 m c)⟩, h.2⟩)
    (run_main_quiescent m ρ)

end Cert.Kernel3Ideal.Ffn

end
-- ==== Proof.KfnFrame.lean ====
module

public import proofs.«01_k».proof.Proof.FfnFrame
public import proofs.«01_k».proof.Defs
public import proofs.«01_k».proof.Proof.Gen.Kernel3

@[expose] public section

noncomputable section

namespace Cert.Kernel3.Ffn
open Idealize.ShloMosaic

/-- The body tables of the kernel as compiled and of its ideal form are the same. -/
theorem defs₀_eq : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  refine congrArg Defs.onTc (funext fun l => funext fun a => ?_)
  match l, a with
  | ⟨0, _⟩, (_, _) => rfl

/-- And so are the tables with the pipelines. -/
theorem defs_eq : @Cert.Kernel3.defs Bits _ Cert.Kernel3.Gen.facts = @Cert.Kernel3Ideal.defs Bits _ Cert.Kernel3Ideal.Gen.facts :=
  congrArg (Pipeline.defs (@Cert.Kernel3Ideal.pcfgs Bits Cert.Kernel3Ideal.Gen.facts)) defs₀_eq

/-- The kernel as compiled is the ideal one, term by term, so the frame is the same. -/
theorem frame : @Cert.quiescent_Kernel3 Cert.Kernel3.Gen.facts := fun m ρ _ =>
  Eq.mpr (congrArg (fun D => θ_run D (onTc (τ := Cert.Kernel3Ideal.τ) (Cert.Kernel3Ideal.main (F := Bits))) ⟨m, fun _ => 0, ρ⟩ _) defs_eq) (Cert.Kernel3Ideal.Ffn.frame (F := Bits) m ρ)

end Cert.Kernel3.Ffn

end
-- ==== Proof.FfnSpec.lean ====
module

public import proofs.«01_k».proof.Proof.InpSpec
public import proofs.«01_k».proof.Proof.Gen.Kernel3Ideal.Skeleton
public import Idealize.ShloMosaic.Lib.Pointwise
public import Idealize.ShloMosaic.Lib.Pipeline.ValueKit

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Cert.Kernel2Ideal.Inp (normed prod)

/-- The product of the normalised rows with the second layer's weights, by numbers, zero outside. -/
def uN (x0 : FVec Ideal S16384x1024 .f32) (x1 : FVec Ideal S2x1024 .f32) (x2 : FVec Ideal S2x1024x5632 .f32) (r e : ℕ) : EReal :=
  if h : r < 16384 ∧ e < 5632 then prod (fun k => x0 (ix2 ⟨r, h.1⟩ k)) (fun k => x1 (ix2 1 k)) (fun k => x2 (ix3 1 k ⟨e, h.2⟩)) else 0

theorem uN_of (x0 : FVec Ideal S16384x1024 .f32) (x1 : FVec Ideal S2x1024 .f32) (x2 : FVec Ideal S2x1024x5632 .f32) (r : Fin 16384) (e : Fin 5632) :
    prod (fun k => x0 (ix2 r k)) (fun k => x1 (ix2 1 k)) (fun k => x2 (ix3 1 k e)) = uN x0 x1 x2 r.val e.val := by
  unfold uN; rw [dif_pos ⟨r.isLt, e.isLt⟩]

/-- The same `d` rows earlier in the row's sequence, zero before its start. -/
def pN (x0 : FVec Ideal S16384x1024 .f32) (x1 : FVec Ideal S2x1024 .f32) (x2 : FVec Ideal S2x1024x5632 .f32) (d r e : ℕ) : EReal := if r % 8192 < d then 0 else uN x0 x1 x2 (r - d) e

/-- The convolution's weights. -/
def wN (x3 : FVec Ideal S2x3x2816 .f32) (k : Fin 3) (e : ℕ) : EReal := if h : e < 2816 then x3 (ix3 1 k ⟨e, h⟩) else 0
theorem wN_of (x3 : FVec Ideal S2x3x2816 .f32) (k : Fin 3) (e : Fin 2816) : (x3 (ix3 1 k e) : EReal) = wN x3 k e.val := by
  unfold wN; rw [dif_pos e.isLt]

/-- Its bias. -/
def bN (x4 : FVec Ideal S2x2816 .f32) (e : ℕ) : EReal := if h : e < 2816 then x4 (ix2 1 ⟨e, h⟩) else 0
theorem bN_of (x4 : FVec Ideal S2x2816 .f32) (e : Fin 2816) : (x4 (ix2 1 e) : EReal) = bN x4 e.val := by
  unfold bN; rw [dif_pos e.isLt]

/-- Three terms of a convolution and a bias. -/
def conv (u p1 p2 w0 w1 w2 b : EReal) : EReal := ((w2 * u + w1 * p1) + w0 * p2) + b

/-- The exact GELU with `erf`. -/
def gelu (x : EReal) : EReal := Ideal.ofBits .f32 0x3F000000#32 * x * (Ideal.ofBits .f32 0x3F800000#32 + Ideal.erf (x * Ideal.ofBits .f32 0x3F3504F3#32))

/-- The gated activation, by numbers. -/
def actN (x0 : FVec Ideal S16384x1024 .f32) (x1 : FVec Ideal S2x1024 .f32) (x2 : FVec Ideal S2x1024x5632 .f32) (x3 : FVec Ideal S2x3x2816 .f32) (x4 : FVec Ideal S2x2816 .f32) (r e : ℕ) : EReal :=
  gelu (conv (uN x0 x1 x2 r e) (pN x0 x1 x2 1 r e) (pN x0 x1 x2 2 r e) (wN x3 0 e) (wN x3 1 e) (wN x3 2 e) (bN x4 e)) * uN x0 x1 x2 r (2816 + e)

/-- The row with the layer's product added. -/
def hN (x0 : FVec Ideal S16384x1024 .f32) (x1 : FVec Ideal S2x1024 .f32) (x2 : FVec Ideal S2x1024x5632 .f32) (x3 : FVec Ideal S2x3x2816 .f32) (x4 : FVec Ideal S2x2816 .f32) (x5 : FVec Ideal S2x2816x1024 .f32) (r : ℕ) (k : Fin 1024) : EReal :=
  if h : r < 16384 then x0 (ix2 ⟨r, h⟩ k) + ∑ e : Fin 2816, actN x0 x1 x2 x3 x4 r e.val * x5 (ix3 1 e k) else 0

theorem hN_of (x0 : FVec Ideal S16384x1024 .f32) (x1 : FVec Ideal S2x1024 .f32) (x2 : FVec Ideal S2x1024x5632 .f32) (x3 : FVec Ideal S2x3x2816 .f32) (x4 : FVec Ideal S2x2816 .f32) (x5 : FVec Ideal S2x2816x1024 .f32) (r : Fin 16384) (k : Fin 1024) :
    (x0 (ix2 r k) : EReal) + ∑ e : Fin 2816, actN x0 x1 x2 x3 x4 r.val e.val * x5 (ix3 1 e k) = hN x0 x1 x2 x3 x4 x5 r.val k := by
  unfold hN; rw [dif_pos r.isLt]

/-- The normalised sum, by numbers. -/
def yN (x0 : FVec Ideal S16384x1024 .f32) (x1 : FVec Ideal S2x1024 .f32) (x2 : FVec Ideal S2x1024x5632 .f32) (x3 : FVec Ideal S2x3x2816 .f32) (x4 : FVec Ideal S2x2816 .f32) (x5 : FVec Ideal S2x2816x1024 .f32) (x6 : FVec Ideal S1024 .f32) (r k : ℕ) : EReal :=
  if h : k < 1024 then normed (fun j => hN x0 x1 x2 x3 x4 x5 r j) (fun j => x6 (ix1 j)) ⟨k, h⟩ else 0

/-- The first result. -/
def out0 (x0 : FVec Ideal S16384x1024 .f32) (x1 : FVec Ideal S2x1024 .f32) (x2 : FVec Ideal S2x1024x5632 .f32) (x3 : FVec Ideal S2x3x2816 .f32) (x4 : FVec Ideal S2x2816 .f32) (x5 : FVec Ideal S2x2816x1024 .f32) (x6 : FVec Ideal S1024 .f32) : FVec Ideal S16384x1024 .f32 := fun i => yN x0 x1 x2 x3 x4 x5 x6 (i 0).val (i 1).val

/-- The second result: the last eight rows of every 512. -/
def out1 (x0 : FVec Ideal S16384x1024 .f32) (x1 : FVec Ideal S2x1024 .f32) (x2 : FVec Ideal S2x1024x5632 .f32) : FVec Ideal S32x8x2816 .f32 := fun i => uN x0 x1 x2 ((i 0).val * 512 + (504 + (i 1).val)) (i 2).val

end Cert.Kernel3Ideal.Ffn

end
-- ==== Proof.FfnBlock.lean ====
module

public import proofs.«01_k».proof.Proof.FfnFrame
public import proofs.«01_k».proof.Proof.FfnSpec

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Cert.Kernel2Ideal.Inp (normed prod)

variable (m : (ℓ : Loc nD τ sig) → Buf (Elt Ideal) ℓ)

/-- The windows' block indices at each point. -/
theorem idx : ∀ t : Fin cfg0.N, win0_0.index t = ![t.val / 2, 0] ∧ win0_1.index t = ![0, 0] ∧ win0_2.index t = ![1, 0, t.val % 2]
    ∧ win0_3.index t = ![1, 0, 2 + t.val % 2] ∧ win0_4.index t = ![0, t.val % 2] ∧ win0_5.index t = ![0, t.val % 2]
    ∧ win0_6.index t = ![1, t.val % 2, 0] ∧ win0_7.index t = ![0, 0]
    ∧ win0_8.index t = ![t.val / 2, 0] ∧ win0_9.index t = ![t.val / 2, 0, t.val % 2] :=
  (by decide +kernel : ∀ t : Fin grid0.N, _)

theorem lt64 (t : Fin cfg0.N) : t.val < 64 := t.isLt

/-- The rows' block. -/
theorem blk0 (c : Dev nD) (t : Fin cfg0.N) (q : Fin 512) (k : Fin 1024) :
    iblk m c 0 t (ix2 q k) = (m ((c : Thread nD τ).loc main_arg0)) (ix2 ⟨t.val / 2 * 512 + q.val, by have := lt64 t; omega⟩ k) := by
  blk_ext [iblk, V, idx t]

theorem entry1 (c : Dev nD) (k : Fin 1024) : V m c main_v4 (ix2 0 k) = (m ((c : Thread nD τ).loc main_arg1)) (ix2 1 k) := by
  entry_read
  pointwise
/-- The block of scales. -/
theorem blk1 (c : Dev nD) (t : Fin cfg0.N) (k : Fin 1024) : iblk m c 1 t (ix2 0 k) = (m ((c : Thread nD τ).loc main_arg1)) (ix2 1 k) := by
  refine Eq.trans ?_ (entry1 m c k)
  blk_ext [iblk, idx t]

theorem entry2 (c : Dev nD) (k : Fin 1024) (e : Fin 5632) : (V m c main_v0 (ix3 1 k e) : EReal) = (m ((c : Thread nD τ).loc main_arg2)) (ix3 1 k e) := by
  entry_read
  pointwise
/-- The weights the convolution's chunk reads. -/
theorem blk2 (c : Dev nD) (t : Fin cfg0.N) (k : Fin 1024) (j : Fin 1408) :
    (iblk m c 2 t (ix3 0 k j) : EReal) = (m ((c : Thread nD τ).loc main_arg2)) (ix3 1 k ⟨t.val % 2 * 1408 + j.val, by omega⟩) := by
  refine Eq.trans ?_ (entry2 m c k ⟨t.val % 2 * 1408 + j.val, by omega⟩)
  blk_ext [iblk, idx t]
/-- The weights the gate's chunk reads. -/
theorem blk3 (c : Dev nD) (t : Fin cfg0.N) (k : Fin 1024) (j : Fin 1408) :
    (iblk m c 3 t (ix3 0 k j) : EReal) = (m ((c : Thread nD τ).loc main_arg2)) (ix3 1 k ⟨(2 + t.val % 2) * 1408 + j.val, by omega⟩) := by
  refine Eq.trans ?_ (entry2 m c k ⟨(2 + t.val % 2) * 1408 + j.val, by omega⟩)
  blk_ext [iblk, idx t]

theorem entry4 (c : Dev nD) (a : Fin 3) (e : Fin 2816) : V m c main_v6 (ix2 a e) = (m ((c : Thread nD τ).loc main_arg3)) (ix3 1 a e) := by
  entry_read
  pointwise
/-- The convolution's weights. -/
theorem blk4 (c : Dev nD) (t : Fin cfg0.N) (a : Fin 3) (j : Fin 1408) :
    iblk m c 4 t (ix2 a j) = (m ((c : Thread nD τ).loc main_arg3)) (ix3 1 a ⟨t.val % 2 * 1408 + j.val, by omega⟩) := by
  refine Eq.trans ?_ (entry4 m c a ⟨t.val % 2 * 1408 + j.val, by omega⟩)
  blk_ext [iblk, idx t]

theorem entry5 (c : Dev nD) (e : Fin 2816) : V m c main_v9 (ix2 0 e) = (m ((c : Thread nD τ).loc main_arg4)) (ix2 1 e) := by
  entry_read
  pointwise
/-- The convolution's bias. -/
theorem blk5 (c : Dev nD) (t : Fin cfg0.N) (j : Fin 1408) :
    iblk m c 5 t (ix2 0 j) = (m ((c : Thread nD τ).loc main_arg4)) (ix2 1 ⟨t.val % 2 * 1408 + j.val, by omega⟩) := by
  refine Eq.trans ?_ (entry5 m c ⟨t.val % 2 * 1408 + j.val, by omega⟩)
  blk_ext [iblk, idx t]

theorem entry6 (c : Dev nD) (e : Fin 2816) (k : Fin 1024) : (V m c main_v1 (ix3 1 e k) : EReal) = (m ((c : Thread nD τ).loc main_arg5)) (ix3 1 e k) := by
  entry_read
  pointwise
/-- The weights of the second product. -/
theorem blk6 (c : Dev nD) (t : Fin cfg0.N) (j : Fin 1408) (k : Fin 1024) :
    (iblk m c 6 t (ix3 0 j k) : EReal) = (m ((c : Thread nD τ).loc main_arg5)) (ix3 1 ⟨t.val % 2 * 1408 + j.val, by omega⟩ k) := by
  refine Eq.trans ?_ (entry6 m c ⟨t.val % 2 * 1408 + j.val, by omega⟩ k)
  blk_ext [iblk, idx t]

theorem entry7 (c : Dev nD) (k : Fin 1024) : V m c main_v10 (ix2 0 k) = (m ((c : Thread nD τ).loc main_arg6)) (ix1 k) := by
  entry_read
  pointwise
/-- The last scales. -/
theorem blk7 (c : Dev nD) (t : Fin cfg0.N) (k : Fin 1024) : iblk m c 7 t (ix2 0 k) = (m ((c : Thread nD τ).loc main_arg6)) (ix1 k) := by
  refine Eq.trans ?_ (entry7 m c k)
  blk_ext [iblk, idx t]

end Cert.Kernel3Ideal.Ffn

end
-- ==== Proof.FfnPay.lean ====
module

public import proofs.«01_k».proof.Proof.FfnSpec
public import proofs.«01_k».proof.Proof.FfnPure

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Cert.Kernel2Ideal.Inp (normed prod)

theorem pay3_at (x : Vec Ideal S512x1024 .f32) (g : Vec Ideal S1x1024 .f32) (q : Fin 512) (k : Fin 1024) :
    (k0_pay3 x g (ix2 q k) : EReal) = normed (fun k => x (ix2 q k)) (fun k => g (ix2 0 k)) k := by
  unfold normed
  pointwise [k0_pay3]

theorem pay2_at (x acc : Vec Ideal S512x1024 .f32) (g : Vec Ideal S1x1024 .f32) (q : Fin 512) (k : Fin 1024) :
    (k0_pay2 x acc g (ix2 q k) : EReal) = normed (fun k => (x (ix2 q k) : EReal) + acc (ix2 q k)) (fun k => g (ix2 0 k)) k := by
  unfold normed
  pointwise [k0_pay2]

theorem pay4_at (q : Fin 512) (k : Fin 1024) : (k0_pay4 (F := Ideal) (ix2 q k) : EReal) = 0 := by
  pointwise [k0_pay4]

theorem pay5_at (q : Fin 8) (j : Fin 1408) : (k0_pay5 (F := Ideal) (ix2 q j) : EReal) = 0 := by
  pointwise [k0_pay5]

theorem pay6_at (v : Vec Ideal S1x8x1408 .f32) (q : Fin 8) (j : Fin 1408) : (k0_pay6 v (ix2 q j) : EReal) = v (ix3 0 q j) := by
  pointwise [k0_pay6]

theorem pay7_at (xs : Vec Ideal S512x1024 .bf16) (w : Vec Ideal S1x1024x1408 .bf16) (q : Fin 512) (j : Fin 1408) :
    (k0_pay7 xs w (ix2 q j) : EReal) = ∑ k : Fin 1024, (xs (ix2 q k) : EReal) * w (ix3 0 k j) := by
  pointwise [k0_pay7]

theorem pay8_at (xs : Vec Ideal S512x1024 .bf16) (w : Vec Ideal S1x1024x1408 .bf16) (q : Fin 512) (j : Fin 1408) :
    (k0_pay8 xs w (ix2 q j) : EReal) = ∑ k : Fin 1024, (xs (ix2 q k) : EReal) * w (ix3 0 k j) := by
  pointwise [k0_pay8]

theorem pay9_at (xs : Vec Ideal S512x1024 .bf16) (w : Vec Ideal S1x1024x1408 .bf16) (q : Fin 512) (j : Fin 1408) :
    (k0_pay9 xs w (ix2 q j) : EReal) = ∑ k : Fin 1024, (xs (ix2 q k) : EReal) * w (ix3 0 k j) := by
  pointwise [k0_pay9, k0_pay7]

theorem pay10_at (v : Vec Ideal S8x1408 .f32) (q : Fin 8) (j : Fin 1408) : (k0_pay10 v (ix3 0 q j) : EReal) = v (ix2 q j) := by
  pointwise [k0_pay10]

theorem pay11_at (v : Vec Ideal S8x1408 .f32) (q : Fin 8) (j : Fin 1408) : (k0_pay11 v (ix3 0 q j) : EReal) = v (ix2 q j) := by
  pointwise [k0_pay11]

theorem pay12_at (a g : FVec Ideal S512x1408 .f32) (w2 w1 w0 b : Vec Ideal S1x1408 .f32) (p1 p2 : Vec Ideal S512x1408 .f32) (q : Fin 512) (j : Fin 1408) :
    (k0_pay12 a g w2 w1 p1 w0 p2 b (ix2 q j) : EReal)
      = gelu (conv (a (ix2 q j)) (p1 (ix2 q j)) (p2 (ix2 q j)) (w0 (ix2 0 j)) (w1 (ix2 0 j)) (w2 (ix2 0 j)) (b (ix2 0 j))) * g (ix2 q j) := by
  unfold gelu conv
  pointwise [k0_pay12]
  rfl

theorem pay1_at (act : FVec Ideal S512x1408 .f32) (acc : Vec Ideal S512x1024 .f32) (w : Vec Ideal S1x1408x1024 .bf16) (q : Fin 512) (k : Fin 1024) :
    (k0_pay1 act acc w (ix2 q k) : EReal) = acc (ix2 q k) + ∑ j : Fin 1408, (act (ix2 q j) : EReal) * w (ix3 0 j k) := by
  pointwise [k0_pay1]

end Cert.Kernel3Ideal.Ffn

end
-- ==== Proof.FfnOut.lean ====
module

public import proofs.«01_k».proof.Proof.FfnBlock
public import proofs.«01_k».proof.Proof.FfnPay

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Cert.Kernel2Ideal.Inp (normed prod)

variable (m : (ℓ : Loc nD τ sig) → Buf (Elt Ideal) ℓ)

/-- The tile's normalised rows. -/
theorem xn_at (c : Dev nD) (t : Fin cfg0.N) (q : Fin 512) (k : Fin 1024) :
    (XN m c t.val (ix2 q k) : EReal) = normed (fun k => (m ((c : Thread nD τ).loc main_arg0)) (ix2 ⟨t.val / 2 * 512 + q.val, by have := lt64 t; omega⟩ k)) (fun k => (m ((c : Thread nD τ).loc main_arg1)) (ix2 1 k)) k := by
  have hp : (P (t.val / 2 * 2)).val / 2 = t.val / 2 := by
    have := lt64 t
    show t.val / 2 * 2 % 64 / 2 = t.val / 2
    omega
  unfold XN
  rw [pay3_at]
  simp only [blk0 m, blk1 m, hp]

/-- The tile's product with the convolution's chunk. -/
theorem a_at (c : Dev nD) (t : Fin cfg0.N) (q : Fin 512) (j : Fin 1408) :
    ((∑ k : Fin 1024, (XN m c t.val (ix2 q k) : EReal) * iblk m c 2 t (ix3 0 k j)) : EReal) = uN (m ((c : Thread nD τ).loc main_arg0)) (m ((c : Thread nD τ).loc main_arg1)) (m ((c : Thread nD τ).loc main_arg2)) (t.val / 2 * 512 + q.val) (t.val % 2 * 1408 + j.val) := by
  refine Eq.trans ?_ (uN_of _ _ _ ⟨t.val / 2 * 512 + q.val, by have := lt64 t; omega⟩ ⟨t.val % 2 * 1408 + j.val, by omega⟩)
  unfold prod
  exact Finset.sum_congr rfl fun k _ => congrArg₂ (· * ·) (xn_at m c t q k) (blk2 m c t k j)

/-- The tile's product with the gate's chunk. -/
theorem g_at (c : Dev nD) (t : Fin cfg0.N) (q : Fin 512) (j : Fin 1408) :
    ((∑ k : Fin 1024, (XN m c t.val (ix2 q k) : EReal) * iblk m c 3 t (ix3 0 k j)) : EReal) = uN (m ((c : Thread nD τ).loc main_arg0)) (m ((c : Thread nD τ).loc main_arg1)) (m ((c : Thread nD τ).loc main_arg2)) (t.val / 2 * 512 + q.val) (2816 + (t.val % 2 * 1408 + j.val)) := by
  rw [show 2816 + (t.val % 2 * 1408 + j.val) = (2 + t.val % 2) * 1408 + j.val by omega]
  refine Eq.trans ?_ (uN_of _ _ _ ⟨t.val / 2 * 512 + q.val, by have := lt64 t; omega⟩ ⟨(2 + t.val % 2) * 1408 + j.val, by omega⟩)
  unfold prod
  exact Finset.sum_congr rfl fun k _ => congrArg₂ (· * ·) (xn_at m c t q k) (blk3 m c t k j)

theorem AT_at (c : Dev nD) (t : Fin cfg0.N) (q : Fin 512) (j : Fin 1408) : (AT m c t.val (ix2 q j) : EReal) = uN (m ((c : Thread nD τ).loc main_arg0)) (m ((c : Thread nD τ).loc main_arg1)) (m ((c : Thread nD τ).loc main_arg2)) (t.val / 2 * 512 + q.val) (t.val % 2 * 1408 + j.val) := by
  unfold AT
  rw [pay9_at, P_val, a_at]

/-- The eight rows before a tile that does not start a sequence. -/
theorem HL_at (c : Dev nD) (t : Fin cfg0.N) (h : ¬t.val / 2 % 16 = 0) (z : Fin 8) (j : Fin 1408) :
    (HL m c t.val (ix2 z j) : EReal) = uN (m ((c : Thread nD τ).loc main_arg0)) (m ((c : Thread nD τ).loc main_arg1)) (m ((c : Thread nD τ).loc main_arg2)) (t.val / 2 * 512 + z.val - 8) (t.val % 2 * 1408 + j.val) := by
  rw [HL_later m c _ h, pay6_at]
  unfold TL
  rw [pay11_at]
  have e := AT_at m c ⟨t.val - 2, by have := t.isLt; omega⟩ ⟨504 + z.val, by omega⟩ j
  refine Eq.trans e ?_
  dsimp only
  rw [show (t.val - 2) / 2 * 512 + (504 + z.val) = t.val / 2 * 512 + z.val - 8 by omega, show (t.val - 2) % 2 = t.val % 2 by omega]

/-- The tile's product `d` rows earlier. -/
theorem shifted_at (c : Dev nD) (t : Fin cfg0.N) (d : ℕ) (h1 : 1 ≤ d) (h2 : d ≤ 2) (q : Fin 512) (j : Fin 1408) :
    (shifted d (HL m c t.val) (AT m c t.val) (ix2 q j) : EReal) = pN (m ((c : Thread nD τ).loc main_arg0)) (m ((c : Thread nD τ).loc main_arg1)) (m ((c : Thread nD τ).loc main_arg2)) d (t.val / 2 * 512 + q.val) (t.val % 2 * 1408 + j.val) := by
  unfold shifted pN
  by_cases hq : q.val < d
  · refine Eq.trans (if_pos hq) ?_
    by_cases hs : t.val / 2 % 16 = 0
    · rw [if_pos (by omega), HL_start m c _ hs]
      exact pay5_at _ _
    · rw [if_neg (by omega)]
      refine (HL_at m c t hs ⟨(8 - d + q.val) % 8, Nat.mod_lt _ (by norm_num)⟩ j).trans ?_
      dsimp only
      rw [show t.val / 2 * 512 + (8 - d + q.val) % 8 - 8 = t.val / 2 * 512 + q.val - d by omega]
  · refine Eq.trans (if_neg hq) ?_
    rw [if_neg (by omega)]
    refine (AT_at m c t ⟨q.val - d, by omega⟩ j).trans ?_
    dsimp only
    rw [show t.val / 2 * 512 + (q.val - d) = t.val / 2 * 512 + q.val - d by omega]

/-- The gated activation. -/
theorem ACT_num (c : Dev nD) (t : Fin cfg0.N) (q : Fin 512) (j : Fin 1408) : (ACT m c t.val (ix2 q j) : EReal) = actN (m ((c : Thread nD τ).loc main_arg0)) (m ((c : Thread nD τ).loc main_arg1)) (m ((c : Thread nD τ).loc main_arg2)) (m ((c : Thread nD τ).loc main_arg3)) (m ((c : Thread nD τ).loc main_arg4)) (t.val / 2 * 512 + q.val) (t.val % 2 * 1408 + j.val) := by
  rw [← ACT_at m c t _ rfl]
  unfold actOf
  have hat : k0_pay9 (XN m c t.val) (iblk m c 2 t) = AT m c t.val := by unfold AT; rw [P_val]
  rw [pay12_at, hat, shifted_at m c t 1 (by omega) (by omega), shifted_at m c t 2 (by omega) (by omega), pay7_at, pay8_at, a_at, g_at]
  unfold actN
  have hw (k : Fin 3) : (cwRow k (iblk m c 4 t) (ix2 0 j) : EReal) = wN (m ((c : Thread nD τ).loc main_arg3)) k (t.val % 2 * 1408 + j.val) :=
    (blk4 m c t k j).trans (wN_of _ k ⟨t.val % 2 * 1408 + j.val, by omega⟩)
  have hb : (iblk m c 5 t (ix2 0 j) : EReal) = bN (m ((c : Thread nD τ).loc main_arg4)) (t.val % 2 * 1408 + j.val) :=
    (blk5 m c t j).trans (bN_of _ ⟨t.val % 2 * 1408 + j.val, by omega⟩)
  rw [hw, hw, hw, hb]

/-- The sum over both chunks. -/
theorem AC_at (c : Dev nD) (t : Fin cfg0.N) (h : t.val % 2 = 1) (q : Fin 512) (k : Fin 1024) :
    (AC m c t.val (ix2 q k) : EReal) = ∑ e : Fin 2816, actN (m ((c : Thread nD τ).loc main_arg0)) (m ((c : Thread nD τ).loc main_arg1)) (m ((c : Thread nD τ).loc main_arg2)) (m ((c : Thread nD τ).loc main_arg3)) (m ((c : Thread nD τ).loc main_arg4)) (t.val / 2 * 512 + q.val) e.val * (m ((c : Thread nD τ).loc main_arg5)) (ix3 1 e k) := by
  have ht := t.isLt
  have e0 := fun j => ACT_num m c ⟨t.val - 1, by omega⟩ q j
  have b0 := fun j => blk6 m c ⟨t.val - 1, by omega⟩ j k
  have hP : P (t.val - 1) = ⟨t.val - 1, by omega⟩ := P_val ⟨t.val - 1, by omega⟩
  rw [AC_odd m c _ h, pay1_at, pay1_at, pay4_at, zero_add, P_val, hP]
  refine Eq.trans ?_ (Fin.sum_univ_add (a := 1408) (b := 1408) (fun e : Fin 2816 => actN (m ((c : Thread nD τ).loc main_arg0)) (m ((c : Thread nD τ).loc main_arg1)) (m ((c : Thread nD τ).loc main_arg2)) (m ((c : Thread nD τ).loc main_arg3)) (m ((c : Thread nD τ).loc main_arg4)) (t.val / 2 * 512 + q.val) e.val * (m ((c : Thread nD τ).loc main_arg5)) (ix3 1 e k))).symm
  refine congrArg₂ (· + ·) (Finset.sum_congr rfl fun j _ => congrArg₂ (· * ·) ((e0 j).trans ?_) ((b0 j).trans ?_)) (Finset.sum_congr rfl fun j _ => congrArg₂ (· * ·) ((ACT_num m c t q j).trans ?_) ((blk6 m c t j k).trans ?_))
  · dsimp only [Fin.val_castAdd]
    rw [show (t.val - 1) / 2 = t.val / 2 by omega, show (t.val - 1) % 2 * 1408 + j.val = j.val by omega]
  · refine congrArg (fun e => (m ((c : Thread nD τ).loc main_arg5)) (ix3 1 e k)) (Fin.ext ?_)
    show (t.val - 1) % 2 * 1408 + j.val = j.val
    omega
  · dsimp only [Fin.val_natAdd]
    rw [show t.val % 2 * 1408 + j.val = 1408 + j.val by omega]
  · refine congrArg (fun e => (m ((c : Thread nD τ).loc main_arg5)) (ix3 1 e k)) (Fin.ext ?_)
    show t.val % 2 * 1408 + j.val = 1408 + j.val
    omega

/-- The normalised sum of a tile. -/
theorem y_at (c : Dev nD) (t : Fin cfg0.N) (h : t.val % 2 = 1) (q : Fin 512) (k : Fin 1024) :
    (k0_pay2 (iblk m c 0 t) (AC m c t.val) (iblk m c 7 t) (ix2 q k) : EReal) = yN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (t.val / 2 * 512 + q.val) k.val := by
  unfold yN
  rw [pay2_at, dif_pos k.isLt]
  refine congrArg₂ (fun f g => normed f g k) (funext fun j => ?_) (funext fun j => blk7 m c t j)
  exact (congrArg₂ (fun u v : EReal => u + v) (blk0 m c t q j) (AC_at m c t h q j)).trans (hN_of _ _ _ _ _ _ ⟨t.val / 2 * 512 + q.val, by have := lt64 t; omega⟩ j)

/-- The kept rows of a tile. -/
theorem t_at (c : Dev nD) (t : Fin cfg0.N) (z : Fin 8) (j : Fin 1408) :
    (k0_pay10 (tail8 (AT m c t.val)) (ix3 0 z j) : EReal) = uN (m ((c : Thread nD τ).loc main_arg0)) (m ((c : Thread nD τ).loc main_arg1)) (m ((c : Thread nD τ).loc main_arg2)) (t.val / 2 * 512 + (504 + z.val)) (t.val % 2 * 1408 + j.val) := by
  rw [pay10_at]
  exact AT_at m c t ⟨504 + z.val, by omega⟩ j

section
variable (c : Dev nD) (after : (w : Fin cfg0.W) → Fin cfg0.N → ((cfg0.win w).block.Idx → Elt Ideal (cfg0.win w).elt))
  (hL : ∀ w u, (cfg0.win w).flush u = true → (rdat m c).Leaves w u (after w u))
include hL

/-- The first result, whole. -/
theorem final0 : ((rdat m c).withAfter after).arrAt 8 cfg0.N = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold out0
  refine ((rdat m c).withAfter after).arrAt_eq_of_covers 8 _ (by decide +kernel) fun t hf y => ?_
  have hp : t.val % 2 = 1 := (flush0_8 t).mp hf
  have ha : after 8 t = k0_pay2 (iblk m c 0 t) (AC m c t.val) (iblk m c 7 t) := (dats m 0 c).toRRel_leaves (fgt := fgt) (Rl := Rl m c) rfl (hL 8 t hf) hp
  rw [Pipeline.RDat.withAfter_after, ha]
  blk_simp [idx t]
  exact (congrArg (k0_pay2 (iblk m c 0 t) (AC m c t.val) (iblk m c 7 t)) (eq_ix2 y)).trans (y_at m c t hp (y 0) (y 1))

/-- The second result, whole. -/
theorem final1 : ((rdat m c).withAfter after).arrAt 9 cfg0.N = out1 (m ((c : Thread nD τ).loc main_arg0)) (m ((c : Thread nD τ).loc main_arg1)) (m ((c : Thread nD τ).loc main_arg2)) := by
  unfold out1
  refine ((rdat m c).withAfter after).arrAt_eq_of_covers 9 _ (by decide +kernel) fun t hf y => ?_
  have ha : after 9 t = k0_pay10 (tail8 (AT m c t.val)) := (dats m 0 c).toRRel_leaves (fgt := fgt) (Rl := Rl m c) rfl (hL 9 t hf)
  rw [Pipeline.RDat.withAfter_after, ha]
  blk_simp [idx t]
  have hy : y = ix3 0 (y 1) (y 2) := (eq_ix3 y).trans (congrArg (fun a => ix3 a (y 1) (y 2)) (Fin.ext (by have h : (y 0).val < 1 := (y 0).isLt; show (y 0).val = 0; omega)))
  refine (congrArg (k0_pay10 (tail8 (AT m c t.val))) hy).trans ((t_at m c t (y 1) (y 2)).trans ?_)
  congr 1

end

end Cert.Kernel3Ideal.Ffn

end
-- ==== Proof.FfnRef.lean ====
module

public import proofs.«01_k».proof.Proof.FfnSpec
public import proofs.«01_k».proof.Proof.Gen.Reference3Ideal.Read
public import Idealize.ShloMosaic.Lib.Pointwise
public import Idealize.ShloMosaic.PureOps.Ideal.Laws

@[expose] public section

set_option maxRecDepth 16384

noncomputable section

namespace Cert.Reference3Ideal.Ffn

open Idealize.ShloMosaic Idealize.ShloMosaic.TcCoe Idealize.SL.Sem
open Cert.Reference3Ideal Cert.Reference3Ideal.Gen Cert.Reference3Ideal.Read
open Cert.Kernel2Ideal.Inp (normed prod)
open Cert.Kernel3Ideal.Ffn (uN uN_of pN wN wN_of bN bN_of conv gelu actN hN yN out0 out1)

/-- The product with the second layer's weights. -/
theorem u_at (x0 : FVec Ideal S16384x1024 .f32) (x1 : FVec Ideal S2x1024 .f32) (x2 : FVec Ideal S2x1024x5632 .f32) (r : Fin 16384) (e : Fin 5632) : (val_main_v17 (F := Ideal) x0 x1 x2 (ix2 r e) : EReal) = uN x0 x1 x2 r.val e.val := by
  rw [← uN_of]
  unfold prod normed
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- Its first half, by sequences. -/
theorem a_at (x0 : FVec Ideal S16384x1024 .f32) (x1 : FVec Ideal S2x1024 .f32) (x2 : FVec Ideal S2x1024x5632 .f32) (b : Fin 2) (l : Fin 8192) (e : Fin 2816) : (val_main_v19 (F := Ideal) x0 x1 x2 (ix3 b l e) : EReal) = uN x0 x1 x2 (b.val * 8192 + l.val) e.val := by
  refine Eq.trans ?_ (u_at x0 x1 x2 ⟨b.val * 8192 + l.val, by omega⟩ ⟨e.val, by omega⟩)
  generalize hz : val_main_v17 (F := Ideal) x0 x1 x2 = z
  pointwise [val_main_v19, val_main_v18]
  rw [hz]

/-- Its second half. -/
theorem g_at (x0 : FVec Ideal S16384x1024 .f32) (x1 : FVec Ideal S2x1024 .f32) (x2 : FVec Ideal S2x1024x5632 .f32) (r : Fin 16384) (e : Fin 2816) : (val_main_v20 (F := Ideal) x0 x1 x2 (ix2 r e) : EReal) = uN x0 x1 x2 r.val (2816 + e.val) := by
  refine Eq.trans ?_ (u_at x0 x1 x2 r ⟨2816 + e.val, by omega⟩)
  generalize hz : val_main_v17 (F := Ideal) x0 x1 x2 = z
  pointwise [val_main_v20]
  rw [hz]

/-- The rows with two rows of zeros before each sequence. -/
theorem ext_at (x0 : FVec Ideal S16384x1024 .f32) (x1 : FVec Ideal S2x1024 .f32) (x2 : FVec Ideal S2x1024x5632 .f32) (b : Fin 2) (l : Fin 8194) (e : Fin 2816) :
    (val_main_v22 (F := Ideal) x0 x1 x2 (ix3 b l e) : EReal) = if h : l.val < 2 then (0 : EReal) else val_main_v19 (F := Ideal) x0 x1 x2 (ix3 b ⟨l.val - 2, by omega⟩ e) := by
  generalize hz : val_main_v19 (F := Ideal) x0 x1 x2 = z
  pointwise [val_main_v22, val_main_v21, val_main_cst_2]
  rw [hz]

/-- A row of them is a row of the sequence `d` rows earlier. -/
theorem ext_p (x0 : FVec Ideal S16384x1024 .f32) (x1 : FVec Ideal S2x1024 .f32) (x2 : FVec Ideal S2x1024x5632 .f32) (b : Fin 2) (l : Fin 8192) (e : Fin 2816) (d : ℕ) (hd : d ≤ 2) (l' : Fin 8194) (hl : l'.val = l.val + 2 - d) :
    (val_main_v22 (F := Ideal) x0 x1 x2 (ix3 b l' e) : EReal) = pN x0 x1 x2 d (b.val * 8192 + l.val) e.val := by
  rw [ext_at]
  unfold pN
  by_cases h : l.val < d
  · rw [dif_pos (by omega), if_pos (by omega)]
  · rw [dif_neg (by omega), if_neg (by omega), a_at]
    congr 1
    dsimp only
    omega

theorem p_zero (x0 : FVec Ideal S16384x1024 .f32) (x1 : FVec Ideal S2x1024 .f32) (x2 : FVec Ideal S2x1024x5632 .f32) (r e : ℕ) : pN x0 x1 x2 0 r e = uN x0 x1 x2 r e := by
  unfold pN; rw [if_neg (by omega)]; rfl

/-- The three terms of the convolution. -/
theorem conv_at (x0 : FVec Ideal S16384x1024 .f32) (x1 : FVec Ideal S2x1024 .f32) (x2 : FVec Ideal S2x1024x5632 .f32) (x3 : FVec Ideal S2x3x2816 .f32) (b : Fin 2) (l : Fin 8192) (e : Fin 2816) :
    (val_main_v50 (F := Ideal) x0 x1 x2 x3 (ix3 b l e) : EReal) = val_main_v22 (F := Ideal) x0 x1 x2 (ix3 b ⟨l.val, by omega⟩ e) * x3 (ix3 1 0 e)
      + val_main_v22 (F := Ideal) x0 x1 x2 (ix3 b ⟨1 + l.val, by omega⟩ e) * x3 (ix3 1 1 e)
      + val_main_v22 (F := Ideal) x0 x1 x2 (ix3 b ⟨2 + l.val, by omega⟩ e) * x3 (ix3 1 2 e) := by
  generalize hz : val_main_v22 (F := Ideal) x0 x1 x2 = z
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_cst_3]
  simp only [hz]

/-- The convolution with its bias. -/
theorem x_at (x0 : FVec Ideal S16384x1024 .f32) (x1 : FVec Ideal S2x1024 .f32) (x2 : FVec Ideal S2x1024x5632 .f32) (x3 : FVec Ideal S2x3x2816 .f32) (x4 : FVec Ideal S2x2816 .f32) (r : Fin 16384) (e : Fin 2816) :
    (val_main_v56 (F := Ideal) x0 x1 x2 x3 x4 (ix2 r e) : EReal)
      = conv (uN x0 x1 x2 r.val e.val) (pN x0 x1 x2 1 r.val e.val) (pN x0 x1 x2 2 r.val e.val) (wN x3 0 e.val) (wN x3 1 e.val) (wN x3 2 e.val) (bN x4 e.val) := by
  have h1 : (val_main_v56 (F := Ideal) x0 x1 x2 x3 x4 (ix2 r e) : EReal) = val_main_v50 (F := Ideal) x0 x1 x2 x3 (ix3 ⟨r.val / 8192, by omega⟩ ⟨r.val % 8192, by omega⟩ e) + x4 (ix2 1 e) := by
    generalize hz : val_main_v50 (F := Ideal) x0 x1 x2 x3 = z
    pointwise [val_main_v56, val_main_v55, val_main_v54, val_main_v53, val_main_v52, val_main_v51]
    rw [hz]
  have hr : r.val / 8192 * 8192 + r.val % 8192 = r.val := by omega
  rw [h1, conv_at, ext_p x0 x1 x2 _ ⟨r.val % 8192, by omega⟩ e 2 (by omega) _ rfl, ext_p x0 x1 x2 _ ⟨r.val % 8192, by omega⟩ e 1 (by omega) _ (by dsimp only; omega),
    ext_p x0 x1 x2 _ ⟨r.val % 8192, by omega⟩ e 0 (by omega) _ (by dsimp only; omega)]
  dsimp only
  rw [hr, p_zero, wN_of x3 0, wN_of x3 1, wN_of x3 2, bN_of x4]
  unfold conv
  congr 1
  rw [mul_comm _ (wN x3 0 e.val), mul_comm _ (wN x3 1 e.val), mul_comm _ (wN x3 2 e.val), add_comm, add_comm (wN x3 0 e.val * _), ← add_assoc]

theorem ofBits_one : Ideal.ofBits .f32 0x3F800000#32 = 1 := by
  simp [Ideal.ofBits, Ideal.ieee, -EReal.coe_mul]; norm_num

/-- The GELU with `erfc` is the GELU with `erf`. -/
theorem gelu_erfc (x : EReal) : Ideal.ofBits .f32 0x3F000000#32 * x * Ideal.erfc (-x * Ideal.ofBits .f32 0x3F3504F3#32) = gelu x := by
  unfold gelu; rw [ofBits_one, neg_mul, Ideal.erfc_neg]

/-- The gated activation. -/
theorem act_at (x0 : FVec Ideal S16384x1024 .f32) (x1 : FVec Ideal S2x1024 .f32) (x2 : FVec Ideal S2x1024x5632 .f32) (x3 : FVec Ideal S2x3x2816 .f32) (x4 : FVec Ideal S2x2816 .f32) (r : Fin 16384) (e : Fin 2816) :
    (val_main_v64 (F := Ideal) x0 x1 x2 x3 x4 (ix2 r e) : EReal) = actN x0 x1 x2 x3 x4 r.val e.val := by
  unfold actN
  rw [← x_at, ← g_at, ← gelu_erfc]
  generalize hx : val_main_v56 (F := Ideal) x0 x1 x2 x3 x4 = x
  generalize hg : val_main_v20 (F := Ideal) x0 x1 x2 = g
  pointwise [val_main_v64, val_main_v63, val_main_v62, val_main_v61, val_main_v60, val_main_v59, val_main_v58, val_main_v57, val_main_cst_4, val_main_cst_5]
  rw [hx, hg]

/-- The row with the layer's product added. -/
theorem h_at (x0 : FVec Ideal S16384x1024 .f32) (x1 : FVec Ideal S2x1024 .f32) (x2 : FVec Ideal S2x1024x5632 .f32) (x3 : FVec Ideal S2x3x2816 .f32) (x4 : FVec Ideal S2x2816 .f32) (x5 : FVec Ideal S2x2816x1024 .f32) (r : Fin 16384) (k : Fin 1024) :
    (val_main_v68 (F := Ideal) x0 x1 x2 x3 x4 x5 (ix2 r k) : EReal) = hN x0 x1 x2 x3 x4 x5 r.val k := by
  unfold hN
  rw [dif_pos r.isLt]
  refine Eq.trans (b := (x0 (ix2 r k) : EReal) + ∑ e : Fin 2816, (val_main_v64 (F := Ideal) x0 x1 x2 x3 x4 (ix2 r e) : EReal) * x5 (ix3 1 e k)) ?_
    (congrArg (_ + ·) (Finset.sum_congr rfl fun e _ => by rw [act_at]))
  generalize hz : val_main_v64 (F := Ideal) x0 x1 x2 x3 x4 = z
  pointwise [val_main_v68, val_main_v67, val_main_v66, val_main_v65]
  rw [hz]

/-- The first result. -/
theorem y_at (x0 : FVec Ideal S16384x1024 .f32) (x1 : FVec Ideal S2x1024 .f32) (x2 : FVec Ideal S2x1024x5632 .f32) (x3 : FVec Ideal S2x3x2816 .f32) (x4 : FVec Ideal S2x2816 .f32) (x5 : FVec Ideal S2x2816x1024 .f32) (x6 : FVec Ideal S1024 .f32) (r : Fin 16384) (k : Fin 1024) :
    (val_main_v81 (F := Ideal) x0 x1 x2 x3 x4 x5 x6 (ix2 r k) : EReal) = yN x0 x1 x2 x3 x4 x5 x6 r.val k.val := by
  unfold yN
  rw [dif_pos k.isLt]
  simp only [← h_at]
  generalize hz : val_main_v68 (F := Ideal) x0 x1 x2 x3 x4 x5 = z
  unfold normed
  pointwise [val_main_v81, val_main_v80, val_main_v79, val_main_v78, val_main_v77, val_main_v76, val_main_v75, val_main_v74, val_main_v73, val_main_v72, val_main_v71, val_main_v70, val_main_v69, val_main_cst_6, val_main_cst_7, val_main_cst_8]
  rw [hz]

/-- The second result. -/
theorem t_at (x0 : FVec Ideal S16384x1024 .f32) (x1 : FVec Ideal S2x1024 .f32) (x2 : FVec Ideal S2x1024x5632 .f32) (i : Fin 32) (j : Fin 8) (e : Fin 2816) :
    (val_main_v83 (F := Ideal) x0 x1 x2 (ix3 i j e) : EReal) = uN x0 x1 x2 (i.val * 512 + (504 + j.val)) e.val := by
  refine Eq.trans ?_ (u_at x0 x1 x2 ⟨i.val * 512 + (504 + j.val), by omega⟩ ⟨e.val, by omega⟩)
  generalize hz : val_main_v17 (F := Ideal) x0 x1 x2 = z
  pointwise [val_main_v83, val_main_v82, val_main_v19, val_main_v18]
  rw [hz]

theorem ref0 (x0 : FVec Ideal S16384x1024 .f32) (x1 : FVec Ideal S2x1024 .f32) (x2 : FVec Ideal S2x1024x5632 .f32) (x3 : FVec Ideal S2x3x2816 .f32) (x4 : FVec Ideal S2x2816 .f32) (x5 : FVec Ideal S2x2816x1024 .f32) (x6 : FVec Ideal S1024 .f32) : val_main_v81 (F := Ideal) x0 x1 x2 x3 x4 x5 x6 = out0 x0 x1 x2 x3 x4 x5 x6 := by
  funext i
  exact (congrArg (val_main_v81 (F := Ideal) x0 x1 x2 x3 x4 x5 x6) (eq_ix2 i)).trans (y_at x0 x1 x2 x3 x4 x5 x6 (i 0) (i 1))

theorem ref1 (x0 : FVec Ideal S16384x1024 .f32) (x1 : FVec Ideal S2x1024 .f32) (x2 : FVec Ideal S2x1024x5632 .f32) : val_main_v83 (F := Ideal) x0 x1 x2 = out1 x0 x1 x2 := by
  funext i
  exact (congrArg (val_main_v83 (F := Ideal) x0 x1 x2) (eq_ix3 i)).trans (t_at x0 x1 x2 (i 0) (i 1) (i 2))

end Cert.Reference3Ideal.Ffn

end
-- ==== Proof.FfnClaim.lean ====
module

public import proofs.«01_k».proof.Proof.FfnOut
public import proofs.«01_k».proof.Proof.FfnRef
public import proofs.«01_k».proof.Proof.Gen.Reference3Ideal.Run
public import proofs.«01_k».proof.Defs

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Cert.Reference3Ideal.Ffn (ref0 ref1)

/-- The feed-forward kernel and its reference end with the same two results: the normalised rows after the layer, and the last eight rows of every 512 of what its convolution reads. -/
theorem algebraic : Cert.algebraic_Kernel3Ideal_Reference3Ideal := by
  intro m g m' g' _ hin
  refine ⟨fun c => out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => out1 (m ((c.tc : Thread nD τ).loc main_arg0)) (m ((c.tc : Thread nD τ).loc main_arg1)) (m ((c.tc : Thread nD τ).loc main_arg2)), ?_, ?_⟩
  · refine (θ_run _ _ _).mono (fun r h c => ?_) (θ_run_and (run_main_quiescent m g) (frame m g))
    obtain ⟨after, hL, hA⟩ := Pipeline.RDat.FramePost.exists_exact h.1.1 c
    exact ⟨(hA 8).trans (final0 m c after hL), (hA 9).trans (final1 m c after hL), h.2.1 c⟩
  · refine (θ_run _ _ _).mono (fun _ h c => ?_) (Cert.Reference3Ideal.Value.run (F := Ideal) m' g')
    obtain ⟨h0, h1, ha⟩ := h c
    obtain ⟨i0, i1, i2, i3, i4, i5, i6⟩ := hin c
    refine ⟨h0.trans ?_, h1.trans ?_, ha⟩
    · refine (Cert.Reference3Ideal.Read.val_main_v81_eq m' c).trans ?_
      rw [i0, i1, i2, i3, i4, i5, i6]; exact ref0 _ _ _ _ _ _ _
    · refine (Cert.Reference3Ideal.Read.val_main_v83_eq _ _ _).trans ?_
      rw [i0, i1, i2]; exact ref1 _ _ _

end Cert.Kernel3Ideal.Ffn

end
-- ==== Proof.MixPure.lean ====
module

public import proofs.«01_k».proof.Proof.Gen.Kernel4Ideal.Frame
public import proofs.«01_k».proof.Proof.Gen.Kernel4Ideal.Skeleton
public import Idealize.ShloMosaic.Lib.Claim
public import Idealize.ShloMosaic.Lib.Pipeline.Value
public import Idealize.ShloMosaic.Lib.ValueIdx

@[expose] public section

set_option maxRecDepth 16384

noncomputable section

namespace Cert.Kernel4Ideal.Mix

open Cert.Kernel4Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The last eight rows of a tile. -/
def tail8 (A : Vec F S512x512 .f32) : Vec F S8x512 .f32 := fun z => A (ix2 ⟨504 + (z 0).val, by have : (z 0).val < 8 := (z 0).isLt; omega⟩ (z 1))

/-- A tile's rows shifted down by `d` rows, the rows that enter being the last `d` of the eight before the tile. -/
def shifted (d : ℕ) (H : Vec F S8x512 .f32) (A : Vec F S512x512 .f32) : Vec F S512x512 .f32 := fun z =>
  if (z 0).val < d then H (ix2 ⟨(8 - d + (z 0).val) % 8, Nat.mod_lt _ (by norm_num)⟩ (z 1)) else A (ix2 ⟨(z 0).val - d, by have : (z 0).val < 512 := (z 0).isLt; omega⟩ (z 1))

/-- Row `k` of the convolution's weights. -/
def cwRow (k : Fin 3) (w : Vec F S3x512 .f32) : Vec F S1x512 .f32 := fun z => w (ix2 k (z 1))

/-- The tile with the eight rows before it. -/
def extOf (H : Vec F S8x512 .f32) (A : Vec F S512x512 .f32) : Vec F S520x512 .f32 := fun z =>
  if h : (z 0).val < 8 then H (ix2 ⟨(z 0).val, h⟩ (z 1)) else A (ix2 ⟨(z 0).val - 8, by have : (z 0).val < 520 := (z 0).isLt; omega⟩ (z 1))

/-- The last eight of those 520 rows. -/
def lastRows (e : Vec F S520x512 .f32) : Vec F S8x512 .f32 := fun z => e (ix2 ⟨512 + (z 0).val, by have : (z 0).val < 8 := (z 0).isLt; omega⟩ (z 1))

/-- One of the three blocks of gate columns. -/
def gcols (k : Fin 3) (x : Vec F S512x3072 .bf16) : Vec F S512x1024 .bf16 := fun z => x (ix2 (z 0) ⟨k.val * 1024 + (z 1).val, by have : (z 1).val < 1024 := (z 1).isLt; omega⟩)

/-- One of the three branches' weights. -/
def wbr (k : Fin 3) (x : Vec F S1x3x512x1024 .bf16) : Vec F S1x1x512x1024 .bf16 := fun z => x (ix4 0 k (z 2) (z 3))

/-- The short convolution's output of a tile, from the eight rows before it. -/
def ysOf (H : Vec F S8x512 .f32) (x2 : Vec F S512x1536 .bf16) (cw : Vec F S3x512 .f32) : FVec F S512x512 .bf16 :=
  k0_pay9 (k0_pay6 x2) (k0_pay8 x2 (cwRow 2 cw) (cwRow 1 cw) (shifted 1 H (k0_pay7 x2))) (cwRow 0 cw) (shifted 2 H (k0_pay7 x2))

/-- What a tile leaves in the first result. -/
def hOf (ys : FVec F S512x512 .bf16) (x0 : Vec F S512x1024 .f32) (x1 : Vec F S512x3072 .bf16) (x3 x4 : Vec F S512x512 .bf16) (x6 : Vec F S1x3x512x1024 .bf16) (x7 : Vec F S1x1024x1024 .bf16) : FVec F S512x1024 .f32 :=
  k0_pay1 ys (k0_pay11 x3 x4 (gcols 0 x1) (wbr 0 x6) (gcols 1 x1) (wbr 1 x6)) (gcols 2 x1) (wbr 2 x6) x0 x7

/-- A store over a whole array leaves what was stored. -/
theorem store_read {sp : Space} {s : Shape} {e : EltTy} (v : View sig .tc sp s e) (f : v.ty.Contents (Elt F)) (off : Fin s.rank → ℕ) (hoff : off = fun _ => 0)
    (h : ∀ d, off d + s.size d ≤ s.size d) (w : s.Idx → Elt F e) (L : List (View.Piece (Elt F) s e)) :
    v.read (Elt F) (v.writes (Elt F) f (⟨Rect.unit off s.size h, w⟩ :: L)) = w := by
  rw [View.read_writes_eq_canon _ _ _ (fun y => ⟨_, List.mem_cons_self, View.mem_set_unit_zero hoff h y⟩)]
  exact View.canon_cons_unit_zero hoff _ _ _

/-- A load of a whole array reads its contents. -/
theorem load_read {sp : Space} {s : Shape} {e : EltTy} {m : Memref sig .tc sp s e} (hm : m.IsWhole) (X : s.Idx → Elt F e) (off : Fin s.rank → ℕ) (hoff : off = fun _ => 0)
    (h : ∀ d, off d + s.size d ≤ s.size d) :
    m.view.readAt (Elt F) (Rect.unit off s.size h).toLoadRect (hm.unread X) = X := by
  rw [View.readAt_eq_ld, hm.read_unread]
  exact View.ld_unit_zero hoff _ _

/-- A load of one row of the convolution's weights reads that row. -/
theorem cw_read {sp : Space} {m : Memref sig .tc sp S3x512 .f32} (hm : m.IsWhole) (X : Vec F S3x512 .f32) (k : Fin 3) (inb) :
    m.view.readAt (Elt F) (Rect.unit (s := S3x512) ![k.val, 0] S1x512.size inb).toLoadRect (hm.unread X) = cwRow k X := by
  rw [View.readAt_eq_ld, hm.read_unread]
  funext z
  unfold cwRow View.ld
  congr 1
  have h0 : (z 0).val < 1 := (z 0).isLt
  funext a
  apply Fin.ext
  fin_cases a
  · simp [LoadRect.idx, Rect.unit, ix2]; omega
  · simp [LoadRect.idx, Rect.unit, ix2]

/-- A load of one block of gate columns reads it. -/
theorem g_read {sp : Space} {m : Memref sig .tc sp S512x3072 .bf16} (hm : m.IsWhole) (X : Vec F S512x3072 .bf16) (k : Fin 3) (off : Fin 2 → ℕ) (ho : off = ![0, k.val * 1024]) (inb) :
    m.view.readAt (Elt F) (Rect.unit (s := S512x3072) off S512x1024.size inb).toLoadRect (hm.unread X) = gcols k X := by
  subst ho
  rw [View.readAt_eq_ld, hm.read_unread]
  funext z
  unfold gcols View.ld
  congr 1
  funext a
  apply Fin.ext
  fin_cases a
  · simp [LoadRect.idx, Rect.unit, ix2]
  · simp [LoadRect.idx, Rect.unit, ix2]

/-- A load of one branch's weights reads them. -/
theorem w_read {sp : Space} {m : Memref sig .tc sp S1x3x512x1024 .bf16} (hm : m.IsWhole) (X : Vec F S1x3x512x1024 .bf16) (k : Fin 3) (inb) :
    m.view.readAt (Elt F) (Rect.unit (s := S1x3x512x1024) ![0, k.val, 0, 0] S1x1x512x1024.size inb).toLoadRect (hm.unread X) = wbr k X := by
  rw [View.readAt_eq_ld, hm.read_unread]
  funext z
  unfold wbr View.ld
  congr 1
  have h0 : (z 0).val < 1 := (z 0).isLt
  have h1 : (z 1).val < 1 := (z 1).isLt
  funext a
  apply Fin.ext
  fin_cases a
  · simp [LoadRect.idx, Rect.unit, ix4]
  · simp [LoadRect.idx, Rect.unit, ix4]; omega
  · simp [LoadRect.idx, Rect.unit, ix4]
  · simp [LoadRect.idx, Rect.unit, ix4]

/-- A load of the last eight rows of what the scratch held. -/
theorem last_read {sp : Space} {m : Memref sig .tc sp S520x512 .f32} (hm : m.IsWhole) (X : Vec F S520x512 .f32) (inb) :
    m.view.readAt (Elt F) (Rect.unit (s := S520x512) ![512, 0] S8x512.size inb).toLoadRect (hm.unread X) = lastRows X := by
  rw [View.readAt_eq_ld, hm.read_unread]
  funext z
  unfold lastRows View.ld
  congr 1
  funext a
  apply Fin.ext
  fin_cases a
  · simp [LoadRect.idx, Rect.unit, ix2]
  · simp [LoadRect.idx, Rect.unit, ix2]

/-- The two stores that fill the tile with the eight rows before it. -/
abbrev extL (H : Vec F S8x512 .f32) (A : Vec F S512x512 .f32) (inb : ∀ a, (![8, 0] : Fin 2 → ℕ) a + S512x512.size a ≤ S520x512.size a) (inb' : ∀ a, (![0, 0] : Fin 2 → ℕ) a + S8x512.size a ≤ S520x512.size a) : List (View.Piece (Elt F) S520x512 .f32) :=
  [⟨Rect.unit (s := S520x512) ![8, 0] S512x512.size inb, A⟩, ⟨Rect.unit (s := S520x512) ![0, 0] S8x512.size inb', H⟩]

theorem canon_hi (H : Vec F S8x512 .f32) (A : Vec F S512x512 .f32) (inb inb') (y : S520x512.Idx) (h : 8 ≤ (y 0).val) :
    View.canon (extL H A inb inb') y = A (ix2 ⟨(y 0).val - 8, by have : (y 0).val < 520 := (y 0).isLt; omega⟩ (y 1)) := by
  have e : y = (Rect.unit (s := S520x512) ![8, 0] S512x512.size inb).emb (ix2 (⟨(y 0).val - 8, by have : (y 0).val < 520 := (y 0).isLt; omega⟩ : Fin 512) (y 1)) := by
    funext a
    apply Fin.ext
    fin_cases a
    · simp [Rect.emb, Rect.unit, ix2]; omega
    · simp [Rect.emb, Rect.unit, ix2]
  conv_lhs => rw [e]
  exact View.canon_cons_emb _ _ _ _

theorem canon_lo (H : Vec F S8x512 .f32) (A : Vec F S512x512 .f32) (inb inb') (y : S520x512.Idx) (h : (y 0).val < 8) :
    View.canon (extL H A inb inb') y = H (ix2 ⟨(y 0).val, h⟩ (y 1)) := by
  rw [View.canon_cons_of_not_mem]
  · have e : y = (Rect.unit (s := S520x512) ![0, 0] S8x512.size inb').emb (ix2 (⟨(y 0).val, h⟩ : Fin 8) (y 1)) := by
      funext a
      apply Fin.ext
      fin_cases a
      · simp [Rect.emb, Rect.unit, ix2]
      · simp [Rect.emb, Rect.unit, ix2]
    conv_lhs => rw [e]
    exact View.canon_cons_emb _ _ _ _
  · intro hm
    have := (Rect.mem_set_unit.mp (show y ∈ (Rect.unit (s := S520x512) ![8, 0] S512x512.size inb).set from hm)) 0
    simp [Matrix.cons_val] at this
    omega

/-- A load of the tile's rows shifted down by `d`. -/
theorem ext_read (d : ℕ) (hd : d ≤ 8) {sp : Space} (v : View sig .tc sp S520x512 .f32) (H : Vec F S8x512 .f32) (A : Vec F S512x512 .f32) (inb inb') (off : Fin 2 → ℕ) (ho : off = ![8 - d, 0]) (inbk) :
    v.readCov (extL H A inb inb') (Rect.unit (s := S520x512) off S512x512.size inbk).toLoadRect = shifted d H A := by
  subst ho
  rw [View.readCov_eq_canon']
  funext z
  have hz : (z 0).val < 512 := (z 0).isLt
  have e0 : (((Rect.unit (s := S520x512) ![8 - d, 0] S512x512.size inbk).toLoadRect.idx z) 0).val = 8 - d + (z 0).val := by simp [LoadRect.idx, Rect.unit]
  have e1 : (((Rect.unit (s := S520x512) ![8 - d, 0] S512x512.size inbk).toLoadRect.idx z) 1) = z 1 := by apply Fin.ext; simp [LoadRect.idx, Rect.unit]
  unfold shifted
  split
  case isTrue h =>
    refine (canon_lo _ _ _ _ _ (by omega)).trans ?_
    refine congrArg₂ (fun a b => H (ix2 a b)) (Fin.ext ?_) e1
    show _ = (8 - d + (z 0).val) % 8
    rw [Nat.mod_eq_of_lt (by omega)]; exact e0
  case isFalse h =>
    refine (canon_hi _ _ _ _ _ (by omega)).trans ?_
    refine congrArg₂ (fun a b => A (ix2 a b)) (Fin.ext ?_) e1
    show _ - 8 = (z 0).val - d
    omega

/-- A load of the tile's last eight rows. -/
theorem tail_read {sp : Space} (v : View sig .tc sp S520x512 .f32) (H : Vec F S8x512 .f32) (A : Vec F S512x512 .f32) (inb inb' inbk) :
    v.readCov (extL H A inb inb') (Rect.unit (s := S520x512) ![512, 0] S8x512.size inbk).toLoadRect = tail8 A := by
  rw [View.readCov_eq_canon']
  funext z
  have hz : (z 0).val < 8 := (z 0).isLt
  have e0 : (((Rect.unit (s := S520x512) ![512, 0] S8x512.size inbk).toLoadRect.idx z) 0).val = 512 + (z 0).val := by simp [LoadRect.idx, Rect.unit]
  have e1 : (((Rect.unit (s := S520x512) ![512, 0] S8x512.size inbk).toLoadRect.idx z) 1) = z 1 := by apply Fin.ext; simp [LoadRect.idx, Rect.unit]
  unfold tail8
  refine (canon_hi _ _ _ _ _ (by omega)).trans ?_
  refine congrArg₂ (fun a b => A (ix2 a b)) (Fin.ext ?_) e1
  show _ - 8 = 504 + (z 0).val
  omega

/-- The two stores leave the tile with the eight rows before it. -/
theorem ext_store {sp : Space} (v : View sig .tc sp S520x512 .f32) (f : v.ty.Contents (Elt F)) (H : Vec F S8x512 .f32) (A : Vec F S512x512 .f32) (inb inb') :
    v.read (Elt F) (v.writes (Elt F) f (extL H A inb inb')) = extOf H A := by
  have key (y : S520x512.Idx) : View.canon (extL H A inb inb') y = extOf H A y := by
    unfold extOf
    split
    case isTrue h => exact canon_lo _ _ _ _ _ h
    case isFalse h => exact canon_hi _ _ _ _ _ (by omega)
  rw [View.read_writes_eq_canon _ _ _ (fun y => ?_)]
  · exact funext key
  · by_cases h : (y 0).val < 8
    · suffices hm : y ∈ (Rect.unit (s := S520x512) ![0, 0] S8x512.size inb').set from
        ⟨_, List.mem_cons_of_mem _ List.mem_cons_self, hm⟩
      refine Rect.mem_set_unit.mpr fun a => ?_
      have h1 : (y 1).val < 512 := (y 1).isLt
      fin_cases a
      · simpa [Matrix.cons_val] using h
      · simpa [Matrix.cons_val] using h1
    · suffices hm : y ∈ (Rect.unit (s := S520x512) ![8, 0] S512x512.size inb).set from
        ⟨_, List.mem_cons_self, hm⟩
      refine Rect.mem_set_unit.mpr fun a => ?_
      have h0 : (y 0).val < 520 := (y 0).isLt
      have h1 : (y 1).val < 512 := (y 1).isLt
      fin_cases a
      · simp [Matrix.cons_val]; omega
      · simpa [Matrix.cons_val] using h1

/-- The last eight of them are the tile's last eight. -/
theorem lastRows_ext (H : Vec F S8x512 .f32) (A : Vec F S512x512 .f32) : lastRows (extOf H A) = tail8 A := by
  funext z
  have hz : (z 0).val < 8 := (z 0).isLt
  unfold lastRows extOf tail8
  refine (dif_neg (by show ¬512 + (z 0).val < 8; omega)).trans ?_
  refine congrArg (fun a => A (ix2 a (z 1))) (Fin.ext ?_)
  show 512 + (z 0).val - 8 = 504 + (z 0).val
  omega

/-- The convolution's output from equal parts. -/
theorem ys_congr {H : Vec F S8x512 .f32} {x2 v16 : Vec F S512x1536 .bf16} {cw : Vec F S3x512 .f32} {v25 v29 v35 : Vec F S1x512 .f32} {v31 v37 : Vec F S512x512 .f32}
    (e0 : v16 = x2) (e1 : v25 = cwRow 2 cw) (e2 : v29 = cwRow 1 cw) (e3 : v31 = shifted 1 H (k0_pay7 x2)) (e4 : v35 = cwRow 0 cw) (e5 : v37 = shifted 2 H (k0_pay7 x2)) :
    k0_pay9 (k0_pay6 v16) (k0_pay8 v16 v25 v29 v31) v35 v37 = ysOf H x2 cw := by
  subst e0 e1 e2 e3 e4 e5; rfl

/-- The first result's tile from equal parts. -/
theorem h_congr {ys v42 : FVec F S512x512 .bf16} {x0 v74 : Vec F S512x1024 .f32} {x1 : Vec F S512x3072 .bf16} {x3 x4 v48 v49 : Vec F S512x512 .bf16} {x6 : Vec F S1x3x512x1024 .bf16} {x7 v76 : Vec F S1x1024x1024 .bf16}
    {v50 v58 v66 : Vec F S512x1024 .bf16} {v53 v61 v69 : Vec F S1x1x512x1024 .bf16}
    (e0 : v42 = ys) (e1 : v48 = x3) (e2 : v49 = x4) (e3 : v50 = gcols 0 x1) (e4 : v53 = wbr 0 x6) (e5 : v58 = gcols 1 x1) (e6 : v61 = wbr 1 x6) (e7 : v66 = gcols 2 x1) (e8 : v69 = wbr 2 x6)
    (e9 : v74 = x0) (e10 : v76 = x7) :
    k0_pay1 v42 (k0_pay11 v48 v49 v50 v53 v58 v61) v66 v69 v74 v76 = hOf ys x0 x1 x3 x4 x6 x7 := by
  subst e0 e1 e2 e3 e4 e5 e6 e7 e8 e9 e10; rfl

end Cert.Kernel4Ideal.Mix

end
-- ==== Proof.MixRun.lean ====
module

public import proofs.«01_k».proof.Proof.MixPure
public import proofs.«01_k».proof.Proof.Gen.Kernel4Ideal.Frame

@[expose] public section

set_option maxRecDepth 16384

noncomputable section

namespace Cert.Kernel4Ideal.Mix

open Cert.Kernel4Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S512x1024 .f32) (harg1 : arg1.IsWhole) (arg2 : Memref sig .tc .vmem S512x3072 .bf16) (harg2 : arg2.IsWhole) (arg3 : Memref sig .tc .vmem S512x1536 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S3x512 .f32) (harg6 : arg6.IsWhole) (arg7 : Memref sig .tc .vmem S1x3x512x1024 .bf16) (harg7 : arg7.IsWhole) (arg8 : Memref sig .tc .vmem S1x1024x1024 .bf16) (harg8 : arg8.IsWhole) (arg9 : Memref sig .tc .vmem S512x1024 .f32) (harg9 : arg9.IsWhole) (arg10 : Memref sig .tc .vmem S1x8x512 .f32) (harg10 : arg10.IsWhole) (arg11 : Memref sig .tc .vmem S520x512 .f32) (harg11 : arg11.IsWhole)

/-- The first result's block at a sequence's first tile. -/
theorem out0_A_8_eq (hc0 : cond0_0 i) (hc1 : ¬cond0_1 i)
    (x0 : Vec F S512x1024 .f32) (x1 : Vec F S512x3072 .bf16) (x2 : Vec F S512x1536 .bf16) (x3 : Vec F S512x512 .bf16) (x4 : Vec F S512x512 .bf16) (x5 : Vec F S3x512 .f32) (x6 : Vec F S1x3x512x1024 .bf16) (x7 : Vec F S1x1024x1024 .bf16) :
    out0_A_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 = hOf (ysOf k0_pay2 x2 x5) x0 x1 x3 x4 x6 x7 := by
  unfold out0_A_8
  exact (store_read _ _ _ (by decide) _ _ _).trans (h_congr (ys_congr (load_read harg3 x2 _ (by decide) _) (cw_read harg6 x5 2 _) (cw_read harg6 x5 1 _) ((ext_read 1 (by decide) _ _ _ _ _ _ (by decide) _).trans (congrArg₂ (shifted 1) rfl (congrArg k0_pay7 (load_read harg3 x2 _ (by decide) _)))) (cw_read harg6 x5 0 _) ((ext_read 2 (by decide) _ _ _ _ _ _ (by decide) _).trans (congrArg₂ (shifted 2) rfl (congrArg k0_pay7 (load_read harg3 x2 _ (by decide) _))))) (load_read harg4 x3 _ (by decide) _) (load_read harg5 x4 _ (by decide) _) (g_read harg2 x1 0 _ (by decide) _) (w_read harg7 x6 0 _) (g_read harg2 x1 1 _ (by decide) _) (w_read harg7 x6 1 _) (g_read harg2 x1 2 _ (by decide) _) (w_read harg7 x6 2 _) (load_read harg1 x0 _ (by decide) _) (load_read harg8 x7 _ (by decide) _))

/-- The second result's block at a sequence's first tile. -/
theorem out0_A_9_eq (hc0 : cond0_0 i) (hc1 : ¬cond0_1 i)
    (x0 : Vec F S512x1024 .f32) (x1 : Vec F S512x3072 .bf16) (x2 : Vec F S512x1536 .bf16) (x3 : Vec F S512x512 .bf16) (x4 : Vec F S512x512 .bf16) (x5 : Vec F S3x512 .f32) (x6 : Vec F S1x3x512x1024 .bf16) (x7 : Vec F S1x1024x1024 .bf16) :
    out0_A_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k0_pay10 (tail8 (k0_pay7 x2)) := by
  unfold out0_A_9
  exact (store_read _ _ _ (by decide) _ _ _).trans (congrArg k0_pay10 ((tail_read _ _ _ _ _ _).trans (congrArg tail8 (congrArg k0_pay7 (load_read harg3 x2 _ (by decide) _)))))

/-- The scratch after a sequence's first tile. -/
theorem sout0_A_0_eq (hc0 : cond0_0 i) (hc1 : ¬cond0_1 i)
    (x0 : Vec F S512x1024 .f32) (x1 : Vec F S512x3072 .bf16) (x2 : Vec F S512x1536 .bf16) (x3 : Vec F S512x512 .bf16) (x4 : Vec F S512x512 .bf16) (x5 : Vec F S3x512 .f32) (x6 : Vec F S1x3x512x1024 .bf16) (x7 : Vec F S1x1024x1024 .bf16) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 = extOf k0_pay2 (k0_pay7 x2) := by
  unfold sout0_A_0
  exact (ext_store _ _ _ _ _ _).trans (congrArg₂ extOf rfl (congrArg k0_pay7 (load_read harg3 x2 _ (by decide) _)))

/-- The first result's block at a later tile. -/
theorem out0_B_8_eq (hc0 : ¬cond0_0 i) (hc1 : cond0_1 i)
    (x0 : Vec F S512x1024 .f32) (x1 : Vec F S512x3072 .bf16) (x2 : Vec F S512x1536 .bf16) (x3 : Vec F S512x512 .bf16) (x4 : Vec F S512x512 .bf16) (x5 : Vec F S3x512 .f32) (x6 : Vec F S1x3x512x1024 .bf16) (x7 : Vec F S1x1024x1024 .bf16) (xs0 : Vec F S520x512 .f32) :
    out0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = hOf (ysOf (k0_pay3 (lastRows xs0)) x2 x5) x0 x1 x3 x4 x6 x7 := by
  unfold out0_B_8
  exact (store_read _ _ _ (by decide) _ _ _).trans (h_congr (ys_congr (load_read harg3 x2 _ (by decide) _) (cw_read harg6 x5 2 _) (cw_read harg6 x5 1 _) ((ext_read 1 (by decide) _ _ _ _ _ _ (by decide) _).trans (congrArg₂ (shifted 1) (congrArg k0_pay3 (last_read harg11 xs0 _)) (congrArg k0_pay7 (load_read harg3 x2 _ (by decide) _)))) (cw_read harg6 x5 0 _) ((ext_read 2 (by decide) _ _ _ _ _ _ (by decide) _).trans (congrArg₂ (shifted 2) (congrArg k0_pay3 (last_read harg11 xs0 _)) (congrArg k0_pay7 (load_read harg3 x2 _ (by decide) _))))) (load_read harg4 x3 _ (by decide) _) (load_read harg5 x4 _ (by decide) _) (g_read harg2 x1 0 _ (by decide) _) (w_read harg7 x6 0 _) (g_read harg2 x1 1 _ (by decide) _) (w_read harg7 x6 1 _) (g_read harg2 x1 2 _ (by decide) _) (w_read harg7 x6 2 _) (load_read harg1 x0 _ (by decide) _) (load_read harg8 x7 _ (by decide) _))

/-- The second result's block at a later tile. -/
theorem out0_B_9_eq (hc0 : ¬cond0_0 i) (hc1 : cond0_1 i)
    (x0 : Vec F S512x1024 .f32) (x1 : Vec F S512x3072 .bf16) (x2 : Vec F S512x1536 .bf16) (x3 : Vec F S512x512 .bf16) (x4 : Vec F S512x512 .bf16) (x5 : Vec F S3x512 .f32) (x6 : Vec F S1x3x512x1024 .bf16) (x7 : Vec F S1x1024x1024 .bf16) (xs0 : Vec F S520x512 .f32) :
    out0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay10 (tail8 (k0_pay7 x2)) := by
  unfold out0_B_9
  exact (store_read _ _ _ (by decide) _ _ _).trans (congrArg k0_pay10 ((tail_read _ _ _ _ _ _).trans (congrArg tail8 (congrArg k0_pay7 (load_read harg3 x2 _ (by decide) _)))))

/-- The scratch after a later tile. -/
theorem sout0_B_0_eq (hc0 : ¬cond0_0 i) (hc1 : cond0_1 i)
    (x0 : Vec F S512x1024 .f32) (x1 : Vec F S512x3072 .bf16) (x2 : Vec F S512x1536 .bf16) (x3 : Vec F S512x512 .bf16) (x4 : Vec F S512x512 .bf16) (x5 : Vec F S3x512 .f32) (x6 : Vec F S1x3x512x1024 .bf16) (x7 : Vec F S1x1024x1024 .bf16) (xs0 : Vec F S520x512 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = extOf (k0_pay3 (lastRows xs0)) (k0_pay7 x2) := by
  unfold sout0_B_0
  exact (ext_store _ _ _ _ _ _).trans (congrArg₂ extOf (congrArg k0_pay3 (last_read harg11 xs0 _)) (congrArg k0_pay7 (load_read harg3 x2 _ (by decide) _)))

end

variable (m : (ℓ : Loc nD τ sig) → Buf (Elt F) ℓ)

/-- The point at position `n`. -/
def P (n : ℕ) : Fin cfg0.N := ⟨n % 32, by have : cfg0.N = 32 := N_0; omega⟩

theorem P_val (t : Fin cfg0.N) : P t.val = t := Fin.ext (by
  have : cfg0.N = 32 := N_0
  have h := t.isLt
  show t.val % 32 = t.val
  omega)

/-- The tile's product that the short convolution reads. -/
def AT (c : Dev nD) (n : ℕ) : Vec F S512x512 .f32 := k0_pay7 (iblk m c 2 (P n))

/-- The eight rows before the tile: zeros at a sequence's first tile, the previous tile's last eight after it. -/
def HL (c : Dev nD) (n : ℕ) : Vec F S8x512 .f32 := if n % 16 = 0 then k0_pay2 else k0_pay3 (tail8 (AT m c (n - 1)))

theorem HL_start (c : Dev nD) (n : ℕ) (h : n % 16 = 0) : HL m c n = k0_pay2 := by unfold HL; rw [if_pos h]

theorem HL_later (c : Dev nD) (n : ℕ) (h : ¬n % 16 = 0) : HL m c n = k0_pay3 (tail8 (AT m c (n - 1))) := by unfold HL; rw [if_neg h]

theorem AT_val (c : Dev nD) (t : Fin cfg0.N) : k0_pay7 (iblk m c 2 t) = AT m c t.val := by unfold AT; rw [P_val]

/-- What the outputs and the scratch hold after a sequence's first tile. -/
theorem at_A (c : Dev nD) (t : Fin cfg0.N) (h : t.val % 16 = 0) : outsAt0 m c t.val t.isLt
    = (hOf (ysOf k0_pay2 (iblk m c 2 t) (iblk m c 5 t)) (iblk m c 0 t) (X0_1 m c t) (iblk m c 3 t) (iblk m c 4 t) (iblk m c 6 t) (iblk m c 7 t),
      k0_pay10 (tail8 (k0_pay7 (iblk m c 2 t))), extOf k0_pay2 (k0_pay7 (iblk m c 2 t))) := by
  rw [outsAt0_A m c t h (fun h' => h' h), out0_A_8_eq, out0_A_9_eq, sout0_A_0_eq]

/-- What they hold after a later tile. -/
theorem at_B (c : Dev nD) (t : Fin cfg0.N) (h : ¬t.val % 16 = 0) (e : Vec F S520x512 .f32) (he : (outsAt0 m c (t.val - 1) (Nat.lt_of_le_of_lt (Nat.sub_le _ _) t.isLt)).2.2 = e) :
    outsAt0 m c t.val t.isLt
    = (hOf (ysOf (k0_pay3 (lastRows e)) (iblk m c 2 t) (iblk m c 5 t)) (iblk m c 0 t) (X0_1 m c t) (iblk m c 3 t) (iblk m c 4 t) (iblk m c 6 t) (iblk m c 7 t),
      k0_pay10 (tail8 (k0_pay7 (iblk m c 2 t))), extOf (k0_pay3 (lastRows e)) (k0_pay7 (iblk m c 2 t))) := by
  rw [outsAt0_B m c t h h, out0_B_8_eq, out0_B_9_eq, sout0_B_0_eq, he]

/-- The scratch after each point: the tile with the eight rows before it. -/
theorem scratch_eq (c : Dev nD) : ∀ (n : ℕ) (hn : n < cfg0.N), (outsAt0 m c n hn).2.2 = extOf (HL m c n) (AT m c n) := by
  intro n
  induction n with
  | zero =>
    intro hn
    refine (congrArg (fun o => o.2.2) (at_A m c ⟨0, hn⟩ rfl)).trans ?_
    rw [HL_start m c 0 rfl, ← AT_val m c ⟨0, hn⟩]
  | succ n ih =>
    intro hn
    by_cases h : (n + 1) % 16 = 0
    · refine (congrArg (fun o => o.2.2) (at_A m c ⟨n + 1, hn⟩ h)).trans ?_
      rw [HL_start m c _ h, ← AT_val m c ⟨n + 1, hn⟩]
    · refine (congrArg (fun o => o.2.2) (at_B m c ⟨n + 1, hn⟩ h _ (ih (Nat.lt_of_succ_lt hn)))).trans ?_
      rw [HL_later m c _ h, ← AT_val m c ⟨n + 1, hn⟩, lastRows_ext, Nat.add_sub_cancel]

/-- The first result's block after each point. -/
theorem out8_eq (c : Dev nD) (t : Fin cfg0.N) : (outsAt0 m c t.val t.isLt).1
    = hOf (ysOf (HL m c t.val) (iblk m c 2 t) (iblk m c 5 t)) (iblk m c 0 t) (X0_1 m c t) (iblk m c 3 t) (iblk m c 4 t) (iblk m c 6 t) (iblk m c 7 t) := by
  by_cases h : t.val % 16 = 0
  · rw [at_A m c t h, HL_start m c _ h]
  · rw [at_B m c t h _ (scratch_eq m c _ _), HL_later m c _ h, lastRows_ext]

/-- The second result's block after each point. -/
theorem out9_eq (c : Dev nD) (t : Fin cfg0.N) : (outsAt0 m c t.val t.isLt).2.1 = k0_pay10 (tail8 (AT m c t.val)) := by
  rw [← AT_val m c t]
  by_cases h : t.val % 16 = 0
  · rw [at_A m c t h]
  · rw [at_B m c t h _ (scratch_eq m c _ _)]

end Cert.Kernel4Ideal.Mix

end
-- ==== Proof.MixSpec.lean ====
module

public import proofs.«01_k».proof.Proof.Gen.Kernel4Ideal.Skeleton
public import Idealize.ShloMosaic.Lib.Pointwise
public import Idealize.ShloMosaic.Lib.Pipeline.ValueKit

@[expose] public section

set_option maxRecDepth 16384

noncomputable section

namespace Cert.Kernel4Ideal.Mix

open Idealize.ShloMosaic Idealize.ShloMosaic.TcCoe Idealize.SL.Sem
open Cert.Kernel4Ideal Cert.Kernel4Ideal.Gen

/-- The packed product, by numbers, zero outside. -/
def zN (x1 : FVec Ideal S16384x7680 .bf16) (r e : ℕ) : EReal := if h : r < 16384 ∧ e < 7680 then x1 (ix2 ⟨r, h.1⟩ ⟨e, h.2⟩) else 0
theorem zN_of (x1 : FVec Ideal S16384x7680 .bf16) (r : Fin 16384) (e : Fin 7680) : (x1 (ix2 r e) : EReal) = zN x1 r.val e.val := by
  unfold zN; rw [dif_pos ⟨r.isLt, e.isLt⟩]

/-- What the short convolution reads: the product of two of the packed parts. -/
def uN (x1 : FVec Ideal S16384x7680 .bf16) (r e : ℕ) : EReal := zN x1 r (6656 + e) * zN x1 r (7168 + e)

/-- The same `d` rows earlier in the row's sequence, zero before its start. -/
def pN (x1 : FVec Ideal S16384x7680 .bf16) (d r e : ℕ) : EReal := if r % 8192 < d then 0 else uN x1 (r - d) e

/-- The convolution's weights. -/
def wN (x4 : FVec Ideal S2x3x512 .f32) (k : Fin 3) (e : ℕ) : EReal := if h : e < 512 then x4 (ix3 0 k ⟨e, h⟩) else 0
theorem wN_of (x4 : FVec Ideal S2x3x512 .f32) (k : Fin 3) (e : Fin 512) : (x4 (ix3 0 k e) : EReal) = wN x4 k e.val := by
  unfold wN; rw [dif_pos e.isLt]

/-- Three terms of a convolution. -/
def conv (u p1 p2 w0 w1 w2 : EReal) : EReal := (w2 * u + w1 * p1) + w0 * p2

/-- The convolution's output: the third branch. -/
def ysN (x1 : FVec Ideal S16384x7680 .bf16) (x4 : FVec Ideal S2x3x512 .f32) (r e : ℕ) : EReal :=
  zN x1 r (6144 + e) * conv (uN x1 r e) (pN x1 1 r e) (pN x1 2 r e) (wN x4 0 e) (wN x4 1 e) (wN x4 2 e)

/-- A branch's product with its weights. -/
def proj (y : Fin 512 → EReal) (x5 : FVec Ideal S2x3x512x1024 .f32) (k : Fin 3) (d : Fin 1024) : EReal := ∑ e : Fin 512, y e * x5 (ix4 0 k e d)

/-- The gated sum of the three branches. -/
def accN (x1 : FVec Ideal S16384x7680 .bf16) (x2 x3 : FVec Ideal S16384x512 .bf16) (x4 : FVec Ideal S2x3x512 .f32) (x5 : FVec Ideal S2x3x512x1024 .f32) (r : Fin 16384) (d : Fin 1024) : EReal :=
  Ideal.logistic (zN x1 r.val d.val) * proj (fun e => x2 (ix2 r e)) x5 0 d + Ideal.logistic (zN x1 r.val (1024 + d.val)) * proj (fun e => x3 (ix2 r e)) x5 1 d
    + Ideal.logistic (zN x1 r.val (2048 + d.val)) * proj (fun e => ysN x1 x4 r.val e.val) x5 2 d

/-- The row with the layer's mixing added. -/
def hN (x0 : FVec Ideal S16384x1024 .f32) (x1 : FVec Ideal S16384x7680 .bf16) (x2 x3 : FVec Ideal S16384x512 .bf16) (x4 : FVec Ideal S2x3x512 .f32) (x5 : FVec Ideal S2x3x512x1024 .f32) (x6 : FVec Ideal S2x1024x1024 .f32) (r : Fin 16384) (k : Fin 1024) : EReal := x0 (ix2 r k) + ∑ d : Fin 1024, accN x1 x2 x3 x4 x5 r d * x6 (ix3 0 d k)

/-- The first result. -/
def out0 (x0 : FVec Ideal S16384x1024 .f32) (x1 : FVec Ideal S16384x7680 .bf16) (x2 x3 : FVec Ideal S16384x512 .bf16) (x4 : FVec Ideal S2x3x512 .f32) (x5 : FVec Ideal S2x3x512x1024 .f32) (x6 : FVec Ideal S2x1024x1024 .f32) : FVec Ideal S16384x1024 .f32 := fun i => hN x0 x1 x2 x3 x4 x5 x6 (i 0) (i 1)

/-- The second result: the last eight rows of every 512 of what the convolution reads. -/
def out1 (x1 : FVec Ideal S16384x7680 .bf16) : FVec Ideal S32x8x512 .f32 := fun i => uN x1 ((i 0).val * 512 + (504 + (i 1).val)) (i 2).val

end Cert.Kernel4Ideal.Mix

end
-- ==== Proof.MixBlock.lean ====
module

public import proofs.«01_k».proof.Proof.MixRun
public import proofs.«01_k».proof.Proof.MixSpec

@[expose] public section

set_option maxRecDepth 16384

noncomputable section

namespace Cert.Kernel4Ideal.Mix

open Idealize.ShloMosaic Idealize.ShloMosaic.TcCoe Idealize.SL.Sem
open Cert.Kernel4Ideal Cert.Kernel4Ideal.Gen

variable (m : (ℓ : Loc nD τ sig) → Buf (Elt Ideal) ℓ)

/-- The windows' block indices at each point. -/
theorem idx : ∀ t : Fin cfg0.N, win0_0.index t = ![t.val, 0] ∧ win0_1.index t = ![t.val, 0] ∧ win0_2.index t = ![t.val, 4]
    ∧ win0_3.index t = ![t.val, 0] ∧ win0_4.index t = ![t.val, 0] ∧ win0_5.index t = ![0, 0]
    ∧ win0_6.index t = ![0, 0, 0, 0] ∧ win0_7.index t = ![0, 0, 0]
    ∧ win0_8.index t = ![t.val, 0] ∧ win0_9.index t = ![t.val, 0, 0] :=
  (by decide +kernel : ∀ t : Fin grid0.N, _)

theorem lt32 (t : Fin cfg0.N) : t.val < 32 := t.isLt

/-- The rows' block. -/
theorem blk0 (c : Dev nD) (t : Fin cfg0.N) (q : Fin 512) (k : Fin 1024) :
    iblk m c 0 t (ix2 q k) = (m ((c : Thread nD τ).loc main_arg0)) (ix2 ⟨t.val * 512 + q.val, by have := lt32 t; omega⟩ k) := by
  blk_ext [iblk, V, idx t]

/-- The gates' block. -/
theorem blk1 (c : Dev nD) (t : Fin cfg0.N) (q : Fin 512) (k : Fin 3072) :
    (X0_1 m c t (ix2 q k) : EReal) = (m ((c : Thread nD τ).loc main_arg1)) (ix2 ⟨t.val * 512 + q.val, by have := lt32 t; omega⟩ ⟨k.val, by omega⟩) := by
  unfold X0_1 Pipeline.Window.fill
  rw [dif_pos (moved0_1 t _)]
  blk_ext [iblk, V, idx t]

/-- The convolution's block of the packed product. -/
theorem blk2 (c : Dev nD) (t : Fin cfg0.N) (q : Fin 512) (k : Fin 1536) :
    (iblk m c 2 t (ix2 q k) : EReal) = (m ((c : Thread nD τ).loc main_arg1)) (ix2 ⟨t.val * 512 + q.val, by have := lt32 t; omega⟩ ⟨6144 + k.val, by omega⟩) := by
  blk_ext [iblk, V, idx t]

/-- The first branch's block. -/
theorem blk3 (c : Dev nD) (t : Fin cfg0.N) (q : Fin 512) (k : Fin 512) :
    (iblk m c 3 t (ix2 q k) : EReal) = (m ((c : Thread nD τ).loc main_arg2)) (ix2 ⟨t.val * 512 + q.val, by have := lt32 t; omega⟩ k) := by
  blk_ext [iblk, V, idx t]

/-- The second branch's block. -/
theorem blk4 (c : Dev nD) (t : Fin cfg0.N) (q : Fin 512) (k : Fin 512) :
    (iblk m c 4 t (ix2 q k) : EReal) = (m ((c : Thread nD τ).loc main_arg3)) (ix2 ⟨t.val * 512 + q.val, by have := lt32 t; omega⟩ k) := by
  blk_ext [iblk, V, idx t]

theorem entry5 (c : Dev nD) (a : Fin 3) (e : Fin 512) : V m c main_v3 (ix2 a e) = (m ((c : Thread nD τ).loc main_arg4)) (ix3 0 a e) := by
  entry_read
  pointwise
/-- The convolution's weights. -/
theorem blk5 (c : Dev nD) (t : Fin cfg0.N) (a : Fin 3) (e : Fin 512) : iblk m c 5 t (ix2 a e) = (m ((c : Thread nD τ).loc main_arg4)) (ix3 0 a e) := by
  refine Eq.trans ?_ (entry5 m c a e)
  blk_ext [iblk, idx t]

theorem entry6 (c : Dev nD) (a : Fin 3) (e : Fin 512) (d : Fin 1024) : (V m c main_v0 (ix4 0 a e d) : EReal) = (m ((c : Thread nD τ).loc main_arg5)) (ix4 0 a e d) := by
  entry_read
  pointwise
/-- The branches' weights. -/
theorem blk6 (c : Dev nD) (t : Fin cfg0.N) (a : Fin 3) (e : Fin 512) (d : Fin 1024) : (iblk m c 6 t (ix4 0 a e d) : EReal) = (m ((c : Thread nD τ).loc main_arg5)) (ix4 0 a e d) := by
  refine Eq.trans ?_ (entry6 m c a e d)
  blk_ext [iblk, idx t]

theorem entry7 (c : Dev nD) (d k : Fin 1024) : (V m c main_v1 (ix3 0 d k) : EReal) = (m ((c : Thread nD τ).loc main_arg6)) (ix3 0 d k) := by
  entry_read
  pointwise
/-- The last product's weights. -/
theorem blk7 (c : Dev nD) (t : Fin cfg0.N) (d k : Fin 1024) : (iblk m c 7 t (ix3 0 d k) : EReal) = (m ((c : Thread nD τ).loc main_arg6)) (ix3 0 d k) := by
  refine Eq.trans ?_ (entry7 m c d k)
  blk_ext [iblk, idx t]

end Cert.Kernel4Ideal.Mix

end
-- ==== Proof.MixPay.lean ====
module

public import proofs.«01_k».proof.Proof.MixSpec
public import proofs.«01_k».proof.Proof.MixPure

@[expose] public section

set_option maxRecDepth 16384

noncomputable section

namespace Cert.Kernel4Ideal.Mix

open Idealize.ShloMosaic Idealize.ShloMosaic.TcCoe Idealize.SL.Sem
open Cert.Kernel4Ideal Cert.Kernel4Ideal.Gen

/-- The product that the convolution reads, at an entry. -/
theorem pay7_at (x : Vec Ideal S512x1536 .bf16) (q : Fin 512) (j : Fin 512) :
    (k0_pay7 x (ix2 q j) : EReal) = x (ix2 q ⟨512 + j.val, by omega⟩) * x (ix2 q ⟨1024 + j.val, by omega⟩) := by
  pointwise [k0_pay7, k0_pay5, k0_pay4]

theorem pay5_at (x : Vec Ideal S512x1536 .bf16) (q : Fin 512) (j : Fin 512) :
    (k0_pay5 x (ix2 q j) : EReal) = x (ix2 q ⟨512 + j.val, by omega⟩) * x (ix2 q ⟨1024 + j.val, by omega⟩) := by
  pointwise [k0_pay5, k0_pay4]

/-- What the convolution's output is multiplied by. -/
theorem pay6_at (x : Vec Ideal S512x1536 .bf16) (q : Fin 512) (j : Fin 512) : (k0_pay6 x (ix2 q j) : EReal) = x (ix2 q ⟨j.val, by omega⟩) := by
  pointwise [k0_pay6, k0_pay4]

theorem pay2_at (q : Fin 8) (j : Fin 512) : (k0_pay2 (F := Ideal) (ix2 q j) : EReal) = 0 := by
  pointwise [k0_pay2]

theorem pay3_at (v : Vec Ideal S8x512 .f32) (q : Fin 8) (j : Fin 512) : (k0_pay3 v (ix2 q j) : EReal) = v (ix2 q j) := by
  pointwise [k0_pay3]

theorem pay10_at (v : Vec Ideal S8x512 .f32) (q : Fin 8) (j : Fin 512) : (k0_pay10 v (ix3 0 q j) : EReal) = v (ix2 q j) := by
  pointwise [k0_pay10]

/-- The first two terms of the convolution. -/
theorem pay8_at (x : Vec Ideal S512x1536 .bf16) (w2 w1 : Vec Ideal S1x512 .f32) (p1 : Vec Ideal S512x512 .f32) (q : Fin 512) (j : Fin 512) :
    (k0_pay8 x w2 w1 p1 (ix2 q j) : EReal) = w2 (ix2 0 j) * k0_pay5 x (ix2 q j) + w1 (ix2 0 j) * p1 (ix2 q j) := by
  pointwise [k0_pay8]

/-- The third term, and the product. -/
theorem pay9_at (b v : FVec Ideal S512x512 .f32) (w0 : Vec Ideal S1x512 .f32) (p2 : Vec Ideal S512x512 .f32) (q : Fin 512) (j : Fin 512) :
    (k0_pay9 b v w0 p2 (ix2 q j) : EReal) = b (ix2 q j) * ((v (ix2 q j) : EReal) + w0 (ix2 0 j) * p2 (ix2 q j)) := by
  pointwise [k0_pay9]

/-- The first two gated branches. -/
theorem pay11_at (y0 y1 : Vec Ideal S512x512 .bf16) (g0 : Vec Ideal S512x1024 .bf16) (w0 : Vec Ideal S1x1x512x1024 .bf16) (g1 : Vec Ideal S512x1024 .bf16) (w1 : Vec Ideal S1x1x512x1024 .bf16) (q : Fin 512) (d : Fin 1024) :
    (k0_pay11 y0 y1 g0 w0 g1 w1 (ix2 q d) : EReal) = Ideal.logistic (g0 (ix2 q d)) * (∑ e : Fin 512, (y0 (ix2 q e) : EReal) * w0 (ix4 0 0 e d))
      + Ideal.logistic (g1 (ix2 q d)) * (∑ e : Fin 512, (y1 (ix2 q e) : EReal) * w1 (ix4 0 0 e d)) := by
  pointwise [k0_pay11]

/-- The third, the product with the last weights, and the sum. -/
theorem pay1_at (ys : FVec Ideal S512x512 .bf16) (acc : FVec Ideal S512x1024 .f32) (g2 : Vec Ideal S512x1024 .bf16) (w2 : Vec Ideal S1x1x512x1024 .bf16) (h : Vec Ideal S512x1024 .f32) (wo : Vec Ideal S1x1024x1024 .bf16) (q : Fin 512) (k : Fin 1024) :
    (k0_pay1 ys acc g2 w2 h wo (ix2 q k) : EReal) = h (ix2 q k)
      + ∑ d : Fin 1024, ((acc (ix2 q d) : EReal) + Ideal.logistic (g2 (ix2 q d)) * (∑ e : Fin 512, (ys (ix2 q e) : EReal) * w2 (ix4 0 0 e d))) * wo (ix3 0 d k) := by
  pointwise [k0_pay1]

end Cert.Kernel4Ideal.Mix

end
-- ==== Proof.MixOut.lean ====
module

public import proofs.«01_k».proof.Proof.MixBlock
public import proofs.«01_k».proof.Proof.MixPay

@[expose] public section

set_option maxRecDepth 16384

noncomputable section

namespace Cert.Kernel4Ideal.Mix

open Idealize.ShloMosaic Idealize.ShloMosaic.TcCoe Idealize.SL.Sem
open Cert.Kernel4Ideal Cert.Kernel4Ideal.Gen

variable (m : (ℓ : Loc nD τ sig) → Buf (Elt Ideal) ℓ)

/-- The tile's rows of what the convolution reads. -/
theorem AT_at (c : Dev nD) (t : Fin cfg0.N) (q : Fin 512) (j : Fin 512) : (AT m c t.val (ix2 q j) : EReal) = uN (m ((c : Thread nD τ).loc main_arg1)) (t.val * 512 + q.val) j.val := by
  have e1 := (blk2 m c t q ⟨512 + j.val, by omega⟩).trans (zN_of _ ⟨t.val * 512 + q.val, by have := lt32 t; omega⟩ ⟨6144 + (512 + j.val), by omega⟩)
  have e2 := (blk2 m c t q ⟨1024 + j.val, by omega⟩).trans (zN_of _ ⟨t.val * 512 + q.val, by have := lt32 t; omega⟩ ⟨6144 + (1024 + j.val), by omega⟩)
  rw [← AT_val m c t, pay7_at]
  refine (congrArg₂ (fun a b : EReal => a * b) e1 e2).trans ?_
  unfold uN
  dsimp only
  rw [show 6144 + (512 + j.val) = 6656 + j.val by omega, show 6144 + (1024 + j.val) = 7168 + j.val by omega]

/-- The eight rows before a tile that does not start a sequence. -/
theorem HL_at (c : Dev nD) (t : Fin cfg0.N) (h : ¬t.val % 16 = 0) (z : Fin 8) (j : Fin 512) :
    (HL m c t.val (ix2 z j) : EReal) = uN (m ((c : Thread nD τ).loc main_arg1)) (t.val * 512 + z.val - 8) j.val := by
  rw [HL_later m c _ h, pay3_at]
  have e := AT_at m c ⟨t.val - 1, by have := t.isLt; omega⟩ ⟨504 + z.val, by omega⟩ j
  refine Eq.trans e ?_
  dsimp only
  rw [show (t.val - 1) * 512 + (504 + z.val) = t.val * 512 + z.val - 8 by omega]

/-- The tile's rows `d` rows earlier. -/
theorem shifted_at (c : Dev nD) (t : Fin cfg0.N) (d : ℕ) (h1 : 1 ≤ d) (h2 : d ≤ 2) (q : Fin 512) (j : Fin 512) :
    (shifted d (HL m c t.val) (AT m c t.val) (ix2 q j) : EReal) = pN (m ((c : Thread nD τ).loc main_arg1)) d (t.val * 512 + q.val) j.val := by
  unfold shifted pN
  by_cases hq : q.val < d
  · refine Eq.trans (if_pos hq) ?_
    by_cases hs : t.val % 16 = 0
    · rw [if_pos (by omega), HL_start m c _ hs]
      exact pay2_at _ _
    · rw [if_neg (by omega)]
      refine (HL_at m c t hs ⟨(8 - d + q.val) % 8, Nat.mod_lt _ (by norm_num)⟩ j).trans ?_
      dsimp only
      rw [show t.val * 512 + (8 - d + q.val) % 8 - 8 = t.val * 512 + q.val - d by omega]
  · refine Eq.trans (if_neg hq) ?_
    rw [if_neg (by omega)]
    refine (AT_at m c t ⟨q.val - d, by omega⟩ j).trans ?_
    dsimp only
    rw [show t.val * 512 + (q.val - d) = t.val * 512 + q.val - d by omega]

/-- The short convolution's output of a tile. -/
theorem ys_at (c : Dev nD) (t : Fin cfg0.N) (q : Fin 512) (j : Fin 512) :
    (ysOf (HL m c t.val) (iblk m c 2 t) (iblk m c 5 t) (ix2 q j) : EReal) = ysN (m ((c : Thread nD τ).loc main_arg1)) (m ((c : Thread nD τ).loc main_arg4)) (t.val * 512 + q.val) j.val := by
  have h5 : k0_pay5 (iblk m c 2 t) (ix2 q j) = AT m c t.val (ix2 q j) := by
    rw [← AT_val m c t, pay7_at, pay5_at]
  have h6 := (blk2 m c t q ⟨j.val, by omega⟩).trans (zN_of _ ⟨t.val * 512 + q.val, by have := lt32 t; omega⟩ ⟨6144 + j.val, by omega⟩)
  have hw (k : Fin 3) : (cwRow k (iblk m c 5 t) (ix2 0 j) : EReal) = wN (m ((c : Thread nD τ).loc main_arg4)) k j.val := (blk5 m c t k j).trans (wN_of _ k j)
  unfold ysOf
  rw [pay9_at, pay8_at, pay6_at, h5, AT_val, shifted_at m c t 1 (by omega) (by omega), shifted_at m c t 2 (by omega) (by omega), AT_at, hw, hw, hw]
  unfold ysN conv
  exact congrArg (fun a : EReal => a * _) h6

/-- A gate's block of columns. -/
theorem gate_at (c : Dev nD) (t : Fin cfg0.N) (k : Fin 3) (q : Fin 512) (d : Fin 1024) :
    (gcols k (X0_1 m c t) (ix2 q d) : EReal) = zN (m ((c : Thread nD τ).loc main_arg1)) (t.val * 512 + q.val) (k.val * 1024 + d.val) :=
  (blk1 m c t q ⟨k.val * 1024 + d.val, by omega⟩).trans (zN_of _ ⟨t.val * 512 + q.val, by have := lt32 t; omega⟩ ⟨k.val * 1024 + d.val, by omega⟩)

/-- A branch's product with its weights. -/
theorem proj_at (c : Dev nD) (t : Fin cfg0.N) (k : Fin 3) (y : Fin 512 → EReal) (y' : Fin 512 → EReal) (hy : ∀ e, y e = y' e) (d : Fin 1024) :
    (∑ e : Fin 512, y e * (wbr k (iblk m c 6 t) (ix4 0 0 e d) : EReal)) = proj y' (m ((c : Thread nD τ).loc main_arg5)) k d := by
  unfold proj
  exact Finset.sum_congr rfl fun e _ => congrArg₂ (fun a b : EReal => a * b) (hy e) (blk6 m c t k e d)

/-- A tile of the first result. -/
theorem h_at (c : Dev nD) (t : Fin cfg0.N) (q : Fin 512) (k : Fin 1024) :
    (hOf (ysOf (HL m c t.val) (iblk m c 2 t) (iblk m c 5 t)) (iblk m c 0 t) (X0_1 m c t) (iblk m c 3 t) (iblk m c 4 t) (iblk m c 6 t) (iblk m c 7 t) (ix2 q k) : EReal)
      = hN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val * 512 + q.val, by have := lt32 t; omega⟩ k := by
  unfold hOf hN
  rw [pay1_at]
  refine congrArg₂ (fun a b : EReal => a + b) (blk0 m c t q k) (Finset.sum_congr rfl fun d _ => congrArg₂ (fun a b : EReal => a * b) ?_ (blk7 m c t d k))
  rw [pay11_at, gate_at, gate_at, gate_at]
  unfold accN
  refine congrArg₂ (fun a b : EReal => a + b) (congrArg₂ (fun a b : EReal => a + b) ?_ ?_) ?_
  · refine congrArg₂ (fun a b : EReal => Ideal.logistic a * b) (congrArg (zN _ _) ?_) (proj_at m c t 0 _ _ (fun e => blk3 m c t q e) d)
    simp
  · refine congrArg₂ (fun a b : EReal => Ideal.logistic a * b) (congrArg (zN _ _) ?_) (proj_at m c t 1 _ _ (fun e => blk4 m c t q e) d)
    simp
  · refine congrArg₂ (fun a b : EReal => Ideal.logistic a * b) (congrArg (zN _ _) ?_) (proj_at m c t 2 _ _ (fun e => ys_at m c t q e) d)
    simp

/-- The kept rows of a tile. -/
theorem t_at (c : Dev nD) (t : Fin cfg0.N) (z : Fin 8) (j : Fin 512) :
    (k0_pay10 (tail8 (AT m c t.val)) (ix3 0 z j) : EReal) = uN (m ((c : Thread nD τ).loc main_arg1)) (t.val * 512 + (504 + z.val)) j.val := by
  rw [pay10_at]
  exact AT_at m c t ⟨504 + z.val, by omega⟩ j

/-- The first result, whole. -/
theorem final0 (c : Dev nD) : (dats m 0 c).arrAt 8 cfg0.N = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold out0
  refine (dats m 0 c).arrAt_eq_of_covers 8 _ (by decide +kernel) fun t hf y => ?_
  have e := h_at m c t
  rw [after0_8, out8_eq]
  generalize hOf (ysOf (HL m c t.val) (iblk m c 2 t) (iblk m c 5 t)) (iblk m c 0 t) (X0_1 m c t) (iblk m c 3 t) (iblk m c 4 t) (iblk m c 6 t) (iblk m c 7 t) = g at e ⊢
  have i0 : (⟨t.val * 512 + (y 0).val, by have := lt32 t; have h : (y 0).val < 512 := (y 0).isLt; omega⟩ : Fin 16384) = (win0_8.blk t).view.emb y 0 := Fin.ext (by blk_simp [idx t])
  have i1 : (y 1 : Fin 1024) = (win0_8.blk t).view.emb y 1 := Fin.ext (by blk_simp [idx t])
  refine (congrArg g (eq_ix2 y)).trans ((e (y 0) (y 1)).trans ?_)
  exact congrArg₂ (hN _ _ _ _ _ _ _) i0 i1

/-- The second result, whole. -/
theorem final1 (c : Dev nD) : (dats m 0 c).arrAt 9 cfg0.N = out1 (m ((c : Thread nD τ).loc main_arg1)) := by
  unfold out1
  refine (dats m 0 c).arrAt_eq_of_covers 9 _ (by decide +kernel) fun t hf y => ?_
  rw [after0_9, out9_eq]
  blk_simp [idx t]
  have hy : y = ix3 0 (y 1) (y 2) := (eq_ix3 y).trans (congrArg (fun a => ix3 a (y 1) (y 2)) (Fin.ext (by have h : (y 0).val < 1 := (y 0).isLt; show (y 0).val = 0; omega)))
  refine (congrArg (k0_pay10 (tail8 (AT m c t.val))) hy).trans ((t_at m c t (y 1) (y 2)).trans ?_)
  congr 1

end Cert.Kernel4Ideal.Mix

end
-- ==== Proof.MixRef.lean ====
module

public import proofs.«01_k».proof.Proof.MixSpec
public import proofs.«01_k».proof.Proof.Gen.Reference4Ideal.Read
public import Idealize.ShloMosaic.Lib.Pointwise
public import Idealize.ShloMosaic.PureOps.Ideal.Laws

@[expose] public section

set_option maxRecDepth 16384

noncomputable section

namespace Cert.Reference4Ideal.Mix

open Idealize.ShloMosaic Idealize.ShloMosaic.TcCoe Idealize.SL.Sem
open Cert.Reference4Ideal Cert.Reference4Ideal.Gen Cert.Reference4Ideal.Read
open Cert.Kernel4Ideal.Mix (zN zN_of uN pN wN wN_of conv ysN proj accN hN out0 out1)

/-- What the convolution reads. -/
theorem u6_at (x1 : FVec Ideal S16384x7680 .bf16) (r : Fin 16384) (e : Fin 512) : (val_main_v6 (F := Ideal) x1 (ix2 r e) : EReal) = uN x1 r.val e.val := by
  unfold uN
  refine Eq.trans (b := (x1 (ix2 r ⟨6656 + e.val, by omega⟩) : EReal) * x1 (ix2 r ⟨7168 + e.val, by omega⟩)) ?_ (congrArg₂ (fun a b : EReal => a * b) (zN_of x1 r ⟨6656 + e.val, by omega⟩) (zN_of x1 r ⟨7168 + e.val, by omega⟩))
  pointwise [val_main_v6, val_main_v5, val_main_v4, val_main_v0]

/-- The same by sequences. -/
theorem u7_at (x1 : FVec Ideal S16384x7680 .bf16) (b : Fin 2) (l : Fin 8192) (e : Fin 512) : (val_main_v7 (F := Ideal) x1 (ix3 b l e) : EReal) = uN x1 (b.val * 8192 + l.val) e.val := by
  refine Eq.trans ?_ (u6_at x1 ⟨b.val * 8192 + l.val, by omega⟩ e)
  generalize hz : val_main_v6 (F := Ideal) x1 = z
  pointwise [val_main_v7]
  rw [hz]

/-- The rows with two rows of zeros before each sequence. -/
theorem ext_at (x1 : FVec Ideal S16384x7680 .bf16) (b : Fin 2) (l : Fin 8194) (e : Fin 512) :
    (val_main_v9 (F := Ideal) x1 (ix3 b l e) : EReal) = if h : l.val < 2 then (0 : EReal) else val_main_v7 (F := Ideal) x1 (ix3 b ⟨l.val - 2, by omega⟩ e) := by
  generalize hz : val_main_v7 (F := Ideal) x1 = z
  pointwise [val_main_v9, val_main_v8, val_main_cst]
  rw [hz]

/-- A row of them is a row of the sequence `d` rows earlier. -/
theorem ext_p (x1 : FVec Ideal S16384x7680 .bf16) (b : Fin 2) (l : Fin 8192) (e : Fin 512) (d : ℕ) (hd : d ≤ 2) (l' : Fin 8194) (hl : l'.val = l.val + 2 - d) :
    (val_main_v9 (F := Ideal) x1 (ix3 b l' e) : EReal) = pN x1 d (b.val * 8192 + l.val) e.val := by
  rw [ext_at]
  unfold pN
  by_cases h : l.val < d
  · rw [dif_pos (by omega), if_pos (by omega)]
  · rw [dif_neg (by omega), if_neg (by omega), u7_at]
    congr 1
    dsimp only
    omega

theorem p_zero (x1 : FVec Ideal S16384x7680 .bf16) (r e : ℕ) : pN x1 0 r e = uN x1 r e := by
  unfold pN; rw [if_neg (by omega)]; rfl

/-- The three terms of the convolution. -/
theorem conv_at (x1 : FVec Ideal S16384x7680 .bf16) (x4 : FVec Ideal S2x3x512 .f32) (b : Fin 2) (l : Fin 8192) (e : Fin 512) :
    (val_main_v37 (F := Ideal) x1 x4 (ix3 b l e) : EReal) = val_main_v9 (F := Ideal) x1 (ix3 b ⟨l.val, by omega⟩ e) * x4 (ix3 0 0 e)
      + val_main_v9 (F := Ideal) x1 (ix3 b ⟨1 + l.val, by omega⟩ e) * x4 (ix3 0 1 e)
      + val_main_v9 (F := Ideal) x1 (ix3 b ⟨2 + l.val, by omega⟩ e) * x4 (ix3 0 2 e) := by
  generalize hz : val_main_v9 (F := Ideal) x1 = z
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst_0]
  simp only [hz]

/-- The third branch. -/
theorem ys_at (x1 : FVec Ideal S16384x7680 .bf16) (x4 : FVec Ideal S2x3x512 .f32) (r : Fin 16384) (e : Fin 512) :
    (val_main_v39 (F := Ideal) x1 x4 (ix2 r e) : EReal) = ysN x1 x4 r.val e.val := by
  have h1 : (val_main_v39 (F := Ideal) x1 x4 (ix2 r e) : EReal) = x1 (ix2 r ⟨6144 + e.val, by omega⟩) * val_main_v37 (F := Ideal) x1 x4 (ix3 ⟨r.val / 8192, by omega⟩ ⟨r.val % 8192, by omega⟩ e) := by
    generalize hz : val_main_v37 (F := Ideal) x1 x4 = z
    pointwise [val_main_v39, val_main_v38, val_main_v3, val_main_v0]
    rw [hz]
  have hr : r.val / 8192 * 8192 + r.val % 8192 = r.val := by omega
  rw [h1, conv_at, ext_p x1 _ ⟨r.val % 8192, by omega⟩ e 2 (by omega) _ rfl, ext_p x1 _ ⟨r.val % 8192, by omega⟩ e 1 (by omega) _ (by dsimp only; omega),
    ext_p x1 _ ⟨r.val % 8192, by omega⟩ e 0 (by omega) _ (by dsimp only; omega)]
  dsimp only
  rw [hr, p_zero, wN_of x4 0, wN_of x4 1, wN_of x4 2]
  unfold ysN conv
  refine congrArg₂ (fun a b : EReal => a * b) (zN_of x1 r ⟨6144 + e.val, by omega⟩) ?_
  rw [mul_comm _ (wN x4 0 e.val), mul_comm _ (wN x4 1 e.val), mul_comm _ (wN x4 2 e.val), add_comm, add_comm (wN x4 0 e.val * _), ← add_assoc]

/-- The branches, stacked. -/
theorem br0_at (x1 : FVec Ideal S16384x7680 .bf16) (x2 x3 : FVec Ideal S16384x512 .bf16) (x4 : FVec Ideal S2x3x512 .f32) (r : Fin 16384) (e : Fin 512) : (val_main_v45 (F := Ideal) x1 x2 x3 x4 (ix3 r 0 e) : EReal) = x2 (ix2 r e) := by
  pointwise [val_main_v45, val_main_v42, val_main_v40]
theorem br1_at (x1 : FVec Ideal S16384x7680 .bf16) (x2 x3 : FVec Ideal S16384x512 .bf16) (x4 : FVec Ideal S2x3x512 .f32) (r : Fin 16384) (e : Fin 512) : (val_main_v45 (F := Ideal) x1 x2 x3 x4 (ix3 r 1 e) : EReal) = x3 (ix2 r e) := by
  pointwise [val_main_v45, val_main_v43, val_main_v41]
theorem br2_at (x1 : FVec Ideal S16384x7680 .bf16) (x2 x3 : FVec Ideal S16384x512 .bf16) (x4 : FVec Ideal S2x3x512 .f32) (r : Fin 16384) (e : Fin 512) : (val_main_v45 (F := Ideal) x1 x2 x3 x4 (ix3 r 2 e) : EReal) = ysN x1 x4 r.val e.val := by
  rw [← ys_at]
  generalize hz : val_main_v39 (F := Ideal) x1 x4 = z
  pointwise [val_main_v45, val_main_v44]
  rw [hz]

/-- A branch's product with its weights. -/
theorem proj_at (x1 : FVec Ideal S16384x7680 .bf16) (x2 x3 : FVec Ideal S16384x512 .bf16) (x4 : FVec Ideal S2x3x512 .f32) (x5 : FVec Ideal S2x3x512x1024 .f32) (r : Fin 16384) (k : Fin 3) (d : Fin 1024) :
    (val_main_v49 (F := Ideal) x1 x2 x3 x4 x5 (ix3 r k d) : EReal) = proj (fun e => val_main_v45 (F := Ideal) x1 x2 x3 x4 (ix3 r k e)) x5 k d := by
  unfold proj
  refine Eq.trans (b := ∑ e : Fin 512, (x5 (ix4 0 k e d) : EReal) * val_main_v45 (F := Ideal) x1 x2 x3 x4 (ix3 r k e)) ?_ (Finset.sum_congr rfl fun e _ => mul_comm _ _)
  generalize hz : val_main_v45 (F := Ideal) x1 x2 x3 x4 = z
  pointwise [val_main_v49, val_main_v48, val_main_v47, val_main_v46]
  rw [hz]

/-- A gate. -/
theorem gate_at (x1 : FVec Ideal S16384x7680 .bf16) (r : Fin 16384) (k : Fin 3) (d : Fin 1024) :
    (val_main_v55 (F := Ideal) x1 (ix3 r k d) : EReal) = Ideal.logistic (x1 (ix2 r ⟨k.val * 1024 + d.val, by omega⟩)) := by
  unfold Ideal.logistic
  pointwise [val_main_v55, val_main_v54, val_main_v53, val_main_v52, val_main_v51, val_main_v50, val_main_v2, val_main_v1, val_main_v0, val_main_cst_1, val_main_cst_2]

/-- The gated sum of the branches. -/
theorem acc_at (x1 : FVec Ideal S16384x7680 .bf16) (x2 x3 : FVec Ideal S16384x512 .bf16) (x4 : FVec Ideal S2x3x512 .f32) (x5 : FVec Ideal S2x3x512x1024 .f32) (r : Fin 16384) (d : Fin 1024) : (val_main_v57 (F := Ideal) x1 x2 x3 x4 x5 (ix2 r d) : EReal) = accN x1 x2 x3 x4 x5 r d := by
  refine Eq.trans (b := ∑ k : Fin 3, (val_main_v55 (F := Ideal) x1 (ix3 r k d) : EReal) * val_main_v49 (F := Ideal) x1 x2 x3 x4 x5 (ix3 r k d)) ?_ ?_
  · generalize hz : val_main_v55 (F := Ideal) x1 = z
    generalize hy : val_main_v49 (F := Ideal) x1 x2 x3 x4 x5 = y
    pointwise [val_main_v57, val_main_v56, val_main_cst_3]
    simp only [hz, hy]
  · rw [Fin.sum_univ_three]
    simp only [gate_at, proj_at, br0_at, br1_at, br2_at]
    unfold accN
    refine congrArg₂ (fun a b : EReal => a + b) (congrArg₂ (fun a b : EReal => a + b) ?_ ?_) ?_
    · refine congrArg (fun a => Ideal.logistic a * _) ((zN_of x1 r _).trans ?_)
      simp
    · refine congrArg (fun a => Ideal.logistic a * _) ((zN_of x1 r _).trans ?_)
      simp
    · refine congrArg (fun a => Ideal.logistic a * _) ((zN_of x1 r _).trans ?_)
      simp

/-- The first result. -/
theorem h_at (x0 : FVec Ideal S16384x1024 .f32) (x1 : FVec Ideal S16384x7680 .bf16) (x2 x3 : FVec Ideal S16384x512 .bf16) (x4 : FVec Ideal S2x3x512 .f32) (x5 : FVec Ideal S2x3x512x1024 .f32) (x6 : FVec Ideal S2x1024x1024 .f32) (r : Fin 16384) (k : Fin 1024) : (val_main_v61 (F := Ideal) x0 x1 x2 x3 x4 x5 x6 (ix2 r k) : EReal) = hN x0 x1 x2 x3 x4 x5 x6 r k := by
  unfold hN
  simp only [← acc_at]
  generalize hz : val_main_v57 (F := Ideal) x1 x2 x3 x4 x5 = z
  pointwise [val_main_v61, val_main_v60, val_main_v59, val_main_v58]
  rw [hz]

/-- The second result. -/
theorem t_at (x1 : FVec Ideal S16384x7680 .bf16) (i : Fin 32) (j : Fin 8) (e : Fin 512) : (val_main_v63 (F := Ideal) x1 (ix3 i j e) : EReal) = uN x1 (i.val * 512 + (504 + j.val)) e.val := by
  refine Eq.trans ?_ (u6_at x1 ⟨i.val * 512 + (504 + j.val), by omega⟩ e)
  generalize hz : val_main_v6 (F := Ideal) x1 = z
  pointwise [val_main_v63, val_main_v62, val_main_v7]
  rw [hz]

/-- The reference's first result, whole. -/
theorem ref0 (x0 : FVec Ideal S16384x1024 .f32) (x1 : FVec Ideal S16384x7680 .bf16) (x2 x3 : FVec Ideal S16384x512 .bf16) (x4 : FVec Ideal S2x3x512 .f32) (x5 : FVec Ideal S2x3x512x1024 .f32) (x6 : FVec Ideal S2x1024x1024 .f32) : val_main_v61 (F := Ideal) x0 x1 x2 x3 x4 x5 x6 = out0 x0 x1 x2 x3 x4 x5 x6 := by
  funext i
  exact (congrArg (val_main_v61 (F := Ideal) x0 x1 x2 x3 x4 x5 x6) (eq_ix2 i)).trans (h_at x0 x1 x2 x3 x4 x5 x6 (i 0) (i 1))

/-- The reference's second result, whole. -/
theorem ref1 (x1 : FVec Ideal S16384x7680 .bf16) : val_main_v63 (F := Ideal) x1 = out1 x1 := by
  funext i
  exact (congrArg (val_main_v63 (F := Ideal) x1) (eq_ix3 i)).trans (t_at x1 (i 0) (i 1) (i 2))

end Cert.Reference4Ideal.Mix

end
-- ==== Proof.MixClaim.lean ====
module

public import proofs.«01_k».proof.Proof.MixOut
public import proofs.«01_k».proof.Proof.MixRef
public import proofs.«01_k».proof.Proof.Gen.Reference4Ideal.Run
public import proofs.«01_k».proof.Defs

@[expose] public section

set_option maxRecDepth 16384

noncomputable section

namespace Cert.Kernel4Ideal.Mix

open Idealize.ShloMosaic Idealize.ShloMosaic.TcCoe Idealize.SL.Sem
open Cert.Kernel4Ideal Cert.Kernel4Ideal.Gen
open Cert.Reference4Ideal.Mix (ref0 ref1)

/-- The mixing kernel and its reference end with the same two results: the rows with the gated branches' product added, and the last eight rows of every 512 of what the short convolution reads. -/
theorem algebraic : Cert.algebraic_Kernel4Ideal_Reference4Ideal := by
  intro m g m' g' _ hin
  refine ⟨fun c => out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => out1 (m ((c.tc : Thread nD τ).loc main_arg1)), ?_, ?_⟩
  · refine (θ_run _ _ _).mono (fun r h c => ?_) (θ_run_and (run_main_quiescent m g) (frame m g))
    have hA := (h.1.1 c).1
    exact ⟨(hA 8).trans (final0 m c), (hA 9).trans (final1 m c), h.2.1 c⟩
  · refine (θ_run _ _ _).mono (fun _ h c => ?_) (Cert.Reference4Ideal.Value.run (F := Ideal) m' g')
    obtain ⟨h0, h1, ha⟩ := h c
    obtain ⟨i0, i1, i2, i3, i4, i5, i6⟩ := hin c
    refine ⟨h0.trans ?_, h1.trans ?_, ha⟩
    · refine (Cert.Reference4Ideal.Read.val_main_v61_eq m' c).trans ?_
      rw [i0, i1, i2, i3, i4, i5, i6]; exact ref0 _ _ _ _ _ _ _
    · refine (Cert.Reference4Ideal.Read.val_main_v63_eq _).trans ?_
      rw [i1]; exact ref1 _

end Cert.Kernel4Ideal.Mix

end
-- ==== Proof.SmxPure.lean ====
module

public import proofs.«01_k».proof.Proof.Gen.Kernel5Ideal.Frame
public import proofs.«01_k».proof.Proof.Gen.Kernel5Ideal.Skeleton
public import Idealize.ShloMosaic.Lib.Claim
public import Idealize.ShloMosaic.Lib.Pipeline.Value
public import Idealize.ShloMosaic.Lib.ValueIdx

@[expose] public section

set_option maxRecDepth 16384

noncomputable section

namespace Cert.Kernel5Ideal.Smx

open Cert.Kernel5Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The rows from `o` on of the state's rows followed by the tile's. -/
def rowsAt (o : ℕ) (H : Vec F S256x512 .f32) (A : Vec F S512x512 .f32) : Vec F S512x512 .f32 := fun z =>
  if h : o + (z 0).val < 256 then H (ix2 ⟨o + (z 0).val, h⟩ (z 1)) else A (ix2 ⟨(o + (z 0).val - 256) % 512, Nat.mod_lt _ (by norm_num)⟩ (z 1))

/-- The last 256 rows of a tile. -/
def tailRows (A : Vec F S512x512 .f32) : Vec F S256x512 .f32 := fun z => A (ix2 ⟨256 + (z 0).val, by have : (z 0).val < 256 := (z 0).isLt; omega⟩ (z 1))

/-- Row `k` of the convolution's weights. -/
def cwRow (k : Fin 3) (w : Vec F S3x512 .f32) : Vec F S1x512 .f32 := fun z => w (ix2 k (z 1))

/-- One of the three blocks of gate columns. -/
def gcols (k : Fin 3) (x : Vec F S512x3072 .bf16) : Vec F S512x1024 .bf16 := fun z => x (ix2 (z 0) ⟨k.val * 1024 + (z 1).val, by have : (z 1).val < 1024 := (z 1).isLt; omega⟩)

/-- One of the three branches' weights. -/
def wbr (k : Fin 3) (x : Vec F S1x3x512x1024 .bf16) : Vec F S1x1x512x1024 .bf16 := fun z => x (ix4 0 k (z 2) (z 3))

/-- The short convolution's output, from the state's rows. -/
def ysOf (H : Vec F S256x512 .f32) (x2 : Vec F S512x1536 .bf16) (cw : Vec F S3x512 .f32) : FVec F S512x512 .bf16 :=
  k0_pay6 x2 (cwRow 2 cw) (cwRow 1 cw) (rowsAt 128 H (k0_pay5 x2)) (cwRow 0 cw) (rowsAt 0 H (k0_pay5 x2))

/-- What the call leaves in the first result. -/
def hOf (ys : FVec F S512x512 .bf16) (x0 : Vec F S512x1024 .f32) (x1 : Vec F S512x3072 .bf16) (x3 x4 : Vec F S512x512 .bf16) (x6 : Vec F S1x3x512x1024 .bf16) (x7 : Vec F S1x1024x1024 .bf16) : FVec F S512x1024 .f32 :=
  k0_pay1 x0 (k0_pay8 ys x3 x4 (gcols 0 x1) (wbr 0 x6) (gcols 1 x1) (wbr 1 x6) (gcols 2 x1) (wbr 2 x6)) x7

/-- A store over a whole array leaves what was stored. -/
theorem store_read {sp : Space} {s : Shape} {e : EltTy} (v : View sig .tc sp s e) (f : v.ty.Contents (Elt F)) (off : Fin s.rank → ℕ) (hoff : off = fun _ => 0)
    (h : ∀ d, off d + s.size d ≤ s.size d) (w : s.Idx → Elt F e) (L : List (View.Piece (Elt F) s e)) :
    v.read (Elt F) (v.writes (Elt F) f (⟨Rect.unit off s.size h, w⟩ :: L)) = w := by
  rw [View.read_writes_eq_canon _ _ _ (fun y => ⟨_, List.mem_cons_self, View.mem_set_unit_zero hoff h y⟩)]
  exact View.canon_cons_unit_zero hoff _ _ _

/-- A load of a whole array reads its contents. -/
theorem load_read {sp : Space} {s : Shape} {e : EltTy} {m : Memref sig .tc sp s e} (hm : m.IsWhole) (X : s.Idx → Elt F e) (off : Fin s.rank → ℕ) (hoff : off = fun _ => 0)
    (h : ∀ d, off d + s.size d ≤ s.size d) :
    m.view.readAt (Elt F) (Rect.unit off s.size h).toLoadRect (hm.unread X) = X := by
  rw [View.readAt_eq_ld, hm.read_unread]
  exact View.ld_unit_zero hoff _ _

/-- A load of one row of the convolution's weights reads that row. -/
theorem cw_read {sp : Space} {m : Memref sig .tc sp S3x512 .f32} (hm : m.IsWhole) (X : Vec F S3x512 .f32) (k : Fin 3) (inb) :
    m.view.readAt (Elt F) (Rect.unit (s := S3x512) ![k.val, 0] S1x512.size inb).toLoadRect (hm.unread X) = cwRow k X := by
  rw [View.readAt_eq_ld, hm.read_unread]
  funext z
  unfold cwRow View.ld
  congr 1
  have h0 : (z 0).val < 1 := (z 0).isLt
  funext a
  apply Fin.ext
  fin_cases a
  · simp [LoadRect.idx, Rect.unit, ix2]; omega
  · simp [LoadRect.idx, Rect.unit, ix2]

/-- A load of one block of gate columns reads it. -/
theorem g_read {sp : Space} {m : Memref sig .tc sp S512x3072 .bf16} (hm : m.IsWhole) (X : Vec F S512x3072 .bf16) (k : Fin 3) (off : Fin 2 → ℕ) (ho : off = ![0, k.val * 1024]) (inb) :
    m.view.readAt (Elt F) (Rect.unit (s := S512x3072) off S512x1024.size inb).toLoadRect (hm.unread X) = gcols k X := by
  subst ho
  rw [View.readAt_eq_ld, hm.read_unread]
  funext z
  unfold gcols View.ld
  congr 1
  funext a
  apply Fin.ext
  fin_cases a
  · simp [LoadRect.idx, Rect.unit, ix2]
  · simp [LoadRect.idx, Rect.unit, ix2]

/-- A load of one branch's weights reads them. -/
theorem w_read {sp : Space} {m : Memref sig .tc sp S1x3x512x1024 .bf16} (hm : m.IsWhole) (X : Vec F S1x3x512x1024 .bf16) (k : Fin 3) (inb) :
    m.view.readAt (Elt F) (Rect.unit (s := S1x3x512x1024) ![0, k.val, 0, 0] S1x1x512x1024.size inb).toLoadRect (hm.unread X) = wbr k X := by
  rw [View.readAt_eq_ld, hm.read_unread]
  funext z
  unfold wbr View.ld
  congr 1
  have h0 : (z 0).val < 1 := (z 0).isLt
  have h1 : (z 1).val < 1 := (z 1).isLt
  funext a
  apply Fin.ext
  fin_cases a
  · simp [LoadRect.idx, Rect.unit, ix4]
  · simp [LoadRect.idx, Rect.unit, ix4]; omega
  · simp [LoadRect.idx, Rect.unit, ix4]
  · simp [LoadRect.idx, Rect.unit, ix4]

/-- The two stores that fill the rows with the state before them. -/
abbrev extL (H : Vec F S256x512 .f32) (A : Vec F S512x512 .f32) (inb : ∀ a, (![256, 0] : Fin 2 → ℕ) a + S512x512.size a ≤ S768x512.size a) (inb' : ∀ a, (![0, 0] : Fin 2 → ℕ) a + S256x512.size a ≤ S768x512.size a) : List (View.Piece (Elt F) S768x512 .f32) :=
  [⟨Rect.unit (s := S768x512) ![256, 0] S512x512.size inb, A⟩, ⟨Rect.unit (s := S768x512) ![0, 0] S256x512.size inb', H⟩]

theorem canon_hi (H : Vec F S256x512 .f32) (A : Vec F S512x512 .f32) (inb inb') (y : S768x512.Idx) (h : 256 ≤ (y 0).val) :
    View.canon (extL H A inb inb') y = A (ix2 ⟨(y 0).val - 256, by have : (y 0).val < 768 := (y 0).isLt; omega⟩ (y 1)) := by
  have e : y = (Rect.unit (s := S768x512) ![256, 0] S512x512.size inb).emb (ix2 (⟨(y 0).val - 256, by have : (y 0).val < 768 := (y 0).isLt; omega⟩ : Fin 512) (y 1)) := by
    funext a
    apply Fin.ext
    fin_cases a
    · simp [Rect.emb, Rect.unit, ix2]; omega
    · simp [Rect.emb, Rect.unit, ix2]
  conv_lhs => rw [e]
  exact View.canon_cons_emb _ _ _ _

theorem canon_lo (H : Vec F S256x512 .f32) (A : Vec F S512x512 .f32) (inb inb') (y : S768x512.Idx) (h : (y 0).val < 256) :
    View.canon (extL H A inb inb') y = H (ix2 ⟨(y 0).val, h⟩ (y 1)) := by
  rw [View.canon_cons_of_not_mem]
  · have e : y = (Rect.unit (s := S768x512) ![0, 0] S256x512.size inb').emb (ix2 (⟨(y 0).val, h⟩ : Fin 256) (y 1)) := by
      funext a
      apply Fin.ext
      fin_cases a
      · simp [Rect.emb, Rect.unit, ix2]
      · simp [Rect.emb, Rect.unit, ix2]
    conv_lhs => rw [e]
    exact View.canon_cons_emb _ _ _ _
  · intro hm
    have := (Rect.mem_set_unit.mp (show y ∈ (Rect.unit (s := S768x512) ![256, 0] S512x512.size inb).set from hm)) 0
    simp [Matrix.cons_val] at this
    omega

/-- A load of the rows from `o` on. -/
theorem ext_read (o : ℕ) (ho' : o ≤ 256) {sp : Space} (v : View sig .tc sp S768x512 .f32) (H : Vec F S256x512 .f32) (A : Vec F S512x512 .f32) (inb inb') (off : Fin 2 → ℕ) (ho : off = ![o, 0]) (inbk) :
    v.readCov (extL H A inb inb') (Rect.unit (s := S768x512) off S512x512.size inbk).toLoadRect = rowsAt o H A := by
  subst ho
  rw [View.readCov_eq_canon']
  funext z
  have hz : (z 0).val < 512 := (z 0).isLt
  have e0 : (((Rect.unit (s := S768x512) ![o, 0] S512x512.size inbk).toLoadRect.idx z) 0).val = o + (z 0).val := by simp [LoadRect.idx, Rect.unit]
  have e1 : (((Rect.unit (s := S768x512) ![o, 0] S512x512.size inbk).toLoadRect.idx z) 1) = z 1 := by apply Fin.ext; simp [LoadRect.idx, Rect.unit]
  unfold rowsAt
  split
  case isTrue h =>
    refine (canon_lo _ _ _ _ _ (by omega)).trans ?_
    exact congrArg₂ (fun a b => H (ix2 a b)) (Fin.ext e0) e1
  case isFalse h =>
    refine (canon_hi _ _ _ _ _ (by omega)).trans ?_
    refine congrArg₂ (fun a b => A (ix2 a b)) (Fin.ext ?_) e1
    show _ - 256 = (o + (z 0).val - 256) % 512
    rw [Nat.mod_eq_of_lt (by omega)]
    omega

/-- A load of the tile's last 256 rows. -/
theorem tail_read {sp : Space} (v : View sig .tc sp S768x512 .f32) (H : Vec F S256x512 .f32) (A : Vec F S512x512 .f32) (inb inb' inbk) :
    v.readCov (extL H A inb inb') (Rect.unit (s := S768x512) ![512, 0] S256x512.size inbk).toLoadRect = tailRows A := by
  rw [View.readCov_eq_canon']
  funext z
  have hz : (z 0).val < 256 := (z 0).isLt
  have e0 : (((Rect.unit (s := S768x512) ![512, 0] S256x512.size inbk).toLoadRect.idx z) 0).val = 512 + (z 0).val := by simp [LoadRect.idx, Rect.unit]
  have e1 : (((Rect.unit (s := S768x512) ![512, 0] S256x512.size inbk).toLoadRect.idx z) 1) = z 1 := by apply Fin.ext; simp [LoadRect.idx, Rect.unit]
  unfold tailRows
  refine (canon_hi _ _ _ _ _ (by omega)).trans ?_
  refine congrArg₂ (fun a b => A (ix2 a b)) (Fin.ext ?_) e1
  show _ - 256 = 256 + (z 0).val
  omega

/-- The convolution's output from equal parts. -/
theorem ys_congr {H : Vec F S256x512 .f32} {x2 v16 : Vec F S512x1536 .bf16} {cw : Vec F S3x512 .f32} {v25 v29 v35 : Vec F S1x512 .f32} {v31 v37 : Vec F S512x512 .f32}
    (e0 : v16 = x2) (e1 : v25 = cwRow 2 cw) (e2 : v29 = cwRow 1 cw) (e3 : v31 = rowsAt 128 H (k0_pay5 x2)) (e4 : v35 = cwRow 0 cw) (e5 : v37 = rowsAt 0 H (k0_pay5 x2)) :
    k0_pay6 v16 v25 v29 v31 v35 v37 = ysOf H x2 cw := by
  subst e0 e1 e2 e3 e4 e5; rfl

/-- The first result from equal parts. -/
theorem h_congr {ys v42 : FVec F S512x512 .bf16} {x0 v74 : Vec F S512x1024 .f32} {x1 : Vec F S512x3072 .bf16} {x3 x4 v48 v49 : Vec F S512x512 .bf16} {x6 : Vec F S1x3x512x1024 .bf16} {x7 v76 : Vec F S1x1024x1024 .bf16}
    {v50 v58 v66 : Vec F S512x1024 .bf16} {v53 v61 v69 : Vec F S1x1x512x1024 .bf16}
    (e0 : v42 = ys) (e1 : v48 = x3) (e2 : v49 = x4) (e3 : v50 = gcols 0 x1) (e4 : v53 = wbr 0 x6) (e5 : v58 = gcols 1 x1) (e6 : v61 = wbr 1 x6) (e7 : v66 = gcols 2 x1) (e8 : v69 = wbr 2 x6)
    (e9 : v74 = x0) (e10 : v76 = x7) :
    k0_pay1 v74 (k0_pay8 v42 v48 v49 v50 v53 v58 v61 v66 v69) v76 = hOf ys x0 x1 x3 x4 x6 x7 := by
  subst e0 e1 e2 e3 e4 e5 e6 e7 e8 e9 e10; rfl

end Cert.Kernel5Ideal.Smx

end
-- ==== Proof.SmxRun.lean ====
module

public import proofs.«01_k».proof.Proof.SmxPure
public import proofs.«01_k».proof.Proof.Gen.Kernel5Ideal.Frame
public import proofs.«01_k».proof.Proof.Gen.Kernel5Ideal.Skeleton
public import Idealize.ShloMosaic.Lib.Claim
public import Idealize.ShloMosaic.Lib.Pipeline.Value
public import Idealize.ShloMosaic.Lib.ValueIdx

@[expose] public section

set_option maxRecDepth 16384

noncomputable section

namespace Cert.Kernel5Ideal.Smx

open Cert.Kernel5Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The first result's block. -/
theorem out0_A_9_eq (c : Dev nD) (i : grid0.Coords) (arg1 : Memref sig .tc .vmem S512x1024 .f32) (harg1 : arg1.IsWhole) (arg2 : Memref sig .tc .vmem S512x3072 .bf16) (harg2 : arg2.IsWhole) (arg3 : Memref sig .tc .vmem S512x1536 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S3x512 .f32) (harg6 : arg6.IsWhole) (arg7 : Memref sig .tc .vmem S1x3x512x1024 .bf16) (harg7 : arg7.IsWhole) (arg8 : Memref sig .tc .vmem S1x1024x1024 .bf16) (harg8 : arg8.IsWhole) (arg9 : Memref sig .tc .vmem S256x512 .f32) (harg9 : arg9.IsWhole) (arg10 : Memref sig .tc .vmem S512x1024 .f32) (harg10 : arg10.IsWhole) (arg11 : Memref sig .tc .vmem S1x256x512 .f32) (harg11 : arg11.IsWhole) (arg12 : Memref sig .tc .vmem S768x512 .f32) (harg12 : arg12.IsWhole)
    (x0 : Vec F S512x1024 .f32) (x1 : Vec F S512x3072 .bf16) (x2 : Vec F S512x1536 .bf16) (x3 : Vec F S512x512 .bf16) (x4 : Vec F S512x512 .bf16) (x5 : Vec F S3x512 .f32) (x6 : Vec F S1x3x512x1024 .bf16) (x7 : Vec F S1x1024x1024 .bf16) (x8 : Vec F S256x512 .f32) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = hOf (ysOf (k0_pay2 x8) x2 x5) x0 x1 x3 x4 x6 x7 := by
  unfold out0_A_9
  exact (store_read _ _ _ (by decide) _ _ _).trans (h_congr (ys_congr (load_read harg3 x2 _ (by decide) _) (cw_read harg6 x5 2 _) (cw_read harg6 x5 1 _) ((ext_read 128 (by decide) _ _ _ _ _ _ (by decide) _).trans (congrArg₂ (rowsAt 128) (congrArg k0_pay2 (load_read harg9 x8 _ (by decide) _)) (congrArg k0_pay5 (load_read harg3 x2 _ (by decide) _)))) (cw_read harg6 x5 0 _) ((ext_read 0 (by decide) _ _ _ _ _ _ (by decide) _).trans (congrArg₂ (rowsAt 0) (congrArg k0_pay2 (load_read harg9 x8 _ (by decide) _)) (congrArg k0_pay5 (load_read harg3 x2 _ (by decide) _))))) (load_read harg4 x3 _ (by decide) _) (load_read harg5 x4 _ (by decide) _) (g_read harg2 x1 0 _ (by decide) _) (w_read harg7 x6 0 _) (g_read harg2 x1 1 _ (by decide) _) (w_read harg7 x6 1 _) (g_read harg2 x1 2 _ (by decide) _) (w_read harg7 x6 2 _) (load_read harg1 x0 _ (by decide) _) (load_read harg8 x7 _ (by decide) _))

/-- The second result's block. -/
theorem out0_A_10_eq (c : Dev nD) (i : grid0.Coords) (arg1 : Memref sig .tc .vmem S512x1024 .f32) (harg1 : arg1.IsWhole) (arg2 : Memref sig .tc .vmem S512x3072 .bf16) (harg2 : arg2.IsWhole) (arg3 : Memref sig .tc .vmem S512x1536 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S3x512 .f32) (harg6 : arg6.IsWhole) (arg7 : Memref sig .tc .vmem S1x3x512x1024 .bf16) (harg7 : arg7.IsWhole) (arg8 : Memref sig .tc .vmem S1x1024x1024 .bf16) (harg8 : arg8.IsWhole) (arg9 : Memref sig .tc .vmem S256x512 .f32) (harg9 : arg9.IsWhole) (arg10 : Memref sig .tc .vmem S512x1024 .f32) (harg10 : arg10.IsWhole) (arg11 : Memref sig .tc .vmem S1x256x512 .f32) (harg11 : arg11.IsWhole) (arg12 : Memref sig .tc .vmem S768x512 .f32) (harg12 : arg12.IsWhole)
    (x0 : Vec F S512x1024 .f32) (x1 : Vec F S512x3072 .bf16) (x2 : Vec F S512x1536 .bf16) (x3 : Vec F S512x512 .bf16) (x4 : Vec F S512x512 .bf16) (x5 : Vec F S3x512 .f32) (x6 : Vec F S1x3x512x1024 .bf16) (x7 : Vec F S1x1024x1024 .bf16) (x8 : Vec F S256x512 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = k0_pay7 (tailRows (k0_pay5 x2)) := by
  unfold out0_A_10
  exact (store_read _ _ _ (by decide) _ _ _).trans (congrArg k0_pay7 ((tail_read _ _ _ _ _ _).trans (congrArg tailRows (congrArg k0_pay5 (load_read harg3 x2 _ (by decide) _)))))

variable (m : (ℓ : Loc nD τ sig) → Buf (Elt F) ℓ)

/-- The first result's block after the point. -/
theorem out9_eq (c : Dev nD) (t : Fin cfg0.N) : (outsAt0 m c t).1
    = hOf (ysOf (k0_pay2 (iblk m c 8 t)) (iblk m c 2 t) (iblk m c 5 t)) (iblk m c 0 t) (X0_1 m c t) (iblk m c 3 t) (iblk m c 4 t) (iblk m c 6 t) (iblk m c 7 t) := by
  unfold outsAt0
  rw [out0_A_9_eq]

/-- The second result's block after the point. -/
theorem out10_eq (c : Dev nD) (t : Fin cfg0.N) : (outsAt0 m c t).2 = k0_pay7 (tailRows (k0_pay5 (iblk m c 2 t))) := by
  unfold outsAt0
  rw [out0_A_10_eq]

end Cert.Kernel5Ideal.Smx

end
-- ==== Proof.SmxSpec.lean ====
module

public import proofs.«01_k».proof.Proof.Gen.Kernel5Ideal.Skeleton
public import proofs.«01_k».proof.Proof.MixSpec
public import Idealize.ShloMosaic.Lib.Pointwise
public import Idealize.ShloMosaic.Lib.Pipeline.ValueKit

@[expose] public section

set_option maxRecDepth 16384

noncomputable section

namespace Cert.Kernel5Ideal.Smx

open Idealize.ShloMosaic Idealize.ShloMosaic.TcCoe Idealize.SL.Sem
open Cert.Kernel5Ideal Cert.Kernel5Ideal.Gen
open Cert.Kernel4Ideal.Mix (conv)

/-- The packed product, by numbers, zero outside. -/
def zN (x1 : FVec Ideal S512x7680 .bf16) (r e : ℕ) : EReal := if h : r < 512 ∧ e < 7680 then x1 (ix2 ⟨r, h.1⟩ ⟨e, h.2⟩) else 0
theorem zN_of (x1 : FVec Ideal S512x7680 .bf16) (r : Fin 512) (e : Fin 7680) : (x1 (ix2 r e) : EReal) = zN x1 r.val e.val := by
  unfold zN; rw [dif_pos ⟨r.isLt, e.isLt⟩]

/-- What the short convolution reads: the product of two of the packed parts. -/
def uN (x1 : FVec Ideal S512x7680 .bf16) (r e : ℕ) : EReal := zN x1 r (6656 + e) * zN x1 r (7168 + e)

/-- The state's rows, time first. -/
def sN (x4 : FVec Ideal S2x128x2x512 .f32) (r e : ℕ) : EReal := if h : e < 512 then x4 (ix4 0 ⟨r % 128, Nat.mod_lt _ (by norm_num)⟩ ⟨r / 128 % 2, Nat.mod_lt _ (by norm_num)⟩ ⟨e, h⟩) else 0
theorem sN_of (x4 : FVec Ideal S2x128x2x512 .f32) (s : Fin 2) (b : Fin 128) (e : Fin 512) : (x4 (ix4 0 b s e) : EReal) = sN x4 (s.val * 128 + b.val) e.val := by
  unfold sN
  rw [dif_pos e.isLt]
  refine congrArg₂ (fun a c => x4 (ix4 0 a c e)) (Fin.ext ?_) (Fin.ext ?_)
  · show b.val = (s.val * 128 + b.val) % 128
    omega
  · show s.val = (s.val * 128 + b.val) / 128 % 2
    omega

/-- The state's rows followed by the new ones. -/
def eN (x1 : FVec Ideal S512x7680 .bf16) (x4 : FVec Ideal S2x128x2x512 .f32) (r e : ℕ) : EReal := if r < 256 then sN x4 r e else uN x1 (r - 256) e
theorem eN_hi (x1 : FVec Ideal S512x7680 .bf16) (x4 : FVec Ideal S2x128x2x512 .f32) (r e : ℕ) : eN x1 x4 (r + 256) e = uN x1 r e := by
  unfold eN; rw [if_neg (by omega), Nat.add_sub_cancel]

/-- The convolution's weights. -/
def wN (x5 : FVec Ideal S2x3x512 .f32) (k : Fin 3) (e : ℕ) : EReal := if h : e < 512 then x5 (ix3 0 k ⟨e, h⟩) else 0
theorem wN_of (x5 : FVec Ideal S2x3x512 .f32) (k : Fin 3) (e : Fin 512) : (x5 (ix3 0 k e) : EReal) = wN x5 k e.val := by
  unfold wN; rw [dif_pos e.isLt]

/-- The convolution's output: the third branch. -/
def ysN (x1 : FVec Ideal S512x7680 .bf16) (x4 : FVec Ideal S2x128x2x512 .f32) (x5 : FVec Ideal S2x3x512 .f32) (r e : ℕ) : EReal :=
  zN x1 r (6144 + e) * conv (uN x1 r e) (eN x1 x4 (r + 128) e) (eN x1 x4 r e) (wN x5 0 e) (wN x5 1 e) (wN x5 2 e)

/-- A branch's product with its weights. -/
def proj (y : Fin 512 → EReal) (x6 : FVec Ideal S2x3x512x1024 .f32) (k : Fin 3) (d : Fin 1024) : EReal := ∑ e : Fin 512, y e * x6 (ix4 0 k e d)

/-- The gated sum of the three branches. -/
def accN (x1 : FVec Ideal S512x7680 .bf16) (x2 x3 : FVec Ideal S512x512 .bf16) (x4 : FVec Ideal S2x128x2x512 .f32) (x5 : FVec Ideal S2x3x512 .f32) (x6 : FVec Ideal S2x3x512x1024 .f32) (r : Fin 512) (d : Fin 1024) : EReal :=
  Ideal.logistic (zN x1 r.val d.val) * proj (fun e => x2 (ix2 r e)) x6 0 d + Ideal.logistic (zN x1 r.val (1024 + d.val)) * proj (fun e => x3 (ix2 r e)) x6 1 d
    + Ideal.logistic (zN x1 r.val (2048 + d.val)) * proj (fun e => ysN x1 x4 x5 r.val e.val) x6 2 d

/-- The row with the layer's mixing added. -/
def hN (x0 : FVec Ideal S512x1024 .f32) (x1 : FVec Ideal S512x7680 .bf16) (x2 x3 : FVec Ideal S512x512 .bf16) (x4 : FVec Ideal S2x128x2x512 .f32) (x5 : FVec Ideal S2x3x512 .f32) (x6 : FVec Ideal S2x3x512x1024 .f32) (x7 : FVec Ideal S2x1024x1024 .f32) (r : Fin 512) (k : Fin 1024) : EReal := x0 (ix2 r k) + ∑ d : Fin 1024, accN x1 x2 x3 x4 x5 x6 r d * x7 (ix3 0 d k)

/-- The first result. -/
def out0 (x0 : FVec Ideal S512x1024 .f32) (x1 : FVec Ideal S512x7680 .bf16) (x2 x3 : FVec Ideal S512x512 .bf16) (x4 : FVec Ideal S2x128x2x512 .f32) (x5 : FVec Ideal S2x3x512 .f32) (x6 : FVec Ideal S2x3x512x1024 .f32) (x7 : FVec Ideal S2x1024x1024 .f32) : FVec Ideal S512x1024 .f32 := fun i => hN x0 x1 x2 x3 x4 x5 x6 x7 (i 0) (i 1)

/-- The second result: the last 256 rows of the state's rows followed by the new ones. -/
def out1 (x1 : FVec Ideal S512x7680 .bf16) (x4 : FVec Ideal S2x128x2x512 .f32) : FVec Ideal S1x256x512 .f32 := fun i => eN x1 x4 (512 + (i 1).val) (i 2).val

end Cert.Kernel5Ideal.Smx

end
-- ==== Proof.SmxBlock.lean ====
module

public import proofs.«01_k».proof.Proof.SmxRun
public import proofs.«01_k».proof.Proof.SmxSpec

@[expose] public section

set_option maxRecDepth 16384

noncomputable section

namespace Cert.Kernel5Ideal.Smx

open Idealize.ShloMosaic Idealize.ShloMosaic.TcCoe Idealize.SL.Sem
open Cert.Kernel5Ideal Cert.Kernel5Ideal.Gen
open Cert.Kernel4Ideal.Mix (conv)

variable (m : (ℓ : Loc nD τ sig) → Buf (Elt Ideal) ℓ)

/-- The windows' block indices. -/
theorem idx : ∀ t : Fin cfg0.N, win0_0.index t = ![0, 0] ∧ win0_1.index t = ![0, 0] ∧ win0_2.index t = ![0, 4]
    ∧ win0_3.index t = ![0, 0] ∧ win0_4.index t = ![0, 0] ∧ win0_5.index t = ![0, 0]
    ∧ win0_6.index t = ![0, 0, 0, 0] ∧ win0_7.index t = ![0, 0, 0] ∧ win0_8.index t = ![0, 0]
    ∧ win0_9.index t = ![0, 0] ∧ win0_10.index t = ![0, 0, 0] :=
  (by decide +kernel : ∀ t : Fin grid0.N, _)

/-- The rows. -/
theorem blk0 (c : Dev nD) (t : Fin cfg0.N) (q : Fin 512) (k : Fin 1024) : iblk m c 0 t (ix2 q k) = (m ((c : Thread nD τ).loc main_arg0)) (ix2 q k) := by
  blk_ext [iblk, V, idx t]

/-- The gates' block. -/
theorem blk1 (c : Dev nD) (t : Fin cfg0.N) (q : Fin 512) (k : Fin 3072) :
    (X0_1 m c t (ix2 q k) : EReal) = (m ((c : Thread nD τ).loc main_arg1)) (ix2 q ⟨k.val, by omega⟩) := by
  unfold X0_1 Pipeline.Window.fill
  rw [dif_pos (moved0_1 t _)]
  blk_ext [iblk, V, idx t]

/-- The convolution's block of the packed product. -/
theorem blk2 (c : Dev nD) (t : Fin cfg0.N) (q : Fin 512) (k : Fin 1536) :
    (iblk m c 2 t (ix2 q k) : EReal) = (m ((c : Thread nD τ).loc main_arg1)) (ix2 q ⟨6144 + k.val, by omega⟩) := by
  blk_ext [iblk, V, idx t]

/-- The first branch. -/
theorem blk3 (c : Dev nD) (t : Fin cfg0.N) (q : Fin 512) (k : Fin 512) : (iblk m c 3 t (ix2 q k) : EReal) = (m ((c : Thread nD τ).loc main_arg2)) (ix2 q k) := by
  blk_ext [iblk, V, idx t]

/-- The second branch. -/
theorem blk4 (c : Dev nD) (t : Fin cfg0.N) (q : Fin 512) (k : Fin 512) : (iblk m c 4 t (ix2 q k) : EReal) = (m ((c : Thread nD τ).loc main_arg3)) (ix2 q k) := by
  blk_ext [iblk, V, idx t]

theorem entry5 (c : Dev nD) (a : Fin 3) (e : Fin 512) : V m c main_v7 (ix2 a e) = (m ((c : Thread nD τ).loc main_arg5)) (ix3 0 a e) := by
  entry_read
  pointwise
/-- The convolution's weights. -/
theorem blk5 (c : Dev nD) (t : Fin cfg0.N) (a : Fin 3) (e : Fin 512) : iblk m c 5 t (ix2 a e) = (m ((c : Thread nD τ).loc main_arg5)) (ix3 0 a e) := by
  refine Eq.trans ?_ (entry5 m c a e)
  blk_ext [iblk, idx t]

theorem entry6 (c : Dev nD) (a : Fin 3) (e : Fin 512) (d : Fin 1024) : (V m c main_v0 (ix4 0 a e d) : EReal) = (m ((c : Thread nD τ).loc main_arg6)) (ix4 0 a e d) := by
  entry_read
  pointwise
/-- The branches' weights. -/
theorem blk6 (c : Dev nD) (t : Fin cfg0.N) (a : Fin 3) (e : Fin 512) (d : Fin 1024) : (iblk m c 6 t (ix4 0 a e d) : EReal) = (m ((c : Thread nD τ).loc main_arg6)) (ix4 0 a e d) := by
  refine Eq.trans ?_ (entry6 m c a e d)
  blk_ext [iblk, idx t]

theorem entry7 (c : Dev nD) (d k : Fin 1024) : (V m c main_v1 (ix3 0 d k) : EReal) = (m ((c : Thread nD τ).loc main_arg7)) (ix3 0 d k) := by
  entry_read
  pointwise
/-- The last product's weights. -/
theorem blk7 (c : Dev nD) (t : Fin cfg0.N) (d k : Fin 1024) : (iblk m c 7 t (ix3 0 d k) : EReal) = (m ((c : Thread nD τ).loc main_arg7)) (ix3 0 d k) := by
  refine Eq.trans ?_ (entry7 m c d k)
  blk_ext [iblk, idx t]

theorem entry8 (c : Dev nD) (r : Fin 256) (e : Fin 512) : (V m c main_v5 (ix2 r e) : EReal) = (m ((c : Thread nD τ).loc main_arg4)) (ix4 0 ⟨r.val % 128, by omega⟩ ⟨r.val / 128, by omega⟩ e) := by
  entry_read
  pointwise
/-- The state's rows. -/
theorem blk8 (c : Dev nD) (t : Fin cfg0.N) (r : Fin 256) (e : Fin 512) : (iblk m c 8 t (ix2 r e) : EReal) = sN (m ((c : Thread nD τ).loc main_arg4)) r.val e.val := by
  refine Eq.trans (b := (V m c main_v5 (ix2 r e) : EReal)) ?_ ?_
  · blk_ext [iblk, idx t]
  · refine (entry8 m c r e).trans ((sN_of _ ⟨r.val / 128, by omega⟩ ⟨r.val % 128, by omega⟩ e).trans ?_)
    congr 1
    dsimp only
    omega

end Cert.Kernel5Ideal.Smx

end
-- ==== Proof.SmxPay.lean ====
module

public import proofs.«01_k».proof.Proof.SmxSpec
public import proofs.«01_k».proof.Proof.SmxPure

@[expose] public section

set_option maxRecDepth 16384

noncomputable section

namespace Cert.Kernel5Ideal.Smx

open Idealize.ShloMosaic Idealize.ShloMosaic.TcCoe Idealize.SL.Sem
open Cert.Kernel5Ideal Cert.Kernel5Ideal.Gen
open Cert.Kernel4Ideal.Mix (conv)

theorem pay5_at (x : Vec Ideal S512x1536 .bf16) (q : Fin 512) (j : Fin 512) :
    (k0_pay5 x (ix2 q j) : EReal) = x (ix2 q ⟨512 + j.val, by omega⟩) * x (ix2 q ⟨1024 + j.val, by omega⟩) := by
  pointwise [k0_pay5, k0_pay4, k0_pay3]

theorem pay4_at (x : Vec Ideal S512x1536 .bf16) (q : Fin 512) (j : Fin 512) :
    (k0_pay4 x (ix2 q j) : EReal) = x (ix2 q ⟨512 + j.val, by omega⟩) * x (ix2 q ⟨1024 + j.val, by omega⟩) := by
  pointwise [k0_pay4, k0_pay3]

theorem pay2_at (v : Vec Ideal S256x512 .f32) (q : Fin 256) (j : Fin 512) : (k0_pay2 v (ix2 q j) : EReal) = v (ix2 q j) := by
  pointwise [k0_pay2]

theorem pay7_at (v : Vec Ideal S256x512 .f32) (q : Fin 256) (j : Fin 512) : (k0_pay7 v (ix3 0 q j) : EReal) = v (ix2 q j) := by
  pointwise [k0_pay7]

/-- The convolution's three terms, and the product. -/
theorem pay6_at (x : Vec Ideal S512x1536 .bf16) (w2 w1 : Vec Ideal S1x512 .f32) (p1 : Vec Ideal S512x512 .f32) (w0 : Vec Ideal S1x512 .f32) (p2 : Vec Ideal S512x512 .f32) (q : Fin 512) (j : Fin 512) :
    (k0_pay6 x w2 w1 p1 w0 p2 (ix2 q j) : EReal) = x (ix2 q ⟨j.val, by omega⟩) * ((w2 (ix2 0 j) * k0_pay4 x (ix2 q j) + w1 (ix2 0 j) * p1 (ix2 q j)) + w0 (ix2 0 j) * p2 (ix2 q j)) := by
  pointwise [k0_pay6, k0_pay3]

/-- The gated branches. -/
theorem pay8_at (y2 : FVec Ideal S512x512 .bf16) (y0 y1 : Vec Ideal S512x512 .bf16) (g0 : Vec Ideal S512x1024 .bf16) (w0 : Vec Ideal S1x1x512x1024 .bf16) (g1 : Vec Ideal S512x1024 .bf16) (w1 : Vec Ideal S1x1x512x1024 .bf16) (g2 : Vec Ideal S512x1024 .bf16) (w2 : Vec Ideal S1x1x512x1024 .bf16) (q : Fin 512) (d : Fin 1024) :
    (k0_pay8 y2 y0 y1 g0 w0 g1 w1 g2 w2 (ix2 q d) : EReal) = Ideal.logistic (g0 (ix2 q d)) * (∑ e : Fin 512, (y0 (ix2 q e) : EReal) * w0 (ix4 0 0 e d))
      + Ideal.logistic (g1 (ix2 q d)) * (∑ e : Fin 512, (y1 (ix2 q e) : EReal) * w1 (ix4 0 0 e d))
      + Ideal.logistic (g2 (ix2 q d)) * (∑ e : Fin 512, (y2 (ix2 q e) : EReal) * w2 (ix4 0 0 e d)) := by
  pointwise [k0_pay8]

/-- The product with the last weights, and the sum. -/
theorem pay1_at (h : Vec Ideal S512x1024 .f32) (acc : FVec Ideal S512x1024 .bf16) (wo : Vec Ideal S1x1024x1024 .bf16) (q : Fin 512) (k : Fin 1024) :
    (k0_pay1 h acc wo (ix2 q k) : EReal) = h (ix2 q k) + ∑ d : Fin 1024, (acc (ix2 q d) : EReal) * wo (ix3 0 d k) := by
  pointwise [k0_pay1]

end Cert.Kernel5Ideal.Smx

end
-- ==== Proof.SmxOut.lean ====
module

public import proofs.«01_k».proof.Proof.SmxBlock
public import proofs.«01_k».proof.Proof.SmxPay

@[expose] public section

set_option maxRecDepth 16384

noncomputable section

namespace Cert.Kernel5Ideal.Smx

open Idealize.ShloMosaic Idealize.ShloMosaic.TcCoe Idealize.SL.Sem
open Cert.Kernel5Ideal Cert.Kernel5Ideal.Gen
open Cert.Kernel4Ideal.Mix (conv)

variable (m : (ℓ : Loc nD τ sig) → Buf (Elt Ideal) ℓ)

/-- The new rows of what the convolution reads. -/
theorem u_at (c : Dev nD) (t : Fin cfg0.N) (q : Fin 512) (j : Fin 512) : (k0_pay5 (iblk m c 2 t) (ix2 q j) : EReal) = uN (m ((c : Thread nD τ).loc main_arg1)) q.val j.val := by
  have e1 := (blk2 m c t q ⟨512 + j.val, by omega⟩).trans (zN_of _ q ⟨6144 + (512 + j.val), by omega⟩)
  have e2 := (blk2 m c t q ⟨1024 + j.val, by omega⟩).trans (zN_of _ q ⟨6144 + (1024 + j.val), by omega⟩)
  rw [pay5_at]
  refine (congrArg₂ (fun a b : EReal => a * b) e1 e2).trans ?_
  unfold uN
  dsimp only
  rw [show 6144 + (512 + j.val) = 6656 + j.val by omega, show 6144 + (1024 + j.val) = 7168 + j.val by omega]

/-- The rows from `o` on. -/
theorem rows_at (c : Dev nD) (t : Fin cfg0.N) (o : ℕ) (ho : o ≤ 256) (q : Fin 512) (j : Fin 512) :
    (rowsAt o (k0_pay2 (iblk m c 8 t)) (k0_pay5 (iblk m c 2 t)) (ix2 q j) : EReal) = eN (m ((c : Thread nD τ).loc main_arg1)) (m ((c : Thread nD τ).loc main_arg4)) (o + q.val) j.val := by
  unfold rowsAt eN
  by_cases hq : o + q.val < 256
  · refine Eq.trans (dif_pos hq) ?_
    rw [if_pos hq]
    exact (pay2_at _ _ _).trans (blk8 m c t ⟨o + q.val, hq⟩ j)
  · refine Eq.trans (dif_neg hq) ?_
    rw [if_neg hq]
    refine (u_at m c t _ j).trans ?_
    dsimp only
    congr 1
    exact Nat.mod_eq_of_lt (by have := q.isLt; show o + q.val - 256 < 512; omega)

/-- The short convolution's output. -/
theorem ys_at (c : Dev nD) (t : Fin cfg0.N) (q : Fin 512) (j : Fin 512) :
    (ysOf (k0_pay2 (iblk m c 8 t)) (iblk m c 2 t) (iblk m c 5 t) (ix2 q j) : EReal) = ysN (m ((c : Thread nD τ).loc main_arg1)) (m ((c : Thread nD τ).loc main_arg4)) (m ((c : Thread nD τ).loc main_arg5)) q.val j.val := by
  have h4 : k0_pay4 (iblk m c 2 t) (ix2 q j) = k0_pay5 (iblk m c 2 t) (ix2 q j) := by
    rw [pay4_at, pay5_at]
  have h6 := (blk2 m c t q ⟨j.val, by omega⟩).trans (zN_of _ q ⟨6144 + j.val, by omega⟩)
  have hw (k : Fin 3) : (cwRow k (iblk m c 5 t) (ix2 0 j) : EReal) = wN (m ((c : Thread nD τ).loc main_arg5)) k j.val := (blk5 m c t k j).trans (wN_of _ k j)
  unfold ysOf
  rw [pay6_at, h4, rows_at m c t 128 (by omega), rows_at m c t 0 (by omega), u_at, hw, hw, hw, Nat.zero_add, Nat.add_comm 128]
  unfold ysN conv
  exact congrArg (fun a : EReal => a * _) h6

/-- A gate's block of columns. -/
theorem gate_at (c : Dev nD) (t : Fin cfg0.N) (k : Fin 3) (q : Fin 512) (d : Fin 1024) :
    (gcols k (X0_1 m c t) (ix2 q d) : EReal) = zN (m ((c : Thread nD τ).loc main_arg1)) q.val (k.val * 1024 + d.val) :=
  (blk1 m c t q ⟨k.val * 1024 + d.val, by omega⟩).trans (zN_of _ q ⟨k.val * 1024 + d.val, by omega⟩)

/-- A branch's product with its weights. -/
theorem proj_at (c : Dev nD) (t : Fin cfg0.N) (k : Fin 3) (y : Fin 512 → EReal) (y' : Fin 512 → EReal) (hy : ∀ e, y e = y' e) (d : Fin 1024) :
    (∑ e : Fin 512, y e * (wbr k (iblk m c 6 t) (ix4 0 0 e d) : EReal)) = proj y' (m ((c : Thread nD τ).loc main_arg6)) k d := by
  unfold proj
  exact Finset.sum_congr rfl fun e _ => congrArg₂ (fun a b : EReal => a * b) (hy e) (blk6 m c t k e d)

/-- The first result's block. -/
theorem h_at (c : Dev nD) (t : Fin cfg0.N) (q : Fin 512) (k : Fin 1024) :
    (hOf (ysOf (k0_pay2 (iblk m c 8 t)) (iblk m c 2 t) (iblk m c 5 t)) (iblk m c 0 t) (X0_1 m c t) (iblk m c 3 t) (iblk m c 4 t) (iblk m c 6 t) (iblk m c 7 t) (ix2 q k) : EReal)
      = hN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) q k := by
  unfold hOf hN
  rw [pay1_at]
  refine congrArg₂ (fun a b : EReal => a + b) (blk0 m c t q k) (Finset.sum_congr rfl fun d _ => congrArg₂ (fun a b : EReal => a * b) ?_ (blk7 m c t d k))
  rw [pay8_at, gate_at, gate_at, gate_at]
  unfold accN
  refine congrArg₂ (fun a b : EReal => a + b) (congrArg₂ (fun a b : EReal => a + b) ?_ ?_) ?_
  · refine congrArg₂ (fun a b : EReal => Ideal.logistic a * b) (congrArg (zN _ _) ?_) (proj_at m c t 0 _ _ (fun e => blk3 m c t q e) d)
    simp
  · refine congrArg₂ (fun a b : EReal => Ideal.logistic a * b) (congrArg (zN _ _) ?_) (proj_at m c t 1 _ _ (fun e => blk4 m c t q e) d)
    simp
  · refine congrArg₂ (fun a b : EReal => Ideal.logistic a * b) (congrArg (zN _ _) ?_) (proj_at m c t 2 _ _ (fun e => ys_at m c t q e) d)
    simp

/-- The kept rows. -/
theorem t_at (c : Dev nD) (t : Fin cfg0.N) (z : Fin 256) (j : Fin 512) :
    (k0_pay7 (tailRows (k0_pay5 (iblk m c 2 t))) (ix3 0 z j) : EReal) = eN (m ((c : Thread nD τ).loc main_arg1)) (m ((c : Thread nD τ).loc main_arg4)) (512 + z.val) j.val := by
  rw [pay7_at, show 512 + z.val = 256 + z.val + 256 by omega, eN_hi]
  exact u_at m c t ⟨256 + z.val, by omega⟩ j

/-- The first result, whole. -/
theorem final0 (c : Dev nD) : (dats m 0 c).arrAt 9 cfg0.N = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold out0
  refine (dats m 0 c).arrAt_eq_of_covers 9 _ (by decide +kernel) fun t hf y => ?_
  have e := h_at m c t
  rw [after0_9, out9_eq]
  generalize hOf (ysOf (k0_pay2 (iblk m c 8 t)) (iblk m c 2 t) (iblk m c 5 t)) (iblk m c 0 t) (X0_1 m c t) (iblk m c 3 t) (iblk m c 4 t) (iblk m c 6 t) (iblk m c 7 t) = g at e ⊢
  have i0 : (y 0 : Fin 512) = (win0_9.blk t).view.emb y 0 := Fin.ext (by blk_simp [idx t])
  have i1 : (y 1 : Fin 1024) = (win0_9.blk t).view.emb y 1 := Fin.ext (by blk_simp [idx t])
  refine (congrArg g (eq_ix2 y)).trans ((e (y 0) (y 1)).trans ?_)
  exact congrArg₂ (hN _ _ _ _ _ _ _ _) i0 i1

/-- The second result, whole. -/
theorem final1 (c : Dev nD) : (dats m 0 c).arrAt 10 cfg0.N = out1 (m ((c : Thread nD τ).loc main_arg1)) (m ((c : Thread nD τ).loc main_arg4)) := by
  unfold out1
  refine (dats m 0 c).arrAt_eq_of_covers 10 _ (by decide +kernel) fun t hf y => ?_
  rw [after0_10, out10_eq]
  blk_simp [idx t]
  have hy : y = ix3 0 (y 1) (y 2) := (eq_ix3 y).trans (congrArg (fun a => ix3 a (y 1) (y 2)) (Fin.ext (by have h : (y 0).val < 1 := (y 0).isLt; show (y 0).val = 0; omega)))
  refine (congrArg (k0_pay7 (tailRows (k0_pay5 (iblk m c 2 t)))) hy).trans ((t_at m c t (y 1) (y 2)).trans ?_)
  congr 1

end Cert.Kernel5Ideal.Smx

end
-- ==== Proof.SmxRef.lean ====
module

public import proofs.«01_k».proof.Proof.SmxSpec
public import proofs.«01_k».proof.Proof.Gen.Reference5Ideal.Read
public import Idealize.ShloMosaic.Lib.Pointwise
public import Idealize.ShloMosaic.PureOps.Ideal.Laws

@[expose] public section

set_option maxRecDepth 16384

noncomputable section

namespace Cert.Reference5Ideal.Smx

open Idealize.ShloMosaic Idealize.ShloMosaic.TcCoe Idealize.SL.Sem
open Cert.Reference5Ideal Cert.Reference5Ideal.Gen Cert.Reference5Ideal.Read
open Cert.Kernel4Ideal.Mix (conv)
open Cert.Kernel5Ideal.Smx (zN zN_of uN sN sN_of eN eN_hi wN wN_of ysN proj accN hN out0 out1)

/-- What the convolution reads. -/
theorem u6_at (x1 : FVec Ideal S512x7680 .bf16) (r : Fin 512) (e : Fin 512) : (val_main_v6 (F := Ideal) x1 (ix2 r e) : EReal) = uN x1 r.val e.val := by
  unfold uN
  refine Eq.trans (b := (x1 (ix2 r ⟨6656 + e.val, by omega⟩) : EReal) * x1 (ix2 r ⟨7168 + e.val, by omega⟩)) ?_ (congrArg₂ (fun a b : EReal => a * b) (zN_of x1 r ⟨6656 + e.val, by omega⟩) (zN_of x1 r ⟨7168 + e.val, by omega⟩))
  pointwise [val_main_v6, val_main_v5, val_main_v4, val_main_v0]

/-- The same, time first. -/
theorem u7_at (x1 : FVec Ideal S512x7680 .bf16) (s : Fin 4) (b : Fin 128) (e : Fin 512) : (val_main_v7 (F := Ideal) x1 (ix3 s b e) : EReal) = uN x1 (s.val * 128 + b.val) e.val := by
  refine Eq.trans ?_ (u6_at x1 ⟨s.val * 128 + b.val, by omega⟩ e)
  generalize hz : val_main_v6 (F := Ideal) x1 = z
  pointwise [val_main_v7]
  rw [hz]

/-- The state, time first. -/
theorem s_at (x4 : FVec Ideal S2x128x2x512 .f32) (s : Fin 2) (b : Fin 128) (e : Fin 512) : (val_main_v10 (F := Ideal) x4 (ix3 s b e) : EReal) = sN x4 (s.val * 128 + b.val) e.val := by
  rw [← sN_of]
  pointwise [val_main_v10, val_main_v9, val_main_v8]

/-- The state's rows followed by the new ones. -/
theorem ext_if (x1 : FVec Ideal S512x7680 .bf16) (x4 : FVec Ideal S2x128x2x512 .f32) (s : Fin 6) (b : Fin 128) (e : Fin 512) :
    (val_main_v11 (F := Ideal) x1 x4 (ix3 s b e) : EReal) = if h : s.val < 2 then (val_main_v10 (F := Ideal) x4 (ix3 ⟨s.val, h⟩ b e) : EReal) else val_main_v7 (F := Ideal) x1 (ix3 ⟨s.val - 2, by omega⟩ b e) := by
  generalize hz : val_main_v7 (F := Ideal) x1 = z
  generalize hy : val_main_v10 (F := Ideal) x4 = y
  pointwise [val_main_v11]
  rw [hz, hy]

theorem ext_at (x1 : FVec Ideal S512x7680 .bf16) (x4 : FVec Ideal S2x128x2x512 .f32) (s : Fin 6) (b : Fin 128) (e : Fin 512) (n : ℕ) (hn : n = s.val * 128 + b.val) :
    (val_main_v11 (F := Ideal) x1 x4 (ix3 s b e) : EReal) = eN x1 x4 n e.val := by
  subst hn
  rw [ext_if]
  unfold eN
  by_cases h : s.val < 2
  · rw [dif_pos h, if_pos (by omega), s_at]
  · rw [dif_neg h, if_neg (by omega), u7_at]
    congr 1
    dsimp only
    omega

/-- The three terms of the convolution. -/
theorem conv_at (x1 : FVec Ideal S512x7680 .bf16) (x4 : FVec Ideal S2x128x2x512 .f32) (x5 : FVec Ideal S2x3x512 .f32) (s : Fin 4) (b : Fin 128) (e : Fin 512) :
    (val_main_v39 (F := Ideal) x1 x4 x5 (ix3 s b e) : EReal) = val_main_v11 (F := Ideal) x1 x4 (ix3 ⟨s.val, by omega⟩ b e) * x5 (ix3 0 0 e)
      + val_main_v11 (F := Ideal) x1 x4 (ix3 ⟨1 + s.val, by omega⟩ b e) * x5 (ix3 0 1 e)
      + val_main_v11 (F := Ideal) x1 x4 (ix3 ⟨2 + s.val, by omega⟩ b e) * x5 (ix3 0 2 e) := by
  generalize hz : val_main_v11 (F := Ideal) x1 x4 = z
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst]
  simp only [hz]

/-- The third branch. -/
theorem ys_at (x1 : FVec Ideal S512x7680 .bf16) (x4 : FVec Ideal S2x128x2x512 .f32) (x5 : FVec Ideal S2x3x512 .f32) (r : Fin 512) (e : Fin 512) :
    (val_main_v41 (F := Ideal) x1 x4 x5 (ix2 r e) : EReal) = ysN x1 x4 x5 r.val e.val := by
  have h1 : (val_main_v41 (F := Ideal) x1 x4 x5 (ix2 r e) : EReal) = x1 (ix2 r ⟨6144 + e.val, by omega⟩) * val_main_v39 (F := Ideal) x1 x4 x5 (ix3 ⟨r.val / 128, by omega⟩ ⟨r.val % 128, by omega⟩ e) := by
    generalize hz : val_main_v39 (F := Ideal) x1 x4 x5 = z
    pointwise [val_main_v41, val_main_v40, val_main_v3, val_main_v0]
    rw [hz]
  rw [h1, conv_at, ext_at x1 x4 _ _ e r.val (by dsimp only; omega), ext_at x1 x4 _ _ e (r.val + 128) (by dsimp only; omega),
    ext_at x1 x4 _ _ e (r.val + 256) (by dsimp only; omega), eN_hi, wN_of x5 0, wN_of x5 1, wN_of x5 2]
  unfold ysN conv
  refine congrArg₂ (fun a b : EReal => a * b) (zN_of x1 r ⟨6144 + e.val, by omega⟩) ?_
  rw [mul_comm _ (wN x5 0 e.val), mul_comm _ (wN x5 1 e.val), mul_comm _ (wN x5 2 e.val), add_comm, add_comm (wN x5 0 e.val * _), ← add_assoc]

/-- The branches, stacked. -/
theorem br0_at (x1 : FVec Ideal S512x7680 .bf16) (x2 x3 : FVec Ideal S512x512 .bf16) (x4 : FVec Ideal S2x128x2x512 .f32) (x5 : FVec Ideal S2x3x512 .f32) (r : Fin 512) (e : Fin 512) : (val_main_v47 (F := Ideal) x1 x2 x3 x4 x5 (ix3 r 0 e) : EReal) = x2 (ix2 r e) := by
  pointwise [val_main_v47, val_main_v44, val_main_v42]
theorem br1_at (x1 : FVec Ideal S512x7680 .bf16) (x2 x3 : FVec Ideal S512x512 .bf16) (x4 : FVec Ideal S2x128x2x512 .f32) (x5 : FVec Ideal S2x3x512 .f32) (r : Fin 512) (e : Fin 512) : (val_main_v47 (F := Ideal) x1 x2 x3 x4 x5 (ix3 r 1 e) : EReal) = x3 (ix2 r e) := by
  pointwise [val_main_v47, val_main_v45, val_main_v43]
theorem br2_at (x1 : FVec Ideal S512x7680 .bf16) (x2 x3 : FVec Ideal S512x512 .bf16) (x4 : FVec Ideal S2x128x2x512 .f32) (x5 : FVec Ideal S2x3x512 .f32) (r : Fin 512) (e : Fin 512) : (val_main_v47 (F := Ideal) x1 x2 x3 x4 x5 (ix3 r 2 e) : EReal) = ysN x1 x4 x5 r.val e.val := by
  rw [← ys_at]
  generalize hz : val_main_v41 (F := Ideal) x1 x4 x5 = z
  pointwise [val_main_v47, val_main_v46]
  rw [hz]

/-- A branch's product with its weights. -/
theorem proj_at (x1 : FVec Ideal S512x7680 .bf16) (x2 x3 : FVec Ideal S512x512 .bf16) (x4 : FVec Ideal S2x128x2x512 .f32) (x5 : FVec Ideal S2x3x512 .f32) (x6 : FVec Ideal S2x3x512x1024 .f32) (r : Fin 512) (k : Fin 3) (d : Fin 1024) :
    (val_main_v51 (F := Ideal) x1 x2 x3 x4 x5 x6 (ix3 r k d) : EReal) = proj (fun e => val_main_v47 (F := Ideal) x1 x2 x3 x4 x5 (ix3 r k e)) x6 k d := by
  unfold proj
  refine Eq.trans (b := ∑ e : Fin 512, (x6 (ix4 0 k e d) : EReal) * val_main_v47 (F := Ideal) x1 x2 x3 x4 x5 (ix3 r k e)) ?_ (Finset.sum_congr rfl fun e _ => mul_comm _ _)
  generalize hz : val_main_v47 (F := Ideal) x1 x2 x3 x4 x5 = z
  pointwise [val_main_v51, val_main_v50, val_main_v49, val_main_v48]
  rw [hz]

/-- A gate. -/
theorem gate_at (x1 : FVec Ideal S512x7680 .bf16) (r : Fin 512) (k : Fin 3) (d : Fin 1024) :
    (val_main_v57 (F := Ideal) x1 (ix3 r k d) : EReal) = Ideal.logistic (x1 (ix2 r ⟨k.val * 1024 + d.val, by omega⟩)) := by
  unfold Ideal.logistic
  pointwise [val_main_v57, val_main_v56, val_main_v55, val_main_v54, val_main_v53, val_main_v52, val_main_v2, val_main_v1, val_main_v0, val_main_cst_0, val_main_cst_1]

/-- The gated sum of the branches. -/
theorem acc_at (x1 : FVec Ideal S512x7680 .bf16) (x2 x3 : FVec Ideal S512x512 .bf16) (x4 : FVec Ideal S2x128x2x512 .f32) (x5 : FVec Ideal S2x3x512 .f32) (x6 : FVec Ideal S2x3x512x1024 .f32) (r : Fin 512) (d : Fin 1024) : (val_main_v59 (F := Ideal) x1 x2 x3 x4 x5 x6 (ix2 r d) : EReal) = accN x1 x2 x3 x4 x5 x6 r d := by
  refine Eq.trans (b := ∑ k : Fin 3, (val_main_v57 (F := Ideal) x1 (ix3 r k d) : EReal) * val_main_v51 (F := Ideal) x1 x2 x3 x4 x5 x6 (ix3 r k d)) ?_ ?_
  · generalize hz : val_main_v57 (F := Ideal) x1 = z
    generalize hy : val_main_v51 (F := Ideal) x1 x2 x3 x4 x5 x6 = y
    pointwise [val_main_v59, val_main_v58, val_main_cst_2]
    simp only [hz, hy]
  · rw [Fin.sum_univ_three]
    simp only [gate_at, proj_at, br0_at, br1_at, br2_at]
    unfold accN
    refine congrArg₂ (fun a b : EReal => a + b) (congrArg₂ (fun a b : EReal => a + b) ?_ ?_) ?_
    · refine congrArg (fun a => Ideal.logistic a * _) ((zN_of x1 r _).trans ?_)
      simp
    · refine congrArg (fun a => Ideal.logistic a * _) ((zN_of x1 r _).trans ?_)
      simp
    · refine congrArg (fun a => Ideal.logistic a * _) ((zN_of x1 r _).trans ?_)
      simp

/-- The first result. -/
theorem h_at (x0 : FVec Ideal S512x1024 .f32) (x1 : FVec Ideal S512x7680 .bf16) (x2 x3 : FVec Ideal S512x512 .bf16) (x4 : FVec Ideal S2x128x2x512 .f32) (x5 : FVec Ideal S2x3x512 .f32) (x6 : FVec Ideal S2x3x512x1024 .f32) (x7 : FVec Ideal S2x1024x1024 .f32) (r : Fin 512) (k : Fin 1024) : (val_main_v63 (F := Ideal) x0 x1 x2 x3 x4 x5 x6 x7 (ix2 r k) : EReal) = hN x0 x1 x2 x3 x4 x5 x6 x7 r k := by
  unfold hN
  simp only [← acc_at]
  generalize hz : val_main_v59 (F := Ideal) x1 x2 x3 x4 x5 x6 = z
  pointwise [val_main_v63, val_main_v62, val_main_v61, val_main_v60]
  rw [hz]

/-- The second result. -/
theorem t_at (x1 : FVec Ideal S512x7680 .bf16) (x4 : FVec Ideal S2x128x2x512 .f32) (j : Fin 256) (e : Fin 512) : (val_main_v65 (F := Ideal) x1 x4 (ix3 0 j e) : EReal) = eN x1 x4 (512 + j.val) e.val := by
  refine Eq.trans ?_ (ext_at x1 x4 ⟨4 + j.val / 128, by omega⟩ ⟨j.val % 128, by omega⟩ e _ (by dsimp only; omega))
  generalize hz : val_main_v11 (F := Ideal) x1 x4 = z
  pointwise [val_main_v65, val_main_v64]
  rw [hz]

/-- The reference's first result, whole. -/
theorem ref0 (x0 : FVec Ideal S512x1024 .f32) (x1 : FVec Ideal S512x7680 .bf16) (x2 x3 : FVec Ideal S512x512 .bf16) (x4 : FVec Ideal S2x128x2x512 .f32) (x5 : FVec Ideal S2x3x512 .f32) (x6 : FVec Ideal S2x3x512x1024 .f32) (x7 : FVec Ideal S2x1024x1024 .f32) : val_main_v63 (F := Ideal) x0 x1 x2 x3 x4 x5 x6 x7 = out0 x0 x1 x2 x3 x4 x5 x6 x7 := by
  funext i
  exact (congrArg (val_main_v63 (F := Ideal) x0 x1 x2 x3 x4 x5 x6 x7) (eq_ix2 i)).trans (h_at x0 x1 x2 x3 x4 x5 x6 x7 (i 0) (i 1))

/-- The reference's second result, whole. -/
theorem ref1 (x1 : FVec Ideal S512x7680 .bf16) (x4 : FVec Ideal S2x128x2x512 .f32) : val_main_v65 (F := Ideal) x1 x4 = out1 x1 x4 := by
  funext i
  have hi : i = ix3 0 (i 1) (i 2) := (eq_ix3 i).trans (congrArg (fun a => ix3 a (i 1) (i 2)) (Fin.ext (by have h : (i 0).val < 1 := (i 0).isLt; show (i 0).val = 0; omega)))
  exact (congrArg (val_main_v65 (F := Ideal) x1 x4) hi).trans (t_at x1 x4 (i 1) (i 2))

end Cert.Reference5Ideal.Smx

end
-- ==== Proof.SmxClaim.lean ====
module

public import proofs.«01_k».proof.Proof.SmxOut
public import proofs.«01_k».proof.Proof.SmxRef
public import proofs.«01_k».proof.Proof.Gen.Reference5Ideal.Run
public import proofs.«01_k».proof.Defs

@[expose] public section

set_option maxRecDepth 16384

noncomputable section

namespace Cert.Kernel5Ideal.Smx

open Idealize.ShloMosaic Idealize.ShloMosaic.TcCoe Idealize.SL.Sem
open Cert.Kernel5Ideal Cert.Kernel5Ideal.Gen
open Cert.Reference5Ideal.Smx (ref0 ref1)

/-- The sample group's mixing kernel and its reference end with the same two results: the rows with the gated branches' product added, and the last two rows of each sequence of what the short convolution reads. -/
theorem algebraic : Cert.algebraic_Kernel5Ideal_Reference5Ideal := by
  intro m g m' g' _ hin
  refine ⟨fun c => out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => out1 (m ((c.tc : Thread nD τ).loc main_arg1)) (m ((c.tc : Thread nD τ).loc main_arg4)), ?_, ?_⟩
  · refine (θ_run _ _ _).mono (fun r h c => ?_) (θ_run_and (run_main_quiescent m g) (frame m g))
    have hA := (h.1.1 c).1
    exact ⟨(hA 9).trans (final0 m c), (hA 10).trans (final1 m c), h.2.1 c⟩
  · refine (θ_run _ _ _).mono (fun _ h c => ?_) (Cert.Reference5Ideal.Value.run (F := Ideal) m' g')
    obtain ⟨h0, h1, ha⟩ := h c
    obtain ⟨i0, i1, i2, i3, i4, i5, i6, i7⟩ := hin c
    refine ⟨h0.trans ?_, h1.trans ?_, ha⟩
    · refine (Cert.Reference5Ideal.Read.val_main_v63_eq m' c).trans ?_
      rw [i0, i1, i2, i3, i4, i5, i6, i7]; exact ref0 _ _ _ _ _ _ _ _
    · refine (Cert.Reference5Ideal.Read.val_main_v65_eq _ _).trans ?_
      rw [i1, i4]; exact ref1 _ _

end Cert.Kernel5Ideal.Smx

end
-- ==== Proof.SfnPure.lean ====
module

public import proofs.«01_k».proof.Proof.Gen.Kernel6Ideal.Frame
public import proofs.«01_k».proof.Proof.Gen.Kernel6Ideal.Skeleton
public import Idealize.ShloMosaic.Lib.Claim
public import Idealize.ShloMosaic.Lib.Pipeline.Value
public import Idealize.ShloMosaic.Lib.ValueIdx

@[expose] public section

set_option maxRecDepth 16384

noncomputable section

namespace Cert.Kernel6Ideal.Sfn

open Cert.Kernel6Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The rows from `o` on of the state's rows followed by the tile's. -/
def rowsAt (o : ℕ) (H : Vec F S256x1408 .f32) (A : Vec F S512x1408 .f32) : Vec F S512x1408 .f32 := fun z =>
  if h : o + (z 0).val < 256 then H (ix2 ⟨o + (z 0).val, h⟩ (z 1)) else A (ix2 ⟨(o + (z 0).val - 256) % 512, Nat.mod_lt _ (by norm_num)⟩ (z 1))

/-- The last 256 rows of a tile. -/
def tailRows (A : Vec F S512x1408 .f32) : Vec F S256x1408 .f32 := fun z => A (ix2 ⟨256 + (z 0).val, by have : (z 0).val < 256 := (z 0).isLt; omega⟩ (z 1))

/-- Row `k` of the convolution's weights. -/
def cwRow (k : Fin 3) (w : Vec F S3x1408 .f32) : Vec F S1x1408 .f32 := fun z => w (ix2 k (z 1))

/-- A chunk's gated activation times its weights, added to a sum. -/
def accOf (H : Vec F S256x1408 .f32) (xn : Vec F S512x1024 .bf16) (wa wg : Vec F S1x1024x1408 .bf16) (cw : Vec F S3x1408 .f32) (cb : Vec F S1x1408 .f32) (wd : Vec F S1x1408x1024 .bf16) (acc : Vec F S512x1024 .f32) : FVec F S512x1024 .f32 :=
  k0_pay9 (k0_pay5 xn wg) (k0_pay7 xn wa (cwRow 2 cw) (cwRow 1 cw) (rowsAt 128 H (k0_pay6 xn wa))) (cwRow 0 cw) (rowsAt 0 H (k0_pay6 xn wa)) cb acc wd

/-- The same from equal parts. -/
theorem acc_congr {H : Vec F S256x1408 .f32} {xn v1 v2 : Vec F S512x1024 .bf16} {wa wg v3 v4 : Vec F S1x1024x1408 .bf16} {cw : Vec F S3x1408 .f32} {cb v5 v6 v7 v8 : Vec F S1x1408 .f32} {wd v9 : Vec F S1x1408x1024 .bf16} {acc v10 : Vec F S512x1024 .f32} {p1 p2 : Vec F S512x1408 .f32}
    (e1 : v1 = xn) (e2 : v2 = xn) (e3 : v3 = wa) (e4 : v4 = wg) (e5 : v5 = cwRow 2 cw) (e6 : v6 = cwRow 1 cw) (e7 : p1 = rowsAt 128 H (k0_pay6 xn wa)) (e8 : v7 = cwRow 0 cw) (e9 : p2 = rowsAt 0 H (k0_pay6 xn wa)) (e10 : v8 = cb) (e11 : v10 = acc) (e12 : v9 = wd) :
    k0_pay9 (k0_pay5 v1 v4) (k0_pay7 v2 v3 v5 v6 p1) v7 p2 v8 v10 v9 = accOf H xn wa wg cw cb wd acc := by
  subst e1 e2 e3 e4 e5 e6 e7 e8 e9 e10 e11 e12; rfl

/-- A store over a whole array leaves what was stored. -/
theorem store_read {sp : Space} {s : Shape} {e : EltTy} (v : View sig .tc sp s e) (f : v.ty.Contents (Elt F)) (off : Fin s.rank → ℕ) (hoff : off = fun _ => 0)
    (h : ∀ d, off d + s.size d ≤ s.size d) (w : s.Idx → Elt F e) (L : List (View.Piece (Elt F) s e)) :
    v.read (Elt F) (v.writes (Elt F) f (⟨Rect.unit off s.size h, w⟩ :: L)) = w := by
  rw [View.read_writes_eq_canon _ _ _ (fun y => ⟨_, List.mem_cons_self, View.mem_set_unit_zero hoff h y⟩)]
  exact View.canon_cons_unit_zero hoff _ _ _

/-- A load of a whole array reads its contents. -/
theorem load_read {sp : Space} {s : Shape} {e : EltTy} {m : Memref sig .tc sp s e} (hm : m.IsWhole) (X : s.Idx → Elt F e) (off : Fin s.rank → ℕ) (hoff : off = fun _ => 0)
    (h : ∀ d, off d + s.size d ≤ s.size d) :
    m.view.readAt (Elt F) (Rect.unit off s.size h).toLoadRect (hm.unread X) = X := by
  rw [View.readAt_eq_ld, hm.read_unread]
  exact View.ld_unit_zero hoff _ _

/-- A load of one row of the convolution's weights reads that row. -/
theorem cw_read {sp : Space} {m : Memref sig .tc sp S3x1408 .f32} (hm : m.IsWhole) (X : Vec F S3x1408 .f32) (k : Fin 3) (inb) :
    m.view.readAt (Elt F) (Rect.unit (s := S3x1408) ![k.val, 0] S1x1408.size inb).toLoadRect (hm.unread X) = cwRow k X := by
  rw [View.readAt_eq_ld, hm.read_unread]
  funext z
  unfold cwRow View.ld
  congr 1
  have h0 : (z 0).val < 1 := (z 0).isLt
  funext a
  apply Fin.ext
  fin_cases a
  · simp [LoadRect.idx, Rect.unit, ix2]; omega
  · simp [LoadRect.idx, Rect.unit, ix2]

/-- A load of a whole array after a store over it reads what was stored. -/
theorem again_read {sp : Space} {s : Shape} {e : EltTy} (v : View sig .tc sp s e) (off : Fin s.rank → ℕ) (hoff : off = fun _ => 0) (h h') (w : s.Idx → Elt F e) (L : List (View.Piece (Elt F) s e)) :
    v.readCov (⟨Rect.unit off s.size h, w⟩ :: L) (Rect.unit off s.size h').toLoadRect = w := by
  rw [View.readCov_eq_canon', View.canon_cons_unit_zero hoff]
  subst hoff
  funext z
  congr 1
  funext a
  apply Fin.ext
  simp [LoadRect.idx, Rect.unit]

/-- The two stores that fill the rows with the state before them. -/
abbrev extL (H : Vec F S256x1408 .f32) (A : Vec F S512x1408 .f32) (inb : ∀ a, (![256, 0] : Fin 2 → ℕ) a + S512x1408.size a ≤ S768x1408.size a) (inb' : ∀ a, (![0, 0] : Fin 2 → ℕ) a + S256x1408.size a ≤ S768x1408.size a) : List (View.Piece (Elt F) S768x1408 .f32) :=
  [⟨Rect.unit (s := S768x1408) ![256, 0] S512x1408.size inb, A⟩, ⟨Rect.unit (s := S768x1408) ![0, 0] S256x1408.size inb', H⟩]

theorem canon_hi (H : Vec F S256x1408 .f32) (A : Vec F S512x1408 .f32) (inb inb') (y : S768x1408.Idx) (h : 256 ≤ (y 0).val) :
    View.canon (extL H A inb inb') y = A (ix2 ⟨(y 0).val - 256, by have : (y 0).val < 768 := (y 0).isLt; omega⟩ (y 1)) := by
  have e : y = (Rect.unit (s := S768x1408) ![256, 0] S512x1408.size inb).emb (ix2 (⟨(y 0).val - 256, by have : (y 0).val < 768 := (y 0).isLt; omega⟩ : Fin 512) (y 1)) := by
    funext a
    apply Fin.ext
    fin_cases a
    · simp [Rect.emb, Rect.unit, ix2]; omega
    · simp [Rect.emb, Rect.unit, ix2]
  conv_lhs => rw [e]
  exact View.canon_cons_emb _ _ _ _

theorem canon_lo (H : Vec F S256x1408 .f32) (A : Vec F S512x1408 .f32) (inb inb') (y : S768x1408.Idx) (h : (y 0).val < 256) :
    View.canon (extL H A inb inb') y = H (ix2 ⟨(y 0).val, h⟩ (y 1)) := by
  rw [View.canon_cons_of_not_mem]
  · have e : y = (Rect.unit (s := S768x1408) ![0, 0] S256x1408.size inb').emb (ix2 (⟨(y 0).val, h⟩ : Fin 256) (y 1)) := by
      funext a
      apply Fin.ext
      fin_cases a
      · simp [Rect.emb, Rect.unit, ix2]
      · simp [Rect.emb, Rect.unit, ix2]
    conv_lhs => rw [e]
    exact View.canon_cons_emb _ _ _ _
  · intro hm
    have := (Rect.mem_set_unit.mp (show y ∈ (Rect.unit (s := S768x1408) ![256, 0] S512x1408.size inb).set from hm)) 0
    simp [Matrix.cons_val] at this
    omega

/-- A load of the rows from `o` on. -/
theorem ext_read (o : ℕ) (ho' : o ≤ 256) {sp : Space} (v : View sig .tc sp S768x1408 .f32) (H : Vec F S256x1408 .f32) (A : Vec F S512x1408 .f32) (inb inb') (off : Fin 2 → ℕ) (ho : off = ![o, 0]) (inbk) :
    v.readCov (extL H A inb inb') (Rect.unit (s := S768x1408) off S512x1408.size inbk).toLoadRect = rowsAt o H A := by
  subst ho
  rw [View.readCov_eq_canon']
  funext z
  have hz : (z 0).val < 512 := (z 0).isLt
  have e0 : (((Rect.unit (s := S768x1408) ![o, 0] S512x1408.size inbk).toLoadRect.idx z) 0).val = o + (z 0).val := by simp [LoadRect.idx, Rect.unit]
  have e1 : (((Rect.unit (s := S768x1408) ![o, 0] S512x1408.size inbk).toLoadRect.idx z) 1) = z 1 := by apply Fin.ext; simp [LoadRect.idx, Rect.unit]
  unfold rowsAt
  split
  case isTrue h =>
    refine (canon_lo _ _ _ _ _ (by omega)).trans ?_
    exact congrArg₂ (fun a b => H (ix2 a b)) (Fin.ext e0) e1
  case isFalse h =>
    refine (canon_hi _ _ _ _ _ (by omega)).trans ?_
    refine congrArg₂ (fun a b => A (ix2 a b)) (Fin.ext ?_) e1
    show _ - 256 = (o + (z 0).val - 256) % 512
    rw [Nat.mod_eq_of_lt (by omega)]
    omega

/-- A load of the tile's last 256 rows. -/
theorem tail_read {sp : Space} (v : View sig .tc sp S768x1408 .f32) (H : Vec F S256x1408 .f32) (A : Vec F S512x1408 .f32) (inb inb' inbk) :
    v.readCov (extL H A inb inb') (Rect.unit (s := S768x1408) ![512, 0] S256x1408.size inbk).toLoadRect = tailRows A := by
  rw [View.readCov_eq_canon']
  funext z
  have hz : (z 0).val < 256 := (z 0).isLt
  have e0 : (((Rect.unit (s := S768x1408) ![512, 0] S256x1408.size inbk).toLoadRect.idx z) 0).val = 512 + (z 0).val := by simp [LoadRect.idx, Rect.unit]
  have e1 : (((Rect.unit (s := S768x1408) ![512, 0] S256x1408.size inbk).toLoadRect.idx z) 1) = z 1 := by apply Fin.ext; simp [LoadRect.idx, Rect.unit]
  unfold tailRows
  refine (canon_hi _ _ _ _ _ (by omega)).trans ?_
  refine congrArg₂ (fun a b => A (ix2 a b)) (Fin.ext ?_) e1
  show _ - 256 = 256 + (z 0).val
  omega

end Cert.Kernel6Ideal.Sfn

end
-- ==== Proof.SfnRun.lean ====
module

public import proofs.«01_k».proof.Proof.SfnPure
public import proofs.«01_k».proof.Proof.Gen.Kernel6Ideal.Frame
public import proofs.«01_k».proof.Proof.Gen.Kernel6Ideal.Skeleton
public import Idealize.ShloMosaic.Lib.Claim
public import Idealize.ShloMosaic.Lib.Pipeline.Value
public import Idealize.ShloMosaic.Lib.ValueIdx

@[expose] public section

set_option maxRecDepth 16384

noncomputable section

namespace Cert.Kernel6Ideal.Sfn

open Cert.Kernel6Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408x1024 .bf16) (harg8 : arg8.IsWhole) (arg9 : Memref sig .tc .vmem S256x1408 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x256x1408 .f32) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S768x1408 .f32) (harg15 : arg15.IsWhole) (arg16 : Memref sig .tc .vmem S2x256x1408 .f32) (harg16 : arg16.IsWhole)
    (x0 : Vec F S512x1024 .f32) (x1 : Vec F S1x1024 .f32) (x2 : Vec F S1x1024x1408 .bf16) (x3 : Vec F S1x1024x1408 .bf16) (x4 : Vec F S3x1408 .f32) (x5 : Vec F S1x1408 .f32) (x6 : Vec F S1x1408x1024 .bf16) (x7 : Vec F S256x1408 .f32) (x8 : Vec F S1x1024 .f32)

/-- The second result's block at the first chunk. -/
theorem out0_A_10_eq (hc0 : cond0_0 i) (hc1 : ¬cond0_1 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 = k0_pay8 (tailRows (k0_pay6 (k0_pay1 x0 x1) x2)) := by
  unfold out0_A_10
  exact (store_read _ _ _ (by decide) _ _ _).trans (congrArg k0_pay8 ((tail_read _ _ _ _ _ _).trans (congrArg tailRows (congrArg₂ k0_pay6 ((again_read _ _ (by decide) _ _ _ _).trans (congrArg₂ k0_pay1 (load_read harg2 x0 _ (by decide) _) (load_read harg3 x1 _ (by decide) _))) (load_read harg4 x2 _ (by decide) _)))))

/-- The normalised rows, kept at the first chunk. -/
theorem sout0_A_0_eq (hc0 : cond0_0 i) (hc1 : ¬cond0_1 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 = k0_pay1 x0 x1 := by
  unfold sout0_A_0
  exact (store_read _ _ _ (by decide) _ _ _).trans (congrArg₂ k0_pay1 (load_read harg2 x0 _ (by decide) _) (load_read harg3 x1 _ (by decide) _))

/-- The sum after the first chunk. -/
theorem sout0_A_1_eq (hc0 : cond0_0 i) (hc1 : ¬cond0_1 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 = accOf (k0_pay3 x7) (k0_pay1 x0 x1) x2 x3 x4 x5 x6 k0_pay2 := by
  unfold sout0_A_1
  exact (store_read _ _ _ (by decide) _ _ _).trans (acc_congr ((again_read _ _ (by decide) _ _ _ _).trans (congrArg₂ k0_pay1 (load_read harg2 x0 _ (by decide) _) (load_read harg3 x1 _ (by decide) _))) ((again_read _ _ (by decide) _ _ _ _).trans (congrArg₂ k0_pay1 (load_read harg2 x0 _ (by decide) _) (load_read harg3 x1 _ (by decide) _))) (load_read harg4 x2 _ (by decide) _) (load_read harg5 x3 _ (by decide) _) (cw_read harg6 x4 2 _) (cw_read harg6 x4 1 _) ((ext_read 128 (by decide) _ _ _ _ _ _ (by decide) _).trans (congrArg₂ (rowsAt 128) (congrArg k0_pay3 (load_read harg9 x7 _ (by decide) _)) (congrArg₂ k0_pay6 ((again_read _ _ (by decide) _ _ _ _).trans (congrArg₂ k0_pay1 (load_read harg2 x0 _ (by decide) _) (load_read harg3 x1 _ (by decide) _))) (load_read harg4 x2 _ (by decide) _)))) (cw_read harg6 x4 0 _) ((ext_read 0 (by decide) _ _ _ _ _ _ (by decide) _).trans (congrArg₂ (rowsAt 0) (congrArg k0_pay3 (load_read harg9 x7 _ (by decide) _)) (congrArg₂ k0_pay6 ((again_read _ _ (by decide) _ _ _ _).trans (congrArg₂ k0_pay1 (load_read harg2 x0 _ (by decide) _) (load_read harg3 x1 _ (by decide) _))) (load_read harg4 x2 _ (by decide) _)))) (load_read harg7 x5 _ (by decide) _) (again_read _ _ (by decide) _ _ _ _) (load_read harg8 x6 _ (by decide) _))

/-- The first result's block at the second chunk. -/
theorem out0_B_9_eq (hc0 : ¬cond0_0 i) (hc1 : cond0_1 i) (xs0 : Vec F S512x1024 .bf16) (xs1 : Vec F S512x1024 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs1 = k0_pay10 x0 (accOf (k0_pay3 x7) xs0 x2 x3 x4 x5 x6 xs1) x8 := by
  unfold out0_B_9
  exact (store_read _ _ _ (by decide) _ _ _).trans (congr (congrArg₂ k0_pay10 (load_read harg2 x0 _ (by decide) _) ((again_read _ _ (by decide) _ _ _ _).trans (acc_congr (load_read harg13 xs0 _ (by decide) _) (load_read harg13 xs0 _ (by decide) _) (load_read harg4 x2 _ (by decide) _) (load_read harg5 x3 _ (by decide) _) (cw_read harg6 x4 2 _) (cw_read harg6 x4 1 _) ((ext_read 128 (by decide) _ _ _ _ _ _ (by decide) _).trans (congrArg₂ (rowsAt 128) (congrArg k0_pay3 (load_read harg9 x7 _ (by decide) _)) (congrArg₂ k0_pay6 (load_read harg13 xs0 _ (by decide) _) (load_read harg4 x2 _ (by decide) _)))) (cw_read harg6 x4 0 _) ((ext_read 0 (by decide) _ _ _ _ _ _ (by decide) _).trans (congrArg₂ (rowsAt 0) (congrArg k0_pay3 (load_read harg9 x7 _ (by decide) _)) (congrArg₂ k0_pay6 (load_read harg13 xs0 _ (by decide) _) (load_read harg4 x2 _ (by decide) _)))) (load_read harg7 x5 _ (by decide) _) (load_read harg14 xs1 _ (by decide) _) (load_read harg8 x6 _ (by decide) _)))) (load_read harg10 x8 _ (by decide) _))

/-- The second result's block at the second chunk. -/
theorem out0_B_10_eq (hc0 : ¬cond0_0 i) (hc1 : cond0_1 i) (xs0 : Vec F S512x1024 .bf16) (xs1 : Vec F S512x1024 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 xs1 = k0_pay8 (tailRows (k0_pay6 xs0 x2)) := by
  unfold out0_B_10
  exact (store_read _ _ _ (by decide) _ _ _).trans (congrArg k0_pay8 ((tail_read _ _ _ _ _ _).trans (congrArg tailRows (congrArg₂ k0_pay6 (load_read harg13 xs0 _ (by decide) _) (load_read harg4 x2 _ (by decide) _)))))

end

variable (m : (ℓ : Loc nD τ sig) → Buf (Elt F) ℓ) (c : Dev nD)

/-- The normalised rows. -/
def XN (s : Fin cfg0.N) : FVec F S512x1024 .bf16 := k0_pay1 (iblk m c 0 s) (iblk m c 1 s)

/-- The sum after a first chunk. -/
def A0 (s : Fin cfg0.N) : FVec F S512x1024 .f32 := accOf (k0_pay3 (iblk m c 7 s)) (XN m c s) (iblk m c 2 s) (iblk m c 3 s) (iblk m c 4 s) (iblk m c 5 s) (iblk m c 6 s) k0_pay2

/-- The sum after both. -/
def A1 (s t : Fin cfg0.N) : FVec F S512x1024 .f32 := accOf (k0_pay3 (iblk m c 7 t)) (XN m c s) (iblk m c 2 t) (iblk m c 3 t) (iblk m c 4 t) (iblk m c 5 t) (iblk m c 6 t) (A0 m c s)

/-- What is kept after the first chunk, and the second result's block. -/
theorem at_A (t : Fin cfg0.N) (h : t.val % 2 = 0) : (outsAt0 m c t.val t.isLt).2 = (k0_pay8 (tailRows (k0_pay6 (XN m c t) (iblk m c 2 t))), XN m c t, A0 m c t) := by
  unfold A0 XN
  rw [outsAt0_A m c t h (by omega), out0_A_10_eq, sout0_A_0_eq, sout0_A_1_eq]

/-- The point before. -/
def pre (t : Fin cfg0.N) : Fin cfg0.N := ⟨t.val - 1, Nat.lt_of_le_of_lt (Nat.sub_le _ _) t.isLt⟩

/-- The two results' blocks at the second chunk. -/
theorem at_B (t : Fin cfg0.N) (h : t.val % 2 = 1) : (outsAt0 m c t.val t.isLt).1 = k0_pay10 (iblk m c 0 t) (A1 m c (pre t) t) (iblk m c 8 t)
    ∧ (outsAt0 m c t.val t.isLt).2.1 = k0_pay8 (tailRows (k0_pay6 (XN m c (pre t)) (iblk m c 2 t))) := by
  have e : (outsAt0 m c (t.val - 1) (Nat.lt_of_le_of_lt (Nat.sub_le _ _) t.isLt)).2 = _ := at_A m c (pre t) (by show (t.val - 1) % 2 = 0; omega)
  rw [outsAt0_B m c t (by omega) h, out0_B_9_eq, out0_B_10_eq, e]
  exact ⟨rfl, rfl⟩

end Cert.Kernel6Ideal.Sfn

end
-- ==== Proof.SfnSpec.lean ====
module

public import proofs.«01_k».proof.Proof.FfnSpec
public import proofs.«01_k».proof.Proof.Gen.Kernel6Ideal.Skeleton
public import Idealize.ShloMosaic.Lib.Pointwise
public import Idealize.ShloMosaic.Lib.Pipeline.ValueKit

@[expose] public section

set_option maxRecDepth 16384

noncomputable section

namespace Cert.Kernel6Ideal.Sfn

open Idealize.ShloMosaic Idealize.ShloMosaic.TcCoe Idealize.SL.Sem
open Cert.Kernel6Ideal Cert.Kernel6Ideal.Gen
open Cert.Kernel2Ideal.Inp (normed prod)
open Cert.Kernel3Ideal.Ffn (conv gelu)

/-- The product of the normalised rows with the second layer's weights, by numbers, zero outside. -/
def uN (x0 : FVec Ideal S512x1024 .f32) (x1 : FVec Ideal S2x1024 .f32) (x2 : FVec Ideal S2x1024x5632 .f32) (r e : ℕ) : EReal :=
  if h : r < 512 ∧ e < 5632 then prod (fun k => x0 (ix2 ⟨r, h.1⟩ k)) (fun k => x1 (ix2 1 k)) (fun k => x2 (ix3 1 k ⟨e, h.2⟩)) else 0
theorem uN_of (x0 : FVec Ideal S512x1024 .f32) (x1 : FVec Ideal S2x1024 .f32) (x2 : FVec Ideal S2x1024x5632 .f32) (r : Fin 512) (e : Fin 5632) :
    prod (fun k => x0 (ix2 r k)) (fun k => x1 (ix2 1 k)) (fun k => x2 (ix3 1 k e)) = uN x0 x1 x2 r.val e.val := by
  unfold uN; rw [dif_pos ⟨r.isLt, e.isLt⟩]

/-- The state's rows, time first. -/
def sN (x3 : FVec Ideal S2x128x2x2816 .f32) (r e : ℕ) : EReal := if h : e < 2816 then x3 (ix4 1 ⟨r % 128, Nat.mod_lt _ (by norm_num)⟩ ⟨r / 128 % 2, Nat.mod_lt _ (by norm_num)⟩ ⟨e, h⟩) else 0
theorem sN_of (x3 : FVec Ideal S2x128x2x2816 .f32) (s : Fin 2) (b : Fin 128) (e : Fin 2816) : (x3 (ix4 1 b s e) : EReal) = sN x3 (s.val * 128 + b.val) e.val := by
  unfold sN
  rw [dif_pos e.isLt]
  refine congrArg₂ (fun a c => x3 (ix4 1 a c e)) (Fin.ext ?_) (Fin.ext ?_)
  · show b.val = (s.val * 128 + b.val) % 128
    omega
  · show s.val = (s.val * 128 + b.val) / 128 % 2
    omega

/-- The state's rows followed by the new ones. -/
def eN (x0 : FVec Ideal S512x1024 .f32) (x1 : FVec Ideal S2x1024 .f32) (x2 : FVec Ideal S2x1024x5632 .f32) (x3 : FVec Ideal S2x128x2x2816 .f32) (r e : ℕ) : EReal := if r < 256 then sN x3 r e else uN x0 x1 x2 (r - 256) e
theorem eN_hi (x0 : FVec Ideal S512x1024 .f32) (x1 : FVec Ideal S2x1024 .f32) (x2 : FVec Ideal S2x1024x5632 .f32) (x3 : FVec Ideal S2x128x2x2816 .f32) (r e : ℕ) : eN x0 x1 x2 x3 (r + 256) e = uN x0 x1 x2 r e := by
  unfold eN; rw [if_neg (by omega), Nat.add_sub_cancel]

/-- The convolution's weights. -/
def wN (x4 : FVec Ideal S2x3x2816 .f32) (k : Fin 3) (e : ℕ) : EReal := if h : e < 2816 then x4 (ix3 1 k ⟨e, h⟩) else 0
theorem wN_of (x4 : FVec Ideal S2x3x2816 .f32) (k : Fin 3) (e : Fin 2816) : (x4 (ix3 1 k e) : EReal) = wN x4 k e.val := by
  unfold wN; rw [dif_pos e.isLt]

/-- Its bias. -/
def bN (x5 : FVec Ideal S2x2816 .f32) (e : ℕ) : EReal := if h : e < 2816 then x5 (ix2 1 ⟨e, h⟩) else 0
theorem bN_of (x5 : FVec Ideal S2x2816 .f32) (e : Fin 2816) : (x5 (ix2 1 e) : EReal) = bN x5 e.val := by
  unfold bN; rw [dif_pos e.isLt]

/-- The gated activation, by numbers. -/
def actN (x0 : FVec Ideal S512x1024 .f32) (x1 : FVec Ideal S2x1024 .f32) (x2 : FVec Ideal S2x1024x5632 .f32) (x3 : FVec Ideal S2x128x2x2816 .f32) (x4 : FVec Ideal S2x3x2816 .f32) (x5 : FVec Ideal S2x2816 .f32) (r e : ℕ) : EReal :=
  gelu (conv (uN x0 x1 x2 r e) (eN x0 x1 x2 x3 (r + 128) e) (eN x0 x1 x2 x3 r e) (wN x4 0 e) (wN x4 1 e) (wN x4 2 e) (bN x5 e)) * uN x0 x1 x2 r (2816 + e)

/-- The row with the layer's product added. -/
def hN (x0 : FVec Ideal S512x1024 .f32) (x1 : FVec Ideal S2x1024 .f32) (x2 : FVec Ideal S2x1024x5632 .f32) (x3 : FVec Ideal S2x128x2x2816 .f32) (x4 : FVec Ideal S2x3x2816 .f32) (x5 : FVec Ideal S2x2816 .f32) (x6 : FVec Ideal S2x2816x1024 .f32) (r : Fin 512) (k : Fin 1024) : EReal := x0 (ix2 r k) + ∑ e : Fin 2816, actN x0 x1 x2 x3 x4 x5 r.val e.val * x6 (ix3 1 e k)

/-- The normalised sum. -/
def yN (x0 : FVec Ideal S512x1024 .f32) (x1 : FVec Ideal S2x1024 .f32) (x2 : FVec Ideal S2x1024x5632 .f32) (x3 : FVec Ideal S2x128x2x2816 .f32) (x4 : FVec Ideal S2x3x2816 .f32) (x5 : FVec Ideal S2x2816 .f32) (x6 : FVec Ideal S2x2816x1024 .f32) (x7 : FVec Ideal S1024 .f32) (r : Fin 512) (k : Fin 1024) : EReal := normed (fun j => hN x0 x1 x2 x3 x4 x5 x6 r j) (fun j => x7 (ix1 j)) k

/-- The first result. -/
def out0 (x0 : FVec Ideal S512x1024 .f32) (x1 : FVec Ideal S2x1024 .f32) (x2 : FVec Ideal S2x1024x5632 .f32) (x3 : FVec Ideal S2x128x2x2816 .f32) (x4 : FVec Ideal S2x3x2816 .f32) (x5 : FVec Ideal S2x2816 .f32) (x6 : FVec Ideal S2x2816x1024 .f32) (x7 : FVec Ideal S1024 .f32) : FVec Ideal S512x1024 .f32 := fun i => yN x0 x1 x2 x3 x4 x5 x6 x7 (i 0) (i 1)

/-- The second result: the last 256 rows of the state's rows followed by the new ones. -/
def out1 (x0 : FVec Ideal S512x1024 .f32) (x1 : FVec Ideal S2x1024 .f32) (x2 : FVec Ideal S2x1024x5632 .f32) (x3 : FVec Ideal S2x128x2x2816 .f32) : FVec Ideal S1x256x2816 .f32 := fun i => eN x0 x1 x2 x3 (512 + (i 1).val) (i 2).val

end Cert.Kernel6Ideal.Sfn

end
-- ==== Proof.SfnBlock.lean ====
module

public import proofs.«01_k».proof.Proof.SfnRun
public import proofs.«01_k».proof.Proof.SfnSpec

@[expose] public section

set_option maxRecDepth 16384

noncomputable section

namespace Cert.Kernel6Ideal.Sfn

open Idealize.ShloMosaic Idealize.ShloMosaic.TcCoe Idealize.SL.Sem
open Cert.Kernel6Ideal Cert.Kernel6Ideal.Gen
open Cert.Kernel2Ideal.Inp (normed prod)
open Cert.Kernel3Ideal.Ffn (conv gelu)

variable (m : (ℓ : Loc nD τ sig) → Buf (Elt Ideal) ℓ)

/-- The windows' block indices at each point. -/
theorem idx : ∀ t : Fin cfg0.N, win0_0.index t = ![0, 0] ∧ win0_1.index t = ![0, 0] ∧ win0_2.index t = ![1, 0, t.val]
    ∧ win0_3.index t = ![1, 0, 2 + t.val] ∧ win0_4.index t = ![0, t.val] ∧ win0_5.index t = ![0, t.val]
    ∧ win0_6.index t = ![1, t.val, 0] ∧ win0_7.index t = ![0, t.val] ∧ win0_8.index t = ![0, 0]
    ∧ win0_9.index t = ![0, 0] ∧ win0_10.index t = ![0, 0, t.val] :=
  (by decide +kernel : ∀ t : Fin grid0.N, _)

theorem lt2 (t : Fin cfg0.N) : t.val < 2 := t.isLt

/-- The rows' block. -/
theorem blk0 (c : Dev nD) (t : Fin cfg0.N) (q : Fin 512) (k : Fin 1024) : iblk m c 0 t (ix2 q k) = (m ((c : Thread nD τ).loc main_arg0)) (ix2 q k) := by
  blk_ext [iblk, V, idx t]

theorem entry1 (c : Dev nD) (k : Fin 1024) : V m c main_v8 (ix2 0 k) = (m ((c : Thread nD τ).loc main_arg1)) (ix2 1 k) := by
  entry_read
  pointwise
/-- The block of scales. -/
theorem blk1 (c : Dev nD) (t : Fin cfg0.N) (k : Fin 1024) : iblk m c 1 t (ix2 0 k) = (m ((c : Thread nD τ).loc main_arg1)) (ix2 1 k) := by
  refine Eq.trans ?_ (entry1 m c k)
  blk_ext [iblk, idx t]

theorem entry2 (c : Dev nD) (k : Fin 1024) (e : Fin 5632) : (V m c main_v0 (ix3 1 k e) : EReal) = (m ((c : Thread nD τ).loc main_arg2)) (ix3 1 k e) := by
  entry_read
  pointwise
/-- The weights the convolution's chunk reads. -/
theorem blk2 (c : Dev nD) (t : Fin cfg0.N) (k : Fin 1024) (j : Fin 1408) : (iblk m c 2 t (ix3 0 k j) : EReal) = (m ((c : Thread nD τ).loc main_arg2)) (ix3 1 k ⟨t.val * 1408 + j.val, by have := lt2 t; omega⟩) := by
  refine Eq.trans ?_ (entry2 m c k ⟨t.val * 1408 + j.val, by have := lt2 t; omega⟩)
  blk_ext [iblk, idx t]
/-- The weights the gate's chunk reads. -/
theorem blk3 (c : Dev nD) (t : Fin cfg0.N) (k : Fin 1024) (j : Fin 1408) :
    (iblk m c 3 t (ix3 0 k j) : EReal) = (m ((c : Thread nD τ).loc main_arg2)) (ix3 1 k ⟨(2 + t.val) * 1408 + j.val, by have := lt2 t; omega⟩) := by
  refine Eq.trans ?_ (entry2 m c k ⟨(2 + t.val) * 1408 + j.val, by have := lt2 t; omega⟩)
  blk_ext [iblk, idx t]

theorem entry4 (c : Dev nD) (a : Fin 3) (e : Fin 2816) : V m c main_v10 (ix2 a e) = (m ((c : Thread nD τ).loc main_arg4)) (ix3 1 a e) := by
  entry_read
  pointwise
/-- The convolution's weights. -/
theorem blk4 (c : Dev nD) (t : Fin cfg0.N) (a : Fin 3) (j : Fin 1408) : iblk m c 4 t (ix2 a j) = (m ((c : Thread nD τ).loc main_arg4)) (ix3 1 a ⟨t.val * 1408 + j.val, by have := lt2 t; omega⟩) := by
  refine Eq.trans ?_ (entry4 m c a ⟨t.val * 1408 + j.val, by have := lt2 t; omega⟩)
  blk_ext [iblk, idx t]

theorem entry5 (c : Dev nD) (e : Fin 2816) : V m c main_v13 (ix2 0 e) = (m ((c : Thread nD τ).loc main_arg5)) (ix2 1 e) := by
  entry_read
  pointwise
/-- The convolution's bias. -/
theorem blk5 (c : Dev nD) (t : Fin cfg0.N) (j : Fin 1408) : iblk m c 5 t (ix2 0 j) = (m ((c : Thread nD τ).loc main_arg5)) (ix2 1 ⟨t.val * 1408 + j.val, by have := lt2 t; omega⟩) := by
  refine Eq.trans ?_ (entry5 m c ⟨t.val * 1408 + j.val, by have := lt2 t; omega⟩)
  blk_ext [iblk, idx t]

theorem entry6 (c : Dev nD) (e : Fin 2816) (k : Fin 1024) : (V m c main_v1 (ix3 1 e k) : EReal) = (m ((c : Thread nD τ).loc main_arg6)) (ix3 1 e k) := by
  entry_read
  pointwise
/-- The weights of the second product. -/
theorem blk6 (c : Dev nD) (t : Fin cfg0.N) (j : Fin 1408) (k : Fin 1024) : (iblk m c 6 t (ix3 0 j k) : EReal) = (m ((c : Thread nD τ).loc main_arg6)) (ix3 1 ⟨t.val * 1408 + j.val, by have := lt2 t; omega⟩ k) := by
  refine Eq.trans ?_ (entry6 m c ⟨t.val * 1408 + j.val, by have := lt2 t; omega⟩ k)
  blk_ext [iblk, idx t]

theorem entry7 (c : Dev nD) (r : Fin 256) (e : Fin 2816) : (V m c main_v5 (ix2 r e) : EReal) = (m ((c : Thread nD τ).loc main_arg3)) (ix4 1 ⟨r.val % 128, by omega⟩ ⟨r.val / 128, by omega⟩ e) := by
  entry_read
  pointwise
/-- The state's rows. -/
theorem blk7 (c : Dev nD) (t : Fin cfg0.N) (r : Fin 256) (j : Fin 1408) : (iblk m c 7 t (ix2 r j) : EReal) = sN (m ((c : Thread nD τ).loc main_arg3)) r.val (t.val * 1408 + j.val) := by
  refine Eq.trans (b := (V m c main_v5 (ix2 r ⟨t.val * 1408 + j.val, by have := lt2 t; omega⟩) : EReal)) ?_ ?_
  · blk_ext [iblk, idx t]
  · refine (entry7 m c r ⟨t.val * 1408 + j.val, by have := lt2 t; omega⟩).trans ((sN_of _ ⟨r.val / 128, by omega⟩ ⟨r.val % 128, by omega⟩ ⟨t.val * 1408 + j.val, by have := lt2 t; omega⟩).trans ?_)
    congr 1
    dsimp only
    omega

theorem entry8 (c : Dev nD) (k : Fin 1024) : V m c main_v14 (ix2 0 k) = (m ((c : Thread nD τ).loc main_arg7)) (ix1 k) := by
  entry_read
  pointwise
/-- The last scales. -/
theorem blk8 (c : Dev nD) (t : Fin cfg0.N) (k : Fin 1024) : iblk m c 8 t (ix2 0 k) = (m ((c : Thread nD τ).loc main_arg7)) (ix1 k) := by
  refine Eq.trans ?_ (entry8 m c k)
  blk_ext [iblk, idx t]

end Cert.Kernel6Ideal.Sfn

end
-- ==== Proof.SfnPay.lean ====
module

public import proofs.«01_k».proof.Proof.SfnSpec
public import proofs.«01_k».proof.Proof.SfnPure

@[expose] public section

set_option maxRecDepth 16384

noncomputable section

namespace Cert.Kernel6Ideal.Sfn

open Idealize.ShloMosaic Idealize.ShloMosaic.TcCoe Idealize.SL.Sem
open Cert.Kernel6Ideal Cert.Kernel6Ideal.Gen
open Cert.Kernel2Ideal.Inp (normed prod)
open Cert.Kernel3Ideal.Ffn (conv gelu)

theorem pay1_at (x : Vec Ideal S512x1024 .f32) (g : Vec Ideal S1x1024 .f32) (q : Fin 512) (k : Fin 1024) :
    (k0_pay1 x g (ix2 q k) : EReal) = normed (fun k => x (ix2 q k)) (fun k => g (ix2 0 k)) k := by
  unfold normed
  pointwise [k0_pay1]

theorem pay10_at (x acc : Vec Ideal S512x1024 .f32) (g : Vec Ideal S1x1024 .f32) (q : Fin 512) (k : Fin 1024) :
    (k0_pay10 x acc g (ix2 q k) : EReal) = normed (fun k => (x (ix2 q k) : EReal) + acc (ix2 q k)) (fun k => g (ix2 0 k)) k := by
  unfold normed
  pointwise [k0_pay10]

theorem pay2_at (q : Fin 512) (k : Fin 1024) : (k0_pay2 (F := Ideal) (ix2 q k) : EReal) = 0 := by
  pointwise [k0_pay2]

theorem pay3_at (v : Vec Ideal S256x1408 .f32) (q : Fin 256) (j : Fin 1408) : (k0_pay3 v (ix2 q j) : EReal) = v (ix2 q j) := by
  pointwise [k0_pay3]

theorem pay4_at (xs : Vec Ideal S512x1024 .bf16) (w : Vec Ideal S1x1024x1408 .bf16) (q : Fin 512) (j : Fin 1408) :
    (k0_pay4 xs w (ix2 q j) : EReal) = ∑ k : Fin 1024, (xs (ix2 q k) : EReal) * w (ix3 0 k j) := by
  pointwise [k0_pay4]

theorem pay5_at (xs : Vec Ideal S512x1024 .bf16) (w : Vec Ideal S1x1024x1408 .bf16) (q : Fin 512) (j : Fin 1408) :
    (k0_pay5 xs w (ix2 q j) : EReal) = ∑ k : Fin 1024, (xs (ix2 q k) : EReal) * w (ix3 0 k j) := by
  pointwise [k0_pay5]

theorem pay6_at (xs : Vec Ideal S512x1024 .bf16) (w : Vec Ideal S1x1024x1408 .bf16) (q : Fin 512) (j : Fin 1408) :
    (k0_pay6 xs w (ix2 q j) : EReal) = ∑ k : Fin 1024, (xs (ix2 q k) : EReal) * w (ix3 0 k j) := by
  pointwise [k0_pay6, k0_pay4]

theorem pay7_at (xs : Vec Ideal S512x1024 .bf16) (w : Vec Ideal S1x1024x1408 .bf16) (w2 w1 : Vec Ideal S1x1408 .f32) (p : Vec Ideal S512x1408 .f32) (q : Fin 512) (j : Fin 1408) :
    (k0_pay7 xs w w2 w1 p (ix2 q j) : EReal) = w2 (ix2 0 j) * k0_pay4 xs w (ix2 q j) + w1 (ix2 0 j) * p (ix2 q j) := by
  pointwise [k0_pay7]

theorem pay8_at (v : Vec Ideal S256x1408 .f32) (q : Fin 256) (j : Fin 1408) : (k0_pay8 v (ix3 0 q j) : EReal) = v (ix2 q j) := by
  pointwise [k0_pay8]

theorem pay9_at (g v : FVec Ideal S512x1408 .f32) (w0 : Vec Ideal S1x1408 .f32) (p : Vec Ideal S512x1408 .f32) (b : Vec Ideal S1x1408 .f32) (acc : Vec Ideal S512x1024 .f32) (wd : Vec Ideal S1x1408x1024 .bf16) (q : Fin 512) (k : Fin 1024) :
    (k0_pay9 g v w0 p b acc wd (ix2 q k) : EReal)
      = acc (ix2 q k) + ∑ j : Fin 1408, (gelu ((v (ix2 q j) + w0 (ix2 0 j) * p (ix2 q j)) + b (ix2 0 j)) * g (ix2 q j)) * wd (ix3 0 j k) := by
  unfold gelu
  pointwise [k0_pay9]
  rfl

end Cert.Kernel6Ideal.Sfn

end
-- ==== Proof.SfnOut.lean ====
module

public import proofs.«01_k».proof.Proof.SfnBlock
public import proofs.«01_k».proof.Proof.SfnPay

@[expose] public section

set_option maxRecDepth 16384

noncomputable section

namespace Cert.Kernel6Ideal.Sfn

open Idealize.ShloMosaic Idealize.ShloMosaic.TcCoe Idealize.SL.Sem
open Cert.Kernel6Ideal Cert.Kernel6Ideal.Gen
open Cert.Kernel2Ideal.Inp (normed prod)
open Cert.Kernel3Ideal.Ffn (conv gelu)

variable (m : (ℓ : Loc nD τ sig) → Buf (Elt Ideal) ℓ) (c : Dev nD)

/-- The normalised rows. -/
theorem xn_at (t : Fin cfg0.N) (q : Fin 512) (k : Fin 1024) : (XN m c t (ix2 q k) : EReal) = normed (fun k => (m ((c : Thread nD τ).loc main_arg0)) (ix2 q k)) (fun k => (m ((c : Thread nD τ).loc main_arg1)) (ix2 1 k)) k := by
  unfold XN
  rw [pay1_at]
  simp only [blk0 m, blk1 m]

section
variable (xs : FVec Ideal S512x1024 .bf16) (hx : ∀ (q : Fin 512) (k : Fin 1024), (xs (ix2 q k) : EReal) = normed (fun k => (m ((c : Thread nD τ).loc main_arg0)) (ix2 q k)) (fun k => (m ((c : Thread nD τ).loc main_arg1)) (ix2 1 k)) k) (t : Fin cfg0.N)
include hx

/-- Their product with the convolution's chunk. -/
theorem a_at (q : Fin 512) (j : Fin 1408) : ((∑ k : Fin 1024, (xs (ix2 q k) : EReal) * iblk m c 2 t (ix3 0 k j)) : EReal) = uN (m ((c : Thread nD τ).loc main_arg0)) (m ((c : Thread nD τ).loc main_arg1)) (m ((c : Thread nD τ).loc main_arg2)) q.val (t.val * 1408 + j.val) := by
  refine Eq.trans ?_ (uN_of _ _ _ q ⟨t.val * 1408 + j.val, by have := lt2 t; omega⟩)
  unfold prod
  exact Finset.sum_congr rfl fun k _ => congrArg₂ (fun a b : EReal => a * b) (hx q k) (blk2 m c t k j)

/-- Their product with the gate's chunk. -/
theorem g_at (q : Fin 512) (j : Fin 1408) : ((∑ k : Fin 1024, (xs (ix2 q k) : EReal) * iblk m c 3 t (ix3 0 k j)) : EReal) = uN (m ((c : Thread nD τ).loc main_arg0)) (m ((c : Thread nD τ).loc main_arg1)) (m ((c : Thread nD τ).loc main_arg2)) q.val (2816 + (t.val * 1408 + j.val)) := by
  rw [show 2816 + (t.val * 1408 + j.val) = (2 + t.val) * 1408 + j.val by omega]
  refine Eq.trans ?_ (uN_of _ _ _ q ⟨(2 + t.val) * 1408 + j.val, by have := lt2 t; omega⟩)
  unfold prod
  exact Finset.sum_congr rfl fun k _ => congrArg₂ (fun a b : EReal => a * b) (hx q k) (blk3 m c t k j)

/-- The rows from `o` on. -/
theorem rows_at (o : ℕ) (ho : o ≤ 256) (q : Fin 512) (j : Fin 1408) :
    (rowsAt o (k0_pay3 (iblk m c 7 t)) (k0_pay6 xs (iblk m c 2 t)) (ix2 q j) : EReal) = eN (m ((c : Thread nD τ).loc main_arg0)) (m ((c : Thread nD τ).loc main_arg1)) (m ((c : Thread nD τ).loc main_arg2)) (m ((c : Thread nD τ).loc main_arg3)) (o + q.val) (t.val * 1408 + j.val) := by
  unfold rowsAt eN
  by_cases hq : o + q.val < 256
  · refine Eq.trans (dif_pos hq) ?_
    rw [if_pos hq]
    exact (pay3_at _ _ _).trans (blk7 m c t ⟨o + q.val, hq⟩ j)
  · refine Eq.trans (dif_neg hq) ?_
    rw [if_neg hq]
    refine (pay6_at _ _ _ _).trans ((a_at m c xs hx t _ j).trans ?_)
    dsimp only
    congr 1
    exact Nat.mod_eq_of_lt (by have := q.isLt; show o + q.val - 256 < 512; omega)

/-- A chunk's part of the sum. -/
theorem acc_at (acc : Vec Ideal S512x1024 .f32) (q : Fin 512) (k : Fin 1024) :
    (accOf (k0_pay3 (iblk m c 7 t)) xs (iblk m c 2 t) (iblk m c 3 t) (iblk m c 4 t) (iblk m c 5 t) (iblk m c 6 t) acc (ix2 q k) : EReal)
      = acc (ix2 q k) + ∑ j : Fin 1408, actN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q.val (t.val * 1408 + j.val) * (m ((c : Thread nD τ).loc main_arg6)) (ix3 1 ⟨t.val * 1408 + j.val, by have := lt2 t; omega⟩ k) := by
  unfold accOf
  rw [pay9_at]
  refine congrArg (fun a : EReal => acc (ix2 q k) + a) (Finset.sum_congr rfl fun j _ => congrArg₂ (fun a b : EReal => a * b) ?_ (blk6 m c t j k))
  have hw (k : Fin 3) : (cwRow k (iblk m c 4 t) (ix2 0 j) : EReal) = wN (m ((c : Thread nD τ).loc main_arg4)) k (t.val * 1408 + j.val) := (blk4 m c t k j).trans (wN_of _ k ⟨t.val * 1408 + j.val, by have := lt2 t; omega⟩)
  have hb : (iblk m c 5 t (ix2 0 j) : EReal) = bN (m ((c : Thread nD τ).loc main_arg5)) (t.val * 1408 + j.val) := (blk5 m c t j).trans (bN_of _ ⟨t.val * 1408 + j.val, by have := lt2 t; omega⟩)
  rw [pay7_at, pay4_at, pay5_at, rows_at m c xs hx t 128 (by omega), rows_at m c xs hx t 0 (by omega), a_at m c xs hx, g_at m c xs hx, hw, hw, hw, hb, Nat.zero_add, Nat.add_comm 128]
  rfl

/-- The kept rows. -/
theorem t_at (z : Fin 256) (j : Fin 1408) : (k0_pay8 (tailRows (k0_pay6 xs (iblk m c 2 t))) (ix3 0 z j) : EReal) = eN (m ((c : Thread nD τ).loc main_arg0)) (m ((c : Thread nD τ).loc main_arg1)) (m ((c : Thread nD τ).loc main_arg2)) (m ((c : Thread nD τ).loc main_arg3)) (512 + z.val) (t.val * 1408 + j.val) := by
  rw [pay8_at, show 512 + z.val = 256 + z.val + 256 by omega, eN_hi]
  exact (pay6_at _ _ _ _).trans (a_at m c xs hx t ⟨256 + z.val, by omega⟩ j)

end

/-- A sum in two parts. -/
theorem sum_parts {n a b : ℕ} (h : n = a + b) (f : Fin n → EReal) : (∑ e, f e) = (∑ j : Fin a, f ⟨j.val, by omega⟩) + ∑ j : Fin b, f ⟨a + j.val, by omega⟩ := by
  subst h
  exact Fin.sum_univ_add f

/-- The sum over both chunks. -/
theorem sum_at (t : Fin cfg0.N) (h : t.val % 2 = 1) (q : Fin 512) (k : Fin 1024) :
    (A1 m c (pre t) t (ix2 q k) : EReal) = ∑ e : Fin 2816, actN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q.val e.val * (m ((c : Thread nD τ).loc main_arg6)) (ix3 1 e k) := by
  have ht : t.val = 1 := by have := lt2 t; omega
  have hp : (pre t).val = 0 := by show t.val - 1 = 0; omega
  unfold A1 A0
  rw [acc_at m c _ (xn_at m c (pre t)), acc_at m c _ (xn_at m c (pre t)), pay2_at, zero_add]
  rw [sum_parts (show 2816 = 1408 + 1408 by norm_num)]
  have hc (e e' : Fin 2816) (he : e.val = e'.val) : (actN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q.val e.val * (m ((c : Thread nD τ).loc main_arg6)) (ix3 1 e k) : EReal) = actN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q.val e'.val * (m ((c : Thread nD τ).loc main_arg6)) (ix3 1 e' k) := by
    rw [Fin.ext he]
  refine congrArg₂ (fun a b : EReal => a + b) (Finset.sum_congr rfl fun j _ => ?_) (Finset.sum_congr rfl fun j _ => ?_)
  · exact hc ⟨(pre t).val * 1408 + j.val, by omega⟩ ⟨j.val, by omega⟩ (by dsimp only; omega)
  · exact hc ⟨t.val * 1408 + j.val, by have := lt2 t; omega⟩ ⟨1408 + j.val, by omega⟩ (by dsimp only; omega)

/-- The first result's block. -/
theorem y_at (t : Fin cfg0.N) (h : t.val % 2 = 1) (q : Fin 512) (k : Fin 1024) :
    (k0_pay10 (iblk m c 0 t) (A1 m c (pre t) t) (iblk m c 8 t) (ix2 q k) : EReal) = yN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) q k := by
  unfold yN
  rw [pay10_at]
  exact congrArg₂ (fun f g => normed f g k) (funext fun j => congrArg₂ (fun u v : EReal => u + v) (blk0 m c t q j) (sum_at m c t h q j)) (funext fun j => blk8 m c t j)

/-- The second result's block, from normalised rows. -/
theorem out10_eq (t : Fin cfg0.N) : ∃ s : Fin cfg0.N, (outsAt0 m c t.val t.isLt).2.1 = k0_pay8 (tailRows (k0_pay6 (XN m c s) (iblk m c 2 t))) := by
  rcases Nat.mod_two_eq_zero_or_one t.val with h | h
  · exact ⟨t, congrArg Prod.fst (at_A m c t h)⟩
  · exact ⟨pre t, (at_B m c t h).2⟩

/-- The first result, whole. -/
theorem final0 : (dats m 0 c).arrAt 9 cfg0.N = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold out0
  refine (dats m 0 c).arrAt_eq_of_covers 9 _ (by decide +kernel) fun t hf y => ?_
  have hp : t.val % 2 = 1 := (flush0_9 t).mp hf
  have e := y_at m c t hp
  rw [after0_9, (at_B m c t hp).1]
  generalize k0_pay10 (iblk m c 0 t) (A1 m c (pre t) t) (iblk m c 8 t) = g at e ⊢
  have i0 : (y 0 : Fin 512) = (win0_9.blk t).view.emb y 0 := Fin.ext (by blk_simp [idx t])
  have i1 : (y 1 : Fin 1024) = (win0_9.blk t).view.emb y 1 := Fin.ext (by blk_simp [idx t])
  refine (congrArg g (eq_ix2 y)).trans ((e (y 0) (y 1)).trans ?_)
  exact congrArg₂ (yN _ _ _ _ _ _ _ _) i0 i1

/-- The second result, whole. -/
theorem final1 : (dats m 0 c).arrAt 10 cfg0.N = out1 (m ((c : Thread nD τ).loc main_arg0)) (m ((c : Thread nD τ).loc main_arg1)) (m ((c : Thread nD τ).loc main_arg2)) (m ((c : Thread nD τ).loc main_arg3)) := by
  unfold out1
  refine (dats m 0 c).arrAt_eq_of_covers 10 _ (by decide +kernel) fun t hf y => ?_
  obtain ⟨s, hs⟩ := out10_eq m c t
  have e := t_at m c _ (xn_at m c s) t
  rw [after0_10, hs]
  generalize k0_pay8 (tailRows (k0_pay6 (XN m c s) (iblk m c 2 t))) = g at e ⊢
  have hy : y = ix3 0 (y 1) (y 2) := (eq_ix3 y).trans (congrArg (fun a => ix3 a (y 1) (y 2)) (Fin.ext (by have h : (y 0).val < 1 := (y 0).isLt; show (y 0).val = 0; omega)))
  have i1 : 512 + (y 1).val = 512 + ((win0_10.blk t).view.emb y 1).val := by blk_simp [idx t]
  have i2 : t.val * 1408 + (y 2).val = ((win0_10.blk t).view.emb y 2).val := by blk_simp [idx t]
  refine (congrArg g hy).trans ((e (y 1) (y 2)).trans ?_)
  exact congrArg₂ (eN _ _ _ _) i1 i2

end Cert.Kernel6Ideal.Sfn

end
-- ==== Proof.SfnRef.lean ====
module

public import proofs.«01_k».proof.Proof.SfnSpec
public import proofs.«01_k».proof.Proof.FfnRef
public import proofs.«01_k».proof.Proof.Gen.Reference6Ideal.Read
public import Idealize.ShloMosaic.Lib.Pointwise
public import Idealize.ShloMosaic.PureOps.Ideal.Laws

@[expose] public section

set_option maxRecDepth 16384

noncomputable section

namespace Cert.Reference6Ideal.Sfn

open Idealize.ShloMosaic Idealize.ShloMosaic.TcCoe Idealize.SL.Sem
open Cert.Reference6Ideal Cert.Reference6Ideal.Gen Cert.Reference6Ideal.Read
open Cert.Kernel2Ideal.Inp (normed prod)
open Cert.Kernel3Ideal.Ffn (conv gelu)
open Cert.Reference3Ideal.Ffn (gelu_erfc)
open Cert.Kernel6Ideal.Sfn (uN uN_of sN sN_of eN eN_hi wN wN_of bN bN_of actN hN yN out0 out1)

/-- The product with the second layer's weights. -/
theorem u_at (x0 : FVec Ideal S512x1024 .f32) (x1 : FVec Ideal S2x1024 .f32) (x2 : FVec Ideal S2x1024x5632 .f32) (r : Fin 512) (e : Fin 5632) : (val_main_v17 (F := Ideal) x0 x1 x2 (ix2 r e) : EReal) = uN x0 x1 x2 r.val e.val := by
  rw [← uN_of]
  unfold prod normed
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- Its first half, time first. -/
theorem a_at (x0 : FVec Ideal S512x1024 .f32) (x1 : FVec Ideal S2x1024 .f32) (x2 : FVec Ideal S2x1024x5632 .f32) (s : Fin 4) (b : Fin 128) (e : Fin 2816) : (val_main_v19 (F := Ideal) x0 x1 x2 (ix3 s b e) : EReal) = uN x0 x1 x2 (s.val * 128 + b.val) e.val := by
  refine Eq.trans ?_ (u_at x0 x1 x2 ⟨s.val * 128 + b.val, by omega⟩ ⟨e.val, by omega⟩)
  generalize hz : val_main_v17 (F := Ideal) x0 x1 x2 = z
  pointwise [val_main_v19, val_main_v18]
  rw [hz]

/-- Its second half. -/
theorem g_at (x0 : FVec Ideal S512x1024 .f32) (x1 : FVec Ideal S2x1024 .f32) (x2 : FVec Ideal S2x1024x5632 .f32) (r : Fin 512) (e : Fin 2816) : (val_main_v20 (F := Ideal) x0 x1 x2 (ix2 r e) : EReal) = uN x0 x1 x2 r.val (2816 + e.val) := by
  refine Eq.trans ?_ (u_at x0 x1 x2 r ⟨2816 + e.val, by omega⟩)
  generalize hz : val_main_v17 (F := Ideal) x0 x1 x2 = z
  pointwise [val_main_v20]
  rw [hz]

/-- The state, time first. -/
theorem s_at (x3 : FVec Ideal S2x128x2x2816 .f32) (s : Fin 2) (b : Fin 128) (e : Fin 2816) : (val_main_v23 (F := Ideal) x3 (ix3 s b e) : EReal) = sN x3 (s.val * 128 + b.val) e.val := by
  rw [← sN_of]
  pointwise [val_main_v23, val_main_v22, val_main_v21]

/-- The state's rows followed by the new ones. -/
theorem ext_if (x0 : FVec Ideal S512x1024 .f32) (x1 : FVec Ideal S2x1024 .f32) (x2 : FVec Ideal S2x1024x5632 .f32) (x3 : FVec Ideal S2x128x2x2816 .f32) (s : Fin 6) (b : Fin 128) (e : Fin 2816) :
    (val_main_v24 (F := Ideal) x0 x1 x2 x3 (ix3 s b e) : EReal) = if h : s.val < 2 then (val_main_v23 (F := Ideal) x3 (ix3 ⟨s.val, h⟩ b e) : EReal) else val_main_v19 (F := Ideal) x0 x1 x2 (ix3 ⟨s.val - 2, by omega⟩ b e) := by
  generalize hz : val_main_v19 (F := Ideal) x0 x1 x2 = z
  generalize hy : val_main_v23 (F := Ideal) x3 = y
  pointwise [val_main_v24]
  rw [hz, hy]

theorem ext_at (x0 : FVec Ideal S512x1024 .f32) (x1 : FVec Ideal S2x1024 .f32) (x2 : FVec Ideal S2x1024x5632 .f32) (x3 : FVec Ideal S2x128x2x2816 .f32) (s : Fin 6) (b : Fin 128) (e : Fin 2816) (k : ℕ) (hk : k = s.val * 128 + b.val) :
    (val_main_v24 (F := Ideal) x0 x1 x2 x3 (ix3 s b e) : EReal) = eN x0 x1 x2 x3 k e.val := by
  subst hk
  rw [ext_if]
  unfold eN
  by_cases h : s.val < 2
  · rw [dif_pos h, if_pos (by omega), s_at]
  · rw [dif_neg h, if_neg (by omega), a_at]
    congr 1
    dsimp only
    omega

/-- The three terms of the convolution. -/
theorem conv_at (x0 : FVec Ideal S512x1024 .f32) (x1 : FVec Ideal S2x1024 .f32) (x2 : FVec Ideal S2x1024x5632 .f32) (x3 : FVec Ideal S2x128x2x2816 .f32) (x4 : FVec Ideal S2x3x2816 .f32) (s : Fin 4) (b : Fin 128) (e : Fin 2816) :
    (val_main_v52 (F := Ideal) x0 x1 x2 x3 x4 (ix3 s b e) : EReal) = val_main_v24 (F := Ideal) x0 x1 x2 x3 (ix3 ⟨s.val, by omega⟩ b e) * x4 (ix3 1 0 e)
      + val_main_v24 (F := Ideal) x0 x1 x2 x3 (ix3 ⟨1 + s.val, by omega⟩ b e) * x4 (ix3 1 1 e)
      + val_main_v24 (F := Ideal) x0 x1 x2 x3 (ix3 ⟨2 + s.val, by omega⟩ b e) * x4 (ix3 1 2 e) := by
  generalize hz : val_main_v24 (F := Ideal) x0 x1 x2 x3 = z
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_2]
  simp only [hz]

/-- The convolution with its bias. -/
theorem x_at (x0 : FVec Ideal S512x1024 .f32) (x1 : FVec Ideal S2x1024 .f32) (x2 : FVec Ideal S2x1024x5632 .f32) (x3 : FVec Ideal S2x128x2x2816 .f32) (x4 : FVec Ideal S2x3x2816 .f32) (x5 : FVec Ideal S2x2816 .f32) (r : Fin 512) (e : Fin 2816) :
    (val_main_v58 (F := Ideal) x0 x1 x2 x3 x4 x5 (ix2 r e) : EReal)
      = conv (uN x0 x1 x2 r.val e.val) (eN x0 x1 x2 x3 (r.val + 128) e.val) (eN x0 x1 x2 x3 r.val e.val) (wN x4 0 e.val) (wN x4 1 e.val) (wN x4 2 e.val) (bN x5 e.val) := by
  have h1 : (val_main_v58 (F := Ideal) x0 x1 x2 x3 x4 x5 (ix2 r e) : EReal) = val_main_v52 (F := Ideal) x0 x1 x2 x3 x4 (ix3 ⟨r.val / 128, by omega⟩ ⟨r.val % 128, by omega⟩ e) + x5 (ix2 1 e) := by
    generalize hz : val_main_v52 (F := Ideal) x0 x1 x2 x3 x4 = z
    pointwise [val_main_v58, val_main_v57, val_main_v56, val_main_v55, val_main_v54, val_main_v53]
    rw [hz]
  rw [h1, conv_at, ext_at x0 x1 x2 x3 _ _ e r.val (by dsimp only; omega), ext_at x0 x1 x2 x3 _ _ e (r.val + 128) (by dsimp only; omega),
    ext_at x0 x1 x2 x3 _ _ e (r.val + 256) (by dsimp only; omega), eN_hi, wN_of x4 0, wN_of x4 1, wN_of x4 2, bN_of x5]
  unfold conv
  congr 1
  rw [mul_comm _ (wN x4 0 e.val), mul_comm _ (wN x4 1 e.val), mul_comm _ (wN x4 2 e.val), add_comm, add_comm (wN x4 0 e.val * _), ← add_assoc]

/-- The gated activation. -/
theorem act_at (x0 : FVec Ideal S512x1024 .f32) (x1 : FVec Ideal S2x1024 .f32) (x2 : FVec Ideal S2x1024x5632 .f32) (x3 : FVec Ideal S2x128x2x2816 .f32) (x4 : FVec Ideal S2x3x2816 .f32) (x5 : FVec Ideal S2x2816 .f32) (r : Fin 512) (e : Fin 2816) : (val_main_v66 (F := Ideal) x0 x1 x2 x3 x4 x5 (ix2 r e) : EReal) = actN x0 x1 x2 x3 x4 x5 r.val e.val := by
  unfold actN
  rw [← x_at, ← g_at, ← gelu_erfc]
  generalize hx : val_main_v58 (F := Ideal) x0 x1 x2 x3 x4 x5 = x
  generalize hg : val_main_v20 (F := Ideal) x0 x1 x2 = g
  pointwise [val_main_v66, val_main_v65, val_main_v64, val_main_v63, val_main_v62, val_main_v61, val_main_v60, val_main_v59, val_main_cst_3, val_main_cst_4]
  rw [hx, hg]

/-- The row with the layer's product added. -/
theorem h_at (x0 : FVec Ideal S512x1024 .f32) (x1 : FVec Ideal S2x1024 .f32) (x2 : FVec Ideal S2x1024x5632 .f32) (x3 : FVec Ideal S2x128x2x2816 .f32) (x4 : FVec Ideal S2x3x2816 .f32) (x5 : FVec Ideal S2x2816 .f32) (x6 : FVec Ideal S2x2816x1024 .f32) (r : Fin 512) (k : Fin 1024) : (val_main_v70 (F := Ideal) x0 x1 x2 x3 x4 x5 x6 (ix2 r k) : EReal) = hN x0 x1 x2 x3 x4 x5 x6 r k := by
  unfold hN
  simp only [← act_at]
  generalize hz : val_main_v66 (F := Ideal) x0 x1 x2 x3 x4 x5 = z
  pointwise [val_main_v70, val_main_v69, val_main_v68, val_main_v67]
  rw [hz]

/-- The first result. -/
theorem y_at (x0 : FVec Ideal S512x1024 .f32) (x1 : FVec Ideal S2x1024 .f32) (x2 : FVec Ideal S2x1024x5632 .f32) (x3 : FVec Ideal S2x128x2x2816 .f32) (x4 : FVec Ideal S2x3x2816 .f32) (x5 : FVec Ideal S2x2816 .f32) (x6 : FVec Ideal S2x2816x1024 .f32) (x7 : FVec Ideal S1024 .f32) (r : Fin 512) (k : Fin 1024) : (val_main_v83 (F := Ideal) x0 x1 x2 x3 x4 x5 x6 x7 (ix2 r k) : EReal) = yN x0 x1 x2 x3 x4 x5 x6 x7 r k := by
  unfold yN
  simp only [← h_at]
  generalize hz : val_main_v70 (F := Ideal) x0 x1 x2 x3 x4 x5 x6 = z
  unfold normed
  pointwise [val_main_v83, val_main_v82, val_main_v81, val_main_v80, val_main_v79, val_main_v78, val_main_v77, val_main_v76, val_main_v75, val_main_v74, val_main_v73, val_main_v72, val_main_v71, val_main_cst_5, val_main_cst_6, val_main_cst_7]
  rw [hz]

/-- The second result. -/
theorem t_at (x0 : FVec Ideal S512x1024 .f32) (x1 : FVec Ideal S2x1024 .f32) (x2 : FVec Ideal S2x1024x5632 .f32) (x3 : FVec Ideal S2x128x2x2816 .f32) (j : Fin 256) (e : Fin 2816) : (val_main_v85 (F := Ideal) x0 x1 x2 x3 (ix3 0 j e) : EReal) = eN x0 x1 x2 x3 (512 + j.val) e.val := by
  refine Eq.trans ?_ (ext_at x0 x1 x2 x3 ⟨4 + j.val / 128, by omega⟩ ⟨j.val % 128, by omega⟩ e _ (by dsimp only; omega))
  generalize hz : val_main_v24 (F := Ideal) x0 x1 x2 x3 = z
  pointwise [val_main_v85, val_main_v84]
  rw [hz]

/-- The reference's first result, whole. -/
theorem ref0 (x0 : FVec Ideal S512x1024 .f32) (x1 : FVec Ideal S2x1024 .f32) (x2 : FVec Ideal S2x1024x5632 .f32) (x3 : FVec Ideal S2x128x2x2816 .f32) (x4 : FVec Ideal S2x3x2816 .f32) (x5 : FVec Ideal S2x2816 .f32) (x6 : FVec Ideal S2x2816x1024 .f32) (x7 : FVec Ideal S1024 .f32) : val_main_v83 (F := Ideal) x0 x1 x2 x3 x4 x5 x6 x7 = out0 x0 x1 x2 x3 x4 x5 x6 x7 := by
  funext i
  exact (congrArg (val_main_v83 (F := Ideal) x0 x1 x2 x3 x4 x5 x6 x7) (eq_ix2 i)).trans (y_at x0 x1 x2 x3 x4 x5 x6 x7 (i 0) (i 1))

/-- The reference's second result, whole. -/
theorem ref1 (x0 : FVec Ideal S512x1024 .f32) (x1 : FVec Ideal S2x1024 .f32) (x2 : FVec Ideal S2x1024x5632 .f32) (x3 : FVec Ideal S2x128x2x2816 .f32) : val_main_v85 (F := Ideal) x0 x1 x2 x3 = out1 x0 x1 x2 x3 := by
  funext i
  have hi : i = ix3 0 (i 1) (i 2) := (eq_ix3 i).trans (congrArg (fun a => ix3 a (i 1) (i 2)) (Fin.ext (by have h : (i 0).val < 1 := (i 0).isLt; show (i 0).val = 0; omega)))
  exact (congrArg (val_main_v85 (F := Ideal) x0 x1 x2 x3) hi).trans (t_at x0 x1 x2 x3 (i 1) (i 2))

end Cert.Reference6Ideal.Sfn

end
-- ==== Proof.SfnClaim.lean ====
module

public import proofs.«01_k».proof.Proof.SfnOut
public import proofs.«01_k».proof.Proof.SfnRef
public import proofs.«01_k».proof.Proof.Gen.Reference6Ideal.Run
public import proofs.«01_k».proof.Defs

@[expose] public section

set_option maxRecDepth 16384

noncomputable section

namespace Cert.Kernel6Ideal.Sfn

open Idealize.ShloMosaic Idealize.ShloMosaic.TcCoe Idealize.SL.Sem
open Cert.Kernel6Ideal Cert.Kernel6Ideal.Gen
open Cert.Reference6Ideal.Sfn (ref0 ref1)

/-- The sample group's feed-forward kernel and its reference end with the same two results: the normalised rows after the layer, and the last two rows of each sequence of what its convolution reads. -/
theorem algebraic : Cert.algebraic_Kernel6Ideal_Reference6Ideal := by
  intro m g m' g' _ hin
  refine ⟨fun c => out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => out1 (m ((c.tc : Thread nD τ).loc main_arg0)) (m ((c.tc : Thread nD τ).loc main_arg1)) (m ((c.tc : Thread nD τ).loc main_arg2)) (m ((c.tc : Thread nD τ).loc main_arg3)), ?_, ?_⟩
  · refine (θ_run _ _ _).mono (fun r h c => ?_) (θ_run_and (run_main_quiescent m g) (frame m g))
    have hA := (h.1.1 c).1
    exact ⟨(hA 9).trans (final0 m c), (hA 10).trans (final1 m c), h.2.1 c⟩
  · refine (θ_run _ _ _).mono (fun _ h c => ?_) (Cert.Reference6Ideal.Value.run (F := Ideal) m' g')
    obtain ⟨h0, h1, ha⟩ := h c
    obtain ⟨i0, i1, i2, i3, i4, i5, i6, i7⟩ := hin c
    refine ⟨h0.trans ?_, h1.trans ?_, ha⟩
    · refine (Cert.Reference6Ideal.Read.val_main_v83_eq m' c).trans ?_
      rw [i0, i1, i2, i3, i4, i5, i6, i7]; exact ref0 _ _ _ _ _ _ _ _
    · refine (Cert.Reference6Ideal.Read.val_main_v85_eq _ _ _ _).trans ?_
      rw [i0, i1, i2, i3]; exact ref1 _ _ _ _

end Cert.Kernel6Ideal.Sfn

end
-- ==== Proof.SipRun.lean ====
module

public import proofs.«01_k».proof.Proof.Gen.Kernel7Ideal.Frame
public import proofs.«01_k».proof.Proof.Gen.Kernel7Ideal.Skeleton
public import Idealize.ShloMosaic.Lib.Claim
public import Idealize.ShloMosaic.Lib.Pipeline.Value

@[expose] public section

set_option maxRecDepth 16384

noncomputable section

namespace Cert.Kernel7Ideal.Sip

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- A store over a whole array leaves what was stored. -/
theorem store_read {sp : Space} {s : Shape} {e : EltTy} (v : View sig .tc sp s e) (f : v.ty.Contents (Elt F)) (off : Fin s.rank → ℕ) (hoff : off = fun _ => 0)
    (h : ∀ d, off d + s.size d ≤ s.size d) (w : s.Idx → Elt F e) :
    v.read (Elt F) (v.writes (Elt F) f [⟨Rect.unit off s.size h, w⟩]) = w := by
  rw [View.read_writes_eq_canon _ _ _ (fun y => ⟨_, List.mem_singleton_self _, View.mem_set_unit_zero hoff h y⟩)]
  exact View.canon_unit_zero hoff _ _

/-- A load of a whole array reads its contents. -/
theorem load_read {sp : Space} {s : Shape} {e : EltTy} {m : Memref sig .tc sp s e} (hm : m.IsWhole) (X : s.Idx → Elt F e) (off : Fin s.rank → ℕ) (hoff : off = fun _ => 0)
    (h : ∀ d, off d + s.size d ≤ s.size d) :
    m.view.readAt (Elt F) (Rect.unit off s.size h).toLoadRect (hm.unread X) = X := by
  rw [View.readAt_eq_ld, hm.read_unread]
  exact View.ld_unit_zero hoff _ _

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1536 .bf16) (harg4 : arg4.IsWhole) (arg5 : Memref sig .tc .vmem S1x1024x128 .bf16) (harg5 : arg5.IsWhole) (arg6 : Memref sig .tc .vmem S1x8x1024 .bf16) (harg6 : arg6.IsWhole) (arg7 : Memref sig .tc .vmem S512x1536 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S8x512 .f32) (harg11 : arg11.IsWhole) (arg12 : Memref sig .tc .vmem S512x1024 .bf16) (harg12 : arg12.IsWhole)

set_option maxHeartbeats 1000000 in
/-- The body at a first column block: it normalises the rows into the scratch, and leaves the two narrow products and the first block of columns. -/
theorem runA
    (hc0 : k0_cond1 i = 1#1) (hc1 : ¬k0_cond2 i = 1#1) (hc2 : ¬k0_cond3 i = 1#1)
    (x0 : Vec F S512x1024 .f32) (x1 : Vec F S1x1024 .f32) (x2 : Vec F S1x1024x1536 .bf16) (x3 : Vec F S1x1024x128 .bf16) (x4 : Vec F S1x8x1024 .bf16) (y6 : Vec F S512x512 .f32) (y7 : Vec F S512x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 (k0_pay2 x0 x1) x2) ∗ owns (c : Thread nD τ) arg8 fullShare y6 ∗ owns (c : Thread nD τ) arg9 fullShare y7 ∗ owns (c : Thread nD τ) arg10 fullShare (k0_pay3 x0 x1 x3) ∗ owns (c : Thread nD τ) arg11 fullShare (k0_pay4 x0 x1 x4) ∗ owns (c : Thread nD τ) arg12 fullShare (k0_pay2 x0 x1)) -∗ K ⟨⟩))
      ⊢ wp frame (wpE (defs₀ (F := F)) Variants.none c none) E (cc0__in_proj_body i arg2 harg2 arg3 harg3 arg4 harg4 arg5 harg5 arg6 harg6 arg7 harg7 arg8 harg8 arg9 harg9 arg10 harg10 arg11 harg11 arg12 harg12) K := by
  simp only [cc0__in_proj_body_eq_skeleton]; unfold cc0__in_proj_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact (store_read _ _ _ (by decide) _ _).trans (congrArg₂ k0_pay6 ((View.readCov_unit_zero _ (by decide) _ _).trans (congrArg₂ k0_pay2 (load_read harg2 x0 _ (by decide) _) (load_read harg3 x1 _ (by decide) _))) (load_read harg4 x2 _ (by decide) _))
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; exact (store_read _ _ _ (by decide) _ _).trans (congr (congrArg₂ k0_pay3 (load_read harg2 x0 _ (by decide) _) (load_read harg3 x1 _ (by decide) _)) (load_read harg5 x3 _ (by decide) _))
  isplitl [H9]
  · iexists _; isplitr; swap; · iexact H9
    ipureintro; exact (store_read _ _ _ (by decide) _ _).trans (congr (congrArg₂ k0_pay4 (load_read harg2 x0 _ (by decide) _) (load_read harg3 x1 _ (by decide) _)) (load_read harg6 x4 _ (by decide) _))
  · iexists _; isplitr; swap; · iexact H10
    ipureintro; exact (store_read _ _ _ (by decide) _ _).trans (congrArg₂ k0_pay2 (load_read harg2 x0 _ (by decide) _) (load_read harg3 x1 _ (by decide) _))

set_option maxHeartbeats 1000000 in
/-- The body at a column block that holds neither keys nor values of the attention: it leaves that block of columns. -/
theorem runB
    (hc0 : ¬k0_cond1 i = 1#1) (hc1 : ¬k0_cond2 i = 1#1) (hc2 : ¬k0_cond3 i = 1#1)
    (x0 : Vec F S512x1024 .f32) (x1 : Vec F S1x1024 .f32) (x2 : Vec F S1x1024x1536 .bf16) (x3 : Vec F S1x1024x128 .bf16) (x4 : Vec F S1x8x1024 .bf16) (y6 : Vec F S512x512 .f32) (y7 : Vec F S512x512 .f32) (y8 : Vec F S512x128 .f32) (y9 : Vec F S8x512 .f32) (xs : Vec F S512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 xs x2) ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare xs) -∗ K ⟨⟩))
      ⊢ wp frame (wpE (defs₀ (F := F)) Variants.none c none) E (cc0__in_proj_body i arg2 harg2 arg3 harg3 arg4 harg4 arg5 harg5 arg6 harg6 arg7 harg7 arg8 harg8 arg9 harg9 arg10 harg10 arg11 harg11 arg12 harg12) K := by
  simp only [cc0__in_proj_body_eq_skeleton]; unfold cc0__in_proj_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact (store_read _ _ _ (by decide) _ _).trans (congrArg₂ k0_pay6 (load_read harg12 xs _ (by decide) _) (load_read harg4 x2 _ (by decide) _))
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  · iexists _; isplitr; · ipureintro; exact harg12.read_unread _
    iexact H10

set_option maxHeartbeats 1000000 in
/-- The body at the column block that holds the attention's keys and values: it leaves that block of columns, and the keys and the values. -/
theorem runC
    (hc0 : ¬k0_cond1 i = 1#1) (hc1 : k0_cond2 i = 1#1) (hc2 : k0_cond3 i = 1#1)
    (x0 : Vec F S512x1024 .f32) (x1 : Vec F S1x1024 .f32) (x2 : Vec F S1x1024x1536 .bf16) (x3 : Vec F S1x1024x128 .bf16) (x4 : Vec F S1x8x1024 .bf16) (y8 : Vec F S512x128 .f32) (y9 : Vec F S8x512 .f32) (xs : Vec F S512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare y8 ∗ owns (c : Thread nD τ) arg11 fullShare y9 ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 xs x2) ∗ owns (c : Thread nD τ) arg8 fullShare (k0_pay7 xs x2) ∗ owns (c : Thread nD τ) arg9 fullShare (k0_pay8 xs x2) ∗ owns (c : Thread nD τ) arg10 fullShare y8 ∗ owns (c : Thread nD τ) arg11 fullShare y9 ∗ owns (c : Thread nD τ) arg12 fullShare xs) -∗ K ⟨⟩))
      ⊢ wp frame (wpE (defs₀ (F := F)) Variants.none c none) E (cc0__in_proj_body i arg2 harg2 arg3 harg3 arg4 harg4 arg5 harg5 arg6 harg6 arg7 harg7 arg8 harg8 arg9 harg9 arg10 harg10 arg11 harg11 arg12 harg12) K := by
  simp only [cc0__in_proj_body_eq_skeleton]; unfold cc0__in_proj_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact (store_read _ _ _ (by decide) _ _).trans (congrArg₂ k0_pay6 (load_read harg12 xs _ (by decide) _) (load_read harg4 x2 _ (by decide) _))
  isplitl [H6]
  · iexists _; isplitr; swap; · iexact H6
    ipureintro; exact (store_read _ _ _ (by decide) _ _).trans (congrArg₂ k0_pay7 (load_read harg12 xs _ (by decide) _) (load_read harg4 x2 _ (by decide) _))
  isplitl [H7]
  · iexists _; isplitr; swap; · iexact H7
    ipureintro; exact (store_read _ _ _ (by decide) _ _).trans (congrArg₂ k0_pay8 (load_read harg12 xs _ (by decide) _) (load_read harg4 x2 _ (by decide) _))
  isplitl [H8]
  · iexists _; isplitr; · ipureintro; exact harg10.read_unread _
    iexact H8
  isplitl [H9]
  · iexists _; isplitr; · ipureintro; exact harg11.read_unread _
    iexact H9
  · iexists _; isplitr; · ipureintro; exact harg12.read_unread _
    iexact H10

end

end Cert.Kernel7Ideal.Sip

end
-- ==== Proof.SipFrame.lean ====
module

public import proofs.«01_k».proof.Proof.SipRun
public import Idealize.ShloMosaic.Lib.Pipeline.DatRel
public import Idealize.ShloMosaic.Lib.Pipeline.ArrRel

@[expose] public section

set_option maxRecDepth 16384

noncomputable section

namespace Cert.Kernel7Ideal.Sip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows are normalised at the first column block. -/
theorem hcond1 : ∀ t : Fin cfg0.N, k0_cond1 (grid0.coords t) = 1#1 ↔ t.val % 5 = 0 :=
  (fun t => by
    have ht : t.val < 5 := Nat.lt_of_lt_of_eq t.isLt N_0
    have e0 : (grid0.coords t 0).val = t.val / 5 % 1 := Pipeline.Grid.coords_val t 0 (by decide) rfl
    have e1 : (grid0.coords t 1).val = t.val / 1 % 5 := Pipeline.Grid.coords_val t 1 (by decide) rfl
    simp only [k0_cond1, e0, e1]
    word_cmp
   : ∀ t : Fin grid0.N, k0_cond1 (grid0.coords t) = 1#1 ↔ t.val % 5 = 0)

/-- The keys are written at the fourth column block. -/
theorem hcond2 : ∀ t : Fin cfg0.N, k0_cond2 (grid0.coords t) = 1#1 ↔ t.val % 5 = 3 :=
  (fun t => by
    have ht : t.val < 5 := Nat.lt_of_lt_of_eq t.isLt N_0
    have e0 : (grid0.coords t 0).val = t.val / 5 % 1 := Pipeline.Grid.coords_val t 0 (by decide) rfl
    have e1 : (grid0.coords t 1).val = t.val / 1 % 5 := Pipeline.Grid.coords_val t 1 (by decide) rfl
    simp only [k0_cond2, e0, e1]
    word_cmp
   : ∀ t : Fin grid0.N, k0_cond2 (grid0.coords t) = 1#1 ↔ t.val % 5 = 3)

/-- The values are written at the fourth column block. -/
theorem hcond3 : ∀ t : Fin cfg0.N, k0_cond3 (grid0.coords t) = 1#1 ↔ t.val % 5 = 3 :=
  (fun t => by
    have ht : t.val < 5 := Nat.lt_of_lt_of_eq t.isLt N_0
    have e0 : (grid0.coords t 0).val = t.val / 5 % 1 := Pipeline.Grid.coords_val t 0 (by decide) rfl
    have e1 : (grid0.coords t 1).val = t.val / 1 % 5 := Pipeline.Grid.coords_val t 1 (by decide) rfl
    simp only [k0_cond3, e0, e1]
    word_cmp
   : ∀ t : Fin grid0.N, k0_cond3 (grid0.coords t) = 1#1 ↔ t.val % 5 = 3)

/-- The staging memrefs at a point, and the scratch. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x512 .f32 := win0_9.stage (cfg0.slots t 9)
abbrev hs0_9 (t : Fin cfg0.N) : (ms0_9 t).IsWhole := hstage0_9 ((cfg0.slots t 9).cast nbuf0_9)
abbrev scM0_0 : Memref sig .tc .vmem S512x1024 .bf16 := Memref.whole cc0_scratch0

theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- The first point of the row of points that position `n` lies in. -/
abbrev rowPt (n : ℕ) (hn : n < cfg0.N) : Fin cfg0.N := ⟨n / 5 * 5, lt_of_le_of_lt (Nat.div_mul_le_self n 5) hn⟩

/-- The row's fourth point, where keys and values are written. -/
abbrev kvPt (n : ℕ) (hn : n < cfg0.N) : Fin cfg0.N := ⟨n / 5 * 5 + 3, by have : cfg0.N = 5 := N_0; omega⟩

theorem rowPt_start (t : Fin cfg0.N) (h : t.val % 5 = 0) : rowPt t.val t.isLt = t := Fin.ext (by show t.val / 5 * 5 = t.val; omega)

theorem kvPt_here (t : Fin cfg0.N) (h : t.val % 5 = 3) : kvPt t.val t.isLt = t := Fin.ext (by show t.val / 5 * 5 + 3 = t.val; omega)

theorem rowPt_step (n : ℕ) (hn : n < cfg0.N) (h : ¬n % 5 = 0) : rowPt (n - 1) (by omega) = rowPt n hn :=
  Fin.ext (by show (n - 1) / 5 * 5 = n / 5 * 5; omega)

theorem kvPt_step (n : ℕ) (hn : n < cfg0.N) (h : ¬n % 5 = 0) : kvPt (n - 1) (by omega) = kvPt n hn :=
  Fin.ext (by show (n - 1) / 5 * 5 + 3 = n / 5 * 5 + 3; omega)

/-- The scratch after the point at position `n`: the row's normalised rows. -/
def XNat (c : Dev nD) (n : ℕ) (hn : n < cfg0.N) : Vec F S512x1024 .bf16 := k0_pay2 (iblk m c 0 (rowPt n hn)) (iblk m c 1 (rowPt n hn))

theorem XNat_start (c : Dev nD) (t : Fin cfg0.N) (h : t.val % 5 = 0) : XNat m c t.val t.isLt = k0_pay2 (iblk m c 0 t) (iblk m c 1 t) := by
  unfold XNat; rw [rowPt_start t h]

theorem XNat_step (c : Dev nD) (n : ℕ) (hn : n < cfg0.N) (h : ¬n % 5 = 0) : XNat m c (n - 1) (by omega) = XNat m c n hn := by
  unfold XNat; rw [rowPt_step n hn h]

/-- Between points the scratch holds the row's normalised rows; before the first point anything. -/
def PhiS (c : Dev nD) : (n : ℕ) → n ≤ cfg0.N → sProp 𝕄
  | 0, _ => Pipeline.ΦA spec0 c
  | n + 1, hn => iprop(owns (c : Thread nD τ) scM0_0 fullShare (XNat m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (XNat m c n hn) ∗ (∃ r, prngReg c r)) := rfl

theorem PhiS_pos (c : Dev nD) (n : ℕ) (h : n ≤ cfg0.N) (hz : n ≠ 0) :
    PhiS m c n h = iprop(owns (c : Thread nD τ) scM0_0 fullShare (XNat m c (n - 1) (by omega)) ∗ (∃ r, prngReg c r)) := by
  cases n with
  | zero => exact absurd rfl hz
  | succ n => rfl

/-- The proof data: each input's buffer keeps its block; of the outputs' buffers `Rl` says what is known. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ t := PhiS m c t.val (Nat.le_of_lt_succ t.isLt)
  q w := Pipeline.shareOf spec0 w
  owed _ := 0

/-- The windows of which a relation says what they hold: the outputs'. -/
def fgt (w : Fin cfg0.W) : Bool := match w with
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true

/-- What an output's buffer holds after point `t`: the block of columns of the point; the row's keys and values once they are written; the row's two narrow products. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => X = k0_pay6 (XNat m c t.val t.isLt) (iblk m c 2 t)
  | ⟨6, _⟩ => fun X => 3 ≤ t.val % 5 → X = k0_pay7 (XNat m c t.val t.isLt) (iblk m c 2 (kvPt t.val t.isLt))
  | ⟨7, _⟩ => fun X => 3 ≤ t.val % 5 → X = k0_pay8 (XNat m c t.val t.isLt) (iblk m c 2 (kvPt t.val t.isLt))
  | ⟨8, _⟩ => fun X => X = k0_pay3 (iblk m c 0 (rowPt t.val t.isLt)) (iblk m c 1 (rowPt t.val t.isLt)) (iblk m c 3 (rowPt t.val t.isLt))
  | ⟨9, _⟩ => fun X => X = k0_pay4 (iblk m c 0 (rowPt t.val t.isLt)) (iblk m c 1 (rowPt t.val t.isLt)) (iblk m c 4 (rowPt t.val t.isLt))

/-- The proof data with the outputs held to `Rl`. -/
abbrev rdat (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem found6 (c : Dev nD) (t : Fin cfg0.N) (h : ¬t.val % 5 = 0) (Y : Vec F S512x512 .f32) (hY : (rdat m c).Finds 6 t Y) : Rl m c 6 ⟨t.val - 1, by omega⟩ Y := by
  rcases (Pipeline.RDat.finds_of_pos (rdat m c) (w := 6) (t := t) rfl (by omega) Y).mp hY with hf | hl
  · exfalso; have := (flush0_6 ⟨t.val - 1, by omega⟩).mp hf; dsimp only at this; omega
  · exact (dats m 0 c).toRRel_leaves (fgt := fgt) (Rl := Rl m c) rfl hl

theorem found7 (c : Dev nD) (t : Fin cfg0.N) (h : ¬t.val % 5 = 0) (Y : Vec F S512x512 .f32) (hY : (rdat m c).Finds 7 t Y) : Rl m c 7 ⟨t.val - 1, by omega⟩ Y := by
  rcases (Pipeline.RDat.finds_of_pos (rdat m c) (w := 7) (t := t) rfl (by omega) Y).mp hY with hf | hl
  · exfalso; have := (flush0_7 ⟨t.val - 1, by omega⟩).mp hf; dsimp only at this; omega
  · exact (dats m 0 c).toRRel_leaves (fgt := fgt) (Rl := Rl m c) rfl hl

theorem found8 (c : Dev nD) (t : Fin cfg0.N) (h : ¬t.val % 5 = 0) (Y : Vec F S512x128 .f32) (hY : (rdat m c).Finds 8 t Y) : Rl m c 8 ⟨t.val - 1, by omega⟩ Y := by
  rcases (Pipeline.RDat.finds_of_pos (rdat m c) (w := 8) (t := t) rfl (by omega) Y).mp hY with hf | hl
  · exfalso; have := (flush0_8 ⟨t.val - 1, by omega⟩).mp hf; dsimp only at this; omega
  · exact (dats m 0 c).toRRel_leaves (fgt := fgt) (Rl := Rl m c) rfl hl

theorem found9 (c : Dev nD) (t : Fin cfg0.N) (h : ¬t.val % 5 = 0) (Y : Vec F S8x512 .f32) (hY : (rdat m c).Finds 9 t Y) : Rl m c 9 ⟨t.val - 1, by omega⟩ Y := by
  rcases (Pipeline.RDat.finds_of_pos (rdat m c) (w := 9) (t := t) rfl (by omega) Y).mp hY with hf | hl
  · exfalso; have := (flush0_9 ⟨t.val - 1, by omega⟩).mp hf; dsimp only at this; omega
  · exact (dats m 0 c).toRRel_leaves (fgt := fgt) (Rl := Rl m c) rfl hl

theorem rl5_start (c : Dev nD) (t : Fin cfg0.N) (h : t.val % 5 = 0) : Rl m c 5 t (k0_pay6 (k0_pay2 (iblk m c 0 t) (iblk m c 1 t)) (iblk m c 2 t)) := by
  show _ = k0_pay6 (XNat m c t.val t.isLt) (iblk m c 2 t)
  rw [XNat_start m c t h]

theorem rl6_early (c : Dev nD) (t : Fin cfg0.N) (h : t.val % 5 < 3) (X : Vec F S512x512 .f32) : Rl m c 6 t X :=
  fun h' => absurd h' (by omega)

theorem rl6_here (c : Dev nD) (t : Fin cfg0.N) (h : t.val % 5 = 3) : Rl m c 6 t (k0_pay7 (XNat m c t.val t.isLt) (iblk m c 2 t)) := by
  intro _
  show _ = k0_pay7 (XNat m c t.val t.isLt) (iblk m c 2 (kvPt t.val t.isLt))
  rw [kvPt_here t h]

theorem rl6_step (c : Dev nD) (t : Fin cfg0.N) (h : ¬t.val % 5 = 0) (h3 : ¬t.val % 5 = 3) (X : Vec F S512x512 .f32)
    (hX : Rl m c 6 ⟨t.val - 1, by omega⟩ X) : Rl m c 6 t X := by
  intro h'
  have e := hX (by show 3 ≤ (t.val - 1) % 5; omega)
  rw [e]
  show k0_pay7 (XNat m c (t.val - 1) _) (iblk m c 2 (kvPt (t.val - 1) _)) = _
  rw [XNat_step m c t.val t.isLt h, kvPt_step t.val t.isLt h]

theorem rl7_early (c : Dev nD) (t : Fin cfg0.N) (h : t.val % 5 < 3) (X : Vec F S512x512 .f32) : Rl m c 7 t X :=
  fun h' => absurd h' (by omega)

theorem rl7_here (c : Dev nD) (t : Fin cfg0.N) (h : t.val % 5 = 3) : Rl m c 7 t (k0_pay8 (XNat m c t.val t.isLt) (iblk m c 2 t)) := by
  intro _
  show _ = k0_pay8 (XNat m c t.val t.isLt) (iblk m c 2 (kvPt t.val t.isLt))
  rw [kvPt_here t h]

theorem rl7_step (c : Dev nD) (t : Fin cfg0.N) (h : ¬t.val % 5 = 0) (h3 : ¬t.val % 5 = 3) (X : Vec F S512x512 .f32)
    (hX : Rl m c 7 ⟨t.val - 1, by omega⟩ X) : Rl m c 7 t X := by
  intro h'
  have e := hX (by show 3 ≤ (t.val - 1) % 5; omega)
  rw [e]
  show k0_pay8 (XNat m c (t.val - 1) _) (iblk m c 2 (kvPt (t.val - 1) _)) = _
  rw [XNat_step m c t.val t.isLt h, kvPt_step t.val t.isLt h]

theorem rl8_start (c : Dev nD) (t : Fin cfg0.N) (h : t.val % 5 = 0) : Rl m c 8 t (k0_pay3 (iblk m c 0 t) (iblk m c 1 t) (iblk m c 3 t)) := by
  show _ = k0_pay3 (iblk m c 0 (rowPt t.val t.isLt)) (iblk m c 1 (rowPt t.val t.isLt)) (iblk m c 3 (rowPt t.val t.isLt))
  rw [rowPt_start t h]

theorem rl8_step (c : Dev nD) (t : Fin cfg0.N) (h : ¬t.val % 5 = 0) (X : Vec F S512x128 .f32)
    (hX : Rl m c 8 ⟨t.val - 1, by omega⟩ X) : Rl m c 8 t X := by
  have e : X = k0_pay3 (iblk m c 0 (rowPt (t.val - 1) (by omega))) (iblk m c 1 (rowPt (t.val - 1) (by omega))) (iblk m c 3 (rowPt (t.val - 1) (by omega))) := hX
  rw [e, rowPt_step t.val t.isLt h]
  exact rfl

theorem rl9_start (c : Dev nD) (t : Fin cfg0.N) (h : t.val % 5 = 0) : Rl m c 9 t (k0_pay4 (iblk m c 0 t) (iblk m c 1 t) (iblk m c 4 t)) := by
  show _ = k0_pay4 (iblk m c 0 (rowPt t.val t.isLt)) (iblk m c 1 (rowPt t.val t.isLt)) (iblk m c 4 (rowPt t.val t.isLt))
  rw [rowPt_start t h]

theorem rl9_step (c : Dev nD) (t : Fin cfg0.N) (h : ¬t.val % 5 = 0) (X : Vec F S8x512 .f32)
    (hX : Rl m c 9 ⟨t.val - 1, by omega⟩ X) : Rl m c 9 t X := by
  have e : X = k0_pay4 (iblk m c 0 (rowPt (t.val - 1) (by omega))) (iblk m c 1 (rowPt (t.val - 1) (by omega))) (iblk m c 4 (rowPt (t.val - 1) (by omega))) := hX
  rw [e, rowPt_step t.val t.isLt h]
  exact rfl

/-- What the body is called with at point `t`, window by window. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ Y, ⌜(rdat m c).Finds 5 t Y⌝ ∗ owns (c : Thread nD τ) (ms0_5 t) fullShare Y) ∗ (∃ Y, ⌜(rdat m c).Finds 6 t Y⌝ ∗ owns (c : Thread nD τ) (ms0_6 t) fullShare Y) ∗ (∃ Y, ⌜(rdat m c).Finds 7 t Y⌝ ∗ owns (c : Thread nD τ) (ms0_7 t) fullShare Y) ∗ (∃ Y, ⌜(rdat m c).Finds 8 t Y⌝ ∗ owns (c : Thread nD τ) (ms0_8 t) fullShare Y) ∗ (∃ Y, ⌜(rdat m c).Finds 9 t Y⌝ ∗ owns (c : Thread nD τ) (ms0_9 t) fullShare Y))

/-- What it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ (∃ X, ⌜Rl m c 5 t X⌝ ∗ owns (c : Thread nD τ) (ms0_5 t) fullShare X) ∗ (∃ X, ⌜Rl m c 6 t X⌝ ∗ owns (c : Thread nD τ) (ms0_6 t) fullShare X) ∗ (∃ X, ⌜Rl m c 7 t X⌝ ∗ owns (c : Thread nD τ) (ms0_7 t) fullShare X) ∗ (∃ X, ⌜Rl m c 8 t X⌝ ∗ owns (c : Thread nD τ) (ms0_8 t) fullShare X) ∗ (∃ X, ⌜Rl m c 9 t X⌝ ∗ owns (c : Thread nD τ) (ms0_9 t) fullShare X))

set_option maxHeartbeats 1600000 in
/-- The body at any point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ, PhiS_castSucc m c t]
  by_cases h0 : t.val % 5 = 0
  · rw [XNat_start m c t h0]
    have hE : PhiS m c t.val (Nat.le_of_lt t.isLt) ⊢ iprop((∃ d, owns (c : Thread nD τ) scM0_0 fullShare d) ∗ (∃ r, prngReg c r)) := by
      by_cases hz : t.val = 0
      · rw [PhiS_zero m c _ _ hz, PhiA0_eq]
      · rw [PhiS_pos m c _ _ hz]
        iintro ⟨HS, Hg⟩
        isplitl [HS]; · iexists _; iexact HS
        iexact Hg
    refine (sep_mono hE .rfl).trans ?_
    iintro ⟨⟨⟨%g, HS⟩, Hg⟩, Ho, ⟨%d0, H0⟩, ⟨%d1, H1⟩, ⟨%d2, H2⟩, ⟨%d3, H3⟩, ⟨%d4, H4⟩, ⟨%Y5, %hY5, H5⟩, ⟨%Y6, %hY6, H6⟩, ⟨%Y7, %hY7, H7⟩, ⟨%Y8, %hY8, H8⟩, ⟨%Y9, %hY9, H9⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond1 t).mpr h0) (fun h => by have := (hcond2 t).mp h; omega) (fun h => by have := (hcond3 t).mp h; omega) (iblk m c 0 t) (iblk m c 1 t) (iblk m c 2 t) (iblk m c 3 t) (iblk m c 4 t) Y6 Y7 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    isplitl [H9]; · iexists _; iexact H9
    isplitl [HS]; · iexists _; iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact rl5_start m c t h0
    isplitl [H6]
    · iexists _; isplitr; swap; · iexact H6
      ipureintro; exact rl6_early m c t (by omega) _
    isplitl [H7]
    · iexists _; isplitr; swap; · iexact H7
      ipureintro; exact rl7_early m c t (by omega) _
    isplitl [H8]
    · iexists _; isplitr; swap; · iexact H8
      ipureintro; exact rl8_start m c t h0
    iexists _; isplitr; swap; · iexact H9
    ipureintro; exact rl9_start m c t h0
  · rw [PhiS_pos m c _ _ (by omega), XNat_step m c t.val t.isLt h0]
    by_cases h3 : t.val % 5 = 3
    · iintro ⟨⟨HS, Hg⟩, Ho, ⟨%d0, H0⟩, ⟨%d1, H1⟩, ⟨%d2, H2⟩, ⟨%d3, H3⟩, ⟨%d4, H4⟩, ⟨%Y5, %hY5, H5⟩, ⟨%Y6, %hY6, H6⟩, ⟨%Y7, %hY7, H7⟩, ⟨%Y8, %hY8, H8⟩, ⟨%Y9, %hY9, H9⟩⟩
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond1 t).mp h)) ((hcond2 t).mpr h3) ((hcond3 t).mpr h3) (iblk m c 0 t) (iblk m c 1 t) (iblk m c 2 t) (iblk m c 3 t) (iblk m c 4 t) Y8 Y9 (XNat m c t.val t.isLt) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [H9]; · iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact rfl
      isplitl [H6]
      · iexists _; isplitr; swap; · iexact H6
        ipureintro; exact rl6_here m c t h3
      isplitl [H7]
      · iexists _; isplitr; swap; · iexact H7
        ipureintro; exact rl7_here m c t h3
      isplitl [H8]
      · iexists _; isplitr; swap; · iexact H8
        ipureintro; exact rl8_step m c t h0 _ (found8 m c t h0 _ hY8)
      iexists _; isplitr; swap; · iexact H9
      ipureintro; exact rl9_step m c t h0 _ (found9 m c t h0 _ hY9)
    · iintro ⟨⟨HS, Hg⟩, Ho, ⟨%d0, H0⟩, ⟨%d1, H1⟩, ⟨%d2, H2⟩, ⟨%d3, H3⟩, ⟨%d4, H4⟩, ⟨%Y5, %hY5, H5⟩, ⟨%Y6, %hY6, H6⟩, ⟨%Y7, %hY7, H7⟩, ⟨%Y8, %hY8, H8⟩, ⟨%Y9, %hY9, H9⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond1 t).mp h)) (fun h => h3 ((hcond2 t).mp h)) (fun h => h3 ((hcond3 t).mp h)) (iblk m c 0 t) (iblk m c 1 t) (iblk m c 2 t) (iblk m c 3 t) (iblk m c 4 t) Y6 Y7 Y8 Y9 (XNat m c t.val t.isLt) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact rfl
      isplitl [H6]
      · iexists _; isplitr; swap; · iexact H6
        ipureintro; exact rl6_step m c t h0 h3 _ (found6 m c t h0 _ hY6)
      isplitl [H7]
      · iexists _; isplitr; swap; · iexact H7
        ipureintro; exact rl7_step m c t h0 h3 _ (found7 m c t h0 _ hY7)
      isplitl [H8]
      · iexists _; isplitr; swap; · iexact H8
        ipureintro; exact rl8_step m c t h0 _ (found8 m c t h0 _ hY8)
      iexists _; isplitr; swap; · iexact H9
      ipureintro; exact rl9_step m c t h0 _ (found9 m c t h0 _ hY9)

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 (Nat.zero_le _) from rfl, PhiS_zero m c 0 _ rfl]

theorem hout (c : Dev nD) : (rdat m c).Φ (Fin.last cfg0.N) ⊢ Pipeline.ΦA spec0 c := by
  rw [show (rdat m c).Φ (Fin.last cfg0.N) = PhiS m c cfg0.N le_rfl from rfl, PhiS_pos m c _ _ (by have : cfg0.N = 5 := N_0; omega), PhiA0_eq]
  iintro ⟨HS, Hg⟩
  isplitl [HS]; · iexists _; iexact HS
  iexact Hg

set_option backward.isDefEq.respectTransparency.types false in
/-- Every execution terminates; the arrays end as the proof data says; the counters at zero. -/
theorem run_main_quiescent : θ_run defs (onTc (τ := τ) (main (F := F))) (s₀ m ρ) (fun r => (Pipeline.RDat.FramePost cfg0 (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c w => by fin_cases w <;> rfl)
    (howed := fun _ _ => rfl) (V := V m) (hmain := hmain m Variants.none) (hA := fun c w => A_eq m c w) (hin := hin m) (hout := hout m)

/-- The frame at any float model: every execution terminates, the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(Pipeline.RDat.FramePost.arr_in h.1 c 0 rfl).trans ((A_eq m c 0).trans (V_main_arg0 m c)),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩, h.2⟩)
    (run_main_quiescent m ρ)

end Cert.Kernel7Ideal.Sip

end
-- ==== Proof.SipPack.lean ====
module

public import proofs.«01_k».proof.Proof.InpPack
public import proofs.«01_k».proof.Proof.Gen.Kernel7Ideal.Frame
public import Idealize.ShloMosaic.Lib.Pointwise
public import Idealize.ShloMosaic.Lib.Pipeline.ValueKit

@[expose] public section

set_option maxRecDepth 16384

noncomputable section

namespace Cert.Kernel7Ideal.Sip

open Idealize.ShloMosaic Idealize.ShloMosaic.TcCoe Idealize.SL.Sem
open Cert.Kernel7Ideal Cert.Kernel7Ideal.Gen
open Cert.Kernel2Ideal.Inp (packed narrow)

variable (m : (ℓ : Loc nD τ sig) → Buf (Elt Ideal) ℓ)

set_option maxHeartbeats 1600000 in
/-- What the host line writes as the packed weights. -/
theorem entry_packed (c : Dev nD) : V m c main_v14 = packed (m ((c : Thread nD τ).loc main_arg2)) := by
  show StableHlo.after _ _ _ = _
  after_results_simp <;> (try dsimp only [Matrix.cons_val]) <;> (try after_results_simp) <;> rfl

set_option maxHeartbeats 1600000 in
/-- What the host line writes as the narrow weights. -/
theorem entry_narrow (c : Dev nD) : V m c main_v17 = narrow (m ((c : Thread nD τ).loc main_arg2)) := by
  show StableHlo.after _ _ _ = _
  after_results_simp <;> (try dsimp only [Matrix.cons_val]) <;> (try after_results_simp) <;> rfl

end Cert.Kernel7Ideal.Sip

end
-- ==== Proof.SipBlock.lean ====
module

public import proofs.«01_k».proof.Proof.SipFrame
public import proofs.«01_k».proof.Proof.SipPack
public import Idealize.ShloMosaic.Lib.Pointwise
public import Idealize.ShloMosaic.Lib.Pipeline.ValueKit

@[expose] public section

set_option maxRecDepth 16384

noncomputable section

namespace Cert.Kernel7Ideal.Sip

open Idealize.ShloMosaic Idealize.ShloMosaic.TcCoe Idealize.SL.Sem
open Cert.Kernel7Ideal Cert.Kernel7Ideal.Gen
open Cert.Kernel2Ideal.Inp (perm perm_cases perm_lt ladder ladder_small normed prod packed packed_at narrow narrow_at)

variable (m : (ℓ : Loc nD τ sig) → Buf (Elt Ideal) ℓ)

/-- The windows' block indices at each point. -/
theorem idx : ∀ t : Fin cfg0.N, win0_0.index t = ![t.val / 5, 0] ∧ win0_1.index t = ![0, 0] ∧ win0_2.index t = ![0, 0, t.val % 5]
    ∧ win0_3.index t = ![0, 0, 0] ∧ win0_4.index t = ![0, 0, 0] ∧ win0_5.index t = ![t.val / 5, t.val % 5]
    ∧ win0_6.index t = ![t.val / 5, 0] ∧ win0_7.index t = ![t.val / 5, 0]
    ∧ win0_8.index t = ![t.val / 5, 0] ∧ win0_9.index t = ![0, t.val / 5] :=
  (by decide +kernel : ∀ t : Fin grid0.N, _)

theorem lt5 (t : Fin cfg0.N) : t.val < 5 := t.isLt

/-- The rows' block. -/
theorem blk0 (c : Dev nD) (t : Fin cfg0.N) (q : Fin 512) (k : Fin 1024) :
    iblk m c 0 t (ix2 q k) = m ((c : Thread nD τ).loc main_arg0) (ix2 ⟨t.val / 5 * 512 + q.val, by have := lt5 t; omega⟩ k) := by
  blk_ext [iblk, V, idx t]
/-- The scales, before the blocks. -/
theorem entry1 (c : Dev nD) (k : Fin 1024) : V m c main_v22 (ix2 0 k) = m ((c : Thread nD τ).loc main_arg1) (ix2 0 k) := by
  entry_read
  pointwise
/-- The block of scales. -/
theorem blk1 (c : Dev nD) (t : Fin cfg0.N) (k : Fin 1024) :
    iblk m c 1 t (ix2 0 k) = m ((c : Thread nD τ).loc main_arg1) (ix2 0 k) := by
  refine Eq.trans ?_ (entry1 m c k)
  blk_ext [iblk, idx t]

/-- The packed weights, column by column. -/
theorem entry2 (c : Dev nD) (k : Fin 1024) (e : Fin 7680) :
    V m c main_v14 (ix3 0 k e) = m ((c : Thread nD τ).loc main_arg2) (ix3 0 k ⟨perm e.val, perm_lt e⟩) := by
  rw [entry_packed]; exact packed_at _ k e

/-- The narrow weights, column by column. -/
theorem entry3 (c : Dev nD) (k : Fin 1024) (j : Fin 128) :
    (V m c main_v17 (ix3 0 k j) : EReal) = if h : j.val < 16 then m ((c : Thread nD τ).loc main_arg2) (ix3 0 k ⟨1024 + j.val, by omega⟩)
      else if h : j.val < 24 then m ((c : Thread nD τ).loc main_arg2) (ix3 0 k ⟨3072 + j.val, by omega⟩) else (0 : EReal) := by
  rw [entry_narrow]; exact narrow_at _ k j

/-- The weights of a block of columns. -/
theorem blk2 (c : Dev nD) (t : Fin cfg0.N) (k : Fin 1024) (j : Fin 1536) :
    iblk m c 2 t (ix3 0 k j) = m ((c : Thread nD τ).loc main_arg2) (ix3 0 k ⟨perm (t.val % 5 * 1536 + j.val), perm_lt ⟨t.val % 5 * 1536 + j.val, by omega⟩⟩) := by
  refine Eq.trans ?_ (entry2 m c k ⟨t.val % 5 * 1536 + j.val, by omega⟩)
  blk_ext [iblk, idx t]

/-- The block of narrow weights. -/
theorem blk3 (c : Dev nD) (t : Fin cfg0.N) (k : Fin 1024) (j : Fin 128) :
    (iblk m c 3 t (ix3 0 k j) : EReal) = if h : j.val < 16 then m ((c : Thread nD τ).loc main_arg2) (ix3 0 k ⟨1024 + j.val, by omega⟩)
      else if h : j.val < 24 then m ((c : Thread nD τ).loc main_arg2) (ix3 0 k ⟨3072 + j.val, by omega⟩) else (0 : EReal) := by
  refine Eq.trans ?_ (entry3 m c k j)
  blk_ext [iblk, idx t]

/-- The forget gates' weights, before the blocks. -/
theorem entry4 (c : Dev nD) (h : Fin 8) (k : Fin 1024) : V m c main_v19 (ix3 0 h k) = m ((c : Thread nD τ).loc main_arg2) (ix3 0 k ⟨3088 + h.val, by omega⟩) := by
  entry_read
  pointwise
/-- The forget gates' weights. -/
theorem blk4 (c : Dev nD) (t : Fin cfg0.N) (h : Fin 8) (k : Fin 1024) :
    iblk m c 4 t (ix3 0 h k) = m ((c : Thread nD τ).loc main_arg2) (ix3 0 k ⟨3088 + h.val, by omega⟩) := by
  refine Eq.trans ?_ (entry4 m c h k)
  blk_ext [iblk, idx t]

end Cert.Kernel7Ideal.Sip

end
-- ==== Proof.SipPay.lean ====
module

public import proofs.«01_k».proof.Proof.InpSpec
public import proofs.«01_k».proof.Proof.Gen.Kernel7Ideal.Skeleton
public import Idealize.ShloMosaic.Lib.Pointwise
public import Idealize.ShloMosaic.Lib.Pipeline.ValueKit

@[expose] public section

set_option maxRecDepth 16384

noncomputable section

namespace Cert.Kernel7Ideal.Sip

open Idealize.ShloMosaic Idealize.ShloMosaic.TcCoe Idealize.SL.Sem
open Cert.Kernel7Ideal Cert.Kernel7Ideal.Gen
open Cert.Kernel2Ideal.Inp (perm perm_cases perm_lt ladder ladder_small normed prod)

/-- A row of the scratch: the normalised row. -/
theorem pay1_at (x : Vec Ideal S512x1024 .f32) (g : Vec Ideal S1x1024 .f32) (q : Fin 512) (k : Fin 1024) :
    (k0_pay1 x g (ix2 q k) : EReal) = normed (fun k => x (ix2 q k)) (fun k => g (ix2 0 k)) k := by
  unfold normed
  pointwise [k0_pay1]

theorem pay2_at (x : Vec Ideal S512x1024 .f32) (g : Vec Ideal S1x1024 .f32) (q : Fin 512) (k : Fin 1024) :
    (k0_pay2 x g (ix2 q k) : EReal) = normed (fun k => x (ix2 q k)) (fun k => g (ix2 0 k)) k := by
  unfold normed
  pointwise [k0_pay2, k0_pay1]

/-- The narrow product. -/
theorem pay3_at (x : Vec Ideal S512x1024 .f32) (g : Vec Ideal S1x1024 .f32) (w : Vec Ideal S1x1024x128 .bf16) (q : Fin 512) (j : Fin 128) :
    (k0_pay3 x g w (ix2 q j) : EReal) = prod (fun k => x (ix2 q k)) (fun k => g (ix2 0 k)) (fun k => w (ix3 0 k j)) := by
  unfold prod
  refine Eq.trans (b := ∑ k : Fin 1024, (k0_pay1 x g (ix2 q k) : EReal) * w (ix3 0 k j)) ?_ (Finset.sum_congr rfl fun k _ => by rw [pay1_at])
  pointwise [k0_pay3]

/-- The forget gates' product. -/
theorem pay4_at (x : Vec Ideal S512x1024 .f32) (g : Vec Ideal S1x1024 .f32) (w : Vec Ideal S1x8x1024 .bf16) (h : Fin 8) (q : Fin 512) :
    (k0_pay4 x g w (ix2 h q) : EReal) = prod (fun k => x (ix2 q k)) (fun k => g (ix2 0 k)) (fun k => w (ix3 0 h k)) := by
  unfold prod
  refine Eq.trans (b := ∑ k : Fin 1024, (w (ix3 0 h k) : EReal) * k0_pay1 x g (ix2 q k)) ?_ (Finset.sum_congr rfl fun k _ => by rw [pay1_at, mul_comm])
  pointwise [k0_pay4]

/-- The packed product. -/
theorem pay6_at (xs : Vec Ideal S512x1024 .bf16) (w : Vec Ideal S1x1024x1536 .bf16) (q : Fin 512) (j : Fin 1536) :
    (k0_pay6 xs w (ix2 q j) : EReal) = ∑ k : Fin 1024, (xs (ix2 q k) : EReal) * w (ix3 0 k j) := by
  pointwise [k0_pay6, k0_pay5]

/-- The keys. -/
theorem pay7_at (xs : Vec Ideal S512x1024 .bf16) (w : Vec Ideal S1x1024x1536 .bf16) (q : Fin 512) (d : Fin 512) :
    (k0_pay7 xs w (ix2 q d) : EReal) = ∑ k : Fin 1024, (xs (ix2 q k) : EReal) * w (ix3 0 k ⟨512 + d.val, by omega⟩) := by
  pointwise [k0_pay7, k0_pay5]

/-- The values. -/
theorem pay8_at (xs : Vec Ideal S512x1024 .bf16) (w : Vec Ideal S1x1024x1536 .bf16) (q : Fin 512) (d : Fin 512) :
    (k0_pay8 xs w (ix2 q d) : EReal) = ∑ k : Fin 1024, (xs (ix2 q k) : EReal) * w (ix3 0 k ⟨1024 + d.val, by omega⟩) := by
  pointwise [k0_pay8, k0_pay5]
end Cert.Kernel7Ideal.Sip

end
-- ==== Proof.SipOut.lean ====
module

public import proofs.«01_k».proof.Proof.SipBlock
public import proofs.«01_k».proof.Proof.SipPay

@[expose] public section

set_option maxRecDepth 16384

noncomputable section

namespace Cert.Kernel7Ideal.Sip

open Idealize.ShloMosaic Idealize.ShloMosaic.TcCoe Idealize.SL.Sem
open Cert.Kernel7Ideal Cert.Kernel7Ideal.Gen
open Cert.Kernel2Ideal.Inp (perm perm_cases perm_lt ladder ladder_small normed prod)

/-- The product of the normalised rows with the first layer's weights, by row and column. -/
def zAt (x0 : FVec Ideal S512x1024 .f32) (x1 : FVec Ideal S2x1024 .f32) (x2 : FVec Ideal S2x1024x7704 .f32) (r : Fin 512) (e : Fin 7704) : EReal :=
  prod (fun k => x0 (ix2 r k)) (fun k => x1 (ix2 0 k)) (fun k => x2 (ix3 0 k e))

/-- The same by numbers, zero outside. -/
def zN (x0 : FVec Ideal S512x1024 .f32) (x1 : FVec Ideal S2x1024 .f32) (x2 : FVec Ideal S2x1024x7704 .f32) (r e : ℕ) : EReal := if h : r < 512 ∧ e < 7704 then zAt x0 x1 x2 ⟨r, h.1⟩ ⟨e, h.2⟩ else 0
theorem zN_of (x0 : FVec Ideal S512x1024 .f32) (x1 : FVec Ideal S2x1024 .f32) (x2 : FVec Ideal S2x1024x7704 .f32) (r : Fin 512) (e : Fin 7704) : zAt x0 x1 x2 r e = zN x0 x1 x2 r.val e.val := by
  unfold zN; rw [dif_pos ⟨r.isLt, e.isLt⟩]

/-- The packed product. -/
def out0 (x0 : FVec Ideal S512x1024 .f32) (x1 : FVec Ideal S2x1024 .f32) (x2 : FVec Ideal S2x1024x7704 .f32) : FVec Ideal S512x7680 .bf16 := fun i => zN x0 x1 x2 (i 0).val (perm (i 1).val)
/-- The keys. -/
def out1 (x0 : FVec Ideal S512x1024 .f32) (x1 : FVec Ideal S2x1024 .f32) (x2 : FVec Ideal S2x1024x7704 .f32) : FVec Ideal S512x512 .f32 := fun i => zN x0 x1 x2 (i 0).val (2064 + (i 1).val)
/-- The values. -/
def out2 (x0 : FVec Ideal S512x1024 .f32) (x1 : FVec Ideal S2x1024 .f32) (x2 : FVec Ideal S2x1024x7704 .f32) : FVec Ideal S512x512 .f32 := fun i => zN x0 x1 x2 (i 0).val (2576 + (i 1).val)
/-- The narrow product, by numbers. -/
def sN (x0 : FVec Ideal S512x1024 .f32) (x1 : FVec Ideal S2x1024 .f32) (x2 : FVec Ideal S2x1024x7704 .f32) (r j : ℕ) : EReal := if j < 16 then zN x0 x1 x2 r (1024 + j) else if j < 24 then zN x0 x1 x2 r (3072 + j) else 0
/-- The narrow product. -/
def out3 (x0 : FVec Ideal S512x1024 .f32) (x1 : FVec Ideal S2x1024 .f32) (x2 : FVec Ideal S2x1024x7704 .f32) : FVec Ideal S512x128 .f32 := fun i => sN x0 x1 x2 (i 0).val (i 1).val
/-- The forget gates. -/
def out4 (x0 : FVec Ideal S512x1024 .f32) (x1 : FVec Ideal S2x1024 .f32) (x2 : FVec Ideal S2x1024x7704 .f32) : FVec Ideal S8x512 .f32 := fun i => zN x0 x1 x2 (i 1).val (3088 + (i 0).val)

variable (m : (ℓ : Loc nD τ sig) → Buf (Elt Ideal) ℓ)

/-- A point's row of rows starts a group of five points. -/
theorem row_idx (t : Fin cfg0.N) : (rowPt t.val t.isLt).val / 5 = t.val / 5 := by unfold rowPt; dsimp only; omega
theorem kv_idx (t : Fin cfg0.N) : (kvPt t.val t.isLt).val % 5 = 3 := by unfold kvPt; dsimp only; omega

/-- The rows a point works on. -/
theorem rows (c : Dev nD) (t : Fin cfg0.N) (q : Fin 512) (k : Fin 1024) :
    iblk m c 0 (rowPt t.val t.isLt) (ix2 q k) = m ((c : Thread nD τ).loc main_arg0) (ix2 ⟨t.val / 5 * 512 + q.val, by have := lt5 t; omega⟩ k) := by
  rw [blk0]
  exact congrArg (fun r => m ((c : Thread nD τ).loc main_arg0) (ix2 r k)) (Fin.ext (by dsimp only; rw [row_idx]))

/-- The scratch holds the normalised rows. -/
theorem XNat_at (c : Dev nD) (t : Fin cfg0.N) (q : Fin 512) (k : Fin 1024) :
    (XNat m c t.val t.isLt (ix2 q k) : EReal) = normed (fun k => m ((c : Thread nD τ).loc main_arg0) (ix2 ⟨t.val / 5 * 512 + q.val, by have := lt5 t; omega⟩ k)) (fun k => m ((c : Thread nD τ).loc main_arg1) (ix2 0 k)) k := by
  unfold XNat
  rw [pay2_at]
  simp only [rows m c t, blk1 m c]

/-- The packed product of a point's rows and columns. -/
theorem out0_at (c : Dev nD) (t : Fin cfg0.N) (q : Fin 512) (j : Fin 1536) :
    (k0_pay6 (XNat m c t.val t.isLt) (iblk m c 2 t) (ix2 q j) : EReal) = zN (m ((c : Thread nD τ).loc main_arg0)) (m ((c : Thread nD τ).loc main_arg1)) (m ((c : Thread nD τ).loc main_arg2)) (t.val / 5 * 512 + q.val) (perm (t.val % 5 * 1536 + j.val)) := by
  refine Eq.trans ?_ (zN_of _ _ _ ⟨t.val / 5 * 512 + q.val, by have := lt5 t; omega⟩ ⟨perm (t.val % 5 * 1536 + j.val), perm_lt ⟨t.val % 5 * 1536 + j.val, by omega⟩⟩)
  rw [pay6_at]
  exact Finset.sum_congr rfl fun k _ => congrArg₂ (· * ·) (XNat_at m c t q k) (blk2 m c t k j)

/-- The keys of a point's rows. -/
theorem out1_at (c : Dev nD) (t : Fin cfg0.N) (q : Fin 512) (d : Fin 512) :
    (k0_pay7 (XNat m c t.val t.isLt) (iblk m c 2 (kvPt t.val t.isLt)) (ix2 q d) : EReal) = zN (m ((c : Thread nD τ).loc main_arg0)) (m ((c : Thread nD τ).loc main_arg1)) (m ((c : Thread nD τ).loc main_arg2)) (t.val / 5 * 512 + q.val) (2064 + d.val) := by
  refine Eq.trans ?_ (zN_of _ _ _ ⟨t.val / 5 * 512 + q.val, by have := lt5 t; omega⟩ ⟨2064 + d.val, by omega⟩)
  unfold zAt prod
  rw [pay7_at]
  refine Finset.sum_congr rfl fun k _ => congrArg₂ (· * ·) (XNat_at m c t q k) ((blk2 m c _ k _).trans ?_)
  refine congrArg (fun e => m ((c : Thread nD τ).loc main_arg2) (ix3 0 k e)) (Fin.ext ?_)
  dsimp only
  rw [kv_idx]
  have := perm_cases (3 * 1536 + (512 + d.val))
  omega

/-- The values of a point's rows. -/
theorem out2_at (c : Dev nD) (t : Fin cfg0.N) (q : Fin 512) (d : Fin 512) :
    (k0_pay8 (XNat m c t.val t.isLt) (iblk m c 2 (kvPt t.val t.isLt)) (ix2 q d) : EReal) = zN (m ((c : Thread nD τ).loc main_arg0)) (m ((c : Thread nD τ).loc main_arg1)) (m ((c : Thread nD τ).loc main_arg2)) (t.val / 5 * 512 + q.val) (2576 + d.val) := by
  refine Eq.trans ?_ (zN_of _ _ _ ⟨t.val / 5 * 512 + q.val, by have := lt5 t; omega⟩ ⟨2576 + d.val, by omega⟩)
  unfold zAt prod
  rw [pay8_at]
  refine Finset.sum_congr rfl fun k _ => congrArg₂ (· * ·) (XNat_at m c t q k) ((blk2 m c _ k _).trans ?_)
  refine congrArg (fun e => m ((c : Thread nD τ).loc main_arg2) (ix3 0 k e)) (Fin.ext ?_)
  dsimp only
  rw [kv_idx]
  have := perm_cases (3 * 1536 + (1024 + d.val))
  omega

/-- The narrow product of a point's rows. -/
theorem out3_at (c : Dev nD) (t : Fin cfg0.N) (q : Fin 512) (j : Fin 128) :
    (k0_pay3 (iblk m c 0 (rowPt t.val t.isLt)) (iblk m c 1 (rowPt t.val t.isLt)) (iblk m c 3 (rowPt t.val t.isLt)) (ix2 q j) : EReal)
      = sN (m ((c : Thread nD τ).loc main_arg0)) (m ((c : Thread nD τ).loc main_arg1)) (m ((c : Thread nD τ).loc main_arg2)) (t.val / 5 * 512 + q.val) j.val := by
  rw [pay3_at]
  simp only [rows m c t, blk1 m c, blk3 m c]
  unfold sN
  by_cases h0 : j.val < 16
  · simp only [dif_pos h0, if_pos h0]; exact zN_of _ _ _ ⟨t.val / 5 * 512 + q.val, by have := lt5 t; omega⟩ ⟨1024 + j.val, by omega⟩
  · by_cases h1 : j.val < 24
    · simp only [dif_neg h0, dif_pos h1, if_neg h0, if_pos h1]; exact zN_of _ _ _ ⟨t.val / 5 * 512 + q.val, by have := lt5 t; omega⟩ ⟨3072 + j.val, by omega⟩
    · simp only [dif_neg h0, dif_neg h1, if_neg h0, if_neg h1]
      exact Finset.sum_eq_zero fun k _ => mul_zero _

/-- The forget gates of a point's rows. -/
theorem out4_at (c : Dev nD) (t : Fin cfg0.N) (h : Fin 8) (q : Fin 512) :
    (k0_pay4 (iblk m c 0 (rowPt t.val t.isLt)) (iblk m c 1 (rowPt t.val t.isLt)) (iblk m c 4 (rowPt t.val t.isLt)) (ix2 h q) : EReal)
      = zN (m ((c : Thread nD τ).loc main_arg0)) (m ((c : Thread nD τ).loc main_arg1)) (m ((c : Thread nD τ).loc main_arg2)) (t.val / 5 * 512 + q.val) (3088 + h.val) := by
  refine Eq.trans ?_ (zN_of _ _ _ ⟨t.val / 5 * 512 + q.val, by have := lt5 t; omega⟩ ⟨3088 + h.val, by omega⟩)
  rw [pay4_at]
  simp only [rows m c t, blk1 m c, blk4 m c]
  rfl

section
variable (c : Dev nD) (after : (w : Fin cfg0.W) → Fin cfg0.N → ((cfg0.win w).block.Idx → Elt Ideal (cfg0.win w).elt))
  (hL : ∀ w u, (cfg0.win w).flush u = true → (rdat m c).Leaves w u (after w u))
include hL

/-- The packed product, whole. -/
theorem final0 : ((rdat m c).withAfter after).arrAt 5 cfg0.N = out0 (m ((c : Thread nD τ).loc main_arg0)) (m ((c : Thread nD τ).loc main_arg1)) (m ((c : Thread nD τ).loc main_arg2)) := by
  unfold out0
  refine ((rdat m c).withAfter after).arrAt_eq_of_covers 5 _ (by decide +kernel) fun t hf y => ?_
  have ha : after 5 t = k0_pay6 (XNat m c t.val t.isLt) (iblk m c 2 t) := (dats m 0 c).toRRel_leaves (fgt := fgt) (Rl := Rl m c) rfl (hL 5 t hf)
  rw [Pipeline.RDat.withAfter_after, ha]
  blk_simp [idx t]
  exact (congrArg (k0_pay6 (XNat m c t.val t.isLt) (iblk m c 2 t)) (eq_ix2 y)).trans (out0_at m c t (y 0) (y 1))

/-- The keys, whole. -/
theorem final1 : ((rdat m c).withAfter after).arrAt 6 cfg0.N = out1 (m ((c : Thread nD τ).loc main_arg0)) (m ((c : Thread nD τ).loc main_arg1)) (m ((c : Thread nD τ).loc main_arg2)) := by
  unfold out1
  refine ((rdat m c).withAfter after).arrAt_eq_of_covers 6 _ (by decide +kernel) fun t hf y => ?_
  have ha : after 6 t = k0_pay7 (XNat m c t.val t.isLt) (iblk m c 2 (kvPt t.val t.isLt)) := (dats m 0 c).toRRel_leaves (fgt := fgt) (Rl := Rl m c) rfl (hL 6 t hf) (by have := (flush0_6 t).mp hf; omega)
  rw [Pipeline.RDat.withAfter_after, ha]
  blk_simp [idx t]
  exact (congrArg (k0_pay7 (XNat m c t.val t.isLt) (iblk m c 2 (kvPt t.val t.isLt))) (eq_ix2 y)).trans (out1_at m c t (y 0) (y 1))

/-- The values, whole. -/
theorem final2 : ((rdat m c).withAfter after).arrAt 7 cfg0.N = out2 (m ((c : Thread nD τ).loc main_arg0)) (m ((c : Thread nD τ).loc main_arg1)) (m ((c : Thread nD τ).loc main_arg2)) := by
  unfold out2
  refine ((rdat m c).withAfter after).arrAt_eq_of_covers 7 _ (by decide +kernel) fun t hf y => ?_
  have ha : after 7 t = k0_pay8 (XNat m c t.val t.isLt) (iblk m c 2 (kvPt t.val t.isLt)) := (dats m 0 c).toRRel_leaves (fgt := fgt) (Rl := Rl m c) rfl (hL 7 t hf) (by have := (flush0_7 t).mp hf; omega)
  rw [Pipeline.RDat.withAfter_after, ha]
  blk_simp [idx t]
  exact (congrArg (k0_pay8 (XNat m c t.val t.isLt) (iblk m c 2 (kvPt t.val t.isLt))) (eq_ix2 y)).trans (out2_at m c t (y 0) (y 1))

/-- The narrow product, whole. -/
theorem final3 : ((rdat m c).withAfter after).arrAt 8 cfg0.N = out3 (m ((c : Thread nD τ).loc main_arg0)) (m ((c : Thread nD τ).loc main_arg1)) (m ((c : Thread nD τ).loc main_arg2)) := by
  unfold out3
  refine ((rdat m c).withAfter after).arrAt_eq_of_covers 8 _ (by decide +kernel) fun t hf y => ?_
  have ha : after 8 t = k0_pay3 (iblk m c 0 (rowPt t.val t.isLt)) (iblk m c 1 (rowPt t.val t.isLt)) (iblk m c 3 (rowPt t.val t.isLt)) := (dats m 0 c).toRRel_leaves (fgt := fgt) (Rl := Rl m c) rfl (hL 8 t hf)
  rw [Pipeline.RDat.withAfter_after, ha]
  blk_simp [idx t]
  exact (congrArg (k0_pay3 (iblk m c 0 (rowPt t.val t.isLt)) (iblk m c 1 (rowPt t.val t.isLt)) (iblk m c 3 (rowPt t.val t.isLt))) (eq_ix2 y)).trans (out3_at m c t (y 0) (y 1))

/-- The forget gates, whole. -/
theorem final4 : ((rdat m c).withAfter after).arrAt 9 cfg0.N = out4 (m ((c : Thread nD τ).loc main_arg0)) (m ((c : Thread nD τ).loc main_arg1)) (m ((c : Thread nD τ).loc main_arg2)) := by
  unfold out4
  refine ((rdat m c).withAfter after).arrAt_eq_of_covers 9 _ (by decide +kernel) fun t hf y => ?_
  have ha : after 9 t = k0_pay4 (iblk m c 0 (rowPt t.val t.isLt)) (iblk m c 1 (rowPt t.val t.isLt)) (iblk m c 4 (rowPt t.val t.isLt)) := (dats m 0 c).toRRel_leaves (fgt := fgt) (Rl := Rl m c) rfl (hL 9 t hf)
  rw [Pipeline.RDat.withAfter_after, ha]
  blk_simp [idx t]
  exact (congrArg (k0_pay4 (iblk m c 0 (rowPt t.val t.isLt)) (iblk m c 1 (rowPt t.val t.isLt)) (iblk m c 4 (rowPt t.val t.isLt))) (eq_ix2 y)).trans (out4_at m c t (y 0) (y 1))

end

end Cert.Kernel7Ideal.Sip

end
-- ==== Proof.SipRef.lean ====
module

public import proofs.«01_k».proof.Proof.Gen.Reference7Ideal.Read
public import proofs.«01_k».proof.Proof.InpSpec
public import Idealize.ShloMosaic.Lib.Pointwise
public import Idealize.ShloMosaic.Lib.KernelVsHost

@[expose] public section

set_option maxRecDepth 16384

noncomputable section

namespace Cert.Reference7Ideal.Sip

open Idealize.ShloMosaic Idealize.ShloMosaic.TcCoe Idealize.SL.Sem
open Cert.Reference7Ideal Cert.Reference7Ideal.Gen Cert.Reference7Ideal.Read
open Cert.Kernel2Ideal.Inp (perm perm_cases perm_lt ladder ladder_small normed prod)

/-- The whole product. -/
theorem z_at (x0 : FVec Ideal S512x1024 .f32) (x1 : FVec Ideal S2x1024 .f32) (x2 : FVec Ideal S2x1024x7704 .f32) (r : Fin 512) (e : Fin 7704) :
    (val_main_v17 (F := Ideal) x0 x1 x2 (ix2 r e) : EReal) = prod (fun k => x0 (ix2 r k)) (fun k => x1 (ix2 0 k)) (fun k => x2 (ix3 0 k e)) := by
  unfold prod normed
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The packed product. -/
theorem packed_at (x0 : FVec Ideal S512x1024 .f32) (x1 : FVec Ideal S2x1024 .f32) (x2 : FVec Ideal S2x1024x7704 .f32) (r : Fin 512) (e : Fin 7680) :
    (val_main_v34 (F := Ideal) x0 x1 x2 (ix2 r e) : EReal) = val_main_v17 (F := Ideal) x0 x1 x2 (ix2 r ⟨perm e.val, perm_lt e⟩) := by
  generalize hz : val_main_v17 (F := Ideal) x0 x1 x2 = z
  pointwise [val_main_v34, val_main_v31, val_main_v18, val_main_v19, val_main_v20, val_main_v21, val_main_v22, val_main_v23, val_main_v24, val_main_v25, val_main_v26, val_main_v27, val_main_v28, val_main_v29, val_main_v30]
  rw [hz]
  exact ladder (fun j => z (ix2 r j)) e

/-- The keys of the attention. -/
theorem keys_at (x0 : FVec Ideal S512x1024 .f32) (x1 : FVec Ideal S2x1024 .f32) (x2 : FVec Ideal S2x1024x7704 .f32) (r d : Fin 512) :
    (val_main_v24 (F := Ideal) x0 x1 x2 (ix2 r d) : EReal) = val_main_v17 (F := Ideal) x0 x1 x2 (ix2 r ⟨2064 + d.val, by omega⟩) := by
  generalize hz : val_main_v17 (F := Ideal) x0 x1 x2 = z
  pointwise [val_main_v24]
  rw [hz]

/-- The values of the attention. -/
theorem values_at (x0 : FVec Ideal S512x1024 .f32) (x1 : FVec Ideal S2x1024 .f32) (x2 : FVec Ideal S2x1024x7704 .f32) (r d : Fin 512) :
    (val_main_v25 (F := Ideal) x0 x1 x2 (ix2 r d) : EReal) = val_main_v17 (F := Ideal) x0 x1 x2 (ix2 r ⟨2576 + d.val, by omega⟩) := by
  generalize hz : val_main_v17 (F := Ideal) x0 x1 x2 = z
  pointwise [val_main_v25]
  rw [hz]

/-- The narrow product. -/
theorem small_at (x0 : FVec Ideal S512x1024 .f32) (x1 : FVec Ideal S2x1024 .f32) (x2 : FVec Ideal S2x1024x7704 .f32) (r : Fin 512) (j : Fin 128) :
    (val_main_v33 (F := Ideal) x0 x1 x2 (ix2 r j) : EReal) = if h : j.val < 16 then val_main_v17 (F := Ideal) x0 x1 x2 (ix2 r ⟨1024 + j.val, by omega⟩)
      else if h : j.val < 24 then val_main_v17 (F := Ideal) x0 x1 x2 (ix2 r ⟨3072 + j.val, by omega⟩) else (0 : EReal) := by
  pointwise [val_main_v33, val_main_v21, val_main_v26, val_main_v32, val_main_cst_2]
  exact ladder_small (fun k => val_main_v17 (F := Ideal) x0 x1 x2 (ix2 r k)) j

/-- The forget gates' product. -/
theorem fft_at (x0 : FVec Ideal S512x1024 .f32) (x1 : FVec Ideal S2x1024 .f32) (x2 : FVec Ideal S2x1024x7704 .f32) (h : Fin 8) (r : Fin 512) :
    (val_main_v35 (F := Ideal) x0 x1 x2 (ix2 h r) : EReal) = val_main_v17 (F := Ideal) x0 x1 x2 (ix2 r ⟨3088 + h.val, by omega⟩) := by
  generalize hz : val_main_v17 (F := Ideal) x0 x1 x2 = z
  pointwise [val_main_v35, val_main_v26]
  rw [hz]

end Cert.Reference7Ideal.Sip

end
-- ==== Proof.SipClaim.lean ====
module

public import proofs.«01_k».proof.Proof.SipOut
public import proofs.«01_k».proof.Proof.SipRef
public import proofs.«01_k».proof.Proof.Gen.Reference7Ideal.Run
public import proofs.«01_k».proof.Defs

@[expose] public section

noncomputable section

namespace Cert.Reference7Ideal.Sip

open Idealize.ShloMosaic Idealize.ShloMosaic.TcCoe Idealize.SL.Sem
open Cert.Reference7Ideal Cert.Reference7Ideal.Gen Cert.Reference7Ideal.Read
open Cert.Kernel2Ideal.Inp (perm perm_lt)
open Cert.Kernel7Ideal.Sip (zN zN_of zAt sN out0 out1 out2 out3 out4)

variable (x0 : FVec Ideal S512x1024 .f32) (x1 : FVec Ideal S2x1024 .f32) (x2 : FVec Ideal S2x1024x7704 .f32)

/-- The reference's whole product, by numbers. -/
theorem z_num (r : Fin 512) (e : Fin 7704) : (val_main_v17 (F := Ideal) x0 x1 x2 (ix2 r e) : EReal) = zN x0 x1 x2 r.val e.val :=
  (z_at x0 x1 x2 r e).trans (zN_of x0 x1 x2 r e)

/-- The reference's packed product. -/
theorem ref0 : val_main_v34 (F := Ideal) x0 x1 x2 = out0 x0 x1 x2 := by
  funext i
  exact (congrArg (val_main_v34 (F := Ideal) x0 x1 x2) (eq_ix2 i)).trans ((packed_at x0 x1 x2 (i 0) (i 1)).trans (z_num x0 x1 x2 _ _))
/-- The reference's keys. -/
theorem ref1 : val_main_v24 (F := Ideal) x0 x1 x2 = out1 x0 x1 x2 := by
  funext i
  exact (congrArg (val_main_v24 (F := Ideal) x0 x1 x2) (eq_ix2 i)).trans ((keys_at x0 x1 x2 (i 0) (i 1)).trans (z_num x0 x1 x2 _ _))
/-- The reference's values. -/
theorem ref2 : val_main_v25 (F := Ideal) x0 x1 x2 = out2 x0 x1 x2 := by
  funext i
  exact (congrArg (val_main_v25 (F := Ideal) x0 x1 x2) (eq_ix2 i)).trans ((values_at x0 x1 x2 (i 0) (i 1)).trans (z_num x0 x1 x2 _ _))
/-- The reference's narrow product at an index. -/
theorem ref3_at (r : Fin 512) (j : Fin 128) : (val_main_v33 (F := Ideal) x0 x1 x2 (ix2 r j) : EReal) = sN x0 x1 x2 r.val j.val := by
  rw [small_at]
  unfold sN
  by_cases h0 : j.val < 16
  · rw [dif_pos h0, if_pos h0]; exact z_num x0 x1 x2 _ _
  rw [dif_neg h0, if_neg h0]
  by_cases h1 : j.val < 24
  · rw [dif_pos h1, if_pos h1]; exact z_num x0 x1 x2 _ _
  rw [dif_neg h1, if_neg h1]
/-- The reference's narrow product. -/
theorem ref3 : val_main_v33 (F := Ideal) x0 x1 x2 = out3 x0 x1 x2 := by
  funext i
  exact (congrArg (val_main_v33 (F := Ideal) x0 x1 x2) (eq_ix2 i)).trans (ref3_at x0 x1 x2 (i 0) (i 1))
/-- The reference's forget gates. -/
theorem ref4 : val_main_v35 (F := Ideal) x0 x1 x2 = out4 x0 x1 x2 := by
  funext i
  exact (congrArg (val_main_v35 (F := Ideal) x0 x1 x2) (eq_ix2 i)).trans ((fft_at x0 x1 x2 (i 0) (i 1)).trans (z_num x0 x1 x2 _ _))

end Cert.Reference7Ideal.Sip

namespace Cert.Kernel7Ideal.Sip

open Idealize.ShloMosaic Idealize.ShloMosaic.TcCoe Idealize.SL.Sem
open Cert.Reference7Ideal.Sip (ref0 ref1 ref2 ref3 ref4)

/-- The sample group's projection kernel and its reference end with the same five results: the product of the normalised rows with the weights, laid out in five ways. -/
theorem algebraic : Cert.algebraic_Kernel7Ideal_Reference7Ideal := by
  intro m g m' g' _ hin
  refine ⟨fun c => out0 (m ((c.tc : Thread nD τ).loc main_arg0)) (m ((c.tc : Thread nD τ).loc main_arg1)) (m ((c.tc : Thread nD τ).loc main_arg2)),
    fun c => out1 (m ((c.tc : Thread nD τ).loc main_arg0)) (m ((c.tc : Thread nD τ).loc main_arg1)) (m ((c.tc : Thread nD τ).loc main_arg2)),
    fun c => out2 (m ((c.tc : Thread nD τ).loc main_arg0)) (m ((c.tc : Thread nD τ).loc main_arg1)) (m ((c.tc : Thread nD τ).loc main_arg2)),
    fun c => out3 (m ((c.tc : Thread nD τ).loc main_arg0)) (m ((c.tc : Thread nD τ).loc main_arg1)) (m ((c.tc : Thread nD τ).loc main_arg2)),
    fun c => out4 (m ((c.tc : Thread nD τ).loc main_arg0)) (m ((c.tc : Thread nD τ).loc main_arg1)) (m ((c.tc : Thread nD τ).loc main_arg2)), ?_, ?_⟩
  · refine (θ_run _ _ _).mono (fun r h c => ?_) (θ_run_and (run_main_quiescent m g) (frame m g))
    obtain ⟨after, hL, hA⟩ := Pipeline.RDat.FramePost.exists_exact h.1.1 c
    exact ⟨(hA 5).trans (final0 m c after hL), (hA 6).trans (final1 m c after hL), (hA 7).trans (final2 m c after hL),
      (hA 8).trans (final3 m c after hL), (hA 9).trans (final4 m c after hL), h.2.1 c⟩
  · refine (θ_run _ _ _).mono (fun _ h c => ?_) (Cert.Reference7Ideal.Value.run (F := Ideal) m' g')
    obtain ⟨h0, h1, h2, h3, h4, ha⟩ := h c
    refine ⟨h0.trans ?_, h1.trans ?_, h2.trans ?_, h3.trans ?_, h4.trans ?_, ha⟩
    · refine (Cert.Reference7Ideal.Read.val_main_v34_eq m' c).trans ?_
      rw [(hin c).1, (hin c).2.1, (hin c).2.2]; exact ref0 _ _ _
    · refine (Cert.Reference7Ideal.Read.val_main_v24_eq _ _ _).trans ?_
      rw [(hin c).1, (hin c).2.1, (hin c).2.2]; exact ref1 _ _ _
    · refine (Cert.Reference7Ideal.Read.val_main_v25_eq _ _ _).trans ?_
      rw [(hin c).1, (hin c).2.1, (hin c).2.2]; exact ref2 _ _ _
    · refine (Cert.Reference7Ideal.Read.val_main_v33_eq _ _ _).trans ?_
      rw [(hin c).1, (hin c).2.1, (hin c).2.2]; exact ref3 _ _ _
    · refine (Cert.Reference7Ideal.Read.val_main_v35_eq _ _ _).trans ?_
      rw [(hin c).1, (hin c).2.1, (hin c).2.2]; exact ref4 _ _ _

end Cert.Kernel7Ideal.Sip

end
-- ==== Proof.SipKer.lean ====
module

public import proofs.«01_k».proof.Proof.SipFrame
public import proofs.«01_k».proof.Defs
public import proofs.«01_k».proof.Proof.Gen.Kernel7

@[expose] public section

noncomputable section

namespace Cert.Kernel7.Sip
open Idealize.ShloMosaic

/-- The body tables of the kernel as compiled and of its ideal form are the same. -/
theorem defs₀_eq : @Cert.Kernel7.defs₀ Bits _ Cert.Kernel7.Gen.facts = @Cert.Kernel7Ideal.defs₀ Bits _ Cert.Kernel7Ideal.Gen.facts := by
  unfold Cert.Kernel7.defs₀ Cert.Kernel7Ideal.defs₀
  refine congrArg Defs.onTc (funext fun l => funext fun a => ?_)
  match l, a with
  | ⟨0, _⟩, (_, _) => rfl

/-- And so are the tables with the pipelines. -/
theorem defs_eq : @Cert.Kernel7.defs Bits _ Cert.Kernel7.Gen.facts = @Cert.Kernel7Ideal.defs Bits _ Cert.Kernel7Ideal.Gen.facts :=
  congrArg (Pipeline.defs (@Cert.Kernel7Ideal.pcfgs Bits Cert.Kernel7Ideal.Gen.facts)) defs₀_eq

/-- The kernel as compiled is the ideal one, term by term, so the frame is the same. -/
theorem frame : @Cert.quiescent_Kernel7 Cert.Kernel7.Gen.facts := fun m ρ _ =>
  Eq.mpr (congrArg (fun D => θ_run D (onTc (τ := Cert.Kernel7Ideal.τ) (Cert.Kernel7Ideal.main (F := Bits))) ⟨m, fun _ => 0, ρ⟩ _) defs_eq) (Cert.Kernel7Ideal.Sip.frame (F := Bits) m ρ)

end Cert.Kernel7.Sip

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.KerFrame
public import proofs.«01_k».proof.Proof.FoxClaim
public import proofs.«01_k».proof.Proof.KinFrame
public import proofs.«01_k».proof.Proof.InpClaim
public import proofs.«01_k».proof.Proof.KfnFrame
public import proofs.«01_k».proof.Proof.FfnClaim
public import proofs.«01_k».proof.Proof.MixClaim
public import proofs.«01_k».proof.Proof.SmxClaim
public import proofs.«01_k».proof.Proof.SfnClaim
public import proofs.«01_k».proof.Proof.SipClaim
public import proofs.«01_k».proof.Proof.SipKer
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference's frame: its run leaves its arguments, and it declares no semaphore. -/
theorem frame_ReferenceIdeal : Cert.quiescent_ReferenceIdeal := fun m ρ _ =>
  (θ_run _ _ _).mono (fun r h => ⟨fun c => (h c).2, sem_eq_zero_of_no_sems rfl r.2⟩) (Cert.ReferenceIdeal.Value.run (F := Ideal) m ρ)

/-- The second reference's frame: its run leaves its arguments, and it declares no semaphore. -/
theorem frame_Reference2Ideal : Cert.quiescent_Reference2Ideal := fun m ρ _ =>
  (θ_run _ _ _).mono (fun r h => ⟨fun c => (h c).2.2.2.2.2, sem_eq_zero_of_no_sems rfl r.2⟩) (Cert.Reference2Ideal.Value.run (F := Ideal) m ρ)

/-- The third reference's frame: its run leaves its arguments, and it declares no semaphore. -/
theorem frame_Reference3Ideal : Cert.quiescent_Reference3Ideal := fun m ρ _ =>
  (θ_run _ _ _).mono (fun r h => ⟨fun c => (h c).2.2, sem_eq_zero_of_no_sems rfl r.2⟩) (Cert.Reference3Ideal.Value.run (F := Ideal) m ρ)

/-- The fourth reference's frame: its run leaves its arguments, and it declares no semaphore. -/
theorem frame_Reference4Ideal : Cert.quiescent_Reference4Ideal := fun m ρ _ =>
  (θ_run _ _ _).mono (fun r h => ⟨fun c => (h c).2.2, sem_eq_zero_of_no_sems rfl r.2⟩) (Cert.Reference4Ideal.Value.run (F := Ideal) m ρ)

/-- The fifth reference's frame: its run leaves its arguments, and it declares no semaphore. -/
theorem frame_Reference5Ideal : Cert.quiescent_Reference5Ideal := fun m ρ _ =>
  (θ_run _ _ _).mono (fun r h => ⟨fun c => (h c).2.2, sem_eq_zero_of_no_sems rfl r.2⟩) (Cert.Reference5Ideal.Value.run (F := Ideal) m ρ)

/-- The sixth reference's frame: its run leaves its arguments, and it declares no semaphore. -/
theorem frame_Reference6Ideal : Cert.quiescent_Reference6Ideal := fun m ρ _ =>
  (θ_run _ _ _).mono (fun r h => ⟨fun c => (h c).2.2, sem_eq_zero_of_no_sems rfl r.2⟩) (Cert.Reference6Ideal.Value.run (F := Ideal) m ρ)

/-- The seventh reference's frame: its run leaves its arguments, and it declares no semaphore. -/
theorem frame_Reference7Ideal : Cert.quiescent_Reference7Ideal := fun m ρ _ =>
  (θ_run _ _ _).mono (fun r h => ⟨fun c => (h c).2.2.2.2.2, sem_eq_zero_of_no_sems rfl r.2⟩) (Cert.Reference7Ideal.Value.run (F := Ideal) m ρ)

/-- The claim: the frames, the rewrites to the ideal kernels, and the values. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite.Gen.facts,
    fun m ρ _ => Cert.Kernel.Fox.frame m ρ,
    fun m ρ _ => Cert.KernelIdeal.Fox.frame m ρ,
    fun m ρ _ => Cert.KernelIdeal.Fox.frame m ρ,
    frame_ReferenceIdeal,
    fun m ρ _ => frame_ReferenceIdeal m ρ trivial,
    Cert.Kernel2.Inp.frame,
    fun m ρ _ => Cert.Kernel2Ideal.Inp.frame m ρ,
    frame_Reference2Ideal,
    Cert.Kernel3.Ffn.frame,
    fun m ρ _ => Cert.Kernel3Ideal.Ffn.frame m ρ,
    frame_Reference3Ideal,
    fun m ρ _ => Cert.Kernel4.Gen.frame m ρ,
    fun m ρ _ => Cert.Kernel4Ideal.Gen.frame m ρ,
    frame_Reference4Ideal,
    fun m ρ _ => Cert.Kernel5.Gen.frame m ρ,
    fun m ρ _ => Cert.Kernel5Ideal.Gen.frame m ρ,
    frame_Reference5Ideal,
    fun m ρ _ => Cert.Kernel6.Gen.frame m ρ,
    fun m ρ _ => Cert.Kernel6Ideal.Gen.frame m ρ,
    frame_Reference6Ideal,
    Cert.Kernel7.Sip.frame,
    fun m ρ _ => Cert.Kernel7Ideal.Sip.frame m ρ,
    frame_Reference7Ideal,
    Cert.KernelIdeal.Fox.preserves,
    Cert.KernelIdeal.Fox.algebraic,
    trivial,
    Cert.Kernel2Ideal.Inp.algebraic,
    trivial,
    Cert.Kernel3Ideal.Ffn.algebraic,
    trivial,
    Cert.Kernel4Ideal.Mix.algebraic,
    trivial,
    Cert.Kernel5Ideal.Smx.algebraic,
    trivial,
    Cert.Kernel6Ideal.Sfn.algebraic,
    trivial,
    Cert.Kernel7Ideal.Sip.algebraic⟩

end Cert.Proof

end
